-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeC (m : (ℓ : Loc Cert.MergeC.nD Cert.MergeC.τ Cert.MergeC.sig) → Buf (Elt Bits) ℓ) : Prop :=
  True

def Pre_MergeCIdeal (m : (ℓ : Loc Cert.MergeCIdeal.nD Cert.MergeCIdeal.τ Cert.MergeCIdeal.sig) → Buf (Elt Ideal) ℓ) : Prop :=
  True

def Pre_MergeCReferenceIdeal (m : (ℓ : Loc Cert.MergeCReferenceIdeal.nD Cert.MergeCReferenceIdeal.τ Cert.MergeCReferenceIdeal.sig) → Buf (Elt Ideal) ℓ) : Prop :=
  True

def Pre_MergeL (m : (ℓ : Loc Cert.MergeL.nD Cert.MergeL.τ Cert.MergeL.sig) → Buf (Elt Bits) ℓ) : Prop :=
  True

def Pre_MergeLIdeal (m : (ℓ : Loc Cert.MergeLIdeal.nD Cert.MergeLIdeal.τ Cert.MergeLIdeal.sig) → Buf (Elt Ideal) ℓ) : Prop :=
  True

def Pre_MergeLReferenceIdeal (m : (ℓ : Loc Cert.MergeLReferenceIdeal.nD Cert.MergeLReferenceIdeal.τ Cert.MergeLReferenceIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpReferenceIdeal (m : (ℓ : Loc Cert.OutpReferenceIdeal.nD Cert.OutpReferenceIdeal.τ Cert.OutpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MergeC [hMergeC : Cert.MergeC.Facts] : Prop :=
  ∀ (m : (ℓ : Loc Cert.MergeC.nD Cert.MergeC.τ Cert.MergeC.sig) → Buf (Elt Bits) ℓ) (g : Dev Cert.MergeC.nD → PrngReg), Pre_MergeC m →
    θ_run (Cert.MergeC.defs (F := Bits)) (onTc (τ := Cert.MergeC.τ) (Cert.MergeC.main (F := Bits))) ⟨m, fun _ => 0, g⟩ (fun r => (∀ c : Dev Cert.MergeC.nD,
      r.2.mem ((c.tc : Thread Cert.MergeC.nD Cert.MergeC.τ).loc Cert.MergeC.main_arg0) = m ((c.tc : Thread Cert.MergeC.nD Cert.MergeC.τ).loc Cert.MergeC.main_arg0)
      ∧ r.2.mem ((c.tc : Thread Cert.MergeC.nD Cert.MergeC.τ).loc Cert.MergeC.main_arg1) = m ((c.tc : Thread Cert.MergeC.nD Cert.MergeC.τ).loc Cert.MergeC.main_arg1)
      ∧ r.2.mem ((c.tc : Thread Cert.MergeC.nD Cert.MergeC.τ).loc Cert.MergeC.main_arg2) = m ((c.tc : Thread Cert.MergeC.nD Cert.MergeC.τ).loc Cert.MergeC.main_arg2)
      ∧ r.2.mem ((c.tc : Thread Cert.MergeC.nD Cert.MergeC.τ).loc Cert.MergeC.main_arg3) = m ((c.tc : Thread Cert.MergeC.nD Cert.MergeC.τ).loc Cert.MergeC.main_arg3)
      ∧ r.2.mem ((c.tc : Thread Cert.MergeC.nD Cert.MergeC.τ).loc Cert.MergeC.main_arg4) = m ((c.tc : Thread Cert.MergeC.nD Cert.MergeC.τ).loc Cert.MergeC.main_arg4)
      ∧ r.2.mem ((c.tc : Thread Cert.MergeC.nD Cert.MergeC.τ).loc Cert.MergeC.main_arg5) = m ((c.tc : Thread Cert.MergeC.nD Cert.MergeC.τ).loc Cert.MergeC.main_arg5)
      ∧ r.2.mem ((c.tc : Thread Cert.MergeC.nD Cert.MergeC.τ).loc Cert.MergeC.main_arg6) = m ((c.tc : Thread Cert.MergeC.nD Cert.MergeC.τ).loc Cert.MergeC.main_arg6))
      ∧ r.2.sem = fun _ => 0)

def quiescent_MergeCIdeal [hMergeCIdeal : Cert.MergeCIdeal.Facts] : Prop :=
  ∀ (m : (ℓ : Loc Cert.MergeCIdeal.nD Cert.MergeCIdeal.τ Cert.MergeCIdeal.sig) → Buf (Elt Ideal) ℓ) (g : Dev Cert.MergeCIdeal.nD → PrngReg), Pre_MergeCIdeal m →
    θ_run (Cert.MergeCIdeal.defs (F := Ideal)) (onTc (τ := Cert.MergeCIdeal.τ) (Cert.MergeCIdeal.main (F := Ideal))) ⟨m, fun _ => 0, g⟩ (fun r => (∀ c : Dev Cert.MergeCIdeal.nD,
      r.2.mem ((c.tc : Thread Cert.MergeCIdeal.nD Cert.MergeCIdeal.τ).loc Cert.MergeCIdeal.main_arg0) = m ((c.tc : Thread Cert.MergeCIdeal.nD Cert.MergeCIdeal.τ).loc Cert.MergeCIdeal.main_arg0)
      ∧ r.2.mem ((c.tc : Thread Cert.MergeCIdeal.nD Cert.MergeCIdeal.τ).loc Cert.MergeCIdeal.main_arg1) = m ((c.tc : Thread Cert.MergeCIdeal.nD Cert.MergeCIdeal.τ).loc Cert.MergeCIdeal.main_arg1)
      ∧ r.2.mem ((c.tc : Thread Cert.MergeCIdeal.nD Cert.MergeCIdeal.τ).loc Cert.MergeCIdeal.main_arg2) = m ((c.tc : Thread Cert.MergeCIdeal.nD Cert.MergeCIdeal.τ).loc Cert.MergeCIdeal.main_arg2)
      ∧ r.2.mem ((c.tc : Thread Cert.MergeCIdeal.nD Cert.MergeCIdeal.τ).loc Cert.MergeCIdeal.main_arg3) = m ((c.tc : Thread Cert.MergeCIdeal.nD Cert.MergeCIdeal.τ).loc Cert.MergeCIdeal.main_arg3)
      ∧ r.2.mem ((c.tc : Thread Cert.MergeCIdeal.nD Cert.MergeCIdeal.τ).loc Cert.MergeCIdeal.main_arg4) = m ((c.tc : Thread Cert.MergeCIdeal.nD Cert.MergeCIdeal.τ).loc Cert.MergeCIdeal.main_arg4)
      ∧ r.2.mem ((c.tc : Thread Cert.MergeCIdeal.nD Cert.MergeCIdeal.τ).loc Cert.MergeCIdeal.main_arg5) = m ((c.tc : Thread Cert.MergeCIdeal.nD Cert.MergeCIdeal.τ).loc Cert.MergeCIdeal.main_arg5)
      ∧ r.2.mem ((c.tc : Thread Cert.MergeCIdeal.nD Cert.MergeCIdeal.τ).loc Cert.MergeCIdeal.main_arg6) = m ((c.tc : Thread Cert.MergeCIdeal.nD Cert.MergeCIdeal.τ).loc Cert.MergeCIdeal.main_arg6))
      ∧ r.2.sem = fun _ => 0)

def quiescent_MergeCReferenceIdeal [hMergeCReferenceIdeal : Cert.MergeCReferenceIdeal.Facts] : Prop :=
  ∀ (m : (ℓ : Loc Cert.MergeCReferenceIdeal.nD Cert.MergeCReferenceIdeal.τ Cert.MergeCReferenceIdeal.sig) → Buf (Elt Ideal) ℓ) (g : Dev Cert.MergeCReferenceIdeal.nD → PrngReg), Pre_MergeCReferenceIdeal m →
    θ_run (Cert.MergeCReferenceIdeal.defs (F := Ideal)) (onTc (τ := Cert.MergeCReferenceIdeal.τ) (Cert.MergeCReferenceIdeal.main (F := Ideal))) ⟨m, fun _ => 0, g⟩ (fun r => (∀ c : Dev Cert.MergeCReferenceIdeal.nD,
      r.2.mem ((c.tc : Thread Cert.MergeCReferenceIdeal.nD Cert.MergeCReferenceIdeal.τ).loc Cert.MergeCReferenceIdeal.main_arg0) = m ((c.tc : Thread Cert.MergeCReferenceIdeal.nD Cert.MergeCReferenceIdeal.τ).loc Cert.MergeCReferenceIdeal.main_arg0)
      ∧ r.2.mem ((c.tc : Thread Cert.MergeCReferenceIdeal.nD Cert.MergeCReferenceIdeal.τ).loc Cert.MergeCReferenceIdeal.main_arg1) = m ((c.tc : Thread Cert.MergeCReferenceIdeal.nD Cert.MergeCReferenceIdeal.τ).loc Cert.MergeCReferenceIdeal.main_arg1)
      ∧ r.2.mem ((c.tc : Thread Cert.MergeCReferenceIdeal.nD Cert.MergeCReferenceIdeal.τ).loc Cert.MergeCReferenceIdeal.main_arg2) = m ((c.tc : Thread Cert.MergeCReferenceIdeal.nD Cert.MergeCReferenceIdeal.τ).loc Cert.MergeCReferenceIdeal.main_arg2)
      ∧ r.2.mem ((c.tc : Thread Cert.MergeCReferenceIdeal.nD Cert.MergeCReferenceIdeal.τ).loc Cert.MergeCReferenceIdeal.main_arg3) = m ((c.tc : Thread Cert.MergeCReferenceIdeal.nD Cert.MergeCReferenceIdeal.τ).loc Cert.MergeCReferenceIdeal.main_arg3)
      ∧ r.2.mem ((c.tc : Thread Cert.MergeCReferenceIdeal.nD Cert.MergeCReferenceIdeal.τ).loc Cert.MergeCReferenceIdeal.main_arg4) = m ((c.tc : Thread Cert.MergeCReferenceIdeal.nD Cert.MergeCReferenceIdeal.τ).loc Cert.MergeCReferenceIdeal.main_arg4)
      ∧ r.2.mem ((c.tc : Thread Cert.MergeCReferenceIdeal.nD Cert.MergeCReferenceIdeal.τ).loc Cert.MergeCReferenceIdeal.main_arg5) = m ((c.tc : Thread Cert.MergeCReferenceIdeal.nD Cert.MergeCReferenceIdeal.τ).loc Cert.MergeCReferenceIdeal.main_arg5)
      ∧ r.2.mem ((c.tc : Thread Cert.MergeCReferenceIdeal.nD Cert.MergeCReferenceIdeal.τ).loc Cert.MergeCReferenceIdeal.main_arg6) = m ((c.tc : Thread Cert.MergeCReferenceIdeal.nD Cert.MergeCReferenceIdeal.τ).loc Cert.MergeCReferenceIdeal.main_arg6))
      ∧ r.2.sem = fun _ => 0)

def quiescent_MergeL [hMergeL : Cert.MergeL.Facts] : Prop :=
  ∀ (m : (ℓ : Loc Cert.MergeL.nD Cert.MergeL.τ Cert.MergeL.sig) → Buf (Elt Bits) ℓ) (g : Dev Cert.MergeL.nD → PrngReg), Pre_MergeL m →
    θ_run (Cert.MergeL.defs (F := Bits)) (onTc (τ := Cert.MergeL.τ) (Cert.MergeL.main (F := Bits))) ⟨m, fun _ => 0, g⟩ (fun r => (∀ c : Dev Cert.MergeL.nD,
      r.2.mem ((c.tc : Thread Cert.MergeL.nD Cert.MergeL.τ).loc Cert.MergeL.main_arg0) = m ((c.tc : Thread Cert.MergeL.nD Cert.MergeL.τ).loc Cert.MergeL.main_arg0)
      ∧ r.2.mem ((c.tc : Thread Cert.MergeL.nD Cert.MergeL.τ).loc Cert.MergeL.main_arg1) = m ((c.tc : Thread Cert.MergeL.nD Cert.MergeL.τ).loc Cert.MergeL.main_arg1)
      ∧ r.2.mem ((c.tc : Thread Cert.MergeL.nD Cert.MergeL.τ).loc Cert.MergeL.main_arg2) = m ((c.tc : Thread Cert.MergeL.nD Cert.MergeL.τ).loc Cert.MergeL.main_arg2)
      ∧ r.2.mem ((c.tc : Thread Cert.MergeL.nD Cert.MergeL.τ).loc Cert.MergeL.main_arg3) = m ((c.tc : Thread Cert.MergeL.nD Cert.MergeL.τ).loc Cert.MergeL.main_arg3)
      ∧ r.2.mem ((c.tc : Thread Cert.MergeL.nD Cert.MergeL.τ).loc Cert.MergeL.main_arg4) = m ((c.tc : Thread Cert.MergeL.nD Cert.MergeL.τ).loc Cert.MergeL.main_arg4)
      ∧ r.2.mem ((c.tc : Thread Cert.MergeL.nD Cert.MergeL.τ).loc Cert.MergeL.main_arg5) = m ((c.tc : Thread Cert.MergeL.nD Cert.MergeL.τ).loc Cert.MergeL.main_arg5)
      ∧ r.2.mem ((c.tc : Thread Cert.MergeL.nD Cert.MergeL.τ).loc Cert.MergeL.main_arg6) = m ((c.tc : Thread Cert.MergeL.nD Cert.MergeL.τ).loc Cert.MergeL.main_arg6))
      ∧ r.2.sem = fun _ => 0)

def quiescent_MergeLIdeal [hMergeLIdeal : Cert.MergeLIdeal.Facts] : Prop :=
  ∀ (m : (ℓ : Loc Cert.MergeLIdeal.nD Cert.MergeLIdeal.τ Cert.MergeLIdeal.sig) → Buf (Elt Ideal) ℓ) (g : Dev Cert.MergeLIdeal.nD → PrngReg), Pre_MergeLIdeal m →
    θ_run (Cert.MergeLIdeal.defs (F := Ideal)) (onTc (τ := Cert.MergeLIdeal.τ) (Cert.MergeLIdeal.main (F := Ideal))) ⟨m, fun _ => 0, g⟩ (fun r => (∀ c : Dev Cert.MergeLIdeal.nD,
      r.2.mem ((c.tc : Thread Cert.MergeLIdeal.nD Cert.MergeLIdeal.τ).loc Cert.MergeLIdeal.main_arg0) = m ((c.tc : Thread Cert.MergeLIdeal.nD Cert.MergeLIdeal.τ).loc Cert.MergeLIdeal.main_arg0)
      ∧ r.2.mem ((c.tc : Thread Cert.MergeLIdeal.nD Cert.MergeLIdeal.τ).loc Cert.MergeLIdeal.main_arg1) = m ((c.tc : Thread Cert.MergeLIdeal.nD Cert.MergeLIdeal.τ).loc Cert.MergeLIdeal.main_arg1)
      ∧ r.2.mem ((c.tc : Thread Cert.MergeLIdeal.nD Cert.MergeLIdeal.τ).loc Cert.MergeLIdeal.main_arg2) = m ((c.tc : Thread Cert.MergeLIdeal.nD Cert.MergeLIdeal.τ).loc Cert.MergeLIdeal.main_arg2)
      ∧ r.2.mem ((c.tc : Thread Cert.MergeLIdeal.nD Cert.MergeLIdeal.τ).loc Cert.MergeLIdeal.main_arg3) = m ((c.tc : Thread Cert.MergeLIdeal.nD Cert.MergeLIdeal.τ).loc Cert.MergeLIdeal.main_arg3)
      ∧ r.2.mem ((c.tc : Thread Cert.MergeLIdeal.nD Cert.MergeLIdeal.τ).loc Cert.MergeLIdeal.main_arg4) = m ((c.tc : Thread Cert.MergeLIdeal.nD Cert.MergeLIdeal.τ).loc Cert.MergeLIdeal.main_arg4)
      ∧ r.2.mem ((c.tc : Thread Cert.MergeLIdeal.nD Cert.MergeLIdeal.τ).loc Cert.MergeLIdeal.main_arg5) = m ((c.tc : Thread Cert.MergeLIdeal.nD Cert.MergeLIdeal.τ).loc Cert.MergeLIdeal.main_arg5)
      ∧ r.2.mem ((c.tc : Thread Cert.MergeLIdeal.nD Cert.MergeLIdeal.τ).loc Cert.MergeLIdeal.main_arg6) = m ((c.tc : Thread Cert.MergeLIdeal.nD Cert.MergeLIdeal.τ).loc Cert.MergeLIdeal.main_arg6))
      ∧ r.2.sem = fun _ => 0)

def quiescent_MergeLReferenceIdeal [hMergeLReferenceIdeal : Cert.MergeLReferenceIdeal.Facts] : Prop :=
  ∀ (m : (ℓ : Loc Cert.MergeLReferenceIdeal.nD Cert.MergeLReferenceIdeal.τ Cert.MergeLReferenceIdeal.sig) → Buf (Elt Ideal) ℓ) (g : Dev Cert.MergeLReferenceIdeal.nD → PrngReg), Pre_MergeLReferenceIdeal m →
    θ_run (Cert.MergeLReferenceIdeal.defs (F := Ideal)) (onTc (τ := Cert.MergeLReferenceIdeal.τ) (Cert.MergeLReferenceIdeal.main (F := Ideal))) ⟨m, fun _ => 0, g⟩ (fun r => (∀ c : Dev Cert.MergeLReferenceIdeal.nD,
      r.2.mem ((c.tc : Thread Cert.MergeLReferenceIdeal.nD Cert.MergeLReferenceIdeal.τ).loc Cert.MergeLReferenceIdeal.main_arg0) = m ((c.tc : Thread Cert.MergeLReferenceIdeal.nD Cert.MergeLReferenceIdeal.τ).loc Cert.MergeLReferenceIdeal.main_arg0)
      ∧ r.2.mem ((c.tc : Thread Cert.MergeLReferenceIdeal.nD Cert.MergeLReferenceIdeal.τ).loc Cert.MergeLReferenceIdeal.main_arg1) = m ((c.tc : Thread Cert.MergeLReferenceIdeal.nD Cert.MergeLReferenceIdeal.τ).loc Cert.MergeLReferenceIdeal.main_arg1)
      ∧ r.2.mem ((c.tc : Thread Cert.MergeLReferenceIdeal.nD Cert.MergeLReferenceIdeal.τ).loc Cert.MergeLReferenceIdeal.main_arg2) = m ((c.tc : Thread Cert.MergeLReferenceIdeal.nD Cert.MergeLReferenceIdeal.τ).loc Cert.MergeLReferenceIdeal.main_arg2)
      ∧ r.2.mem ((c.tc : Thread Cert.MergeLReferenceIdeal.nD Cert.MergeLReferenceIdeal.τ).loc Cert.MergeLReferenceIdeal.main_arg3) = m ((c.tc : Thread Cert.MergeLReferenceIdeal.nD Cert.MergeLReferenceIdeal.τ).loc Cert.MergeLReferenceIdeal.main_arg3)
      ∧ r.2.mem ((c.tc : Thread Cert.MergeLReferenceIdeal.nD Cert.MergeLReferenceIdeal.τ).loc Cert.MergeLReferenceIdeal.main_arg4) = m ((c.tc : Thread Cert.MergeLReferenceIdeal.nD Cert.MergeLReferenceIdeal.τ).loc Cert.MergeLReferenceIdeal.main_arg4)
      ∧ r.2.mem ((c.tc : Thread Cert.MergeLReferenceIdeal.nD Cert.MergeLReferenceIdeal.τ).loc Cert.MergeLReferenceIdeal.main_arg5) = m ((c.tc : Thread Cert.MergeLReferenceIdeal.nD Cert.MergeLReferenceIdeal.τ).loc Cert.MergeLReferenceIdeal.main_arg5)
      ∧ r.2.mem ((c.tc : Thread Cert.MergeLReferenceIdeal.nD Cert.MergeLReferenceIdeal.τ).loc Cert.MergeLReferenceIdeal.main_arg6) = m ((c.tc : Thread Cert.MergeLReferenceIdeal.nD Cert.MergeLReferenceIdeal.τ).loc Cert.MergeLReferenceIdeal.main_arg6))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5))
      ∧ r.2.sem = fun _ => 0)

def quiescent_OutpReferenceIdeal [hOutpReferenceIdeal : Cert.OutpReferenceIdeal.Facts] : Prop :=
  ∀ (m : (ℓ : Loc Cert.OutpReferenceIdeal.nD Cert.OutpReferenceIdeal.τ Cert.OutpReferenceIdeal.sig) → Buf (Elt Ideal) ℓ) (g : Dev Cert.OutpReferenceIdeal.nD → PrngReg), Pre_OutpReferenceIdeal m →
    θ_run (Cert.OutpReferenceIdeal.defs (F := Ideal)) (onTc (τ := Cert.OutpReferenceIdeal.τ) (Cert.OutpReferenceIdeal.main (F := Ideal))) ⟨m, fun _ => 0, g⟩ (fun r => (∀ c : Dev Cert.OutpReferenceIdeal.nD,
      r.2.mem ((c.tc : Thread Cert.OutpReferenceIdeal.nD Cert.OutpReferenceIdeal.τ).loc Cert.OutpReferenceIdeal.main_arg0) = m ((c.tc : Thread Cert.OutpReferenceIdeal.nD Cert.OutpReferenceIdeal.τ).loc Cert.OutpReferenceIdeal.main_arg0)
      ∧ r.2.mem ((c.tc : Thread Cert.OutpReferenceIdeal.nD Cert.OutpReferenceIdeal.τ).loc Cert.OutpReferenceIdeal.main_arg1) = m ((c.tc : Thread Cert.OutpReferenceIdeal.nD Cert.OutpReferenceIdeal.τ).loc Cert.OutpReferenceIdeal.main_arg1)
      ∧ r.2.mem ((c.tc : Thread Cert.OutpReferenceIdeal.nD Cert.OutpReferenceIdeal.τ).loc Cert.OutpReferenceIdeal.main_arg2) = m ((c.tc : Thread Cert.OutpReferenceIdeal.nD Cert.OutpReferenceIdeal.τ).loc Cert.OutpReferenceIdeal.main_arg2)
      ∧ r.2.mem ((c.tc : Thread Cert.OutpReferenceIdeal.nD Cert.OutpReferenceIdeal.τ).loc Cert.OutpReferenceIdeal.main_arg3) = m ((c.tc : Thread Cert.OutpReferenceIdeal.nD Cert.OutpReferenceIdeal.τ).loc Cert.OutpReferenceIdeal.main_arg3)
      ∧ r.2.mem ((c.tc : Thread Cert.OutpReferenceIdeal.nD Cert.OutpReferenceIdeal.τ).loc Cert.OutpReferenceIdeal.main_arg4) = m ((c.tc : Thread Cert.OutpReferenceIdeal.nD Cert.OutpReferenceIdeal.τ).loc Cert.OutpReferenceIdeal.main_arg4)
      ∧ r.2.mem ((c.tc : Thread Cert.OutpReferenceIdeal.nD Cert.OutpReferenceIdeal.τ).loc Cert.OutpReferenceIdeal.main_arg5) = m ((c.tc : Thread Cert.OutpReferenceIdeal.nD Cert.OutpReferenceIdeal.τ).loc Cert.OutpReferenceIdeal.main_arg5))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v24) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MergeC_MergeCIdeal : Prop :=
  True

def algebraic_MergeCIdeal_MergeCReferenceIdeal [hMergeCIdeal : Cert.MergeCIdeal.Facts] [hMergeCReferenceIdeal : Cert.MergeCReferenceIdeal.Facts] : Prop :=
  ∀ (m : (ℓ : Loc Cert.MergeCIdeal.nD Cert.MergeCIdeal.τ Cert.MergeCIdeal.sig) → Buf (Elt Ideal) ℓ) (g : Dev Cert.MergeCIdeal.nD → PrngReg)
    (m' : (ℓ : Loc Cert.MergeCReferenceIdeal.nD Cert.MergeCReferenceIdeal.τ Cert.MergeCReferenceIdeal.sig) → Buf (Elt Ideal) ℓ) (g' : Dev Cert.MergeCReferenceIdeal.nD → PrngReg), Pre_MergeCIdeal m →
    (∀ c : Dev Cert.MergeCIdeal.nD,
      m' ((c.tc : Thread Cert.MergeCReferenceIdeal.nD Cert.MergeCReferenceIdeal.τ).loc Cert.MergeCReferenceIdeal.main_arg0) = m ((c.tc : Thread Cert.MergeCIdeal.nD Cert.MergeCIdeal.τ).loc Cert.MergeCIdeal.main_arg0)
      ∧ m' ((c.tc : Thread Cert.MergeCReferenceIdeal.nD Cert.MergeCReferenceIdeal.τ).loc Cert.MergeCReferenceIdeal.main_arg1) = m ((c.tc : Thread Cert.MergeCIdeal.nD Cert.MergeCIdeal.τ).loc Cert.MergeCIdeal.main_arg1)
      ∧ m' ((c.tc : Thread Cert.MergeCReferenceIdeal.nD Cert.MergeCReferenceIdeal.τ).loc Cert.MergeCReferenceIdeal.main_arg2) = m ((c.tc : Thread Cert.MergeCIdeal.nD Cert.MergeCIdeal.τ).loc Cert.MergeCIdeal.main_arg2)
      ∧ m' ((c.tc : Thread Cert.MergeCReferenceIdeal.nD Cert.MergeCReferenceIdeal.τ).loc Cert.MergeCReferenceIdeal.main_arg3) = m ((c.tc : Thread Cert.MergeCIdeal.nD Cert.MergeCIdeal.τ).loc Cert.MergeCIdeal.main_arg3)
      ∧ m' ((c.tc : Thread Cert.MergeCReferenceIdeal.nD Cert.MergeCReferenceIdeal.τ).loc Cert.MergeCReferenceIdeal.main_arg4) = m ((c.tc : Thread Cert.MergeCIdeal.nD Cert.MergeCIdeal.τ).loc Cert.MergeCIdeal.main_arg4)
      ∧ m' ((c.tc : Thread Cert.MergeCReferenceIdeal.nD Cert.MergeCReferenceIdeal.τ).loc Cert.MergeCReferenceIdeal.main_arg5) = m ((c.tc : Thread Cert.MergeCIdeal.nD Cert.MergeCIdeal.τ).loc Cert.MergeCIdeal.main_arg5)
      ∧ m' ((c.tc : Thread Cert.MergeCReferenceIdeal.nD Cert.MergeCReferenceIdeal.τ).loc Cert.MergeCReferenceIdeal.main_arg6) = m ((c.tc : Thread Cert.MergeCIdeal.nD Cert.MergeCIdeal.τ).loc Cert.MergeCIdeal.main_arg6)) →
    ∃ (v0 : (c : Dev Cert.MergeCIdeal.nD) → Buf (Elt Ideal) ((c.tc : Thread Cert.MergeCIdeal.nD Cert.MergeCIdeal.τ).loc Cert.MergeCIdeal.main_v0)),
      θ_run (Cert.MergeCIdeal.defs (F := Ideal)) (onTc (τ := Cert.MergeCIdeal.τ) (Cert.MergeCIdeal.main (F := Ideal))) ⟨m, fun _ => 0, g⟩ (fun r => ∀ c : Dev Cert.MergeCIdeal.nD,
          r.2.mem ((c.tc : Thread Cert.MergeCIdeal.nD Cert.MergeCIdeal.τ).loc Cert.MergeCIdeal.main_v0) = v0 c
          ∧ r.2.mem ((c.tc : Thread Cert.MergeCIdeal.nD Cert.MergeCIdeal.τ).loc Cert.MergeCIdeal.main_arg0) = m ((c.tc : Thread Cert.MergeCIdeal.nD Cert.MergeCIdeal.τ).loc Cert.MergeCIdeal.main_arg0)
          ∧ r.2.mem ((c.tc : Thread Cert.MergeCIdeal.nD Cert.MergeCIdeal.τ).loc Cert.MergeCIdeal.main_arg1) = m ((c.tc : Thread Cert.MergeCIdeal.nD Cert.MergeCIdeal.τ).loc Cert.MergeCIdeal.main_arg1)
          ∧ r.2.mem ((c.tc : Thread Cert.MergeCIdeal.nD Cert.MergeCIdeal.τ).loc Cert.MergeCIdeal.main_arg2) = m ((c.tc : Thread Cert.MergeCIdeal.nD Cert.MergeCIdeal.τ).loc Cert.MergeCIdeal.main_arg2)
          ∧ r.2.mem ((c.tc : Thread Cert.MergeCIdeal.nD Cert.MergeCIdeal.τ).loc Cert.MergeCIdeal.main_arg3) = m ((c.tc : Thread Cert.MergeCIdeal.nD Cert.MergeCIdeal.τ).loc Cert.MergeCIdeal.main_arg3)
          ∧ r.2.mem ((c.tc : Thread Cert.MergeCIdeal.nD Cert.MergeCIdeal.τ).loc Cert.MergeCIdeal.main_arg4) = m ((c.tc : Thread Cert.MergeCIdeal.nD Cert.MergeCIdeal.τ).loc Cert.MergeCIdeal.main_arg4)
          ∧ r.2.mem ((c.tc : Thread Cert.MergeCIdeal.nD Cert.MergeCIdeal.τ).loc Cert.MergeCIdeal.main_arg5) = m ((c.tc : Thread Cert.MergeCIdeal.nD Cert.MergeCIdeal.τ).loc Cert.MergeCIdeal.main_arg5)
          ∧ r.2.mem ((c.tc : Thread Cert.MergeCIdeal.nD Cert.MergeCIdeal.τ).loc Cert.MergeCIdeal.main_arg6) = m ((c.tc : Thread Cert.MergeCIdeal.nD Cert.MergeCIdeal.τ).loc Cert.MergeCIdeal.main_arg6))
      ∧ θ_run (Cert.MergeCReferenceIdeal.defs (F := Ideal)) (onTc (τ := Cert.MergeCReferenceIdeal.τ) (Cert.MergeCReferenceIdeal.main (F := Ideal))) ⟨m', fun _ => 0, g'⟩ (fun r => ∀ c : Dev Cert.MergeCReferenceIdeal.nD,
          r.2.mem ((c.tc : Thread Cert.MergeCReferenceIdeal.nD Cert.MergeCReferenceIdeal.τ).loc Cert.MergeCReferenceIdeal.main_v23) = v0 c
          ∧ r.2.mem ((c.tc : Thread Cert.MergeCReferenceIdeal.nD Cert.MergeCReferenceIdeal.τ).loc Cert.MergeCReferenceIdeal.main_arg0) = m' ((c.tc : Thread Cert.MergeCReferenceIdeal.nD Cert.MergeCReferenceIdeal.τ).loc Cert.MergeCReferenceIdeal.main_arg0)
          ∧ r.2.mem ((c.tc : Thread Cert.MergeCReferenceIdeal.nD Cert.MergeCReferenceIdeal.τ).loc Cert.MergeCReferenceIdeal.main_arg1) = m' ((c.tc : Thread Cert.MergeCReferenceIdeal.nD Cert.MergeCReferenceIdeal.τ).loc Cert.MergeCReferenceIdeal.main_arg1)
          ∧ r.2.mem ((c.tc : Thread Cert.MergeCReferenceIdeal.nD Cert.MergeCReferenceIdeal.τ).loc Cert.MergeCReferenceIdeal.main_arg2) = m' ((c.tc : Thread Cert.MergeCReferenceIdeal.nD Cert.MergeCReferenceIdeal.τ).loc Cert.MergeCReferenceIdeal.main_arg2)
          ∧ r.2.mem ((c.tc : Thread Cert.MergeCReferenceIdeal.nD Cert.MergeCReferenceIdeal.τ).loc Cert.MergeCReferenceIdeal.main_arg3) = m' ((c.tc : Thread Cert.MergeCReferenceIdeal.nD Cert.MergeCReferenceIdeal.τ).loc Cert.MergeCReferenceIdeal.main_arg3)
          ∧ r.2.mem ((c.tc : Thread Cert.MergeCReferenceIdeal.nD Cert.MergeCReferenceIdeal.τ).loc Cert.MergeCReferenceIdeal.main_arg4) = m' ((c.tc : Thread Cert.MergeCReferenceIdeal.nD Cert.MergeCReferenceIdeal.τ).loc Cert.MergeCReferenceIdeal.main_arg4)
          ∧ r.2.mem ((c.tc : Thread Cert.MergeCReferenceIdeal.nD Cert.MergeCReferenceIdeal.τ).loc Cert.MergeCReferenceIdeal.main_arg5) = m' ((c.tc : Thread Cert.MergeCReferenceIdeal.nD Cert.MergeCReferenceIdeal.τ).loc Cert.MergeCReferenceIdeal.main_arg5)
          ∧ r.2.mem ((c.tc : Thread Cert.MergeCReferenceIdeal.nD Cert.MergeCReferenceIdeal.τ).loc Cert.MergeCReferenceIdeal.main_arg6) = m' ((c.tc : Thread Cert.MergeCReferenceIdeal.nD Cert.MergeCReferenceIdeal.τ).loc Cert.MergeCReferenceIdeal.main_arg6))

def preserves_MergeL_MergeLIdeal : Prop :=
  True

def algebraic_MergeLIdeal_MergeLReferenceIdeal [hMergeLIdeal : Cert.MergeLIdeal.Facts] [hMergeLReferenceIdeal : Cert.MergeLReferenceIdeal.Facts] : Prop :=
  ∀ (m : (ℓ : Loc Cert.MergeLIdeal.nD Cert.MergeLIdeal.τ Cert.MergeLIdeal.sig) → Buf (Elt Ideal) ℓ) (g : Dev Cert.MergeLIdeal.nD → PrngReg)
    (m' : (ℓ : Loc Cert.MergeLReferenceIdeal.nD Cert.MergeLReferenceIdeal.τ Cert.MergeLReferenceIdeal.sig) → Buf (Elt Ideal) ℓ) (g' : Dev Cert.MergeLReferenceIdeal.nD → PrngReg), Pre_MergeLIdeal m →
    (∀ c : Dev Cert.MergeLIdeal.nD,
      m' ((c.tc : Thread Cert.MergeLReferenceIdeal.nD Cert.MergeLReferenceIdeal.τ).loc Cert.MergeLReferenceIdeal.main_arg0) = m ((c.tc : Thread Cert.MergeLIdeal.nD Cert.MergeLIdeal.τ).loc Cert.MergeLIdeal.main_arg0)
      ∧ m' ((c.tc : Thread Cert.MergeLReferenceIdeal.nD Cert.MergeLReferenceIdeal.τ).loc Cert.MergeLReferenceIdeal.main_arg1) = m ((c.tc : Thread Cert.MergeLIdeal.nD Cert.MergeLIdeal.τ).loc Cert.MergeLIdeal.main_arg1)
      ∧ m' ((c.tc : Thread Cert.MergeLReferenceIdeal.nD Cert.MergeLReferenceIdeal.τ).loc Cert.MergeLReferenceIdeal.main_arg2) = m ((c.tc : Thread Cert.MergeLIdeal.nD Cert.MergeLIdeal.τ).loc Cert.MergeLIdeal.main_arg2)
      ∧ m' ((c.tc : Thread Cert.MergeLReferenceIdeal.nD Cert.MergeLReferenceIdeal.τ).loc Cert.MergeLReferenceIdeal.main_arg3) = m ((c.tc : Thread Cert.MergeLIdeal.nD Cert.MergeLIdeal.τ).loc Cert.MergeLIdeal.main_arg3)
      ∧ m' ((c.tc : Thread Cert.MergeLReferenceIdeal.nD Cert.MergeLReferenceIdeal.τ).loc Cert.MergeLReferenceIdeal.main_arg4) = m ((c.tc : Thread Cert.MergeLIdeal.nD Cert.MergeLIdeal.τ).loc Cert.MergeLIdeal.main_arg4)
      ∧ m' ((c.tc : Thread Cert.MergeLReferenceIdeal.nD Cert.MergeLReferenceIdeal.τ).loc Cert.MergeLReferenceIdeal.main_arg5) = m ((c.tc : Thread Cert.MergeLIdeal.nD Cert.MergeLIdeal.τ).loc Cert.MergeLIdeal.main_arg5)
      ∧ m' ((c.tc : Thread Cert.MergeLReferenceIdeal.nD Cert.MergeLReferenceIdeal.τ).loc Cert.MergeLReferenceIdeal.main_arg6) = m ((c.tc : Thread Cert.MergeLIdeal.nD Cert.MergeLIdeal.τ).loc Cert.MergeLIdeal.main_arg6)) →
    ∃ (v0 : (c : Dev Cert.MergeLIdeal.nD) → Buf (Elt Ideal) ((c.tc : Thread Cert.MergeLIdeal.nD Cert.MergeLIdeal.τ).loc Cert.MergeLIdeal.main_v0)),
      θ_run (Cert.MergeLIdeal.defs (F := Ideal)) (onTc (τ := Cert.MergeLIdeal.τ) (Cert.MergeLIdeal.main (F := Ideal))) ⟨m, fun _ => 0, g⟩ (fun r => ∀ c : Dev Cert.MergeLIdeal.nD,
          r.2.mem ((c.tc : Thread Cert.MergeLIdeal.nD Cert.MergeLIdeal.τ).loc Cert.MergeLIdeal.main_v0) = v0 c
          ∧ r.2.mem ((c.tc : Thread Cert.MergeLIdeal.nD Cert.MergeLIdeal.τ).loc Cert.MergeLIdeal.main_arg0) = m ((c.tc : Thread Cert.MergeLIdeal.nD Cert.MergeLIdeal.τ).loc Cert.MergeLIdeal.main_arg0)
          ∧ r.2.mem ((c.tc : Thread Cert.MergeLIdeal.nD Cert.MergeLIdeal.τ).loc Cert.MergeLIdeal.main_arg1) = m ((c.tc : Thread Cert.MergeLIdeal.nD Cert.MergeLIdeal.τ).loc Cert.MergeLIdeal.main_arg1)
          ∧ r.2.mem ((c.tc : Thread Cert.MergeLIdeal.nD Cert.MergeLIdeal.τ).loc Cert.MergeLIdeal.main_arg2) = m ((c.tc : Thread Cert.MergeLIdeal.nD Cert.MergeLIdeal.τ).loc Cert.MergeLIdeal.main_arg2)
          ∧ r.2.mem ((c.tc : Thread Cert.MergeLIdeal.nD Cert.MergeLIdeal.τ).loc Cert.MergeLIdeal.main_arg3) = m ((c.tc : Thread Cert.MergeLIdeal.nD Cert.MergeLIdeal.τ).loc Cert.MergeLIdeal.main_arg3)
          ∧ r.2.mem ((c.tc : Thread Cert.MergeLIdeal.nD Cert.MergeLIdeal.τ).loc Cert.MergeLIdeal.main_arg4) = m ((c.tc : Thread Cert.MergeLIdeal.nD Cert.MergeLIdeal.τ).loc Cert.MergeLIdeal.main_arg4)
          ∧ r.2.mem ((c.tc : Thread Cert.MergeLIdeal.nD Cert.MergeLIdeal.τ).loc Cert.MergeLIdeal.main_arg5) = m ((c.tc : Thread Cert.MergeLIdeal.nD Cert.MergeLIdeal.τ).loc Cert.MergeLIdeal.main_arg5)
          ∧ r.2.mem ((c.tc : Thread Cert.MergeLIdeal.nD Cert.MergeLIdeal.τ).loc Cert.MergeLIdeal.main_arg6) = m ((c.tc : Thread Cert.MergeLIdeal.nD Cert.MergeLIdeal.τ).loc Cert.MergeLIdeal.main_arg6))
      ∧ θ_run (Cert.MergeLReferenceIdeal.defs (F := Ideal)) (onTc (τ := Cert.MergeLReferenceIdeal.τ) (Cert.MergeLReferenceIdeal.main (F := Ideal))) ⟨m', fun _ => 0, g'⟩ (fun r => ∀ c : Dev Cert.MergeLReferenceIdeal.nD,
          r.2.mem ((c.tc : Thread Cert.MergeLReferenceIdeal.nD Cert.MergeLReferenceIdeal.τ).loc Cert.MergeLReferenceIdeal.main_v23) = v0 c
          ∧ r.2.mem ((c.tc : Thread Cert.MergeLReferenceIdeal.nD Cert.MergeLReferenceIdeal.τ).loc Cert.MergeLReferenceIdeal.main_arg0) = m' ((c.tc : Thread Cert.MergeLReferenceIdeal.nD Cert.MergeLReferenceIdeal.τ).loc Cert.MergeLReferenceIdeal.main_arg0)
          ∧ r.2.mem ((c.tc : Thread Cert.MergeLReferenceIdeal.nD Cert.MergeLReferenceIdeal.τ).loc Cert.MergeLReferenceIdeal.main_arg1) = m' ((c.tc : Thread Cert.MergeLReferenceIdeal.nD Cert.MergeLReferenceIdeal.τ).loc Cert.MergeLReferenceIdeal.main_arg1)
          ∧ r.2.mem ((c.tc : Thread Cert.MergeLReferenceIdeal.nD Cert.MergeLReferenceIdeal.τ).loc Cert.MergeLReferenceIdeal.main_arg2) = m' ((c.tc : Thread Cert.MergeLReferenceIdeal.nD Cert.MergeLReferenceIdeal.τ).loc Cert.MergeLReferenceIdeal.main_arg2)
          ∧ r.2.mem ((c.tc : Thread Cert.MergeLReferenceIdeal.nD Cert.MergeLReferenceIdeal.τ).loc Cert.MergeLReferenceIdeal.main_arg3) = m' ((c.tc : Thread Cert.MergeLReferenceIdeal.nD Cert.MergeLReferenceIdeal.τ).loc Cert.MergeLReferenceIdeal.main_arg3)
          ∧ r.2.mem ((c.tc : Thread Cert.MergeLReferenceIdeal.nD Cert.MergeLReferenceIdeal.τ).loc Cert.MergeLReferenceIdeal.main_arg4) = m' ((c.tc : Thread Cert.MergeLReferenceIdeal.nD Cert.MergeLReferenceIdeal.τ).loc Cert.MergeLReferenceIdeal.main_arg4)
          ∧ r.2.mem ((c.tc : Thread Cert.MergeLReferenceIdeal.nD Cert.MergeLReferenceIdeal.τ).loc Cert.MergeLReferenceIdeal.main_arg5) = m' ((c.tc : Thread Cert.MergeLReferenceIdeal.nD Cert.MergeLReferenceIdeal.τ).loc Cert.MergeLReferenceIdeal.main_arg5)
          ∧ r.2.mem ((c.tc : Thread Cert.MergeLReferenceIdeal.nD Cert.MergeLReferenceIdeal.τ).loc Cert.MergeLReferenceIdeal.main_arg6) = m' ((c.tc : Thread Cert.MergeLReferenceIdeal.nD Cert.MergeLReferenceIdeal.τ).loc Cert.MergeLReferenceIdeal.main_arg6))

def preserves_Outp_OutpIdeal : Prop :=
  True

def algebraic_OutpIdeal_OutpReferenceIdeal [hOutpIdeal : Cert.OutpIdeal.Facts] [hOutpReferenceIdeal : Cert.OutpReferenceIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpReferenceIdeal.nD Cert.OutpReferenceIdeal.τ Cert.OutpReferenceIdeal.sig) → Buf (Elt Ideal) ℓ) (g' : Dev Cert.OutpReferenceIdeal.nD → PrngReg), Pre_OutpIdeal m →
    (∀ c : Dev Cert.OutpIdeal.nD,
      m' ((c.tc : Thread Cert.OutpReferenceIdeal.nD Cert.OutpReferenceIdeal.τ).loc Cert.OutpReferenceIdeal.main_arg0) = m ((c.tc : Thread Cert.OutpIdeal.nD Cert.OutpIdeal.τ).loc Cert.OutpIdeal.main_arg0)
      ∧ m' ((c.tc : Thread Cert.OutpReferenceIdeal.nD Cert.OutpReferenceIdeal.τ).loc Cert.OutpReferenceIdeal.main_arg1) = m ((c.tc : Thread Cert.OutpIdeal.nD Cert.OutpIdeal.τ).loc Cert.OutpIdeal.main_arg1)
      ∧ m' ((c.tc : Thread Cert.OutpReferenceIdeal.nD Cert.OutpReferenceIdeal.τ).loc Cert.OutpReferenceIdeal.main_arg2) = m ((c.tc : Thread Cert.OutpIdeal.nD Cert.OutpIdeal.τ).loc Cert.OutpIdeal.main_arg2)
      ∧ m' ((c.tc : Thread Cert.OutpReferenceIdeal.nD Cert.OutpReferenceIdeal.τ).loc Cert.OutpReferenceIdeal.main_arg3) = m ((c.tc : Thread Cert.OutpIdeal.nD Cert.OutpIdeal.τ).loc Cert.OutpIdeal.main_arg3)
      ∧ m' ((c.tc : Thread Cert.OutpReferenceIdeal.nD Cert.OutpReferenceIdeal.τ).loc Cert.OutpReferenceIdeal.main_arg4) = m ((c.tc : Thread Cert.OutpIdeal.nD Cert.OutpIdeal.τ).loc Cert.OutpIdeal.main_arg4)
      ∧ m' ((c.tc : Thread Cert.OutpReferenceIdeal.nD Cert.OutpReferenceIdeal.τ).loc Cert.OutpReferenceIdeal.main_arg5) = m ((c.tc : Thread Cert.OutpIdeal.nD Cert.OutpIdeal.τ).loc Cert.OutpIdeal.main_arg5)) →
    ∃ (v0 : (c : Dev Cert.OutpIdeal.nD) → Buf (Elt Ideal) ((c.tc : Thread Cert.OutpIdeal.nD Cert.OutpIdeal.τ).loc Cert.OutpIdeal.main_v2_0)) (v1 : (c : Dev Cert.OutpIdeal.nD) → Buf (Elt Ideal) ((c.tc : Thread Cert.OutpIdeal.nD Cert.OutpIdeal.τ).loc Cert.OutpIdeal.main_v2_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v2_0) = v0 c
          ∧ r.2.mem ((c.tc : Thread Cert.OutpIdeal.nD Cert.OutpIdeal.τ).loc Cert.OutpIdeal.main_v2_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5))
      ∧ θ_run (Cert.OutpReferenceIdeal.defs (F := Ideal)) (onTc (τ := Cert.OutpReferenceIdeal.τ) (Cert.OutpReferenceIdeal.main (F := Ideal))) ⟨m', fun _ => 0, g'⟩ (fun r => ∀ c : Dev Cert.OutpReferenceIdeal.nD,
          r.2.mem ((c.tc : Thread Cert.OutpReferenceIdeal.nD Cert.OutpReferenceIdeal.τ).loc Cert.OutpReferenceIdeal.main_v82) = v0 c
          ∧ r.2.mem ((c.tc : Thread Cert.OutpReferenceIdeal.nD Cert.OutpReferenceIdeal.τ).loc Cert.OutpReferenceIdeal.main_v85) = v1 c
          ∧ r.2.mem ((c.tc : Thread Cert.OutpReferenceIdeal.nD Cert.OutpReferenceIdeal.τ).loc Cert.OutpReferenceIdeal.main_arg0) = m' ((c.tc : Thread Cert.OutpReferenceIdeal.nD Cert.OutpReferenceIdeal.τ).loc Cert.OutpReferenceIdeal.main_arg0)
          ∧ r.2.mem ((c.tc : Thread Cert.OutpReferenceIdeal.nD Cert.OutpReferenceIdeal.τ).loc Cert.OutpReferenceIdeal.main_arg1) = m' ((c.tc : Thread Cert.OutpReferenceIdeal.nD Cert.OutpReferenceIdeal.τ).loc Cert.OutpReferenceIdeal.main_arg1)
          ∧ r.2.mem ((c.tc : Thread Cert.OutpReferenceIdeal.nD Cert.OutpReferenceIdeal.τ).loc Cert.OutpReferenceIdeal.main_arg2) = m' ((c.tc : Thread Cert.OutpReferenceIdeal.nD Cert.OutpReferenceIdeal.τ).loc Cert.OutpReferenceIdeal.main_arg2)
          ∧ r.2.mem ((c.tc : Thread Cert.OutpReferenceIdeal.nD Cert.OutpReferenceIdeal.τ).loc Cert.OutpReferenceIdeal.main_arg3) = m' ((c.tc : Thread Cert.OutpReferenceIdeal.nD Cert.OutpReferenceIdeal.τ).loc Cert.OutpReferenceIdeal.main_arg3)
          ∧ r.2.mem ((c.tc : Thread Cert.OutpReferenceIdeal.nD Cert.OutpReferenceIdeal.τ).loc Cert.OutpReferenceIdeal.main_arg4) = m' ((c.tc : Thread Cert.OutpReferenceIdeal.nD Cert.OutpReferenceIdeal.τ).loc Cert.OutpReferenceIdeal.main_arg4)
          ∧ r.2.mem ((c.tc : Thread Cert.OutpReferenceIdeal.nD Cert.OutpReferenceIdeal.τ).loc Cert.OutpReferenceIdeal.main_arg5) = m' ((c.tc : Thread Cert.OutpReferenceIdeal.nD Cert.OutpReferenceIdeal.τ).loc Cert.OutpReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProj : Cert.Proj.Facts) (hProjIdeal : Cert.ProjIdeal.Facts) (hProjReferenceIdeal : Cert.ProjReferenceIdeal.Facts) (hMergeC : Cert.MergeC.Facts) (hMergeCIdeal : Cert.MergeCIdeal.Facts) (hMergeCReferenceIdeal : Cert.MergeCReferenceIdeal.Facts) (hMergeL : Cert.MergeL.Facts) (hMergeLIdeal : Cert.MergeLIdeal.Facts) (hMergeLReferenceIdeal : Cert.MergeLReferenceIdeal.Facts) (hOutp : Cert.Outp.Facts) (hOutpIdeal : Cert.OutpIdeal.Facts) (hOutpReferenceIdeal : Cert.OutpReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MergeC (hMergeC := hMergeC)
    ∧ quiescent_MergeCIdeal (hMergeCIdeal := hMergeCIdeal)
    ∧ quiescent_MergeCReferenceIdeal (hMergeCReferenceIdeal := hMergeCReferenceIdeal)
    ∧ quiescent_MergeL (hMergeL := hMergeL)
    ∧ quiescent_MergeLIdeal (hMergeLIdeal := hMergeLIdeal)
    ∧ quiescent_MergeLReferenceIdeal (hMergeLReferenceIdeal := hMergeLReferenceIdeal)
    ∧ quiescent_Outp (hOutp := hOutp)
    ∧ quiescent_OutpIdeal (hOutpIdeal := hOutpIdeal)
    ∧ quiescent_OutpReferenceIdeal (hOutpReferenceIdeal := hOutpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Proj_ProjIdeal
    ∧ algebraic_ProjIdeal_ProjReferenceIdeal (hProjIdeal := hProjIdeal) (hProjReferenceIdeal := hProjReferenceIdeal)
    ∧ preserves_MergeC_MergeCIdeal
    ∧ algebraic_MergeCIdeal_MergeCReferenceIdeal (hMergeCIdeal := hMergeCIdeal) (hMergeCReferenceIdeal := hMergeCReferenceIdeal)
    ∧ preserves_MergeL_MergeLIdeal
    ∧ algebraic_MergeLIdeal_MergeLReferenceIdeal (hMergeLIdeal := hMergeLIdeal) (hMergeLReferenceIdeal := hMergeLReferenceIdeal)
    ∧ preserves_Outp_OutpIdeal
    ∧ algebraic_OutpIdeal_OutpReferenceIdeal (hOutpIdeal := hOutpIdeal) (hOutpReferenceIdeal := hOutpReferenceIdeal)
-- ==== Pre_finite.lean ====
abbrev S8192x13824 : Shape := ⟨2, ![8192, 13824]⟩
abbrev S4x2x256x2x128 : Shape := ⟨5, ![4, 2, 256, 2, 128]⟩
abbrev S2x128 : Shape := ⟨2, ![2, 128]⟩
abbrev S4096x1280 : Shape := ⟨2, ![4096, 1280]⟩
abbrev S_ : Shape := ⟨0, ![]⟩
abbrev S4x1x256x2x128 : Shape := ⟨5, ![4, 1, 256, 2, 128]⟩
abbrev S4x256x2x128 : Shape := ⟨4, ![4, 256, 2, 128]⟩
abbrev S1x128 : Shape := ⟨2, ![1, 128]⟩
abbrev S128 : Shape := ⟨1, ![128]⟩

class Facts : Prop where
  slices_S8192x13824_S4096x1280_4096_6144 : S8192x13824.Slices ![4096, 6144] S4096x1280
  bitsLt_bf16_f32 : FTy.bits .bf16 < FTy.bits .f32
  bcast_S_S4096x1280 : S_.BroadcastsInDim S4096x1280 (![] : Fin 0 → Fin S4096x1280.rank)
  reducesTo_S4096x1280_S_d0_1 : S4096x1280.ReducesTo [0, 1] S_
  h_S_ : 0 < S_.numel
  slices_S4x2x256x2x128_S4x1x256x2x128_0_0_0_0_0 : S4x2x256x2x128.Slices ![0, 0, 0, 0, 0] S4x1x256x2x128
  shapeCasts_S4x1x256x2x128_S4x256x2x128 : S4x1x256x2x128.ShapeCasts S4x256x2x128
  bcast_S_S4x256x2x128 : S_.BroadcastsInDim S4x256x2x128 (![] : Fin 0 → Fin S4x256x2x128.rank)
  reducesTo_S4x256x2x128_S_d0_1_2_3 : S4x256x2x128.ReducesTo [0, 1, 2, 3] S_
  slices_S2x128_S1x128_0_0 : S2x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S2x128 .f32) (main_v12 : IVec S_ 1) (main_v17 : IVec S128 1) (main_c_3 : IVec S_ 1) : IVec S_ 1 :=
  let main_v18 : IVec S_ 1 := (fun x v => Host.reduce IntOp.andi x v reducesTo_S128_S_d0 h_S_) main_v17 main_c_3
  let main_v19 : IVec S_ 1 := andi main_v12 main_v18
  let main_v20 : FVec F S1x128 .f32 := (extractStridedSlice S1x128 ![0, 0] · slices_S2x128_S1x128_0_0) main_arg4
  let main_v21 : FVec F S128 .f32 := shapeCast S128 main_v20 shapeCasts_S1x128_S128
  let main_v22 : FVec F S128 .f32 := Host.absf main_v21
  let main_cst_4 : FVec F S_ .f32 := constant S_ .f32 0x7F800000#32
  let main_v23 : FVec F S128 .f32 := broadcastInDim S128 ![] bcast_S_S128 main_cst_4
  let main_v24 : IVec S128 1 := cmpf .olt main_v22 main_v23
  let main_c_5 : IVec S_ 1 := constantI S_ 1 1#1
  let main_v25 : IVec S_ 1 := (fun x v => Host.reduce IntOp.andi x v reducesTo_S128_S_d0 h_S_) main_v24 main_c_5
  let main_v26 : IVec S_ 1 := andi main_v19 main_v25
  main_v26

def fn {F : FTy → Type} [FloatOps F] (main_arg0 : FVec F S8192x13824 .bf16) (main_arg1 : FVec F S4x2x256x2x128 .f32) (main_arg2 : FVec F S4x2x256x2x128 .f32) (main_arg3 : FVec F S2x128 .f32) (main_arg4 : FVec F S2x128 .f32) : IVec S_ 1 :=
  let main_v0 : FVec F S4096x1280 .bf16 := (extractStridedSlice S4096x1280 ![4096, 6144] · slices_S8192x13824_S4096x1280_4096_6144) main_arg0
  let main_v1 : FVec F S4096x1280 .f32 := (extf .f32 · bitsLt_bf16_f32) main_v0
  let main_v2 : FVec F S4096x1280 .f32 := Host.absf main_v1
  let main_cst : FVec F S_ .f32 := constant S_ .f32 0x7F800000#32
  let main_v3 : FVec F S4096x1280 .f32 := broadcastInDim S4096x1280 ![] bcast_S_S4096x1280 main_cst
  let main_v4 : IVec S4096x1280 1 := cmpf .olt main_v2 main_v3
  let main_c : IVec S_ 1 := constantI S_ 1 1#1
  let main_v5 : IVec S_ 1 := (fun x v => Host.reduce IntOp.andi x v reducesTo_S4096x1280_S_d0_1 h_S_) main_v4 main_c
  let main_v6 : FVec F S4x1x256x2x128 .f32 := (extractStridedSlice S4x1x256x2x128 ![0, 0, 0, 0, 0] · slices_S4x2x256x2x128_S4x1x256x2x128_0_0_0_0_0) main_arg1
  let main_v7 : FVec F S4x256x2x128 .f32 := shapeCast S4x256x2x128 main_v6 shapeCasts_S4x1x256x2x128_S4x256x2x128
  let main_v8 : FVec F S4x256x2x128 .f32 := Host.absf main_v7
  let main_cst_0 : FVec F S_ .f32 := constant S_ .f32 0x7F800000#32
  let main_v9 : FVec F S4x256x2x128 .f32 := broadcastInDim S4x256x2x128 ![] bcast_S_S4x256x2x128 main_cst_0
  let main_v10 : IVec S4x256x2x128 1 := cmpf .olt main_v8 main_v9
  let main_c_1 : IVec S_ 1 := constantI S_ 1 1#1
  let main_v11 : IVec S_ 1 := (fun x v => Host.reduce IntOp.andi x v reducesTo_S4x256x2x128_S_d0_1_2_3 h_S_) main_v10 main_c_1
  let main_v12 : IVec S_ 1 := andi main_v5 main_v11
  let main_v13 : FVec F S1x128 .f32 := (extractStridedSlice S1x128 ![0, 0] · slices_S2x128_S1x128_0_0) main_arg3
  let main_v14 : FVec F S128 .f32 := shapeCast S128 main_v13 shapeCasts_S1x128_S128
  let main_v15 : FVec F S128 .f32 := Host.absf main_v14
  let main_cst_2 : FVec F S_ .f32 := constant S_ .f32 0x7F800000#32
  let main_v16 : FVec F S128 .f32 := broadcastInDim S128 ![] bcast_S_S128 main_cst_2
  let main_v17 : IVec S128 1 := cmpf .olt main_v15 main_v16
  let main_c_3 : IVec S_ 1 := constantI S_ 1 1#1
  fn_part1 (F := F) main_arg4 main_v12 main_v17 main_c_3
-- ==== Kernel.lean ====
abbrev S8192x13824 : Shape := ⟨2, ![8192, 13824]⟩
abbrev S4x2x256x2x128 : Shape := ⟨5, ![4, 2, 256, 2, 128]⟩
abbrev S2x128 : Shape := ⟨2, ![2, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1024x128 : Shape := ⟨2, ![1024, 128]⟩
abbrev S4x2x512x128 : Shape := ⟨4, ![4, 2, 512, 128]⟩
abbrev S2x1x128 : Shape := ⟨3, ![2, 1, 128]⟩
abbrev S4096x1024 : Shape := ⟨2, ![4096, 1024]⟩
abbrev S256x1024 : Shape := ⟨2, ![256, 1024]⟩
abbrev S1024x256 : Shape := ⟨2, ![1024, 256]⟩
abbrev S1x1x512x128 : Shape := ⟨4, ![1, 1, 512, 128]⟩
abbrev S1x1x128 : Shape := ⟨3, ![1, 1, 128]⟩
abbrev S256x128 : Shape := ⟨2, ![256, 128]⟩
abbrev S2x1280x128 : Shape := ⟨3, ![2, 1280, 128]⟩
abbrev S2x1280x256 : Shape := ⟨3, ![2, 1280, 256]⟩
abbrev S1x128 : Shape := ⟨2, ![1, 128]⟩
abbrev S1x1x256x128 : Shape := ⟨4, ![1, 1, 256, 128]⟩
abbrev S1x1280x128 : Shape := ⟨3, ![1, 1280, 128]⟩
abbrev S1280x128 : Shape := ⟨2, ![1280, 128]⟩
abbrev S1x256x128 : Shape := ⟨3, ![1, 256, 128]⟩
abbrev S1x1280x256 : Shape := ⟨3, ![1, 1280, 256]⟩
abbrev S1280x256 : Shape := ⟨2, ![1280, 256]⟩
abbrev S1x1024x128 : Shape := ⟨3, ![1, 1024, 128]⟩
abbrev S256 : Shape := ⟨1, ![256]⟩
abbrev S256x1 : Shape := ⟨2, ![256, 1]⟩
abbrev S256x1280 : Shape := ⟨2, ![256, 1280]⟩
abbrev S256x256 : Shape := ⟨2, ![256, 256]⟩

abbrev nBuf : Space → Nat
  | .hbm => 41
  | .vmem => 22
  | .smem => 0
  | _ => 0

abbrev bufTy : (tb : Table) → Fin (tcTables nBuf tb) → BufTy
  | .hbm, ⟨0, _⟩ => ⟨S8192x13824, .bf16⟩
  | .hbm, ⟨1, _⟩ => ⟨S4x2x256x2x128, .f32⟩
  | .hbm, ⟨2, _⟩ => ⟨S4x2x256x2x128, .f32⟩
  | .hbm, ⟨3, _⟩ => ⟨S2x128, .f32⟩
  | .hbm, ⟨4, _⟩ => ⟨S2x128, .f32⟩
  | .hbm, ⟨5, _⟩ => ⟨S16, .f32⟩
  | .hbm, ⟨6, _⟩ => ⟨S16x64, .f32⟩
  | .hbm, ⟨7, _⟩ => ⟨S1024, .f32⟩
  | .hbm, ⟨8, _⟩ => ⟨S64, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1024x1, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x1, .f32⟩
  | .hbm, ⟨26, _⟩ => ⟨S1x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x64, .f32⟩
  | .hbm, ⟨31, _⟩ => ⟨S1024x64, .f32⟩
  | .hbm, ⟨32, _⟩ => ⟨S1024x64, .f32⟩
  | .hbm, ⟨33, _⟩ => ⟨S1024x128, .f32⟩
  | .hbm, ⟨34, _⟩ => ⟨S1024x64, .f32⟩
  | .hbm, ⟨35, _⟩ => ⟨S1024x128, .f32⟩
  | .hbm, ⟨36, _⟩ => ⟨S4x2x512x128, .f32⟩
  | .hbm, ⟨37, _⟩ => ⟨S4x2x512x128, .f32⟩
  | .hbm, ⟨38, _⟩ => ⟨S2x1x128, .f32⟩
  | .hbm, ⟨39, _⟩ => ⟨S2x1x128, .f32⟩
  | .hbm, ⟨40, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1x128, .f32⟩
  | .local _ .vmem, ⟨11, _⟩ => ⟨S1x1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1024x128, .f32⟩
  | .local _ .vmem, ⟨17, _⟩ => ⟨S1024x128, .f32⟩
  | .local _ .vmem, ⟨18, _⟩ => ⟨S256x1024, .bf16⟩
  | .local _ .vmem, ⟨19, _⟩ => ⟨S256x1024, .bf16⟩
  | .local _ .vmem, ⟨20, _⟩ => ⟨S2x1280x128, .bf16⟩
  | .local _ .vmem, ⟨21, _⟩ => ⟨S2x1280x256, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32_0 : BitVec 32 := 0#32
  let v2 : BitVec 1 := Scalar.cmpi .eq arg2 c0_i32_0
  let v3 : BitVec 32 := Scalar.extui v2
  let c0_i32_3 : BitVec 32 := 0#32
  let v4 : BitVec 1 := Scalar.cmpi .ne v3 c0_i32_3
  v4

def k0_off1 (i : grid0.Coords) : Fin 4 → Nat :=
  let c0_252 : Index := 0#32
  let c0_253 : Index := 0#32
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let v418 : Index := Scalar.indexCast v1
  let c0_254 : Index := 0#32
  ![0, 0, v418.toNat, 0]
def k0_cond2 (i : grid0.Coords) : BitVec 1 :=
  let arg2 : BitVec 32 := BitVec.ofNat 32 (i 2).val
  let c0_i32_119 : BitVec 32 := 0#32
  let v199 : BitVec 1 := Scalar.cmpi .eq arg2 c0_i32_119
  let v200 : BitVec 32 := Scalar.extui v199
  let c0_i32_122 : BitVec 32 := 0#32
  let v201 : BitVec 1 := Scalar.cmpi .ne v200 c0_i32_122
  v201

def k0_off2 (i : grid0.Coords) : Fin 4 → Nat :=
  let c0_252 : Index := 0#32
  let c0_253 : Index := 0#32
  let arg1 : BitVec 32 := BitVec.ofNat 32 (i 1).val
  let c2_i32_118 : BitVec 32 := 2#32
  let v197 : BitVec 32 := Scalar.muli arg1 c2_i32_118
  let c1_i32 : BitVec 32 := 1#32
  let v198 : BitVec 32 := Scalar.addi v197 c1_i32
  let v418 : Index := Scalar.indexCast v198
  let c0_254 : Index := 0#32
  ![0, 0, v418.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c6_i32 : BitVec 32 := 6#32
  let v3 : BitVec 32 := Scalar.addi c6_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c28_i32 : BitVec 32 := 28#32
  let v1 : BitVec 32 := Scalar.addi c28_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c29_i32 : BitVec 32 := 29#32
  let v1 : BitVec 32 := Scalar.addi c29_i32 arg1
  let c0_i32 : BitVec 32 := 0#32
  ![v0.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "qscale" => some (((11863283 / 134217728) * (Real.log 2)⁻¹ : ℝ) : EReal)
  | _ => none
-- ==== ReferenceIdeal.lean ====
abbrev S8192x13824 : Shape := ⟨2, ![8192, 13824]⟩
abbrev S4x2x256x2x128 : Shape := ⟨5, ![4, 2, 256, 2, 128]⟩
abbrev S2x128 : Shape := ⟨2, ![2, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S4096x1024 : Shape := ⟨2, ![4096, 1024]⟩
abbrev S4096x256 : Shape := ⟨2, ![4096, 256]⟩
abbrev S4x1024x8x128 : Shape := ⟨4, ![4, 1024, 8, 128]⟩
abbrev S1x128 : Shape := ⟨2, ![1, 128]⟩
abbrev S128 : Shape := ⟨1, ![128]⟩
abbrev S4x1024x8 : Shape := ⟨3, ![4, 1024, 8]⟩
abbrev S4x1024x8x1 : Shape := ⟨4, ![4, 1024, 8, 1]⟩
abbrev S1x1x1x128 : Shape := ⟨4, ![1, 1, 1, 128]⟩
abbrev S4x1024x8x64 : Shape := ⟨4, ![4, 1024, 8, 64]⟩
abbrev S1x1024x1x64 : Shape := ⟨4, ![1, 1024, 1, 64]⟩
abbrev S4x1024x2x128 : Shape := ⟨4, ![4, 1024, 2, 128]⟩
abbrev S4x1024x2 : Shape := ⟨3, ![4, 1024, 2]⟩
abbrev S4x1024x2x1 : Shape := ⟨4, ![4, 1024, 2, 1]⟩
abbrev S4x1024x2x64 : Shape := ⟨4, ![4, 1024, 2, 64]⟩
abbrev S4x1x256x2x128 : Shape := ⟨5, ![4, 1, 256, 2, 128]⟩
abbrev S4x256x2x128 : Shape := ⟨4, ![4, 256, 2, 128]⟩
abbrev S4x1280x2x128 : Shape := ⟨4, ![4, 1280, 2, 128]⟩
abbrev S4x1024x2x4x128 : Shape := ⟨5, ![4, 1024, 2, 4, 128]⟩
abbrev S4x2x1280x1024x4 : Shape := ⟨5, ![4, 2, 1280, 1024, 4]⟩
abbrev S4x2x4x1024x1280 : Shape := ⟨5, ![4, 2, 4, 1024, 1280]⟩
abbrev S4x2x4x1024 : Shape := ⟨4, ![4, 2, 4, 1024]⟩
abbrev S4x2x4x1024x1 : Shape := ⟨5, ![4, 2, 4, 1024, 1]⟩
abbrev S4x2x128x4x1024 : Shape := ⟨5, ![4, 2, 128, 4, 1024]⟩

abbrev nBuf : Space → Nat
  | .hbm => 139
  | .vmem => 0
  | .smem => 0
  | _ => 0

abbrev hbmTy0_0 (i : Nat) : BufTy := match i % 128 with
  | 0 => ⟨S8192x13824, .bf16⟩
  | 1 => ⟨S4x2x256x2x128, .f32⟩
  | 2 => ⟨S4x2x256x2x128, .f32⟩
  | 3 => ⟨S2x128, .f32⟩
  | 4 => ⟨S2x128, .f32⟩
  | 5 => ⟨S16, .f32⟩
  | 6 => ⟨S16x64, .f32⟩
  | 7 => ⟨S1024, .f32⟩
  | 8 => ⟨S64, .f32⟩
  | 9 => ⟨S1x64, .f32⟩
  | 10 => ⟨S16x64, .f32⟩
  | 11 => ⟨S1024, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S1024x1, .f32⟩
  | 21 => ⟨S1x32, .f32⟩
  | 22 => ⟨S1024x32, .f32⟩
  | 23 => ⟨S1024x32, .f32⟩
  | 24 => ⟨S1024x32, .f32⟩
  | 25 => ⟨S1024x1, .f32⟩
  | 26 => ⟨S1x32, .f32⟩
  | 27 => ⟨S1024x32, .f32⟩
  | 28 => ⟨S1024x32, .f32⟩
  | 29 => ⟨S1024x32, .f32⟩
  | 30 => ⟨S1024x64, .f32⟩
  | 31 => ⟨S1024x64, .f32⟩
  | 32 => ⟨S1024x64, .f32⟩
  | 33 => ⟨S4096x1024, .bf16⟩
  | 34 => ⟨S4096x1024, .f32⟩
  | 35 => ⟨S4096x256, .bf16⟩
  | 36 => ⟨S4096x256, .f32⟩
  | 37 => ⟨S4096x256, .bf16⟩
  | 38 => ⟨S4096x256, .f32⟩
  | 39 => ⟨S4x1024x8x128, .f32⟩
  | 40 => ⟨S1x128, .f32⟩
  | 41 => ⟨S128, .f32⟩
  | 42 => ⟨S4x1024x8x128, .f32⟩
  | 43 => ⟨S_, .f32⟩
  | 44 => ⟨S4x1024x8, .f32⟩
  | 45 => ⟨S4x1024x8x1, .f32⟩
  | 46 => ⟨S_, .f32⟩
  | 47 => ⟨S4x1024x8x1, .f32⟩
  | 48 => ⟨S4x1024x8x1, .f32⟩
  | 49 => ⟨S_, .f32⟩
  | 50 => ⟨S4x1024x8x1, .f32⟩
  | 51 => ⟨S4x1024x8x1, .f32⟩
  | 52 => ⟨S4x1024x8x1, .f32⟩
  | 53 => ⟨S4x1024x8x128, .f32⟩
  | 54 => ⟨S4x1024x8x128, .f32⟩
  | 55 => ⟨S1x1x1x128, .f32⟩
  | 56 => ⟨S4x1024x8x128, .f32⟩
  | 57 => ⟨S4x1024x8x128, .f32⟩
  | 58 => ⟨S4x1024x8x64, .f32⟩
  | 59 => ⟨S4x1024x8x64, .f32⟩
  | 60 => ⟨S1x1024x1x64, .f32⟩
  | 61 => ⟨S1x1024x1x64, .f32⟩
  | 62 => ⟨S4x1024x8x64, .f32⟩
  | 63 => ⟨S4x1024x8x64, .f32⟩
  | 64 => ⟨S4x1024x8x64, .f32⟩
  | 65 => ⟨S4x1024x8x64, .f32⟩
  | 66 => ⟨S4x1024x8x64, .f32⟩
  | 67 => ⟨S4x1024x8x64, .f32⟩
  | 68 => ⟨S4x1024x8x64, .f32⟩
  | 69 => ⟨S4x1024x8x64, .f32⟩
  | 70 => ⟨S4x1024x8x64, .f32⟩
  | 71 => ⟨S4x1024x8x64, .f32⟩
  | 72 => ⟨S4x1024x8x128, .f32⟩
  | 73 => ⟨S4x1024x2x128, .f32⟩
  | 74 => ⟨S1x128, .f32⟩
  | 75 => ⟨S128, .f32⟩
  | 76 => ⟨S4x1024x2x128, .f32⟩
  | 77 => ⟨S_, .f32⟩
  | 78 => ⟨S4x1024x2, .f32⟩
  | 79 => ⟨S4x1024x2x1, .f32⟩
  | 80 => ⟨S_, .f32⟩
  | 81 => ⟨S4x1024x2x1, .f32⟩
  | 82 => ⟨S4x1024x2x1, .f32⟩
  | 83 => ⟨S_, .f32⟩
  | 84 => ⟨S4x1024x2x1, .f32⟩
  | 85 => ⟨S4x1024x2x1, .f32⟩
  | 86 => ⟨S4x1024x2x1, .f32⟩
  | 87 => ⟨S4x1024x2x128, .f32⟩
  | 88 => ⟨S4x1024x2x128, .f32⟩
  | 89 => ⟨S1x1x1x128, .f32⟩
  | 90 => ⟨S4x1024x2x128, .f32⟩
  | 91 => ⟨S4x1024x2x128, .f32⟩
  | 92 => ⟨S4x1024x2x64, .f32⟩
  | 93 => ⟨S4x1024x2x64, .f32⟩
  | 94 => ⟨S1x1024x1x64, .f32⟩
  | 95 => ⟨S1x1024x1x64, .f32⟩
  | 96 => ⟨S4x1024x2x64, .f32⟩
  | 97 => ⟨S4x1024x2x64, .f32⟩
  | 98 => ⟨S4x1024x2x64, .f32⟩
  | 99 => ⟨S4x1024x2x64, .f32⟩
  | 100 => ⟨S4x1024x2x64, .f32⟩
  | 101 => ⟨S4x1024x2x64, .f32⟩
  | 102 => ⟨S4x1024x2x64, .f32⟩
  | 103 => ⟨S4x1024x2x64, .f32⟩
  | 104 => ⟨S4x1024x2x64, .f32⟩
  | 105 => ⟨S4x1024x2x64, .f32⟩
  | 106 => ⟨S4x1024x2x128, .f32⟩
  | 107 => ⟨S4x1024x2x128, .f32⟩
  | 108 => ⟨S4x1x256x2x128, .f32⟩
  | 109 => ⟨S4x256x2x128, .f32⟩
  | 110 => ⟨S4x1280x2x128, .f32⟩
  | 111 => ⟨S4x1x256x2x128, .f32⟩
  | 112 => ⟨S4x256x2x128, .f32⟩
  | 113 => ⟨S4x1280x2x128, .f32⟩
  | 114 => ⟨S4x1024x2x4x128, .f32⟩
  | 115 => ⟨S4x2x1280x1024x4, .f32⟩
  | 116 => ⟨S4x2x4x1024x1280, .f32⟩
  | 117 => ⟨S_, .f32⟩
  | 118 => ⟨S4x2x4x1024x1280, .f32⟩
  | 119 => ⟨S4x2x4x1024x1280, .f32⟩
  | 120 => ⟨S_, .f32⟩
  | 121 => ⟨S4x2x4x1024, .f32⟩
  | 122 => ⟨S_, .f32⟩
  | 123 => ⟨S4x2x4x1024, .f32⟩
  | 124 => ⟨S4x2x4x1024, .f32⟩
  | 125 => ⟨S4x2x4x1024x1, .f32⟩
  | 126 => ⟨S4x2x4x1024x1280, .f32⟩
  | 127 => ⟨S4x2x4x1024x1280, .f32⟩
  | _ => ⟨S8192x13824, .bf16⟩

abbrev hbmTy0_1 (i : Nat) : BufTy := match i % 128 with
  | 0 => ⟨S4x2x4x1024x1280, .f32⟩
  | 1 => ⟨S_, .f32⟩
  | 2 => ⟨S4x2x4x1024, .f32⟩
  | 3 => ⟨S4x2x4x1024x1, .f32⟩
  | 4 => ⟨S4x2x4x1024x1280, .f32⟩
  | 5 => ⟨S4x2x4x1024x1280, .f32⟩
  | 6 => ⟨S4x2x128x4x1024, .f32⟩
  | 7 => ⟨S4x1024x2x4x128, .f32⟩
  | 8 => ⟨S4x1024x8x128, .f32⟩
  | 9 => ⟨S4096x1024, .f32⟩
  | 10 => ⟨S4096x1024, .bf16⟩
  | _ => ⟨S8192x13824, .bf16⟩

abbrev hbmTy (i : Nat) : BufTy := match i / 128 with
  | 0 => hbmTy0_0 i
  | 1 => hbmTy0_1 i
  | _ => ⟨S8192x13824, .bf16⟩

abbrev bufTy : (tb : Table) → Fin (tcTables nBuf tb) → BufTy
  | .hbm, ⟨i, _⟩ => hbmTy i
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_cst_5 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_7 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_10 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩

abbrev nD : Nat := 1
abbrev τ : Topo := Topo.v7x

variable {F : FTy → Type} [FloatOps F]
-- ==== Up.lean ====
abbrev S8192x2048 : Shape := ⟨2, ![8192, 2048]⟩
abbrev S2x2048x8192 : Shape := ⟨3, ![2, 2048, 8192]⟩
abbrev S8192x8192 : Shape := ⟨2, ![8192, 8192]⟩
abbrev S2048x2048 : Shape := ⟨2, ![2048, 2048]⟩
abbrev S1x512x1024 : Shape := ⟨3, ![1, 512, 1024]⟩
abbrev S2048x1024 : Shape := ⟨2, ![2048, 1024]⟩
abbrev S2x2048x1024 : Shape := ⟨3, ![2, 2048, 1024]⟩
abbrev S512x1024 : Shape := ⟨2, ![512, 1024]⟩
abbrev S1x2048x1024 : Shape := ⟨3, ![1, 2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x1024, .f32⟩
  | .local _ .vmem, ⟨3, _⟩ => ⟨S1x512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2x2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_8 : Index := 0#32
  ![v21.toNat, v22.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v7 : BitVec 32 := Scalar.addi arg0 c1_i32
  let c2_i32 : BitVec 32 := 2#32
  let c0_i32_3 : BitVec 32 := 0#32
  let v8 : BitVec 1 := Scalar.cmpi .eq c2_i32 c0_i32_3
  let c1_i32_4 : BitVec 32 := 1#32
  let v9 : BitVec 32 := Scalar.select v8 c1_i32_4 c2_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let v18 : Index := Scalar.indexCast v17
  let c0_8 : Index := 0#32
  let c0_9 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c3_i32 : BitVec 32 := 3#32
  let v1 : BitVec 32 := Scalar.select v0 arg1 c3_i32
  let c7_i32 : BitVec 32 := 7#32
  let v2 : BitVec 32 := Scalar.minsi arg0 c7_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S8192x2048 : Shape := ⟨2, ![8192, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x8192, .f32⟩
  | .hbm, ⟨2, _⟩ => ⟨S8192x2048, .f32⟩
  | .hbm, ⟨3, _⟩ => ⟨S1x2048x8192, .f32⟩
  | .hbm, ⟨4, _⟩ => ⟨S2048x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S2x8192x2048 : Shape := ⟨3, ![2, 8192, 2048]⟩
abbrev S2x8x6x1x2048 : Shape := ⟨5, ![2, 8, 6, 1, 2048]⟩
abbrev S512x8192 : Shape := ⟨2, ![512, 8192]⟩
abbrev S1x512x512 : Shape := ⟨3, ![1, 512, 512]⟩
abbrev S512x512 : Shape := ⟨2, ![512, 512]⟩
abbrev S1x1x1x1x512 : Shape := ⟨5, ![1, 1, 1, 1, 512]⟩
abbrev S2x8192x512 : Shape := ⟨3, ![2, 8192, 512]⟩
abbrev S1x512 : Shape := ⟨2, ![1, 512]⟩
abbrev S1x8192x512 : Shape := ⟨3, ![1, 8192, 512]⟩
abbrev S8192x512 : Shape := ⟨2, ![8192, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S2x8192x2048, .f32⟩
  | .hbm, ⟨3, _⟩ => ⟨S2x8x6x1x2048, .f32⟩
  | .hbm, ⟨4, _⟩ => ⟨S8192x2048, .f32⟩
  | .local _ .vmem, ⟨0, _⟩ => ⟨S512x8192, .bf16⟩
  | .local _ .vmem, ⟨1, _⟩ => ⟨S512x8192, .bf16⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S512x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S512x512, .f32⟩
  | .local _ .vmem, ⟨9, _⟩ => ⟨S512x512, .f32⟩
  | .local _ .vmem, ⟨10, _⟩ => ⟨S2x8192x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let arg0 : BitVec 32 := BitVec.ofNat 32 (i 0).val
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg0 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let v21 : Index := Scalar.indexCast v18
  let arg1 : BitVec 32 := BitVec.ofNat 32 (i 1).val
  let c512_i32 : BitVec 32 := 512#32
  let v19 : BitVec 32 := Scalar.muli arg1 c512_i32
  let v20 : BitVec 32 := v19
  let v22 : Index := Scalar.indexCast v20
  let c0_8 : Index := 0#32
  ![v21.toNat, v22.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v10 : BitVec 32 := Scalar.addi arg0 c1_i32
  let c2_i32 : BitVec 32 := 2#32
  let c0_i32_10 : BitVec 32 := 0#32
  let v11 : BitVec 1 := Scalar.cmpi .eq c2_i32 c0_i32_10
  let c1_i32_11 : BitVec 32 := 1#32
  let v12 : BitVec 32 := Scalar.select v11 c1_i32_11 c2_i32
  let v13 : BitVec 32 := Scalar.remsi v10 v12
  let c0_i32_13 : BitVec 32 := 0#32
  let v15 : BitVec 1 := Scalar.cmpi .slt v13 c0_i32_13
  let c0_i32_14 : BitVec 32 := 0#32
  let v16 : BitVec 1 := Scalar.cmpi .slt v12 c0_i32_14
  let v17 : BitVec 1 := Scalar.xori v15 v16
  let c0_i32_12 : BitVec 32 := 0#32
  let v14 : BitVec 1 := Scalar.cmpi .ne v13 c0_i32_12
  let v18 : BitVec 1 := Scalar.andi v17 v14
  let v19 : BitVec 32 := Scalar.addi v13 v12
  let v20 : BitVec 32 := Scalar.select v18 v19 v13
  let v21 : Index := Scalar.indexCast v20
  let c0_15 : Index := 0#32
  let c0_16 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c15_i32 : BitVec 32 := 15#32
  let v1 : BitVec 32 := Scalar.select v0 arg1 c15_i32
  let c3_i32 : BitVec 32 := 3#32
  let v2 : BitVec 32 := Scalar.minsi arg0 c3_i32
  let c0_i32 : BitVec 32 := 0#32
  let c0_i32_0 : BitVec 32 := 0#32
  ![c0_i32.toNat, v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c8_i32 : BitVec 32 := 8#32
  let v2 : BitVec 1 := Scalar.cmpi .slt v1 c8_i32
  let c8_i32_1 : BitVec 32 := 8#32
  let v3 : BitVec 32 := Scalar.subi v1 c8_i32_1
  let c2_i32 : BitVec 32 := 2#32
  let v4 : BitVec 32 := Scalar.divsi v3 c2_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi v3 c2_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32 : BitVec 32 := 4#32
  let v21 : BitVec 32 := Scalar.select v2 c4_i32 v20
  let c1_i32_7 : BitVec 32 := 1#32
  let v22 : BitVec 32 := Scalar.subi arg0 c1_i32_7
  let c0_i32_8 : BitVec 32 := 0#32
  let v23 : BitVec 32 := Scalar.maxsi v22 c0_i32_8
  let c0_i32_9 : BitVec 32 := 0#32
  let c5_i32 : BitVec 32 := 5#32
  let c0_i32_10 : BitVec 32 := 0#32
  let c0_i32_11 : BitVec 32 := 0#32
  ![c0_i32_9.toNat, v21.toNat, c5_i32.toNat, c0_i32_10.toNat, v23.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S8192x8192 : Shape := ⟨2, ![8192, 8192]⟩
abbrev S8192x2048 : Shape := ⟨2, ![8192, 2048]⟩
abbrev S2x8192x2048 : Shape := ⟨3, ![2, 8192, 2048]⟩
abbrev S2x8x6x1x2048 : Shape := ⟨5, ![2, 8, 6, 1, 2048]⟩
abbrev S1x8x1x1x2048 : Shape := ⟨5, ![1, 8, 1, 1, 2048]⟩
abbrev S8x2048 : Shape := ⟨2, ![8, 2048]⟩
abbrev S1x8192x2048 : Shape := ⟨3, ![1, 8192, 2048]⟩
abbrev S4096x2048 : Shape := ⟨2, ![4096, 2048]⟩
abbrev S1x2048 : Shape := ⟨2, ![1, 2048]⟩
abbrev S2048 : Shape := ⟨1, ![2048]⟩
abbrev S4x1024x2048 : Shape := ⟨3, ![4, 1024, 2048]⟩
abbrev S4x2048 : Shape := ⟨2, ![4, 2048]⟩
abbrev S4x1x2048 : Shape := ⟨3, ![4, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S2x8192x2048, .f32⟩
  | .hbm, ⟨3, _⟩ => ⟨S2x8x6x1x2048, .f32⟩
  | .hbm, ⟨4, _⟩ => ⟨S1x8x1x1x2048, .f32⟩
  | .hbm, ⟨5, _⟩ => ⟨S8x2048, .f32⟩
  | .hbm, ⟨6, _⟩ => ⟨S8192x8192, .f32⟩
  | .hbm, ⟨7, _⟩ => ⟨S1x8192x2048, .f32⟩
  | .hbm, ⟨8, _⟩ => ⟨S8192x2048, .f32⟩
  | .hbm, ⟨9, _⟩ => ⟨S8192x2048, .f32⟩
  | .hbm, ⟨10, _⟩ => ⟨S4096x2048, .f32⟩
  | .hbm, ⟨11, _⟩ => ⟨S1x2048, .f32⟩
  | .hbm, ⟨12, _⟩ => ⟨S2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4x1024x2048, .f32⟩
  | .hbm, ⟨20, _⟩ => ⟨S4x2048, .f32⟩
  | .hbm, ⟨21, _⟩ => ⟨S4x1x2048, .f32⟩
  | .hbm, ⟨22, _⟩ => ⟨S4096x2048, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S4x1024x2048, .f32⟩
  | .hbm, ⟨27, _⟩ => ⟨S4096x2048, .f32⟩
  | .hbm, ⟨28, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Proj.lean ====
abbrev S8192x2048 : Shape := ⟨2, ![8192, 2048]⟩
abbrev S2x2048x13888 : Shape := ⟨3, ![2, 2048, 13888]⟩
abbrev S2x13888x2048 : Shape := ⟨3, ![2, 13888, 2048]⟩
abbrev S8192x13824 : Shape := ⟨2, ![8192, 13824]⟩
abbrev S1024x2048 : Shape := ⟨2, ![1024, 2048]⟩
abbrev S1x192x2048 : Shape := ⟨3, ![1, 192, 2048]⟩
abbrev S1024x1536 : Shape := ⟨2, ![1024, 1536]⟩
abbrev S2x1536x2048 : Shape := ⟨3, ![2, 1536, 2048]⟩
abbrev S192x2048 : Shape := ⟨2, ![192, 2048]⟩
abbrev S1x1536x2048 : Shape := ⟨3, ![1, 1536, 2048]⟩
abbrev S1536x2048 : Shape := ⟨2, ![1536, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x13888, .f32⟩
  | .hbm, ⟨2, _⟩ => ⟨S2x13888x2048, .f32⟩
  | .hbm, ⟨3, _⟩ => ⟨S8192x13824, .bf16⟩
  | .local _ .vmem, ⟨0, _⟩ => ⟨S1024x2048, .bf16⟩
  | .local _ .vmem, ⟨1, _⟩ => ⟨S1024x2048, .bf16⟩
  | .local _ .vmem, ⟨2, _⟩ => ⟨S1x192x2048, .f32⟩
  | .local _ .vmem, ⟨3, _⟩ => ⟨S1x192x2048, .f32⟩
  | .local _ .vmem, ⟨4, _⟩ => ⟨S1024x1536, .bf16⟩
  | .local _ .vmem, ⟨5, _⟩ => ⟨S1024x1536, .bf16⟩
  | .local _ .vmem, ⟨6, _⟩ => ⟨S2x1536x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let arg0 : BitVec 32 := BitVec.ofNat 32 (i 0).val
  let c8_i32 : BitVec 32 := 8#32
  let v0 : BitVec 32 := Scalar.minsi arg0 c8_i32
  let c1536_i32 : BitVec 32 := 1536#32
  let v1 : BitVec 32 := Scalar.muli v0 c1536_i32
  let c4_i32 : BitVec 32 := 4#32
  let v2 : BitVec 1 := Scalar.cmpi .sge v0 c4_i32
  let c64_i32 : BitVec 32 := 64#32
  let c0_i32 : BitVec 32 := 0#32
  let v3 : BitVec 32 := Scalar.select v2 c64_i32 c0_i32
  let v4 : BitVec 32 := Scalar.addi v1 v3
  let c9_i32 : BitVec 32 := 9#32
  let v5 : BitVec 1 := Scalar.cmpi .slt arg0 c9_i32
  let arg1 : BitVec 32 := BitVec.ofNat 32 (i 1).val
  let c7_i32 : BitVec 32 := 7#32
  let v6 : BitVec 32 := Scalar.select v5 arg1 c7_i32
  let c192_i32 : BitVec 32 := 192#32
  let v7 : BitVec 32 := Scalar.muli v6 c192_i32
  let v8 : BitVec 32 := Scalar.addi v4 v7
  v8
def k0_cond1 (i : grid0.Coords) : BitVec 1 :=
  let arg0 : BitVec 32 := BitVec.ofNat 32 (i 0).val
  let c9_i32 : BitVec 32 := 9#32
  let v0 : BitVec 1 := Scalar.cmpi .slt arg0 c9_i32
  let v1 : BitVec 32 := Scalar.extui v0
  let c0_i32 : BitVec 32 := 0#32
  let v2 : BitVec 1 := Scalar.cmpi .ne v1 c0_i32
  v2

def k0_mult2 (i : grid0.Coords) : BitVec 32 :=
  let arg1 : BitVec 32 := BitVec.ofNat 32 (i 1).val
  let c192_i32 : BitVec 32 := 192#32
  let v26 : BitVec 32 := Scalar.muli arg1 c192_i32
  v26
def k0_off1 (i : grid0.Coords) : Fin 3 → Nat :=
  let arg0 : BitVec 32 := BitVec.ofNat 32 (i 0).val
  let c2_i32 : BitVec 32 := 2#32
  let c0_i32_7 : BitVec 32 := 0#32
  let v16 : BitVec 1 := Scalar.cmpi .eq c2_i32 c0_i32_7
  let c1_i32_8 : BitVec 32 := 1#32
  let v17 : BitVec 32 := Scalar.select v16 c1_i32_8 c2_i32
  let v18 : BitVec 32 := Scalar.remsi arg0 v17
  let c0_i32_10 : BitVec 32 := 0#32
  let v20 : BitVec 1 := Scalar.cmpi .slt v18 c0_i32_10
  let c0_i32_11 : BitVec 32 := 0#32
  let v21 : BitVec 1 := Scalar.cmpi .slt v17 c0_i32_11
  let v22 : BitVec 1 := Scalar.xori v20 v21
  let c0_i32_9 : BitVec 32 := 0#32
  let v19 : BitVec 1 := Scalar.cmpi .ne v18 c0_i32_9
  let v23 : BitVec 1 := Scalar.andi v22 v19
  let v24 : BitVec 32 := Scalar.addi v18 v17
  let v25 : BitVec 32 := Scalar.select v23 v24 v18
  let v28 : Index := Scalar.indexCast v25
  let arg1 : BitVec 32 := BitVec.ofNat 32 (i 1).val
  let c192_i32 : BitVec 32 := 192#32
  let v26 : BitVec 32 := Scalar.muli arg1 c192_i32
  let v27 : BitVec 32 := v26
  let v29 : Index := Scalar.indexCast v27
  let c0_12 : Index := 0#32
  ![v28.toNat, v29.toNat, 0]
def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let c1_i32 : BitVec 32 := 1#32
  let v4 : BitVec 32 := Scalar.subi arg0 c1_i32
  let c5_i32 : BitVec 32 := 5#32
  let v5 : BitVec 1 := Scalar.cmpi .slt v4 c5_i32
  let v6 : BitVec 1 := Scalar.andi v3 v5
  let v7 : BitVec 32 := Scalar.extui v6
  let c0_i32_1 : BitVec 32 := 0#32
  let v8 : BitVec 1 := Scalar.cmpi .ne v7 c0_i32_1
  v8

def k0_off2 (i : grid0.Coords) : Fin 3 → Nat :=
  let arg0 : BitVec 32 := BitVec.ofNat 32 (i 0).val
  let c1_i32_6 : BitVec 32 := 1#32
  let v14 : BitVec 32 := Scalar.addi arg0 c1_i32_6
  let c2_i32 : BitVec 32 := 2#32
  let c0_i32_7 : BitVec 32 := 0#32
  let v15 : BitVec 1 := Scalar.cmpi .eq c2_i32 c0_i32_7
  let c1_i32_8 : BitVec 32 := 1#32
  let v16 : BitVec 32 := Scalar.select v15 c1_i32_8 c2_i32
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : Index := Scalar.indexCast v24
  let c0_12 : Index := 0#32
  let c0_13 : Index := 0#32
  ![v25.toNat, 0, 0]
def k0_cond3 (i : grid0.Coords) : BitVec 1 :=
  let arg0 : BitVec 32 := BitVec.ofNat 32 (i 0).val
  let c1_i32_2 : BitVec 32 := 1#32
  let v9 : BitVec 32 := Scalar.subi arg0 c1_i32_2
  let c5_i32_3 : BitVec 32 := 5#32
  let v10 : BitVec 1 := Scalar.cmpi .sge v9 c5_i32_3
  let v11 : BitVec 32 := Scalar.extui v10
  let c0_i32_4 : BitVec 32 := 0#32
  let v12 : BitVec 1 := Scalar.cmpi .ne v11 c0_i32_4
  v12

def k0_off3 (i : grid0.Coords) : Fin 3 → Nat :=
  let arg0 : BitVec 32 := BitVec.ofNat 32 (i 0).val
  let c1_i32_6 : BitVec 32 := 1#32
  let v14 : BitVec 32 := Scalar.addi arg0 c1_i32_6
  let c2_i32 : BitVec 32 := 2#32
  let c0_i32_7 : BitVec 32 := 0#32
  let v15 : BitVec 1 := Scalar.cmpi .eq c2_i32 c0_i32_7
  let c1_i32_8 : BitVec 32 := 1#32
  let v16 : BitVec 32 := Scalar.select v15 c1_i32_8 c2_i32
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let v25 : Index := Scalar.indexCast v24
  let c0_12 : Index := 0#32
  let c0_13 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c1536_i32 : BitVec 32 := 1536#32
  let v1 : BitVec 32 := Scalar.muli v0 c1536_i32
  let c4_i32 : BitVec 32 := 4#32
  let v2 : BitVec 1 := Scalar.cmpi .sge v0 c4_i32
  let c64_i32 : BitVec 32 := 64#32
  let c0_i32 : BitVec 32 := 0#32
  let v3 : BitVec 32 := Scalar.select v2 c64_i32 c0_i32
  let v4 : BitVec 32 := Scalar.addi v1 v3
  let c9_i32 : BitVec 32 := 9#32
  let v5 : BitVec 1 := Scalar.cmpi .slt arg0 c9_i32
  let c7_i32 : BitVec 32 := 7#32
  let v6 : BitVec 32 := Scalar.select v5 arg1 c7_i32
  let c192_i32 : BitVec 32 := 192#32
  let v7 : BitVec 32 := Scalar.muli v6 c192_i32
  let v8 : BitVec 32 := Scalar.addi v4 v7
  let v9 : BitVec 32 := v8
  let c0_i32_0 : BitVec 32 := 0#32
  let c0_i32_1 : BitVec 32 := 0#32
  let c0_i32_2 : BitVec 32 := 0#32
  ![c0_i32_0.toNat, v9.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S8192x2048 : Shape := ⟨2, ![8192, 2048]⟩
abbrev S2x2048x13888 : Shape := ⟨3, ![2, 2048, 13888]⟩
abbrev S1x2048x13888 : Shape := ⟨3, ![1, 2048, 13888]⟩
abbrev S2048x13888 : Shape := ⟨2, ![2048, 13888]⟩
abbrev S8192x13888 : Shape := ⟨2, ![8192, 13888]⟩
abbrev S8192x6144 : Shape := ⟨2, ![8192, 6144]⟩
abbrev S8192x64 : Shape := ⟨2, ![8192, 64]⟩
abbrev S8192x1536 : Shape := ⟨2, ![8192, 1536]⟩
abbrev S_ : Shape := ⟨0, ![]⟩
abbrev S8192x13824 : Shape := ⟨2, ![8192, 13824]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13888, .f32⟩
  | .hbm, ⟨2, _⟩ => ⟨S8192x2048, .f32⟩
  | .hbm, ⟨3, _⟩ => ⟨S1x2048x13888, .f32⟩
  | .hbm, ⟨4, _⟩ => ⟨S2048x13888, .f32⟩
  | .hbm, ⟨5, _⟩ => ⟨S8192x13888, .f32⟩
  | .hbm, ⟨6, _⟩ => ⟨S8192x6144, .f32⟩
  | .hbm, ⟨7, _⟩ => ⟨S8192x64, .f32⟩
  | .hbm, ⟨8, _⟩ => ⟨S8192x1536, .f32⟩
  | .hbm, ⟨9, _⟩ => ⟨S8192x6144, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S8192x13824, .f32⟩
  | .hbm, ⟨19, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== MergeC.lean ====
abbrev S4096x1024 : Shape := ⟨2, ![4096, 1024]⟩
abbrev S4096x2048 : Shape := ⟨2, ![4096, 2048]⟩
abbrev S8192x13824 : Shape := ⟨2, ![8192, 13824]⟩
abbrev S2x1024x2048 : Shape := ⟨3, ![2, 1024, 2048]⟩
abbrev S2x2048x2048 : Shape := ⟨3, ![2, 2048, 2048]⟩
abbrev S1024x1024 : Shape := ⟨2, ![1024, 1024]⟩
abbrev S1024x2048 : Shape := ⟨2, ![1024, 2048]⟩
abbrev S1024x512 : Shape := ⟨2, ![1024, 512]⟩
abbrev S1x1024x512 : Shape := ⟨3, ![1, 1024, 512]⟩
abbrev S1x2048x512 : Shape := ⟨3, ![1, 2048, 512]⟩
abbrev S4096x512 : Shape := ⟨2, ![4096, 512]⟩
abbrev S2048x512 : Shape := ⟨2, ![2048, 512]⟩

abbrev nBuf : Space → Nat
  | .hbm => 8
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S8192x13824, .bf16⟩
  | .hbm, ⟨4, _⟩ => ⟨S2x1024x2048, .f32⟩
  | .hbm, ⟨5, _⟩ => ⟨S2x2048x2048, .f32⟩
  | .hbm, ⟨6, _⟩ => ⟨S2x1024x2048, .f32⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x2048x512, .f32⟩
  | .local _ .vmem, ⟨15, _⟩ => ⟨S1x2048x512, .f32⟩
  | .local _ .vmem, ⟨16, _⟩ => ⟨S1x1024x512, .f32⟩
  | .local _ .vmem, ⟨17, _⟩ => ⟨S1x1024x512, .f32⟩
  | .local _ .vmem, ⟨18, _⟩ => ⟨S1024x512, .bf16⟩
  | .local _ .vmem, ⟨19, _⟩ => ⟨S1024x512, .bf16⟩
  | .local _ .vmem, ⟨20, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c15_i32 : BitVec 32 := 15#32
  let v1 : BitVec 32 := Scalar.addi c15_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c19_i32 : BitVec 32 := 19#32
  let v1 : BitVec 32 := Scalar.addi c19_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c23_i32 : BitVec 32 := 23#32
  let v1 : BitVec 32 := Scalar.addi c23_i32 arg0
  let c0_i32_0 : BitVec 32 := 0#32
  ![v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeCReferenceIdeal.lean ====
abbrev S4096x1024 : Shape := ⟨2, ![4096, 1024]⟩
abbrev S4096x2048 : Shape := ⟨2, ![4096, 2048]⟩
abbrev S8192x13824 : Shape := ⟨2, ![8192, 13824]⟩
abbrev S2x1024x2048 : Shape := ⟨3, ![2, 1024, 2048]⟩
abbrev S2x2048x2048 : Shape := ⟨3, ![2, 2048, 2048]⟩
abbrev S4096x13824 : Shape := ⟨2, ![4096, 13824]⟩
abbrev S4096x6144 : Shape := ⟨2, ![4096, 6144]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S8192x13824, .bf16⟩
  | .hbm, ⟨4, _⟩ => ⟨S2x1024x2048, .f32⟩
  | .hbm, ⟨5, _⟩ => ⟨S2x2048x2048, .f32⟩
  | .hbm, ⟨6, _⟩ => ⟨S2x1024x2048, .f32⟩
  | .hbm, ⟨7, _⟩ => ⟨S4096x13824, .bf16⟩
  | .hbm, ⟨8, _⟩ => ⟨S4096x6144, .bf16⟩
  | .hbm, ⟨9, _⟩ => ⟨S4096x6144, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S1x1024x2048, .f32⟩
  | .hbm, ⟨15, _⟩ => ⟨S1024x2048, .f32⟩
  | .hbm, ⟨16, _⟩ => ⟨S4096x2048, .f32⟩
  | .hbm, ⟨17, _⟩ => ⟨S4096x2048, .f32⟩
  | .hbm, ⟨18, _⟩ => ⟨S1x2048x2048, .f32⟩
  | .hbm, ⟨19, _⟩ => ⟨S2048x2048, .f32⟩
  | .hbm, ⟨20, _⟩ => ⟨S4096x2048, .f32⟩
  | .hbm, ⟨21, _⟩ => ⟨S4096x1024, .f32⟩
  | .hbm, ⟨22, _⟩ => ⟨S1x1024x2048, .f32⟩
  | .hbm, ⟨23, _⟩ => ⟨S1024x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== MergeL.lean ====
abbrev S4096x1024 : Shape := ⟨2, ![4096, 1024]⟩
abbrev S4096x2048 : Shape := ⟨2, ![4096, 2048]⟩
abbrev S8192x13824 : Shape := ⟨2, ![8192, 13824]⟩
abbrev S2x1024x2048 : Shape := ⟨3, ![2, 1024, 2048]⟩
abbrev S2x2048x2048 : Shape := ⟨3, ![2, 2048, 2048]⟩
abbrev S1024x1024 : Shape := ⟨2, ![1024, 1024]⟩
abbrev S1024x2048 : Shape := ⟨2, ![1024, 2048]⟩
abbrev S1024x512 : Shape := ⟨2, ![1024, 512]⟩
abbrev S1x1024x512 : Shape := ⟨3, ![1, 1024, 512]⟩
abbrev S1x2048x512 : Shape := ⟨3, ![1, 2048, 512]⟩
abbrev S4096x512 : Shape := ⟨2, ![4096, 512]⟩
abbrev S2048x512 : Shape := ⟨2, ![2048, 512]⟩

abbrev nBuf : Space → Nat
  | .hbm => 8
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S8192x13824, .bf16⟩
  | .hbm, ⟨4, _⟩ => ⟨S2x1024x2048, .f32⟩
  | .hbm, ⟨5, _⟩ => ⟨S2x2048x2048, .f32⟩
  | .hbm, ⟨6, _⟩ => ⟨S2x1024x2048, .f32⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024x512, .f32⟩
  | .local _ .vmem, ⟨13, _⟩ => ⟨S1x1024x512, .f32⟩
  | .local _ .vmem, ⟨14, _⟩ => ⟨S1x2048x512, .f32⟩
  | .local _ .vmem, ⟨15, _⟩ => ⟨S1x2048x512, .f32⟩
  | .local _ .vmem, ⟨16, _⟩ => ⟨S1x1024x512, .f32⟩
  | .local _ .vmem, ⟨17, _⟩ => ⟨S1x1024x512, .f32⟩
  | .local _ .vmem, ⟨18, _⟩ => ⟨S1024x512, .bf16⟩
  | .local _ .vmem, ⟨19, _⟩ => ⟨S1024x512, .bf16⟩
  | .local _ .vmem, ⟨20, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c15_i32 : BitVec 32 := 15#32
  let v1 : BitVec 32 := Scalar.addi c15_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c19_i32 : BitVec 32 := 19#32
  let v1 : BitVec 32 := Scalar.addi c19_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c23_i32 : BitVec 32 := 23#32
  let v1 : BitVec 32 := Scalar.addi c23_i32 arg0
  let c0_i32 : BitVec 32 := 0#32
  ![v0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeLReferenceIdeal.lean ====
abbrev S4096x1024 : Shape := ⟨2, ![4096, 1024]⟩
abbrev S4096x2048 : Shape := ⟨2, ![4096, 2048]⟩
abbrev S8192x13824 : Shape := ⟨2, ![8192, 13824]⟩
abbrev S2x1024x2048 : Shape := ⟨3, ![2, 1024, 2048]⟩
abbrev S2x2048x2048 : Shape := ⟨3, ![2, 2048, 2048]⟩
abbrev S4096x13824 : Shape := ⟨2, ![4096, 13824]⟩
abbrev S4096x6144 : Shape := ⟨2, ![4096, 6144]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S8192x13824, .bf16⟩
  | .hbm, ⟨4, _⟩ => ⟨S2x1024x2048, .f32⟩
  | .hbm, ⟨5, _⟩ => ⟨S2x2048x2048, .f32⟩
  | .hbm, ⟨6, _⟩ => ⟨S2x1024x2048, .f32⟩
  | .hbm, ⟨7, _⟩ => ⟨S4096x13824, .bf16⟩
  | .hbm, ⟨8, _⟩ => ⟨S4096x6144, .bf16⟩
  | .hbm, ⟨9, _⟩ => ⟨S4096x6144, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S1x1024x2048, .f32⟩
  | .hbm, ⟨15, _⟩ => ⟨S1024x2048, .f32⟩
  | .hbm, ⟨16, _⟩ => ⟨S4096x2048, .f32⟩
  | .hbm, ⟨17, _⟩ => ⟨S4096x2048, .f32⟩
  | .hbm, ⟨18, _⟩ => ⟨S1x2048x2048, .f32⟩
  | .hbm, ⟨19, _⟩ => ⟨S2048x2048, .f32⟩
  | .hbm, ⟨20, _⟩ => ⟨S4096x2048, .f32⟩
  | .hbm, ⟨21, _⟩ => ⟨S4096x1024, .f32⟩
  | .hbm, ⟨22, _⟩ => ⟨S1x1024x2048, .f32⟩
  | .hbm, ⟨23, _⟩ => ⟨S1024x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Outp.lean ====
abbrev S4096x2048 : Shape := ⟨2, ![4096, 2048]⟩
abbrev S8192x2048 : Shape := ⟨2, ![8192, 2048]⟩
abbrev S2x2048x2048 : Shape := ⟨3, ![2, 2048, 2048]⟩
abbrev S2x2048 : Shape := ⟨2, ![2, 2048]⟩
abbrev S2x8x6x1x2048 : Shape := ⟨5, ![2, 8, 6, 1, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x1x1x2048 : Shape := ⟨5, ![1, 1, 1, 1, 2048]⟩
abbrev S1x1x2048 : Shape := ⟨3, ![1, 1, 2048]⟩
abbrev S1x2048 : Shape := ⟨2, ![1, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x8x6x1x2048, .f32⟩
  | .hbm, ⟨6, _⟩ => ⟨S2x2048x2048, .bf16⟩
  | .hbm, ⟨7, _⟩ => ⟨S2x1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x1x1x2048, .f32⟩
  | .local _ .vmem, ⟨8, _⟩ => ⟨S1x1x1x1x2048, .f32⟩
  | .local _ .vmem, ⟨9, _⟩ => ⟨S1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x1x1x1x2048, .f32⟩
  | .local _ .vmem, ⟨13, _⟩ => ⟨S1x1x1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c1_i32_5 : BitVec 32 := 1#32
  let c2_i32_6 : BitVec 32 := 2#32
  let c0_i32_7 : BitVec 32 := 0#32
  let c0_i32_8 : BitVec 32 := 0#32
  let c0_i32_9 : BitVec 32 := 0#32
  ![c1_i32_5.toNat, v19.toNat, c2_i32_6.toNat, c0_i32_7.toNat, c0_i32_8.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c1_i32_5 : BitVec 32 := 1#32
  let c3_i32 : BitVec 32 := 3#32
  let c0_i32_6 : BitVec 32 := 0#32
  let c0_i32_7 : BitVec 32 := 0#32
  let c0_i32_8 : BitVec 32 := 0#32
  ![c1_i32_5.toNat, v19.toNat, c3_i32.toNat, c0_i32_6.toNat, c0_i32_7.toNat]

def cc0_transform_7 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 c4_i32 v18
  let c1_i32_5 : BitVec 32 := 1#32
  let c4_i32_6 : BitVec 32 := 4#32
  let c0_i32_7 : BitVec 32 := 0#32
  let c0_i32_8 : BitVec 32 := 0#32
  let c0_i32_9 : BitVec 32 := 0#32
  ![c1_i32_5.toNat, v19.toNat, c4_i32_6.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutpReferenceIdeal.lean ====
abbrev S4096x2048 : Shape := ⟨2, ![4096, 2048]⟩
abbrev S8192x2048 : Shape := ⟨2, ![8192, 2048]⟩
abbrev S2x2048x2048 : Shape := ⟨3, ![2, 2048, 2048]⟩
abbrev S2x2048 : Shape := ⟨2, ![2, 2048]⟩
abbrev S2x8x6x1x2048 : Shape := ⟨5, ![2, 8, 6, 1, 2048]⟩
abbrev S1x8x1x1x2048 : Shape := ⟨5, ![1, 8, 1, 1, 2048]⟩
abbrev S8x2048 : Shape := ⟨2, ![8, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4x1024x2048 : Shape := ⟨3, ![4, 1024, 2048]⟩
abbrev S4x2048 : Shape := ⟨2, ![4, 2048]⟩
abbrev S4x1x2048 : Shape := ⟨3, ![4, 1, 2048]⟩
abbrev S4x1024 : Shape := ⟨2, ![4, 1024]⟩
abbrev S4x1024x1 : Shape := ⟨3, ![4, 1024, 1]⟩
abbrev S1x1x2048 : Shape := ⟨3, ![1, 1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8192x2048, .f32⟩
  | .hbm, ⟨3, _⟩ => ⟨S2x2048x2048, .f32⟩
  | .hbm, ⟨4, _⟩ => ⟨S2x2048, .f32⟩
  | .hbm, ⟨5, _⟩ => ⟨S2x8x6x1x2048, .f32⟩
  | .hbm, ⟨6, _⟩ => ⟨S1x8x1x1x2048, .f32⟩
  | .hbm, ⟨7, _⟩ => ⟨S8x2048, .f32⟩
  | .hbm, ⟨8, _⟩ => ⟨S1x8x1x1x2048, .f32⟩
  | .hbm, ⟨9, _⟩ => ⟨S8x2048, .f32⟩
  | .hbm, ⟨10, _⟩ => ⟨S1x8x1x1x2048, .f32⟩
  | .hbm, ⟨11, _⟩ => ⟨S8x2048, .f32⟩
  | .hbm, ⟨12, _⟩ => ⟨S4096x2048, .f32⟩
  | .hbm, ⟨13, _⟩ => ⟨S1x2048x2048, .f32⟩
  | .hbm, ⟨14, _⟩ => ⟨S2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4x1024x2048, .bf16⟩
  | .hbm, ⟨55, _⟩ => ⟨S4096x2048, .f32⟩
  | .hbm, ⟨56, _⟩ => ⟨S4x1024x2048, .f32⟩
  | .hbm, ⟨57, _⟩ => ⟨S1x2048x2048, .f32⟩
  | .hbm, ⟨58, _⟩ => ⟨S2048x2048, .f32⟩
  | .hbm, ⟨59, _⟩ => ⟨S1x2048, .f32⟩
  | .hbm, ⟨60, _⟩ => ⟨S2048, .f32⟩
  | .hbm, ⟨61, _⟩ => ⟨S4x2048, .f32⟩
  | .hbm, ⟨62, _⟩ => ⟨S4x1x2048, .f32⟩
  | .hbm, ⟨63, _⟩ => ⟨S4x2048, .f32⟩
  | .hbm, ⟨64, _⟩ => ⟨S4x1x2048, .f32⟩
  | .hbm, ⟨65, _⟩ => ⟨S4x2048, .f32⟩
  | .hbm, ⟨66, _⟩ => ⟨S4x1x2048, .f32⟩
  | .hbm, ⟨67, _⟩ => ⟨S4x1024x2048, .f32⟩
  | .hbm, ⟨68, _⟩ => ⟨S4x1024x2048, .f32⟩
  | .hbm, ⟨69, _⟩ => ⟨S4x1024x2048, .f32⟩
  | .hbm, ⟨70, _⟩ => ⟨S4x1024x2048, .f32⟩
  | .hbm, ⟨71, _⟩ => ⟨S4x1024x2048, .f32⟩
  | .hbm, ⟨72, _⟩ => ⟨S4x1024x2048, .f32⟩
  | .hbm, ⟨73, _⟩ => ⟨S_, .f32⟩
  | .hbm, ⟨74, _⟩ => ⟨S4x1024, .f32⟩
  | .hbm, ⟨75, _⟩ => ⟨S4x1024x1, .f32⟩
  | .hbm, ⟨76, _⟩ => ⟨S_, .f32⟩
  | .hbm, ⟨77, _⟩ => ⟨S4x1024x1, .f32⟩
  | .hbm, ⟨78, _⟩ => ⟨S4x1024x1, .f32⟩
  | .hbm, ⟨79, _⟩ => ⟨S_, .f32⟩
  | .hbm, ⟨80, _⟩ => ⟨S4x1024x1, .f32⟩
  | .hbm, ⟨81, _⟩ => ⟨S4x1024x1, .f32⟩
  | .hbm, ⟨82, _⟩ => ⟨S4x1024x1, .f32⟩
  | .hbm, ⟨83, _⟩ => ⟨S4x1024x2048, .f32⟩
  | .hbm, ⟨84, _⟩ => ⟨S4x1024x2048, .f32⟩
  | .hbm, ⟨85, _⟩ => ⟨S1x1x2048, .f32⟩
  | .hbm, ⟨86, _⟩ => ⟨S4x1024x2048, .f32⟩
  | .hbm, ⟨87, _⟩ => ⟨S4x1024x2048, .f32⟩
  | .hbm, ⟨88, _⟩ => ⟨S_, .f32⟩
  | .hbm, ⟨89, _⟩ => ⟨S4x1x2048, .f32⟩
  | .hbm, ⟨90, _⟩ => ⟨S4x1x2048, .f32⟩
  | .hbm, ⟨91, _⟩ => ⟨S4x1024x2048, .f32⟩
  | .hbm, ⟨92, _⟩ => ⟨S4x1024x2048, .f32⟩
  | .hbm, ⟨93, _⟩ => ⟨S4x1024x2048, .f32⟩
  | .hbm, ⟨94, _⟩ => ⟨S4x1024x2048, .f32⟩
  | .hbm, ⟨95, _⟩ => ⟨S4096x2048, .f32⟩
  | .hbm, ⟨96, _⟩ => ⟨S8192x2048, .f32⟩
  | .hbm, ⟨97, _⟩ => ⟨S4096x2048, .f32⟩
  | .hbm, ⟨98, _⟩ => ⟨S8192x2048, .f32⟩
  | .hbm, ⟨99, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_v64 : Ref sig .tc := ⟨.hbm, 75, rfl⟩
abbrev main_cst_4 : Ref sig .tc := ⟨.hbm, 76, rfl⟩
abbrev main_v65 : Ref sig .tc := ⟨.hbm, 77, rfl⟩
abbrev main_v66 : Ref sig .tc := ⟨.hbm, 78, rfl⟩
abbrev main_cst_5 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_6 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩

abbrev nD : Nat := 1
abbrev τ : Topo := Topo.v7x

variable {F : FTy → Type} [FloatOps F]
-- ==== Proof.UpRunI.lean ====
module

public import proofs.«01_k».proof.Proof.Gen.UpIdeal.Frame
public import proofs.«01_k».proof.Proof.Gen.UpIdeal.Skeleton
public import Idealize.ShloMosaic.Lib.VecWindow
public import Idealize.ShloMosaic.Lib.Pipeline.Value

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off1_eq (i : grid0.Coords) : k0_off1 i = ![(i 0).val % 2, 512 * (i 1).val, 0] := by
  revert i; decide +kernel

theorem off2_eq (i : grid0.Coords) : k0_off2 i = ![((i 0).val + 1) % 2, 0, 0] := by
  revert i; decide +kernel

instance closedOff1 (i : grid0.Coords) : ClosedOff (k0_off1 i) := ⟨![(i 0).val % 2, 512 * (i 1).val, 0], off1_eq i⟩
instance closedOff2 (i : grid0.Coords) : ClosedOff (k0_off2 i) := ⟨![((i 0).val + 1) % 2, 0, 0], off2_eq i⟩

/-- What a point with a weight piece leaves in the scratch: the piece, rounded, over what was there. -/
def putPiece (i : grid0.Coords) (s : Vec F S2x2048x1024 .bf16) (x1 : Vec F S1x512x1024 .f32) : Vec F S2x2048x1024 .bf16 :=
  VecWindow.put s (k0_off1 i) S1x512x1024.size (k0_pay1 x1)

/-- What a point that writes a block leaves in it, over the slot it reads. -/
def outBlock (i : grid0.Coords) (h : k0_cond2 i = 1#1) (x0 : Vec F S2048x2048 .bf16) (s : Vec F S2x2048x1024 .bf16) : Vec F S2048x1024 .bf16 :=
  k0_pay2 x0 (View.ld s (Rect.unit (s := S2x2048x1024) (k0_off2 i) S1x2048x1024.size (k0_off2_inb i h)))

theorem z2 : (![0, 0] : Fin 2 → Nat) = fun _ => 0 := by funext a; fin_cases a <;> rfl
theorem z3 : (![0, 0, 0] : Fin 3 → Nat) = fun _ => 0 := by funext a; fin_cases a <;> rfl

set_option maxHeartbeats 1000000 in
theorem run_A (c : Dev nD) (i : grid0.Coords) (arg2 : Memref sig .tc .vmem S2048x2048 .bf16) (harg2 : arg2.IsWhole) (arg3 : Memref sig .tc .vmem S1x512x1024 .f32) (harg3 : arg3.IsWhole) (arg4 : Memref sig .tc .vmem S2048x1024 .bf16) (harg4 : arg4.IsWhole) (arg5 : Memref sig .tc .vmem S2x2048x1024 .bf16) (harg5 : arg5.IsWhole) (hc0 : k0_cond1 i = 1#1) (hc1 : ¬k0_cond2 i = 1#1)
    (x1 : Vec F S1x512x1024 .f32) (s : Vec F S2x2048x1024 .bf16) (E : Set ℕ) (K : PUnit → sProp (MT nD τ sig Unit (Elt F) ℕ (UR sig nD τ) ℕ)) :
    iprop(owns (c : Thread nD τ) arg3 fullShare x1 ∗ owns (c : Thread nD τ) arg5 fullShare s
        ∗ (iprop(owns (c : Thread nD τ) arg3 fullShare x1 ∗ owns (c : Thread nD τ) arg5 fullShare (putPiece i s x1)) -∗ K ⟨⟩))
      ⊢ wp frame (wpE (defs₀ (F := F)) Variants.none c none) E (cc0_mlp_up i arg2 harg2 arg3 harg3 arg4 harg4 arg5 harg5) K := by
  simp only [cc0_mlp_up_eq_skeleton]; unfold cc0_mlp_up_skel
  unfold owns
  iintro ⟨⟨%f1, %hf1, H1⟩, ⟨%fs, %hfs, HS⟩, Hk⟩
  obtain rfl := harg3.eq_unread hf1; obtain rfl := harg5.eq_unread hfs
  sl_exec (disch := first | sl_exact hc0 | sl_exact hc1)
  sl_step
  iapply Hk
  isplitl [H1]
  · iexists _; isplitr; · ipureintro; exact harg3.read_unread _
    iexact H1
  iexists _; isplitr
  swap; · iexact HS
  ipureintro
  rw [View.read_writes_cons_put _ _ _ _ _ rfl, View.writes_nil, hfs]
  unfold putPiece
  exact congrArg (fun X => VecWindow.put s (k0_off1 i) S1x512x1024.size (k0_pay1 X)) ((View.readAt_full (s := S1x512x1024) _ _ _).trans hf1)

set_option maxHeartbeats 1000000 in
theorem run_B (c : Dev nD) (i : grid0.Coords) (arg2 : Memref sig .tc .vmem S2048x2048 .bf16) (harg2 : arg2.IsWhole) (arg3 : Memref sig .tc .vmem S1x512x1024 .f32) (harg3 : arg3.IsWhole) (arg4 : Memref sig .tc .vmem S2048x1024 .bf16) (harg4 : arg4.IsWhole) (arg5 : Memref sig .tc .vmem S2x2048x1024 .bf16) (harg5 : arg5.IsWhole) (hc0 : k0_cond1 i = 1#1) (hc1 : k0_cond2 i = 1#1)
    (x0 : Vec F S2048x2048 .bf16) (x1 : Vec F S1x512x1024 .f32) (s : Vec F S2x2048x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (outBlock i hc1 x0 (putPiece i s x1)) ∗ owns (c : Thread nD τ) arg5 fullShare (putPiece i s x1)) -∗ K ⟨⟩))
      ⊢ wp frame (wpE (defs₀ (F := F)) Variants.none c none) E (cc0_mlp_up i arg2 harg2 arg3 harg3 arg4 harg4 arg5 harg5) K := by
  simp only [cc0_mlp_up_eq_skeleton]; unfold cc0_mlp_up_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact hc0 | sl_exact hc1)
  sl_step
  have hput : View.read (Elt F) arg5.view (arg5.view.writes (Elt F) (harg5.unread s) (run_B.sl.HS_1 c i arg3 harg3 hc0 x1)) = putPiece i s x1 := by
    unfold run_B.sl.HS_1
    rw [View.read_writes_cons_put _ _ _ _ _ rfl, View.writes_nil, hfs]
    unfold putPiece
    exact congrArg (fun X => VecWindow.put s (k0_off1 i) S1x512x1024.size (k0_pay1 X)) ((View.readAt_full (s := S1x512x1024) _ _ _).trans hf1)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_full (s := S2048x1024)]
    refine congr (congrArg k0_pay2 ((View.readAt_full (s := S2048x2048) _ _ _).trans hf0)) ?_
    exact congrArg (fun X => View.ld X _) hput
  iexists _; isplitr
  swap; · iexact HS
  ipureintro
  exact hput

set_option maxHeartbeats 1000000 in
theorem run_C (c : Dev nD) (i : grid0.Coords) (arg2 : Memref sig .tc .vmem S2048x2048 .bf16) (harg2 : arg2.IsWhole) (arg3 : Memref sig .tc .vmem S1x512x1024 .f32) (harg3 : arg3.IsWhole) (arg4 : Memref sig .tc .vmem S2048x1024 .bf16) (harg4 : arg4.IsWhole) (arg5 : Memref sig .tc .vmem S2x2048x1024 .bf16) (harg5 : arg5.IsWhole) (hc0 : ¬k0_cond1 i = 1#1) (hc1 : k0_cond2 i = 1#1)
    (x0 : Vec F S2048x2048 .bf16) (s : Vec F S2x2048x1024 .bf16) (E : Set ℕ) (K : PUnit → sProp (MT nD τ sig Unit (Elt F) ℕ (UR sig nD τ) ℕ)) :
    iprop(owns (c : Thread nD τ) arg2 fullShare x0 ∗ (∃ d, owns (c : Thread nD τ) arg4 fullShare d) ∗ owns (c : Thread nD τ) arg5 fullShare s
        ∗ (iprop(owns (c : Thread nD τ) arg2 fullShare x0 ∗ owns (c : Thread nD τ) arg4 fullShare (outBlock i hc1 x0 s) ∗ owns (c : Thread nD τ) arg5 fullShare s) -∗ K ⟨⟩))
      ⊢ wp frame (wpE (defs₀ (F := F)) Variants.none c none) E (cc0_mlp_up i arg2 harg2 arg3 harg3 arg4 harg4 arg5 harg5) K := by
  simp only [cc0_mlp_up_eq_skeleton]; unfold cc0_mlp_up_skel
  unfold owns
  iintro ⟨⟨%f0, %hf0, H0⟩, ⟨%d2, %f2, -, H2⟩, ⟨%fs, %hfs, HS⟩, Hk⟩
  obtain rfl := harg2.eq_unread hf0; obtain rfl := harg5.eq_unread hfs
  sl_exec (disch := first | sl_exact hc0 | sl_exact hc1)
  sl_step
  iapply Hk
  isplitl [H0]
  · iexists _; isplitr; · ipureintro; exact harg2.read_unread _
    iexact H0
  isplitl [H2]
  · iexists _; isplitr
    swap; · iexact H2
    ipureintro
    rw [View.read_writes_full (s := S2048x1024)]
    refine congr (congrArg k0_pay2 ((View.readAt_full (s := S2048x2048) _ _ _).trans hf0)) ?_
    exact congrArg (fun X => View.ld X _) hfs
  iexists _; isplitr; · ipureintro; exact hfs
  iexact HS

end Cert.UpIdeal.Gen

end
-- ==== Proof.UpDatI.lean ====
module

public import proofs.«01_k».proof.Proof.UpRunI
public import Idealize.ShloMosaic.Lib.Pipeline.Value
public import Idealize.ShloMosaic.Lib.Claim
public import Idealize.ShloMosaic.Lib.ValueIdxCore

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The points -/

theorem coords0 : ∀ t : Fin cfg0.N, ((grid0.coords t) 0).val = t.val / 4 :=
  (by decide +kernel : ∀ t : Fin grid0.N, ((grid0.coords t) 0).val = t.val / 4)
theorem coords1 : ∀ t : Fin cfg0.N, ((grid0.coords t) 1).val = t.val % 4 :=
  (by decide +kernel : ∀ t : Fin grid0.N, ((grid0.coords t) 1).val = t.val % 4)
theorem hcond1 : ∀ t : Fin cfg0.N, k0_cond1 (grid0.coords t) = 1#1 ↔ t.val < 32 :=
  (by decide +kernel : ∀ t : Fin grid0.N, k0_cond1 (grid0.coords t) = 1#1 ↔ t.val < 32)
theorem hcond2 : ∀ t : Fin cfg0.N, k0_cond2 (grid0.coords t) = 1#1 ↔ 4 ≤ t.val :=
  (by decide +kernel : ∀ t : Fin grid0.N, k0_cond2 (grid0.coords t) = 1#1 ↔ 4 ≤ t.val)
theorem flush2 : ∀ t : Fin cfg0.N, (cfg0.win 2).flush t = decide (4 ≤ t.val) :=
  (by decide +kernel : ∀ t : Fin grid0.N, win0_2.flush t = decide (4 ≤ t.val))

/-! ## What the scratch holds -/

/-- The weight piece the point fetched, rounded. -/
def pieceAt (c : Dev nD) (t : Fin cfg0.N) : Vec F S1x512x1024 .bf16 := k0_pay1 (iblk m c 1 t)

/-- The pieces of the last eight points with a piece are in their places. -/
def Good (c : Dev nD) (n : ℕ) (s : Vec F S2x2048x1024 .bf16) : Prop :=
  ∀ t : Fin cfg0.N, t.val < 32 → t.val < n → n ≤ t.val + 8 → ∀ (y : S1x512x1024.Idx) (x : S2x2048x1024.Idx),
    (x 0).val = t.val / 4 % 2 → (x 1).val = 512 * (t.val % 4) + (y 1).val → (x 2).val = (y 2).val → s x = pieceAt m c t y

theorem point_lt (t : Fin cfg0.N) (k : ℕ) (hk : k < 2048) : 4 * (t.val / 4 - 1) + k / 512 < cfg0.N := by
  have h : t.val < 36 := lt_of_lt_of_eq t.isLt (show cfg0.N = 36 from N_0)
  have e : cfg0.N = 36 := N_0
  omega

/-- The chunk of weights a point with a block multiplies by: its four pieces. -/
def slotAt (c : Dev nD) (t : Fin cfg0.N) : Vec F S1x2048x1024 .bf16 := fun y =>
  pieceAt m c ⟨4 * (t.val / 4 - 1) + (y 1).val / 512, point_lt t _ (y 1).isLt⟩
    (ValueIdx.ix3 (n0 := 1) (n1 := 512) (n2 := 1024) 0 ⟨(y 1).val % 512, Nat.mod_lt _ (by decide)⟩ (y 2))

theorem good_zero (c : Dev nD) (s : Vec F S2x2048x1024 .bf16) : Good m c 0 s := fun t _ h => absurd h (Nat.not_lt_zero _)

theorem good_put (c : Dev nD) (t : Fin cfg0.N) (ht : t.val < 32) (s : Vec F S2x2048x1024 .bf16) (h : Good m c t.val s) :
    Good m c (t.val + 1) (putPiece (grid0.coords t) s (iblk m c 1 t)) := by
  intro u hu hlt hle y x hx0 hx1 hx2
  unfold putPiece VecWindow.put
  have e := off1_eq (grid0.coords t)
  rw [coords0, coords1] at e
  have y1 : (y 1).val < 512 := (y 1).isLt
  have y2 : (y 2).val < 1024 := (y 2).isLt
  have y0 : (y 0).val < 1 := (y 0).isLt
  by_cases hut : u.val = t.val
  · obtain rfl : u = t := Fin.ext hut
    have hin : ∀ a, (k0_off1 (grid0.coords u)) a ≤ (x a).val ∧ (x a).val < (k0_off1 (grid0.coords u)) a + S1x512x1024.size a := by
      rw [e]; intro a
      fin_cases a
      · show u.val / 4 % 2 ≤ (x 0).val ∧ (x 0).val < u.val / 4 % 2 + 1; omega
      · show 512 * (u.val % 4) ≤ (x 1).val ∧ (x 1).val < 512 * (u.val % 4) + 512; omega
      · show 0 ≤ (x 2).val ∧ (x 2).val < 0 + 1024; omega
    rw [dif_pos hin]
    unfold pieceAt
    refine congrArg _ (funext fun a => Fin.ext ?_)
    show (x a).val - (k0_off1 (grid0.coords u)) a = (y a).val
    rw [e]
    fin_cases a
    · show (x 0).val - u.val / 4 % 2 = (y 0).val; omega
    · show (x 1).val - 512 * (u.val % 4) = (y 1).val; omega
    · show (x 2).val - 0 = (y 2).val; omega
  · have hout : ¬ ∀ a, (k0_off1 (grid0.coords t)) a ≤ (x a).val ∧ (x a).val < (k0_off1 (grid0.coords t)) a + S1x512x1024.size a := by
      rw [e]; intro hall
      have h0 : t.val / 4 % 2 ≤ (x 0).val ∧ (x 0).val < t.val / 4 % 2 + 1 := hall 0
      have h1 : 512 * (t.val % 4) ≤ (x 1).val ∧ (x 1).val < 512 * (t.val % 4) + 512 := hall 1
      omega
    rw [dif_neg hout]
    exact h u hu (by omega) (by omega) y x hx0 hx1 hx2

theorem good_keep (c : Dev nD) (t : Fin cfg0.N) (ht : ¬ t.val < 32) (s : Vec F S2x2048x1024 .bf16) (h : Good m c t.val s) :
    Good m c (t.val + 1) s := fun u hu hlt hle y x => h u hu (by omega) (by omega) y x

theorem idx_unit_val' {s : Shape} (off size : Fin s.rank → ℕ) (inb) (j : (Rect.unit (s := s) off size inb).shape.Idx) (a : Fin s.rank) :
    ((Rect.unit (s := s) off size inb).idx j a).val = off a + (j a).val := by
  show off a + 1 * (j a).val = _
  rw [Nat.one_mul]

/-- A point with a block reads the chunk before the one being filled. -/
theorem ld_slot (c : Dev nD) (t : Fin cfg0.N) (ht : 4 ≤ t.val) (s : Vec F S2x2048x1024 .bf16) (h : Good m c (t.val + 1) s) (inb) :
    View.ld s (Rect.unit (s := S2x2048x1024) (k0_off2 (grid0.coords t)) S1x2048x1024.size inb) = slotAt m c t := by
  funext y
  have hN : t.val < 36 := lt_of_lt_of_eq t.isLt (show cfg0.N = 36 from N_0)
  have e := off2_eq (grid0.coords t)
  rw [coords0] at e
  have y1 : (y 1).val < 2048 := (y 1).isLt
  have y0 : (y 0).val < 1 := (y 0).isLt
  refine h _ ?_ ?_ ?_ _ _ ?_ ?_ ?_
  · show 4 * (t.val / 4 - 1) + (y 1).val / 512 < 32; omega
  · show 4 * (t.val / 4 - 1) + (y 1).val / 512 < t.val + 1; omega
  · show t.val + 1 ≤ 4 * (t.val / 4 - 1) + (y 1).val / 512 + 8; omega
  · refine (idx_unit_val' _ _ inb y 0).trans ((congrArg (fun n : ℕ => n + (y 0).val) (congrFun e 0)).trans ?_)
    show (t.val / 4 + 1) % 2 + (y 0).val = (4 * (t.val / 4 - 1) + (y 1).val / 512) / 4 % 2; omega
  · refine (idx_unit_val' _ _ inb y 1).trans ((congrArg (fun n : ℕ => n + (y 1).val) (congrFun e 1)).trans ?_)
    show 0 + (y 1).val = 512 * ((4 * (t.val / 4 - 1) + (y 1).val / 512) % 4) + (y 1).val % 512; omega
  · refine (idx_unit_val' _ _ inb y 2).trans ((congrArg (fun n : ℕ => n + (y 2).val) (congrFun e 2)).trans ?_)
    exact Nat.zero_add _

theorem outBlock_eq (c : Dev nD) (t : Fin cfg0.N) (ht : 4 ≤ t.val) (hc : k0_cond2 (grid0.coords t) = 1#1)
    (x0 : Vec F S2048x2048 .bf16) (s : Vec F S2x2048x1024 .bf16) (h : Good m c (t.val + 1) s) :
    outBlock (grid0.coords t) hc x0 s = k0_pay2 x0 (slotAt m c t) := by
  unfold outBlock; rw [ld_slot m c t ht s h]

/-! ## The proof data -/

abbrev scM0_0 : Memref sig .tc .vmem S2x2048x1024 .bf16 := Memref.whole cc0_scratch0

theorem PhiA0_eq (c : Dev nD) :
    (Pipeline.ΦA spec0 c : sProp (MT nD τ sig Unit (Elt F) ℕ (UR sig nD τ) ℕ))
      = iprop((∃ d, owns (c : Thread nD τ) scM0_0 fullShare d) ∗ (∃ r, prngReg c r)) := by
  unfold Pipeline.ΦA; rw [scopedRest0_eq]; simp only [scM0_0, owns_whole]; try rfl

/-- Between points: the scratch with the recent pieces in place, and the generator register at some state. -/
def PhiS (c : Dev nD) (n : ℕ) : sProp (MT nD τ sig Unit (Elt F) ℕ (UR sig nD τ) ℕ) :=
  iprop((∃ s, ⌜Good m c n s⌝ ∗ owns (c : Thread nD τ) scM0_0 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (slotAt m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay2 (iblk m c 0 t) (slotAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What a point without a block returns: the block's buffer as it was. -/
def bodyPostA (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare ((dats m 0 c).before 2 t d)))

/-- What a point with a block returns. -/
def bodyPostB (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

set_option maxHeartbeats 1000000 in
theorem sound_A (c : Dev nD) (t : Fin cfg0.N) (ht : ¬ 4 ≤ t.val) :
    bodyPre m c t ⊢ wp frame (wpE (defs₀ (F := F)) Variants.none c none) Set.univ (bodyAt0 t) (fun _ => bodyPostA m c t) := by
  unfold bodyPre bodyPostA bodyAt0
  simp only [before0_0, before0_1]
  rw [show (dats m 0 c).owesAt () t.succ = (dats m 0 c).owesAt () t.castSucc from rfl, after0_0, after0_1]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, H2⟩
  iapply (run_A c (grid0.coords t) _ _ _ _ _ _ _ _ ((hcond1 t).mpr (by omega)) (fun h => ht ((hcond2 t).mp h)) (iblk m c 1 t) s Set.univ _)
  isplitl [H1]; · iexact H1
  isplitl [HS]; · iexact HS
  iintro ⟨H1, HS⟩
  isplitl [HS Hg]
  · isplitl [HS]
    · iexists _; isplitr
      swap; · iexact HS
      ipureintro; exact good_put m c t (by omega) s hs
    iexact Hg
  isplitl [Ho]; · iexact Ho
  isplitl [H0]; · iexact H0
  isplitl [H1]; · iexact H1
  iexact H2

set_option maxHeartbeats 1000000 in
theorem sound_B (c : Dev nD) (t : Fin cfg0.N) (ht : 4 ≤ t.val) :
    bodyPre m c t ⊢ wp frame (wpE (defs₀ (F := F)) Variants.none c none) Set.univ (bodyAt0 t) (fun _ => bodyPostB m c t) := by
  unfold bodyPre bodyPostB bodyAt0
  simp only [before0_0, before0_1]
  rw [show (dats m 0 c).owesAt () t.succ = (dats m 0 c).owesAt () t.castSucc from rfl, after0_0, after0_1, after0_2]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, ⟨%d2, H2⟩⟩
  by_cases h32 : t.val < 32
  · have hg := good_put m c t h32 s hs
    rw [← outBlock_eq m c t ht ((hcond2 t).mpr ht) (iblk m c 0 t) _ hg]
    iapply (run_B c (grid0.coords t) _ _ _ _ _ _ _ _ ((hcond1 t).mpr h32) ((hcond2 t).mpr ht) (iblk m c 0 t) (iblk m c 1 t) s Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    iexact H2
  · have hg := good_keep m c t h32 s hs
    rw [← outBlock_eq m c t ht ((hcond2 t).mpr ht) (iblk m c 0 t) _ hg]
    iapply (run_C c (grid0.coords t) _ _ _ _ _ _ _ _ (fun h => h32 ((hcond1 t).mp h)) ((hcond2 t).mpr ht) (iblk m c 0 t) s Set.univ _)
    isplitl [H0]; · iexact H0
    isplitl [H2]; · iexists _; iexact H2
    isplitl [HS]; · iexact HS
    iintro ⟨H0, H2, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : 4 ≤ t.val
  · have hi : cfg0.idle 2 (cfg0.grid.coords t) = false := by
      show (!(k0_cond2 (grid0.coords t) == 1#1)) = false
      rw [(hcond2 t).mpr ht]; rfl
    refine triple_restated (sound_B m c t ht) rfl (by exact Idealize.SL.BI.Entails.refl _) fun _ => ?_
    rw [hi]
    exact Idealize.SL.BI.Entails.refl _
  · have hi : cfg0.idle 2 (cfg0.grid.coords t) = true := by
      show (!(k0_cond2 (grid0.coords t) == 1#1)) = true
      rw [Bool.not_eq_true', beq_eq_false_iff_ne]; exact fun h => ht ((hcond2 t).mp h)
    have hf : (cfg0.win 2).flush t = false := (flush2 t).trans (decide_eq_false ht)
    refine triple_restated (sound_A m c t ht) rfl (by exact Idealize.SL.BI.Entails.refl _) fun _ => ?_
    rw [hi, hf]
    exact Idealize.SL.BI.Entails.refl _

theorem hin (c : Dev nD) : Pipeline.ΦA spec0 c ⊢ (dats m 0 c).Φ 0 := by
  rw [show (dats m 0 c).Φ 0 = PhiS m c 0 from rfl, PhiA0_eq]
  unfold PhiS
  iintro ⟨⟨%s, HS⟩, Hg⟩
  isplitl [HS]
  · iexists s; isplitr
    swap; · iexact HS
    ipureintro; exact good_zero m c s
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%s, %hs, HS⟩, Hg⟩
  isplitl [HS]
  · iexists s; iexact HS
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.UpIdeal.Gen

end
-- ==== Proof.UpVal.lean ====
module

public import proofs.«01_k».proof.Proof.UpDatI
public import proofs.«01_k».proof.Proof.Gen.UpReferenceIdeal.Run
public import Idealize.ShloMosaic.Lib.Pipeline.ValueKit
public import Idealize.ShloMosaic.Lib.Pointwise
public import Idealize.ShloMosaic.Lib.KernelVsHost
public import Idealize.ShloMosaic.Lib.StableHlo.ReadAt

@[expose] public section

set_option maxRecDepth 16384

noncomputable section

namespace Cert.Proof.Mlp

open Idealize.ShloMosaic Idealize.ShloMosaic.TcCoe Idealize.ShloMosaic.Tactic Idealize.SL.Sem Cert.UpIdeal Cert.UpIdeal.Gen

/-- The result at an index: the dot of a row and a column of layer 0's weights, its positive part squared. -/
def upAt (h : Vec Ideal S8192x2048 .bf16) (w : Vec Ideal S2x2048x8192 .f32) (i : S8192x8192.Idx) : EReal :=
  max (∑ k : Fin 2048, (h (ix2 (n0 := 8192) (n1 := 2048) (i 0) k) : EReal) * w (ix3 (n0 := 2) (n1 := 2048) (n2 := 8192) 0 k (i 1))) 0
    * max (∑ k : Fin 2048, (h (ix2 (n0 := 8192) (n1 := 2048) (i 0) k) : EReal) * w (ix3 (n0 := 2) (n1 := 2048) (n2 := 8192) 0 k (i 1))) 0

theorem pay1_at (x : Vec Ideal S1x512x1024 .f32) (y : S1x512x1024.Idx) : k0_pay1 (F := Ideal) x y = x y := by
  unfold k0_pay1
  pointwise

theorem pay2_at (x : Vec Ideal S2048x2048 .bf16) (s : Vec Ideal S1x2048x1024 .bf16) (y : S2048x1024.Idx) :
    k0_pay2 (F := Ideal) x s y
      = max (∑ k : Fin 2048, (x (ix2 (n0 := 2048) (n1 := 2048) (y 0) k) : EReal) * s (ix3 (n0 := 1) (n1 := 2048) (n2 := 1024) 0 k (y 1))) 0
        * max (∑ k : Fin 2048, (x (ix2 (n0 := 2048) (n1 := 2048) (y 0) k) : EReal) * s (ix3 (n0 := 1) (n1 := 2048) (n2 := 1024) 0 k (y 1))) 0 := by
  unfold k0_pay2
  pointwise

theorem block_eq (x : Vec Ideal S2048x2048 .bf16) (s : Vec Ideal S1x2048x1024 .bf16) (h : Vec Ideal S8192x2048 .bf16) (w : Vec Ideal S2x2048x8192 .f32)
    (a : Fin 2048) (b : Fin 1024) (a' b' : Fin 8192)
    (hx : ∀ k : Fin 2048, x (ix2 (n0 := 2048) (n1 := 2048) a k) = h (ix2 (n0 := 8192) (n1 := 2048) a' k))
    (hs : ∀ k : Fin 2048, s (ix3 (n0 := 1) (n1 := 2048) (n2 := 1024) 0 k b) = w (ix3 (n0 := 2) (n1 := 2048) (n2 := 8192) 0 k b')) :
    k0_pay2 (F := Ideal) x s (ix2 (n0 := 2048) (n1 := 1024) a b) = upAt h w (ix2 (n0 := 8192) (n1 := 8192) a' b') := by
  refine (pay2_at _ _ _).trans ?_
  unfold upAt
  exact congrArg (fun z : EReal => max z 0 * max z 0) (Finset.sum_congr rfl fun k _ => congrArg₂ (fun p q : EReal => p * q) (hx k) (hs k))

variable (m : (ℓ : Loc nD τ sig) → Buf (Elt Ideal) ℓ) (c : Dev nD) (t : Fin cfg0.N)

theorem t_lt : t.val < 36 := lt_of_lt_of_eq t.isLt N_0

theorem idx0 : ∀ t : Fin cfg0.N, 4 ≤ t.val → (cfg0.win 0).index t = ![t.val % 4, 0] :=
  (by decide +kernel : ∀ t : Fin grid0.N, 4 ≤ t.val → win0_0.index t = ![t.val % 4, 0])
theorem idx1 : ∀ t : Fin cfg0.N, t.val < 32 → (cfg0.win 1).index t = ![0, t.val % 4, t.val / 4] :=
  (by decide +kernel : ∀ t : Fin grid0.N, t.val < 32 → win0_1.index t = ![0, t.val % 4, t.val / 4])
theorem idx2 : ∀ t : Fin cfg0.N, 4 ≤ t.val → (cfg0.win 2).index t = ![t.val % 4, t.val / 4 - 1] :=
  (by decide +kernel : ∀ t : Fin grid0.N, 4 ≤ t.val → win0_2.index t = ![t.val % 4, t.val / 4 - 1])

theorem blk0 (ht : 4 ≤ t.val) (y : S2048x2048.Idx) : (iblk m c 0 t : Vec Ideal S2048x2048 .bf16) y
    = (m ((c.tc : Thread nD τ).loc main_arg0) : Vec Ideal S8192x2048 .bf16) (ix2 (n0 := 8192) (n1 := 2048)
      ⟨2048 * (t.val % 4) + (y 0).val, by have : (y 0).val < 2048 := (y 0).isLt; omega⟩ (y 1)) := by
  have h := t_lt t
  blk_ext [iblk, V, idx0 t ht]

theorem blk1 (ht : t.val < 32) (y : S1x512x1024.Idx) : (iblk m c 1 t : Vec Ideal S1x512x1024 .f32) y
    = (m ((c.tc : Thread nD τ).loc main_arg1) : Vec Ideal S2x2048x8192 .f32) (ix3 (n0 := 2) (n1 := 2048) (n2 := 8192) 0
      ⟨512 * (t.val % 4) + (y 1).val, by have : (y 1).val < 512 := (y 1).isLt; omega⟩
      ⟨1024 * (t.val / 4) + (y 2).val, by have : (y 2).val < 1024 := (y 2).isLt; omega⟩) := by
  have h := t_lt t
  blk_ext [iblk, V, idx1 t ht]

theorem slot_at (ht : 4 ≤ t.val) (k : Fin 2048) (j : Fin 1024) :
    (slotAt m c t : Vec Ideal S1x2048x1024 .bf16) (ix3 (n0 := 1) (n1 := 2048) (n2 := 1024) 0 k j)
      = (m ((c.tc : Thread nD τ).loc main_arg1) : Vec Ideal S2x2048x8192 .f32) (ix3 (n0 := 2) (n1 := 2048) (n2 := 8192) 0 k
        ⟨1024 * (t.val / 4 - 1) + j.val, by have := t_lt t; omega⟩) := by
  have h := t_lt t
  have hk := k.isLt
  unfold slotAt pieceAt
  rw [pay1_at, blk1 m c _ (by show 4 * (t.val / 4 - 1) + k.val / 512 < 32; omega)]
  refine congrArg _ (congrArg₂ (ix3 (n0 := 2) (n1 := 2048) (n2 := 8192) 0) (Fin.ext ?_) (Fin.ext ?_))
  · show 512 * ((4 * (t.val / 4 - 1) + k.val / 512) % 4) + k.val % 512 = k.val; omega
  · show 1024 * ((4 * (t.val / 4 - 1) + k.val / 512) / 4) + j.val = 1024 * (t.val / 4 - 1) + j.val; omega

/-- What a point with a block leaves in it. -/
theorem block_at (ht : 4 ≤ t.val) (a : Fin 2048) (b : Fin 1024) :
    k0_pay2 (F := Ideal) (iblk m c 0 t) (slotAt m c t) (ix2 (n0 := 2048) (n1 := 1024) a b)
      = upAt (m ((c.tc : Thread nD τ).loc main_arg0)) (m ((c.tc : Thread nD τ).loc main_arg1)) (ix2 (n0 := 8192) (n1 := 8192)
        ⟨2048 * (t.val % 4) + a.val, by omega⟩ ⟨1024 * (t.val / 4 - 1) + b.val, by have := t_lt t; omega⟩) := by
  exact block_eq _ _ _ _ a b _ _ (fun k => blk0 m c t ht _) (fun k => slot_at m c t ht k b)

/-- The whole result. -/
def G : Vec Ideal S8192x8192 .bf16 := fun i =>
  upAt (m ((c.tc : Thread nD τ).loc main_arg0)) (m ((c.tc : Thread nD τ).loc main_arg1)) i

theorem flushed_eq (hf : (cfg0.win 2).flush t = true) :
    (dats m 0 c).flushed 2 t = ((cfg0.win 2).blk t).view.read (Elt Ideal) (G m c) := by
  have ht : 4 ≤ t.val := by
    have := (flush2 t).symm.trans hf
    exact of_decide_eq_true this
  show (cfg0.win 2).cut (grid0.coords t) ((dats m 0 c).after 2 t) = _
  rw [after0_2]
  have e := idx2 t ht
  have h := t_lt t
  funext y
  have hy0 : (y 0).val < 2048 := (y 0).isLt
  have hy1 : (y 1).val < 1024 := (y 1).isLt
  have e0 : ((((cfg0.win 2).blk t).view.emb y) : S8192x8192.Idx) = ix2 (n0 := 8192) (n1 := 8192)
      ⟨2048 * (t.val % 4) + (y 0).val, by omega⟩ ⟨1024 * (t.val / 4 - 1) + (y 1).val, by omega⟩ := by
    funext a
    apply Fin.ext
    match a with
    | ⟨0, _⟩ =>
      show (cfg0.win 2).index t (0 : Fin 2) * 2048 + 1 * (y 0).val = 2048 * (t.val % 4) + (y 0).val
      rw [e]; show t.val % 4 * 2048 + 1 * (y 0).val = _; omega
    | ⟨1, _⟩ =>
      show (cfg0.win 2).index t (1 : Fin 2) * 1024 + 1 * (y 1).val = 1024 * (t.val / 4 - 1) + (y 1).val
      rw [e]; show (t.val / 4 - 1) * 1024 + 1 * (y 1).val = _; omega
  have hx : (((cfg0.win 2).xinj (grid0.coords t) y) : S2048x1024.Idx) = ix2 (n0 := 2048) (n1 := 1024) ⟨(y 0).val, hy0⟩ ⟨(y 1).val, hy1⟩ := by
    funext a
    match a with
    | ⟨0, _⟩ => rfl
    | ⟨1, _⟩ => rfl
  show k0_pay2 (F := Ideal) (iblk m c 0 t) (slotAt m c t) ((cfg0.win 2).xinj (grid0.coords t) y) = G m c (((cfg0.win 2).blk t).view.emb y)
  rw [hx, e0]
  exact block_at m c t ht _ _

theorem mem_blk (i : S8192x8192.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]
  exact Iff.rfl

theorem final : (dats m 0 c).arrAt 2 cfg0.N = G m c :=
  (dats m 0 c).arrAt_eq_of_cover 2 _ (fun t hf => flushed_eq m c t hf) fun i => by
    have hi0 : (i 0).val < 8192 := (i 0).isLt
    have hi1 : (i 1).val < 8192 := (i 1).isLt
    have hN : 4 * ((i 1).val / 1024 + 1) + (i 0).val / 2048 < cfg0.N := by
      rw [show cfg0.N = 36 from N_0]; omega
    have ht : 4 ≤ 4 * ((i 1).val / 1024 + 1) + (i 0).val / 2048 := by omega
    have e := idx2 ⟨_, hN⟩ ht
    refine ⟨⟨_, hN⟩, (flush2 _).trans (decide_eq_true ht), ?_⟩
    rw [mem_blk]
    have q0 : win0_2.index ⟨_, hN⟩ (0 : Fin 2) = (4 * ((i 1).val / 1024 + 1) + (i 0).val / 2048) % 4 := congrFun e 0
    have q1 : win0_2.index ⟨_, hN⟩ (1 : Fin 2) = (4 * ((i 1).val / 1024 + 1) + (i 0).val / 2048) / 4 - 1 := congrFun e 1
    intro a
    match a with
    | ⟨0, _⟩ =>
      show win0_2.index ⟨_, hN⟩ (0 : Fin 2) * 2048 ≤ (i 0).val ∧ (i 0).val < win0_2.index ⟨_, hN⟩ (0 : Fin 2) * 2048 + 2048
      rw [q0]; omega
    | ⟨1, _⟩ =>
      show win0_2.index ⟨_, hN⟩ (1 : Fin 2) * 1024 ≤ (i 1).val ∧ (i 1).val < win0_2.index ⟨_, hN⟩ (1 : Fin 2) * 1024 + 1024
      rw [q1]; omega

theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final m c), h.2 c⟩)
    (θ_run_and (run_main m ρ) (unchanged m ρ))

end Cert.Proof.Mlp

namespace Cert.Proof.Mlp.Ref

open Idealize.ShloMosaic Idealize.ShloMosaic.TcCoe Idealize.ShloMosaic.Tactic Idealize.SL.Sem Cert.UpReferenceIdeal Cert.UpReferenceIdeal.Gen

/-- The reference's result. -/
def res (h : Vec Ideal S8192x2048 .bf16) (w : Vec Ideal S2x2048x8192 .f32) : Vec Ideal S8192x8192 .bf16 :=
  let u : FVec Ideal S8192x8192 .f32 := Host.dotGeneral (F := Ideal) (φ₁ := .f32) (φ₂ := .f32) dot_S8192x2048_S2048x8192_S8192x8192_1_0_0_1_n_n none
    (extf .f32 h bitsLt_bf16_f32)
    (shapeCast S2048x8192 (extractStridedSlice S1x2048x8192 ![0, 0, 0] w slices_S2x2048x8192_S1x2048x8192_0_0_0) shapeCasts_S1x2048x8192_S2048x8192)
  let z : FVec Ideal S8192x8192 .f32 := broadcastInDim S8192x8192 ![] bcast_S_S8192x8192 (constant S_ .f32 0x00000000#32)
  truncf .bf16 (mulf (maximumf u z) (maximumf u z)) bitsLt_bf16_f32

theorem res_at (h : Vec Ideal S8192x2048 .bf16) (w : Vec Ideal S2x2048x8192 .f32) (i : S8192x8192.Idx) :
    res h w i = upAt h w i := by
  unfold res upAt
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.UpReferenceIdeal.Value.run (F := Ideal) m ρ

end Cert.Proof.Mlp.Ref

end
-- ==== Proof.DownRunI.lean ====
module

public import proofs.«01_k».proof.Proof.Gen.DownIdeal.Frame
public import proofs.«01_k».proof.Proof.Gen.DownIdeal.Skeleton
public import Idealize.ShloMosaic.Lib.VecWindow
public import Idealize.ShloMosaic.Lib.Pipeline.Value

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off1_eq (i : grid0.Coords) : k0_off1 i = ![(i 0).val % 2, 512 * (i 1).val, 0] := by
  revert i; decide +kernel

theorem off2_eq (i : grid0.Coords) : k0_off2 i = ![((i 0).val + 1) % 2, 0, 0] := by
  revert i; decide +kernel

instance closedOff1 (i : grid0.Coords) : ClosedOff (k0_off1 i) := ⟨![(i 0).val % 2, 512 * (i 1).val, 0], off1_eq i⟩
instance closedOff2 (i : grid0.Coords) : ClosedOff (k0_off2 i) := ⟨![((i 0).val + 1) % 2, 0, 0], off2_eq i⟩

/-- What a point with a weight piece leaves in the scratch: the piece, rounded, over what was there. -/
def putPiece (i : grid0.Coords) (s : Vec F S2x8192x512 .bf16) (x1 : Vec F S1x512x512 .f32) : Vec F S2x8192x512 .bf16 :=
  VecWindow.put s (k0_off1 i) S1x512x512.size (k0_pay1 x1)

/-- What a point that writes a block leaves in it, over the slot it reads. -/
def outBlock (i : grid0.Coords) (h : k0_cond2 i = 1#1) (x0 : Vec F S512x8192 .bf16) (x2 : Vec F S512x512 .f32) (x3 : Vec F S1x1x1x1x512 .f32) (s : Vec F S2x8192x512 .bf16) : Vec F S512x512 .f32 :=
  k0_pay2 x2 x3 x0 (View.ld s (Rect.unit (s := S2x8192x512) (k0_off2 i) S1x8192x512.size (k0_off2_inb i h)))

theorem z2 : (![0, 0] : Fin 2 → Nat) = fun _ => 0 := by funext a; fin_cases a <;> rfl
theorem z3 : (![0, 0, 0] : Fin 3 → Nat) = fun _ => 0 := by funext a; fin_cases a <;> rfl

set_option maxHeartbeats 1000000 in
theorem run_A (c : Dev nD) (i : grid0.Coords) (arg2 : Memref sig .tc .vmem S512x8192 .bf16) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x1x1x1x512 .f32) (harg5 : arg5.IsWhole) (arg6 : Memref sig .tc .vmem S512x512 .f32) (harg6 : arg6.IsWhole) (arg7 : Memref sig .tc .vmem S2x8192x512 .bf16) (harg7 : arg7.IsWhole) (hc0 : k0_cond1 i = 1#1) (hc1 : ¬k0_cond2 i = 1#1)
    (x1 : Vec F S1x512x512 .f32) (s : Vec F S2x8192x512 .bf16) (E : Set ℕ) (K : PUnit → sProp (MT nD τ sig Unit (Elt F) ℕ (UR sig nD τ) ℕ)) :
    iprop(owns (c : Thread nD τ) arg3 fullShare x1 ∗ owns (c : Thread nD τ) arg7 fullShare s
        ∗ (iprop(owns (c : Thread nD τ) arg3 fullShare x1 ∗ owns (c : Thread nD τ) arg7 fullShare (putPiece i s x1)) -∗ K ⟨⟩))
      ⊢ wp frame (wpE (defs₀ (F := F)) Variants.none c none) E (cc0_mlp_down i arg2 harg2 arg3 harg3 arg4 harg4 arg5 harg5 arg6 harg6 arg7 harg7) K := by
  simp only [cc0_mlp_down_eq_skeleton]; unfold cc0_mlp_down_skel
  unfold owns
  iintro ⟨⟨%f1, %hf1, H1⟩, ⟨%fs, %hfs, HS⟩, Hk⟩
  obtain rfl := harg3.eq_unread hf1; obtain rfl := harg7.eq_unread hfs
  sl_exec (disch := first | sl_exact hc0 | sl_exact hc1)
  sl_step
  iapply Hk
  isplitl [H1]
  · iexists _; isplitr; · ipureintro; exact harg3.read_unread _
    iexact H1
  iexists _; isplitr
  swap; · iexact HS
  ipureintro
  rw [View.read_writes_cons_put _ _ _ _ _ rfl, View.writes_nil, hfs]
  unfold putPiece
  exact congrArg (fun X => VecWindow.put s (k0_off1 i) S1x512x512.size (k0_pay1 X)) ((View.readAt_full (s := S1x512x512) _ _ _).trans hf1)

set_option maxHeartbeats 1000000 in
theorem run_B (c : Dev nD) (i : grid0.Coords) (arg2 : Memref sig .tc .vmem S512x8192 .bf16) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x1x1x1x512 .f32) (harg5 : arg5.IsWhole) (arg6 : Memref sig .tc .vmem S512x512 .f32) (harg6 : arg6.IsWhole) (arg7 : Memref sig .tc .vmem S2x8192x512 .bf16) (harg7 : arg7.IsWhole) (hc0 : k0_cond1 i = 1#1) (hc1 : k0_cond2 i = 1#1)
    (x0 : Vec F S512x8192 .bf16) (x2 : Vec F S512x512 .f32) (x3 : Vec F S1x1x1x1x512 .f32) (x1 : Vec F S1x512x512 .f32) (s : Vec F S2x8192x512 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlock i hc1 x0 x2 x3 (putPiece i s x1)) ∗ owns (c : Thread nD τ) arg7 fullShare (putPiece i s x1)) -∗ K ⟨⟩))
      ⊢ wp frame (wpE (defs₀ (F := F)) Variants.none c none) E (cc0_mlp_down i arg2 harg2 arg3 harg3 arg4 harg4 arg5 harg5 arg6 harg6 arg7 harg7) K := by
  simp only [cc0_mlp_down_eq_skeleton]; unfold cc0_mlp_down_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg4.eq_unread hf2; obtain rfl := harg5.eq_unread hf3; obtain rfl := harg3.eq_unread hf1; obtain rfl := harg7.eq_unread hfs
  sl_exec (disch := first | sl_exact hc0 | sl_exact hc1)
  sl_step
  have hput : View.read (Elt F) arg7.view (arg7.view.writes (Elt F) (harg7.unread s) (run_B.sl.HS_1 c i arg3 harg3 hc0 x1)) = putPiece i s x1 := by
    unfold run_B.sl.HS_1
    rw [View.read_writes_cons_put _ _ _ _ _ rfl, View.writes_nil, hfs]
    unfold putPiece
    exact congrArg (fun X => VecWindow.put s (k0_off1 i) S1x512x512.size (k0_pay1 X)) ((View.readAt_full (s := S1x512x512) _ _ _).trans hf1)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full (s := S512x512)]
    refine congr (congr (congr (congrArg k0_pay2 ((View.readAt_full (s := S512x512) _ _ _).trans hf2)) ((View.readAt_full (s := S1x1x1x1x512) _ _ _).trans hf3)) ((View.readAt_full (s := S512x8192) _ _ _).trans hf0)) ?_
    exact congrArg (fun X => View.ld X _) hput
  iexists _; isplitr
  swap; · iexact HS
  ipureintro
  exact hput

set_option maxHeartbeats 1000000 in
theorem run_C (c : Dev nD) (i : grid0.Coords) (arg2 : Memref sig .tc .vmem S512x8192 .bf16) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x1x1x1x512 .f32) (harg5 : arg5.IsWhole) (arg6 : Memref sig .tc .vmem S512x512 .f32) (harg6 : arg6.IsWhole) (arg7 : Memref sig .tc .vmem S2x8192x512 .bf16) (harg7 : arg7.IsWhole) (hc0 : ¬k0_cond1 i = 1#1) (hc1 : k0_cond2 i = 1#1)
    (x0 : Vec F S512x8192 .bf16) (x2 : Vec F S512x512 .f32) (x3 : Vec F S1x1x1x1x512 .f32) (s : Vec F S2x8192x512 .bf16) (E : Set ℕ) (K : PUnit → sProp (MT nD τ sig Unit (Elt F) ℕ (UR sig nD τ) ℕ)) :
    iprop(owns (c : Thread nD τ) arg2 fullShare x0 ∗ owns (c : Thread nD τ) arg4 fullShare x2 ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg4 fullShare x2 ∗ owns (c : Thread nD τ) arg5 fullShare x3 ∗ owns (c : Thread nD τ) arg6 fullShare (outBlock i hc1 x0 x2 x3 s) ∗ owns (c : Thread nD τ) arg7 fullShare s) -∗ K ⟨⟩))
      ⊢ wp frame (wpE (defs₀ (F := F)) Variants.none c none) E (cc0_mlp_down i arg2 harg2 arg3 harg3 arg4 harg4 arg5 harg5 arg6 harg6 arg7 harg7) K := by
  simp only [cc0_mlp_down_eq_skeleton]; unfold cc0_mlp_down_skel
  unfold owns
  iintro ⟨⟨%f0, %hf0, H0⟩, ⟨%f2, %hf2, H2⟩, ⟨%f3, %hf3, H3⟩, ⟨%d4, %f4, -, H4⟩, ⟨%fs, %hfs, HS⟩, Hk⟩
  obtain rfl := harg2.eq_unread hf0; obtain rfl := harg4.eq_unread hf2; obtain rfl := harg5.eq_unread hf3; obtain rfl := harg7.eq_unread hfs
  sl_exec (disch := first | sl_exact hc0 | sl_exact hc1)
  sl_step
  iapply Hk
  isplitl [H0]
  · iexists _; isplitr; · ipureintro; exact harg2.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_full (s := S512x512)]
    refine congr (congr (congr (congrArg k0_pay2 ((View.readAt_full (s := S512x512) _ _ _).trans hf2)) ((View.readAt_full (s := S1x1x1x1x512) _ _ _).trans hf3)) ((View.readAt_full (s := S512x8192) _ _ _).trans hf0)) ?_
    exact congrArg (fun X => View.ld X _) hfs
  iexists _; isplitr; · ipureintro; exact hfs
  iexact HS

end Cert.DownIdeal.Gen

end
-- ==== Proof.DownDatI.lean ====
module

public import proofs.«01_k».proof.Proof.DownRunI
public import Idealize.ShloMosaic.Lib.Pipeline.Value
public import Idealize.ShloMosaic.Lib.Claim
public import Idealize.ShloMosaic.Lib.ValueIdxCore

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The points -/

theorem coords0 : ∀ t : Fin cfg0.N, ((grid0.coords t) 0).val = t.val / 16 :=
  (by decide +kernel : ∀ t : Fin grid0.N, ((grid0.coords t) 0).val = t.val / 16)
theorem coords1 : ∀ t : Fin cfg0.N, ((grid0.coords t) 1).val = t.val % 16 :=
  (by decide +kernel : ∀ t : Fin grid0.N, ((grid0.coords t) 1).val = t.val % 16)
theorem hcond1 : ∀ t : Fin cfg0.N, k0_cond1 (grid0.coords t) = 1#1 ↔ t.val < 64 :=
  (by decide +kernel : ∀ t : Fin grid0.N, k0_cond1 (grid0.coords t) = 1#1 ↔ t.val < 64)
theorem hcond2 : ∀ t : Fin cfg0.N, k0_cond2 (grid0.coords t) = 1#1 ↔ 16 ≤ t.val :=
  (by decide +kernel : ∀ t : Fin grid0.N, k0_cond2 (grid0.coords t) = 1#1 ↔ 16 ≤ t.val)
theorem flush4 : ∀ t : Fin cfg0.N, (cfg0.win 4).flush t = decide (16 ≤ t.val) :=
  (by decide +kernel : ∀ t : Fin grid0.N, win0_4.flush t = decide (16 ≤ t.val))

/-! ## What the scratch holds -/

/-- The weight piece the point fetched, rounded. -/
def pieceAt (c : Dev nD) (t : Fin cfg0.N) : Vec F S1x512x512 .bf16 := k0_pay1 (iblk m c 1 t)

/-- The pieces of the last thirty-two points with a piece are in their places. -/
def Good (c : Dev nD) (n : ℕ) (s : Vec F S2x8192x512 .bf16) : Prop :=
  ∀ t : Fin cfg0.N, t.val < 64 → t.val < n → n ≤ t.val + 32 → ∀ (y : S1x512x512.Idx) (x : S2x8192x512.Idx),
    (x 0).val = t.val / 16 % 2 → (x 1).val = 512 * (t.val % 16) + (y 1).val → (x 2).val = (y 2).val → s x = pieceAt m c t y

theorem point_lt (t : Fin cfg0.N) (k : ℕ) (hk : k < 8192) : 16 * (t.val / 16 - 1) + k / 512 < cfg0.N := by
  have h : t.val < 80 := lt_of_lt_of_eq t.isLt (show cfg0.N = 80 from N_0)
  have e : cfg0.N = 80 := N_0
  omega

/-- The chunk of weights a point with a block multiplies by: its sixteen pieces. -/
def slotAt (c : Dev nD) (t : Fin cfg0.N) : Vec F S1x8192x512 .bf16 := fun y =>
  pieceAt m c ⟨16 * (t.val / 16 - 1) + (y 1).val / 512, point_lt t _ (y 1).isLt⟩
    (ValueIdx.ix3 (n0 := 1) (n1 := 512) (n2 := 512) 0 ⟨(y 1).val % 512, Nat.mod_lt _ (by decide)⟩ (y 2))

theorem good_zero (c : Dev nD) (s : Vec F S2x8192x512 .bf16) : Good m c 0 s := fun t _ h => absurd h (Nat.not_lt_zero _)

theorem good_put (c : Dev nD) (t : Fin cfg0.N) (ht : t.val < 64) (s : Vec F S2x8192x512 .bf16) (h : Good m c t.val s) :
    Good m c (t.val + 1) (putPiece (grid0.coords t) s (iblk m c 1 t)) := by
  intro u hu hlt hle y x hx0 hx1 hx2
  unfold putPiece VecWindow.put
  have e := off1_eq (grid0.coords t)
  rw [coords0, coords1] at e
  have y1 : (y 1).val < 512 := (y 1).isLt
  have y2 : (y 2).val < 512 := (y 2).isLt
  have y0 : (y 0).val < 1 := (y 0).isLt
  by_cases hut : u.val = t.val
  · obtain rfl : u = t := Fin.ext hut
    have hin : ∀ a, (k0_off1 (grid0.coords u)) a ≤ (x a).val ∧ (x a).val < (k0_off1 (grid0.coords u)) a + S1x512x512.size a := by
      rw [e]; intro a
      fin_cases a
      · show u.val / 16 % 2 ≤ (x 0).val ∧ (x 0).val < u.val / 16 % 2 + 1; omega
      · show 512 * (u.val % 16) ≤ (x 1).val ∧ (x 1).val < 512 * (u.val % 16) + 512; omega
      · show 0 ≤ (x 2).val ∧ (x 2).val < 0 + 512; omega
    rw [dif_pos hin]
    unfold pieceAt
    refine congrArg _ (funext fun a => Fin.ext ?_)
    show (x a).val - (k0_off1 (grid0.coords u)) a = (y a).val
    rw [e]
    fin_cases a
    · show (x 0).val - u.val / 16 % 2 = (y 0).val; omega
    · show (x 1).val - 512 * (u.val % 16) = (y 1).val; omega
    · show (x 2).val - 0 = (y 2).val; omega
  · have hout : ¬ ∀ a, (k0_off1 (grid0.coords t)) a ≤ (x a).val ∧ (x a).val < (k0_off1 (grid0.coords t)) a + S1x512x512.size a := by
      rw [e]; intro hall
      have h0 : t.val / 16 % 2 ≤ (x 0).val ∧ (x 0).val < t.val / 16 % 2 + 1 := hall 0
      have h1 : 512 * (t.val % 16) ≤ (x 1).val ∧ (x 1).val < 512 * (t.val % 16) + 512 := hall 1
      omega
    rw [dif_neg hout]
    exact h u hu (by omega) (by omega) y x hx0 hx1 hx2

theorem good_keep (c : Dev nD) (t : Fin cfg0.N) (ht : ¬ t.val < 64) (s : Vec F S2x8192x512 .bf16) (h : Good m c t.val s) :
    Good m c (t.val + 1) s := fun u hu hlt hle y x => h u hu (by omega) (by omega) y x

theorem idx_unit_val' {s : Shape} (off size : Fin s.rank → ℕ) (inb) (j : (Rect.unit (s := s) off size inb).shape.Idx) (a : Fin s.rank) :
    ((Rect.unit (s := s) off size inb).idx j a).val = off a + (j a).val := by
  show off a + 1 * (j a).val = _
  rw [Nat.one_mul]

/-- A point with a block reads the chunk before the one being filled. -/
theorem ld_slot (c : Dev nD) (t : Fin cfg0.N) (ht : 16 ≤ t.val) (s : Vec F S2x8192x512 .bf16) (h : Good m c (t.val + 1) s) (inb) :
    View.ld s (Rect.unit (s := S2x8192x512) (k0_off2 (grid0.coords t)) S1x8192x512.size inb) = slotAt m c t := by
  funext y
  have hN : t.val < 80 := lt_of_lt_of_eq t.isLt (show cfg0.N = 80 from N_0)
  have e := off2_eq (grid0.coords t)
  rw [coords0] at e
  have y1 : (y 1).val < 8192 := (y 1).isLt
  have y0 : (y 0).val < 1 := (y 0).isLt
  refine h _ ?_ ?_ ?_ _ _ ?_ ?_ ?_
  · show 16 * (t.val / 16 - 1) + (y 1).val / 512 < 64; omega
  · show 16 * (t.val / 16 - 1) + (y 1).val / 512 < t.val + 1; omega
  · show t.val + 1 ≤ 16 * (t.val / 16 - 1) + (y 1).val / 512 + 32; omega
  · refine (idx_unit_val' _ _ inb y 0).trans ((congrArg (fun n : ℕ => n + (y 0).val) (congrFun e 0)).trans ?_)
    show (t.val / 16 + 1) % 2 + (y 0).val = (16 * (t.val / 16 - 1) + (y 1).val / 512) / 16 % 2; omega
  · refine (idx_unit_val' _ _ inb y 1).trans ((congrArg (fun n : ℕ => n + (y 1).val) (congrFun e 1)).trans ?_)
    show 0 + (y 1).val = 512 * ((16 * (t.val / 16 - 1) + (y 1).val / 512) % 16) + (y 1).val % 512; omega
  · refine (idx_unit_val' _ _ inb y 2).trans ((congrArg (fun n : ℕ => n + (y 2).val) (congrFun e 2)).trans ?_)
    exact Nat.zero_add _

theorem outBlock_eq (c : Dev nD) (t : Fin cfg0.N) (ht : 16 ≤ t.val) (hc : k0_cond2 (grid0.coords t) = 1#1)
    (x0 : Vec F S512x8192 .bf16) (x2 : Vec F S512x512 .f32) (x3 : Vec F S1x1x1x1x512 .f32) (s : Vec F S2x8192x512 .bf16) (h : Good m c (t.val + 1) s) :
    outBlock (grid0.coords t) hc x0 x2 x3 s = k0_pay2 x2 x3 x0 (slotAt m c t) := by
  unfold outBlock; rw [ld_slot m c t ht s h]

/-! ## The proof data -/

abbrev scM0_0 : Memref sig .tc .vmem S2x8192x512 .bf16 := Memref.whole cc0_scratch0

theorem PhiA0_eq (c : Dev nD) :
    (Pipeline.ΦA spec0 c : sProp (MT nD τ sig Unit (Elt F) ℕ (UR sig nD τ) ℕ))
      = iprop((∃ d, owns (c : Thread nD τ) scM0_0 fullShare d) ∗ (∃ r, prngReg c r)) := by
  unfold Pipeline.ΦA; rw [scopedRest0_eq]; simp only [scM0_0, owns_whole]; try rfl

/-- Between points: the scratch with the recent pieces in place, and the generator register at some state. -/
def PhiS (c : Dev nD) (n : ℕ) : sProp (MT nD τ sig Unit (Elt F) ℕ (UR sig nD τ) ℕ) :=
  iprop((∃ s, ⌜Good m c n s⌝ ∗ owns (c : Thread nD τ) scM0_0 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 2 t) (iblk m c 3 t) (iblk m c 0 t) (slotAt m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (iblk m c 2 t) (iblk m c 3 t) (iblk m c 0 t) (slotAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- What a point without a block returns: the block's buffer as it was. -/
def bodyPostA (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ d, owns (c : Thread nD τ) (win0_4.stage (cfg0.slots t 4)) fullShare ((dats m 0 c).before 4 t d)))

/-- What a point with a block returns. -/
def bodyPostB (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 1000000 in
theorem sound_A (c : Dev nD) (t : Fin cfg0.N) (ht : ¬ 16 ≤ t.val) :
    bodyPre m c t ⊢ wp frame (wpE (defs₀ (F := F)) Variants.none c none) Set.univ (bodyAt0 t) (fun _ => bodyPostA m c t) := by
  unfold bodyPre bodyPostA bodyAt0
  simp only [before0_0, before0_1, before0_2, before0_3]
  rw [show (dats m 0 c).owesAt () t.succ = (dats m 0 c).owesAt () t.castSucc from rfl, after0_0, after0_1, after0_2, after0_3]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, H4⟩
  iapply (run_A c (grid0.coords t) _ _ _ _ _ _ _ _ _ _ _ _ ((hcond1 t).mpr (by omega)) (fun h => ht ((hcond2 t).mp h)) (iblk m c 1 t) s Set.univ _)
  isplitl [H1]; · iexact H1
  isplitl [HS]; · iexact HS
  iintro ⟨H1, HS⟩
  isplitl [HS Hg]
  · isplitl [HS]
    · iexists _; isplitr
      swap; · iexact HS
      ipureintro; exact good_put m c t (by omega) s hs
    iexact Hg
  isplitl [Ho]; · iexact Ho
  isplitl [H0]; · iexact H0
  isplitl [H1]; · iexact H1
  isplitl [H2]; · iexact H2
  isplitl [H3]; · iexact H3
  iexact H4

set_option maxHeartbeats 1000000 in
theorem sound_B (c : Dev nD) (t : Fin cfg0.N) (ht : 16 ≤ t.val) :
    bodyPre m c t ⊢ wp frame (wpE (defs₀ (F := F)) Variants.none c none) Set.univ (bodyAt0 t) (fun _ => bodyPostB m c t) := by
  unfold bodyPre bodyPostB bodyAt0
  simp only [before0_0, before0_1, before0_2, before0_3]
  rw [show (dats m 0 c).owesAt () t.succ = (dats m 0 c).owesAt () t.castSucc from rfl, after0_0, after0_1, after0_2, after0_3, after0_4]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, ⟨%d2, H2⟩, ⟨%d3, H3⟩, ⟨%d4, H4⟩⟩
  by_cases h64 : t.val < 64
  · have hg := good_put m c t h64 s hs
    rw [← outBlock_eq m c t ht ((hcond2 t).mpr ht) (iblk m c 0 t) (iblk m c 2 t) (iblk m c 3 t) _ hg]
    iapply (run_B c (grid0.coords t) _ _ _ _ _ _ _ _ _ _ _ _ ((hcond1 t).mpr h64) ((hcond2 t).mpr ht) (iblk m c 0 t) (iblk m c 2 t) (iblk m c 3 t) (iblk m c 1 t) s Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    isplitl [H2]; · iexact H2
    isplitl [H3]; · iexact H3
    iexact H4
  · have hg := good_keep m c t h64 s hs
    rw [← outBlock_eq m c t ht ((hcond2 t).mpr ht) (iblk m c 0 t) (iblk m c 2 t) (iblk m c 3 t) _ hg]
    iapply (run_C c (grid0.coords t) _ _ _ _ _ _ _ _ _ _ _ _ (fun h => h64 ((hcond1 t).mp h)) ((hcond2 t).mpr ht) (iblk m c 0 t) (iblk m c 2 t) (iblk m c 3 t) s Set.univ _)
    isplitl [H0]; · iexact H0
    isplitl [H2]; · iexact H2
    isplitl [H3]; · iexact H3
    isplitl [H4]; · iexists _; iexact H4
    isplitl [HS]; · iexact HS
    iintro ⟨H0, H2, H3, H4, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : 16 ≤ t.val
  · have hi : cfg0.idle 4 (cfg0.grid.coords t) = false := by
      show (!(k0_cond2 (grid0.coords t) == 1#1)) = false
      rw [(hcond2 t).mpr ht]; rfl
    refine triple_restated (sound_B m c t ht) rfl (by exact Idealize.SL.BI.Entails.refl _) fun _ => ?_
    rw [hi]
    exact Idealize.SL.BI.Entails.refl _
  · have hi : cfg0.idle 4 (cfg0.grid.coords t) = true := by
      show (!(k0_cond2 (grid0.coords t) == 1#1)) = true
      rw [Bool.not_eq_true', beq_eq_false_iff_ne]; exact fun h => ht ((hcond2 t).mp h)
    have hf : (cfg0.win 4).flush t = false := (flush4 t).trans (decide_eq_false ht)
    refine triple_restated (sound_A m c t ht) rfl (by exact Idealize.SL.BI.Entails.refl _) fun _ => ?_
    rw [hi, hf]
    exact Idealize.SL.BI.Entails.refl _

theorem hin (c : Dev nD) : Pipeline.ΦA spec0 c ⊢ (dats m 0 c).Φ 0 := by
  rw [show (dats m 0 c).Φ 0 = PhiS m c 0 from rfl, PhiA0_eq]
  unfold PhiS
  iintro ⟨⟨%s, HS⟩, Hg⟩
  isplitl [HS]
  · iexists s; isplitr
    swap; · iexact HS
    ipureintro; exact good_zero m c s
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%s, %hs, HS⟩, Hg⟩
  isplitl [HS]
  · iexists s; iexact HS
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DownIdeal.Gen

end
-- ==== Proof.DownVal.lean ====
module

public import proofs.«01_k».proof.Proof.DownDatI
public import proofs.«01_k».proof.Proof.Gen.DownReferenceIdeal.Run
public import Idealize.ShloMosaic.Lib.Pipeline.ValueKit
public import Idealize.ShloMosaic.Lib.Pointwise
public import Idealize.ShloMosaic.Lib.KernelVsHost
public import Idealize.ShloMosaic.Lib.StableHlo.ReadAt

@[expose] public section

set_option maxRecDepth 16384

noncomputable section

namespace Cert.Proof.Down

open Idealize.ShloMosaic Idealize.ShloMosaic.TcCoe Idealize.ShloMosaic.Tactic Idealize.SL.Sem Cert.DownIdeal Cert.DownIdeal.Gen

/-- The row of the modulation a row of the residual takes: the context's one, then one per latent frame. -/
def modRow (n : ℕ) : ℕ := if n < 4096 then 4 else (n - 4096) / 1024

theorem modRow_lt (n : ℕ) (h : n < 8192) : modRow n < 8 := by unfold modRow; split <;> omega

/-- The result at an index: the residual plus the gate times the dot of a row with a column of layer 0's weights. -/
def downAt (h : Vec Ideal S8192x8192 .bf16) (x : Vec Ideal S8192x2048 .f32) (w : Vec Ideal S2x8192x2048 .f32) (g : Vec Ideal S2x8x6x1x2048 .f32)
    (a : Fin 8192) (b : Fin 2048) : EReal :=
  (x (ix2 (n0 := 8192) (n1 := 2048) a b) : EReal)
    + (g (ix5 (n0 := 2) (n1 := 8) (n2 := 6) (n3 := 1) (n4 := 2048) 0 ⟨modRow a.val, modRow_lt _ a.isLt⟩ 5 0 b) : EReal)
      * ∑ k : Fin 8192, (h (ix2 (n0 := 8192) (n1 := 8192) a k) : EReal) * w (ix3 (n0 := 2) (n1 := 8192) (n2 := 2048) 0 k b)

theorem pay1_at (x : Vec Ideal S1x512x512 .f32) (y : S1x512x512.Idx) : k0_pay1 (F := Ideal) x y = x y := by
  unfold k0_pay1
  pointwise

theorem pay2_at (x : Vec Ideal S512x512 .f32) (g : Vec Ideal S1x1x1x1x512 .f32) (h : Vec Ideal S512x8192 .bf16) (s : Vec Ideal S1x8192x512 .bf16) (y : S512x512.Idx) :
    k0_pay2 (F := Ideal) x g h s y
      = (x (ix2 (n0 := 512) (n1 := 512) (y 0) (y 1)) : EReal) + (g (ix5 (n0 := 1) (n1 := 1) (n2 := 1) (n3 := 1) (n4 := 512) 0 0 0 0 (y 1)) : EReal)
        * ∑ k : Fin 8192, (h (ix2 (n0 := 512) (n1 := 8192) (y 0) k) : EReal) * s (ix3 (n0 := 1) (n1 := 8192) (n2 := 512) 0 k (y 1)) := by
  unfold k0_pay2
  pointwise

theorem block_eq (x : Vec Ideal S512x512 .f32) (g : Vec Ideal S1x1x1x1x512 .f32) (h : Vec Ideal S512x8192 .bf16) (s : Vec Ideal S1x8192x512 .bf16)
    (H : Vec Ideal S8192x8192 .bf16) (X : Vec Ideal S8192x2048 .f32) (W : Vec Ideal S2x8192x2048 .f32) (G : Vec Ideal S2x8x6x1x2048 .f32)
    (a : Fin 512) (b : Fin 512) (a' : Fin 8192) (b' : Fin 2048)
    (hx : x (ix2 (n0 := 512) (n1 := 512) a b) = X (ix2 (n0 := 8192) (n1 := 2048) a' b'))
    (hg : g (ix5 (n0 := 1) (n1 := 1) (n2 := 1) (n3 := 1) (n4 := 512) 0 0 0 0 b)
      = G (ix5 (n0 := 2) (n1 := 8) (n2 := 6) (n3 := 1) (n4 := 2048) 0 ⟨modRow a'.val, modRow_lt _ a'.isLt⟩ 5 0 b'))
    (hh : ∀ k : Fin 8192, h (ix2 (n0 := 512) (n1 := 8192) a k) = H (ix2 (n0 := 8192) (n1 := 8192) a' k))
    (hs : ∀ k : Fin 8192, s (ix3 (n0 := 1) (n1 := 8192) (n2 := 512) 0 k b) = W (ix3 (n0 := 2) (n1 := 8192) (n2 := 2048) 0 k b')) :
    k0_pay2 (F := Ideal) x g h s (ix2 (n0 := 512) (n1 := 512) a b) = downAt H X W G a' b' := by
  refine (pay2_at _ _ _ _ _).trans ?_
  unfold downAt
  exact congrArg₂ (fun p q : EReal => p + q) hx (congrArg₂ (fun p q : EReal => p * q) hg
    (Finset.sum_congr rfl fun k _ => congrArg₂ (fun p q : EReal => p * q) (hh k) (hs k)))

variable (m : (ℓ : Loc nD τ sig) → Buf (Elt Ideal) ℓ) (c : Dev nD) (t : Fin cfg0.N)

theorem t_lt : t.val < 80 := lt_of_lt_of_eq t.isLt N_0

/-- The modulation row of a tile of 512 rows. -/
def tileRow (n : ℕ) : ℕ := if n < 8 then 4 else (n - 8) / 2

theorem tileRow_lt (n : ℕ) (h : n < 16) : tileRow n < 8 := by unfold tileRow; split <;> omega

theorem idx0 : ∀ t : Fin cfg0.N, 16 ≤ t.val → (cfg0.win 0).index t = ![t.val % 16, 0] :=
  (by decide +kernel : ∀ t : Fin grid0.N, 16 ≤ t.val → win0_0.index t = ![t.val % 16, 0])
theorem idx1 : ∀ t : Fin cfg0.N, t.val < 64 → (cfg0.win 1).index t = ![0, t.val % 16, t.val / 16] :=
  (by decide +kernel : ∀ t : Fin grid0.N, t.val < 64 → win0_1.index t = ![0, t.val % 16, t.val / 16])
theorem idx2 : ∀ t : Fin cfg0.N, 16 ≤ t.val → (cfg0.win 2).index t = ![t.val % 16, t.val / 16 - 1] :=
  (by decide +kernel : ∀ t : Fin grid0.N, 16 ≤ t.val → win0_2.index t = ![t.val % 16, t.val / 16 - 1])
theorem idx3 : ∀ t : Fin cfg0.N, 16 ≤ t.val → (cfg0.win 3).index t = ![0, tileRow (t.val % 16), 5, 0, t.val / 16 - 1] :=
  (by decide +kernel : ∀ t : Fin grid0.N, 16 ≤ t.val → win0_3.index t = ![0, tileRow (t.val % 16), 5, 0, t.val / 16 - 1])
theorem idx4 : ∀ t : Fin cfg0.N, 16 ≤ t.val → (cfg0.win 4).index t = ![t.val % 16, t.val / 16 - 1] :=
  (by decide +kernel : ∀ t : Fin grid0.N, 16 ≤ t.val → win0_4.index t = ![t.val % 16, t.val / 16 - 1])

theorem blk0 (ht : 16 ≤ t.val) (y : S512x8192.Idx) : (iblk m c 0 t : Vec Ideal S512x8192 .bf16) y
    = (m ((c.tc : Thread nD τ).loc main_arg0) : Vec Ideal S8192x8192 .bf16) (ix2 (n0 := 8192) (n1 := 8192)
      ⟨512 * (t.val % 16) + (y 0).val, by have : (y 0).val < 512 := (y 0).isLt; omega⟩ (y 1)) := by
  have h := t_lt t
  blk_ext [iblk, V, idx0 t ht]

theorem blk1 (ht : t.val < 64) (y : S1x512x512.Idx) : (iblk m c 1 t : Vec Ideal S1x512x512 .f32) y
    = (m ((c.tc : Thread nD τ).loc main_arg2) : Vec Ideal S2x8192x2048 .f32) (ix3 (n0 := 2) (n1 := 8192) (n2 := 2048) 0
      ⟨512 * (t.val % 16) + (y 1).val, by have : (y 1).val < 512 := (y 1).isLt; omega⟩
      ⟨512 * (t.val / 16) + (y 2).val, by have : (y 2).val < 512 := (y 2).isLt; omega⟩) := by
  have h := t_lt t
  blk_ext [iblk, V, idx1 t ht]

theorem blk2 (ht : 16 ≤ t.val) (y : S512x512.Idx) : (iblk m c 2 t : Vec Ideal S512x512 .f32) y
    = (m ((c.tc : Thread nD τ).loc main_arg1) : Vec Ideal S8192x2048 .f32) (ix2 (n0 := 8192) (n1 := 2048)
      ⟨512 * (t.val % 16) + (y 0).val, by have : (y 0).val < 512 := (y 0).isLt; omega⟩
      ⟨512 * (t.val / 16 - 1) + (y 1).val, by have := t_lt t; have : (y 1).val < 512 := (y 1).isLt; omega⟩) := by
  have h := t_lt t
  blk_ext [iblk, V, idx2 t ht]

theorem blk3 (ht : 16 ≤ t.val) (y : S1x1x1x1x512.Idx) : (iblk m c 3 t : Vec Ideal S1x1x1x1x512 .f32) y
    = (m ((c.tc : Thread nD τ).loc main_arg3) : Vec Ideal S2x8x6x1x2048 .f32) (ix5 (n0 := 2) (n1 := 8) (n2 := 6) (n3 := 1) (n4 := 2048) 0
      ⟨tileRow (t.val % 16), tileRow_lt _ (Nat.mod_lt _ (by decide))⟩ 5 0
      ⟨512 * (t.val / 16 - 1) + (y 4).val, by have := t_lt t; have : (y 4).val < 512 := (y 4).isLt; omega⟩) := by
  have h := t_lt t
  blk_ext [iblk, V, idx3 t ht]

theorem slot_at (ht : 16 ≤ t.val) (k : Fin 8192) (j : Fin 512) :
    (slotAt m c t : Vec Ideal S1x8192x512 .bf16) (ix3 (n0 := 1) (n1 := 8192) (n2 := 512) 0 k j)
      = (m ((c.tc : Thread nD τ).loc main_arg2) : Vec Ideal S2x8192x2048 .f32) (ix3 (n0 := 2) (n1 := 8192) (n2 := 2048) 0 k
        ⟨512 * (t.val / 16 - 1) + j.val, by have := t_lt t; omega⟩) := by
  have h := t_lt t
  have hk := k.isLt
  unfold slotAt pieceAt
  rw [pay1_at, blk1 m c _ (by show 16 * (t.val / 16 - 1) + k.val / 512 < 64; omega)]
  refine congrArg _ (congrArg₂ (ix3 (n0 := 2) (n1 := 8192) (n2 := 2048) 0) (Fin.ext ?_) (Fin.ext ?_))
  · show 512 * ((16 * (t.val / 16 - 1) + k.val / 512) % 16) + k.val % 512 = k.val; omega
  · show 512 * ((16 * (t.val / 16 - 1) + k.val / 512) / 16) + j.val = 512 * (t.val / 16 - 1) + j.val; omega

theorem row_tile (n r : ℕ) (hn : n < 16) (hr : r < 512) : tileRow n = modRow (512 * n + r) := by
  unfold tileRow modRow; split <;> split <;> omega

/-- What a point with a block leaves in it. -/
theorem block_at (ht : 16 ≤ t.val) (a : Fin 512) (b : Fin 512) :
    k0_pay2 (F := Ideal) (iblk m c 2 t) (iblk m c 3 t) (iblk m c 0 t) (slotAt m c t) (ix2 (n0 := 512) (n1 := 512) a b)
      = downAt (m ((c.tc : Thread nD τ).loc main_arg0)) (m ((c.tc : Thread nD τ).loc main_arg1)) (m ((c.tc : Thread nD τ).loc main_arg2))
        (m ((c.tc : Thread nD τ).loc main_arg3))
        ⟨512 * (t.val % 16) + a.val, by omega⟩ ⟨512 * (t.val / 16 - 1) + b.val, by have := t_lt t; omega⟩ := by
  refine block_eq _ _ _ _ _ _ _ _ a b _ _ (blk2 m c t ht _) ((blk3 m c t ht _).trans ?_) (fun k => blk0 m c t ht _) (fun k => slot_at m c t ht k b)
  refine congrArg _ ?_
  have e := row_tile (t.val % 16) a.val (Nat.mod_lt _ (by decide)) a.isLt
  exact congrArg (fun r : Fin 8 => ix5 (n0 := 2) (n1 := 8) (n2 := 6) (n3 := 1) (n4 := 2048) 0 r 5 0
    ⟨512 * (t.val / 16 - 1) + b.val, by have := t_lt t; omega⟩) (Fin.ext e)

/-- The whole result. -/
def G : Vec Ideal S8192x2048 .f32 := fun i =>
  downAt (m ((c.tc : Thread nD τ).loc main_arg0)) (m ((c.tc : Thread nD τ).loc main_arg1)) (m ((c.tc : Thread nD τ).loc main_arg2))
    (m ((c.tc : Thread nD τ).loc main_arg3)) (i 0) (i 1)

theorem flushed_eq (hf : (cfg0.win 4).flush t = true) :
    (dats m 0 c).flushed 4 t = ((cfg0.win 4).blk t).view.read (Elt Ideal) (G m c) := by
  have ht : 16 ≤ t.val := by
    have := (flush4 t).symm.trans hf
    exact of_decide_eq_true this
  show (cfg0.win 4).cut (grid0.coords t) ((dats m 0 c).after 4 t) = _
  rw [after0_4]
  have e := idx4 t ht
  have h := t_lt t
  funext y
  have hy0 : (y 0).val < 512 := (y 0).isLt
  have hy1 : (y 1).val < 512 := (y 1).isLt
  have e0 : ((((cfg0.win 4).blk t).view.emb y) : S8192x2048.Idx) = ix2 (n0 := 8192) (n1 := 2048)
      ⟨512 * (t.val % 16) + (y 0).val, by omega⟩ ⟨512 * (t.val / 16 - 1) + (y 1).val, by omega⟩ := by
    funext a
    apply Fin.ext
    match a with
    | ⟨0, _⟩ =>
      show (cfg0.win 4).index t (0 : Fin 2) * 512 + 1 * (y 0).val = 512 * (t.val % 16) + (y 0).val
      rw [e]; show t.val % 16 * 512 + 1 * (y 0).val = _; omega
    | ⟨1, _⟩ =>
      show (cfg0.win 4).index t (1 : Fin 2) * 512 + 1 * (y 1).val = 512 * (t.val / 16 - 1) + (y 1).val
      rw [e]; show (t.val / 16 - 1) * 512 + 1 * (y 1).val = _; omega
  have hx : (((cfg0.win 4).xinj (grid0.coords t) y) : S512x512.Idx) = ix2 (n0 := 512) (n1 := 512) ⟨(y 0).val, hy0⟩ ⟨(y 1).val, hy1⟩ := by
    funext a
    match a with
    | ⟨0, _⟩ => rfl
    | ⟨1, _⟩ => rfl
  show k0_pay2 (F := Ideal) (iblk m c 2 t) (iblk m c 3 t) (iblk m c 0 t) (slotAt m c t) ((cfg0.win 4).xinj (grid0.coords t) y) = G m c (((cfg0.win 4).blk t).view.emb y)
  rw [hx, e0]
  exact block_at m c t ht _ _

theorem mem_blk (i : S8192x2048.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

theorem final : (dats m 0 c).arrAt 4 cfg0.N = G m c :=
  (dats m 0 c).arrAt_eq_of_cover 4 _ (fun t hf => flushed_eq m c t hf) fun i => by
    have hi0 : (i 0).val < 8192 := (i 0).isLt
    have hi1 : (i 1).val < 2048 := (i 1).isLt
    have hN : 16 * ((i 1).val / 512 + 1) + (i 0).val / 512 < cfg0.N := by
      rw [show cfg0.N = 80 from N_0]; omega
    have ht : 16 ≤ 16 * ((i 1).val / 512 + 1) + (i 0).val / 512 := by omega
    have e := idx4 ⟨_, hN⟩ ht
    refine ⟨⟨_, hN⟩, (flush4 _).trans (decide_eq_true ht), ?_⟩
    rw [mem_blk]
    have q0 : win0_4.index ⟨_, hN⟩ (0 : Fin 2) = (16 * ((i 1).val / 512 + 1) + (i 0).val / 512) % 16 := congrFun e 0
    have q1 : win0_4.index ⟨_, hN⟩ (1 : Fin 2) = (16 * ((i 1).val / 512 + 1) + (i 0).val / 512) / 16 - 1 := congrFun e 1
    intro a
    match a with
    | ⟨0, _⟩ =>
      show win0_4.index ⟨_, hN⟩ (0 : Fin 2) * 512 ≤ (i 0).val ∧ (i 0).val < win0_4.index ⟨_, hN⟩ (0 : Fin 2) * 512 + 512
      rw [q0]; omega
    | ⟨1, _⟩ =>
      show win0_4.index ⟨_, hN⟩ (1 : Fin 2) * 512 ≤ (i 1).val ∧ (i 1).val < win0_4.index ⟨_, hN⟩ (1 : Fin 2) * 512 + 512
      rw [q1]; omega

theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final m c), h.2 c⟩)
    (θ_run_and (run_main m ρ) (unchanged m ρ))

end Cert.Proof.Down

namespace Cert.Proof.Down.Ref

open Idealize.ShloMosaic Idealize.ShloMosaic.TcCoe Idealize.ShloMosaic.Tactic Idealize.SL.Sem Cert.DownReferenceIdeal Cert.DownReferenceIdeal.Gen

/-- The second matmul of the feed-forward. -/
def mm (h : Vec Ideal S8192x8192 .bf16) (w : Vec Ideal S2x8192x2048 .f32) : FVec Ideal S8192x2048 .f32 :=
  Host.dotGeneral (F := Ideal) (φ₁ := .f32) (φ₂ := .f32) dot_S8192x8192_S8192x2048_S8192x2048_1_0_0_1_n_n none
    (extf .f32 h bitsLt_bf16_f32)
    (shapeCast S8192x2048 (extractStridedSlice S1x8192x2048 ![0, 0, 0] w slices_S2x8192x2048_S1x8192x2048_0_0_0) shapeCasts_S1x8192x2048_S8192x2048)

theorem mm_at (h : Vec Ideal S8192x8192 .bf16) (w : Vec Ideal S2x8192x2048 .f32) (i : S8192x2048.Idx) :
    mm h w i = ∑ k : Fin 8192, (h (ix2 (n0 := 8192) (n1 := 8192) (i 0) k) : EReal) * w (ix3 (n0 := 2) (n1 := 8192) (n2 := 2048) 0 k (i 1)) := by
  unfold mm
  pointwise

/-- The gates of layer 0. -/
def gates (g : Vec Ideal S2x8x6x1x2048 .f32) : FVec Ideal S8x2048 .f32 :=
  shapeCast S8x2048 (extractStridedSlice S1x8x1x1x2048 ![0, 0, 5, 0, 0] g slices_S2x8x6x1x2048_S1x8x1x1x2048_0_0_5_0_0) shapeCasts_S1x8x1x1x2048_S8x2048

theorem gates_at (g : Vec Ideal S2x8x6x1x2048 .f32) (i : S8x2048.Idx) :
    gates g i = g (ix5 (n0 := 2) (n1 := 8) (n2 := 6) (n3 := 1) (n4 := 2048) 0 (i 0) 5 0 (i 1)) := by
  unfold gates
  pointwise

/-- The reference's context rows. -/
def ctx (g : FVec Ideal S8x2048 .f32) (x : FVec Ideal S8192x2048 .f32) (f : FVec Ideal S8192x2048 .f32) : FVec Ideal S4096x2048 .f32 :=
  addf (extractStridedSlice S4096x2048 ![0, 0] x slices_S8192x2048_S4096x2048_0_0)
    (mulf (broadcastInDim S4096x2048 ![0, 1] bcast_S1x2048_S4096x2048_0_1 (broadcastInDim S1x2048 ![1] bcast_S2048_S1x2048_1
      (shapeCast S2048 (extractStridedSlice S1x2048 ![4, 0] g slices_S8x2048_S1x2048_4_0) shapeCasts_S1x2048_S2048)))
      (extractStridedSlice S4096x2048 ![0, 0] f slices_S8192x2048_S4096x2048_0_0))

theorem ctx_at (g : FVec Ideal S8x2048 .f32) (x f : FVec Ideal S8192x2048 .f32) (i : S4096x2048.Idx) :
    ctx g x f i = (x (ix2 (n0 := 8192) (n1 := 2048) ⟨(i 0).val, by have : (i 0).val < 4096 := (i 0).isLt; omega⟩ (i 1)) : EReal)
      + (g (ix2 (n0 := 8) (n1 := 2048) 4 (i 1)) : EReal) * f (ix2 (n0 := 8192) (n1 := 2048) ⟨(i 0).val, by have : (i 0).val < 4096 := (i 0).isLt; omega⟩ (i 1)) := by
  unfold ctx
  pointwise

/-- The reference's latent rows. -/
def lat (g : FVec Ideal S8x2048 .f32) (x : FVec Ideal S8192x2048 .f32) (f : FVec Ideal S8192x2048 .f32) : FVec Ideal S4096x2048 .f32 :=
  shapeCast S4096x2048 (addf
    (shapeCast S4x1024x2048 (extractStridedSlice S4096x2048 ![4096, 0] x slices_S8192x2048_S4096x2048_4096_0) shapeCasts_S4096x2048_S4x1024x2048)
    (mulf (broadcastInDim S4x1024x2048 ![0, 1, 2] bcast_S4x1x2048_S4x1024x2048_0_1_2 (broadcastInDim S4x1x2048 ![0, 2] bcast_S4x2048_S4x1x2048_0_2
      (extractStridedSlice S4x2048 ![0, 0] g slices_S8x2048_S4x2048_0_0)))
      (shapeCast S4x1024x2048 (extractStridedSlice S4096x2048 ![4096, 0] f slices_S8192x2048_S4096x2048_4096_0) shapeCasts_S4096x2048_S4x1024x2048)))
    shapeCasts_S4x1024x2048_S4096x2048

theorem lat_at (g : FVec Ideal S8x2048 .f32) (x f : FVec Ideal S8192x2048 .f32) (i : S4096x2048.Idx) :
    lat g x f i = (x (ix2 (n0 := 8192) (n1 := 2048) ⟨4096 + (i 0).val, by have : (i 0).val < 4096 := (i 0).isLt; omega⟩ (i 1)) : EReal)
      + (g (ix2 (n0 := 8) (n1 := 2048) ⟨(i 0).val / 1024, by have : (i 0).val < 4096 := (i 0).isLt; omega⟩ (i 1)) : EReal)
        * f (ix2 (n0 := 8192) (n1 := 2048) ⟨4096 + (i 0).val, by have : (i 0).val < 4096 := (i 0).isLt; omega⟩ (i 1)) := by
  unfold lat
  pointwise

/-- The reference's result. -/
def res (h : Vec Ideal S8192x8192 .bf16) (x : Vec Ideal S8192x2048 .f32) (w : Vec Ideal S2x8192x2048 .f32) (g : Vec Ideal S2x8x6x1x2048 .f32) : Vec Ideal S8192x2048 .f32 :=
  concatenate S8192x2048 0 [⟨S4096x2048, ctx (gates g) x (mm h w)⟩, ⟨S4096x2048, lat (gates g) x (mm h w)⟩] concatenates_S4096x2048_S4096x2048_S8192x2048_d0

theorem res_at (h : Vec Ideal S8192x8192 .bf16) (x : Vec Ideal S8192x2048 .f32) (w : Vec Ideal S2x8192x2048 .f32) (g : Vec Ideal S2x8x6x1x2048 .f32)
    (i : S8192x2048.Idx) : res h x w g i = downAt h x w g (i 0) (i 1) := by
  have hi : (i 0).val < 8192 := (i 0).isLt
  unfold res downAt
  by_cases hlt : (i 0).val < 4096
  · have e : (⟨modRow (i 0).val, modRow_lt _ hi⟩ : Fin 8) = 4 := Fin.ext (if_pos hlt)
    refine (concatenate_pair_apply_left (s₁ := S4096x2048) (s₂ := S4096x2048) 0 _ _ _ i rfl (ix2 (n0 := 4096) (n1 := 2048) ⟨(i 0).val, hlt⟩ (i 1)) (fun b => ?_)).trans ?_
    · match b with
      | ⟨0, _⟩ => rfl
      | ⟨1, _⟩ => rfl
    rw [ctx_at, mm_at, gates_at, e]
    rfl
  · have e : (⟨modRow (i 0).val, modRow_lt _ hi⟩ : Fin 8) = ⟨((i 0).val - 4096) / 1024, by omega⟩ := Fin.ext (if_neg hlt)
    have e0 : (⟨4096 + ((i 0).val - 4096), by omega⟩ : Fin 8192) = i 0 := Fin.ext (by show 4096 + ((i 0).val - 4096) = (i 0).val; omega)
    refine (concatenate_pair_apply_right (s₁ := S4096x2048) (s₂ := S4096x2048) 0 _ _ _ i rfl rfl (ix2 (n0 := 4096) (n1 := 2048) ⟨(i 0).val - 4096, by omega⟩ (i 1)) (fun b hb => ?_) ?_).trans ?_
    · match b with
      | ⟨0, _⟩ => exact absurd rfl hb
      | ⟨1, _⟩ => rfl
    · show (i 0).val - 4096 + 4096 = (i 0).val; omega
    rw [lat_at, mm_at, gates_at, e]
    exact congrArg (fun r : Fin 8192 => (x (ix2 (n0 := 8192) (n1 := 2048) r (i 1)) : EReal)
      + (g (ix5 (n0 := 2) (n1 := 8) (n2 := 6) (n3 := 1) (n4 := 2048) 0 ⟨((i 0).val - 4096) / 1024, by omega⟩ 5 0 (i 1)) : EReal)
        * ∑ k : Fin 8192, (h (ix2 (n0 := 8192) (n1 := 8192) r k) : EReal) * w (ix3 (n0 := 2) (n1 := 8192) (n2 := 2048) 0 k (i 1))) e0

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = res (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.DownReferenceIdeal.Value.run (F := Ideal) m ρ

end Cert.Proof.Down.Ref

end
-- ==== Proof.ProjRunI.lean ====
module

public import proofs.«01_k».proof.Proof.Gen.ProjIdeal.Frame
public import proofs.«01_k».proof.Proof.Gen.ProjIdeal.Skeleton
public import Idealize.ShloMosaic.Lib.VecWindow
public import Idealize.ShloMosaic.Lib.Pipeline.Value

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off1_eq (i : grid0.Coords) : k0_off1 i = ![(i 0).val % 2, 192 * (i 1).val, 0] := by
  revert i; decide +kernel

theorem off2_eq (i : grid0.Coords) : k0_off2 i = ![((i 0).val + 1) % 2, 0, 0] := by
  revert i; decide +kernel

theorem off3_eq (i : grid0.Coords) : k0_off3 i = ![((i 0).val + 1) % 2, 0, 0] := by
  revert i; decide +kernel

instance closedOff3 (i : grid0.Coords) : ClosedOff (k0_off3 i) := ⟨![((i 0).val + 1) % 2, 0, 0], off3_eq i⟩
instance closedOff1 (i : grid0.Coords) : ClosedOff (k0_off1 i) := ⟨![(i 0).val % 2, 192 * (i 1).val, 0], off1_eq i⟩
instance closedOff2 (i : grid0.Coords) : ClosedOff (k0_off2 i) := ⟨![((i 0).val + 1) % 2, 0, 0], off2_eq i⟩

/-- What a point with a weight piece leaves in the scratch: the piece, rounded, over what was there. -/
def putPiece (i : grid0.Coords) (s : Vec F S2x1536x2048 .bf16) (x1 : Vec F S1x192x2048 .f32) : Vec F S2x1536x2048 .bf16 :=
  VecWindow.put s (k0_off1 i) S1x192x2048.size (k0_pay1 x1)

/-- What a point that writes a block leaves in it, over the slot it reads. -/
def outBlock (i : grid0.Coords) (h : k0_cond2 i = 1#1) (x0 : Vec F S1024x2048 .bf16) (s : Vec F S2x1536x2048 .bf16) : Vec F S1024x1536 .bf16 :=
  k0_pay2 x0 (View.ld s (Rect.unit (s := S2x1536x2048) (k0_off2 i) S1x1536x2048.size (k0_off2_inb i h)))

/-- What a point that writes a gate block leaves in it, over the slot it reads. -/
def outGate (i : grid0.Coords) (h : k0_cond3 i = 1#1) (x0 : Vec F S1024x2048 .bf16) (s : Vec F S2x1536x2048 .bf16) : Vec F S1024x1536 .bf16 :=
  k0_pay3 x0 (View.ld s (Rect.unit (s := S2x1536x2048) (k0_off3 i) S1x1536x2048.size (k0_off3_inb i h)))

theorem z2 : (![0, 0] : Fin 2 → Nat) = fun _ => 0 := by funext a; fin_cases a <;> rfl
theorem z3 : (![0, 0, 0] : Fin 3 → Nat) = fun _ => 0 := by funext a; fin_cases a <;> rfl

set_option maxHeartbeats 1000000 in
theorem run_A (c : Dev nD) (i : grid0.Coords) (arg2 : Memref sig .tc .vmem S1024x2048 .bf16) (harg2 : arg2.IsWhole) (arg3 : Memref sig .tc .vmem S1x192x2048 .f32) (harg3 : arg3.IsWhole) (arg4 : Memref sig .tc .vmem S1024x1536 .bf16) (harg4 : arg4.IsWhole) (arg5 : Memref sig .tc .vmem S2x1536x2048 .bf16) (harg5 : arg5.IsWhole) (hc0 : k0_cond1 i = 1#1) (hc1 : ¬k0_cond2 i = 1#1) (hc2 : ¬k0_cond3 i = 1#1)
    (x1 : Vec F S1x192x2048 .f32) (s : Vec F S2x1536x2048 .bf16) (E : Set ℕ) (K : PUnit → sProp (MT nD τ sig Unit (Elt F) ℕ (UR sig nD τ) ℕ)) :
    iprop(owns (c : Thread nD τ) arg3 fullShare x1 ∗ owns (c : Thread nD τ) arg5 fullShare s
        ∗ (iprop(owns (c : Thread nD τ) arg3 fullShare x1 ∗ owns (c : Thread nD τ) arg5 fullShare (putPiece i s x1)) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f1, %hf1, H1⟩, ⟨%fs, %hfs, HS⟩, Hk⟩
  obtain rfl := harg3.eq_unread hf1; obtain rfl := harg5.eq_unread hfs
  sl_exec (disch := first | sl_exact hc0 | sl_exact hc1 | sl_exact hc2)
  sl_step
  iapply Hk
  isplitl [H1]
  · iexists _; isplitr; · ipureintro; exact harg3.read_unread _
    iexact H1
  iexists _; isplitr
  swap; · iexact HS
  ipureintro
  rw [View.read_writes_cons_put _ _ _ _ _ rfl, View.writes_nil, hfs]
  unfold putPiece
  exact congrArg (fun X => VecWindow.put s (k0_off1 i) S1x192x2048.size (k0_pay1 X)) ((View.readAt_full (s := S1x192x2048) _ _ _).trans hf1)

set_option maxHeartbeats 1000000 in
theorem run_B (c : Dev nD) (i : grid0.Coords) (arg2 : Memref sig .tc .vmem S1024x2048 .bf16) (harg2 : arg2.IsWhole) (arg3 : Memref sig .tc .vmem S1x192x2048 .f32) (harg3 : arg3.IsWhole) (arg4 : Memref sig .tc .vmem S1024x1536 .bf16) (harg4 : arg4.IsWhole) (arg5 : Memref sig .tc .vmem S2x1536x2048 .bf16) (harg5 : arg5.IsWhole) (hc0 : k0_cond1 i = 1#1) (hc1 : k0_cond2 i = 1#1) (hc2 : ¬k0_cond3 i = 1#1)
    (x0 : Vec F S1024x2048 .bf16) (x1 : Vec F S1x192x2048 .f32) (s : Vec F S2x1536x2048 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (outBlock i hc1 x0 (putPiece i s x1)) ∗ owns (c : Thread nD τ) arg5 fullShare (putPiece i s x1)) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact hc0 | sl_exact hc1 | sl_exact hc2)
  sl_step
  have hput : View.read (Elt F) arg5.view (arg5.view.writes (Elt F) (harg5.unread s) (run_B.sl.HS_1 c i arg3 harg3 hc0 x1)) = putPiece i s x1 := by
    unfold run_B.sl.HS_1
    rw [View.read_writes_cons_put _ _ _ _ _ rfl, View.writes_nil, hfs]
    unfold putPiece
    exact congrArg (fun X => VecWindow.put s (k0_off1 i) S1x192x2048.size (k0_pay1 X)) ((View.readAt_full (s := S1x192x2048) _ _ _).trans hf1)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_full (s := S1024x1536)]
    refine congr (congrArg k0_pay2 ((View.readAt_full (s := S1024x2048) _ _ _).trans hf0)) ?_
    exact congrArg (fun X => View.ld X _) hput
  iexists _; isplitr
  swap; · iexact HS
  ipureintro
  exact hput

set_option maxHeartbeats 1000000 in
theorem run_G (c : Dev nD) (i : grid0.Coords) (arg2 : Memref sig .tc .vmem S1024x2048 .bf16) (harg2 : arg2.IsWhole) (arg3 : Memref sig .tc .vmem S1x192x2048 .f32) (harg3 : arg3.IsWhole) (arg4 : Memref sig .tc .vmem S1024x1536 .bf16) (harg4 : arg4.IsWhole) (arg5 : Memref sig .tc .vmem S2x1536x2048 .bf16) (harg5 : arg5.IsWhole) (hc0 : k0_cond1 i = 1#1) (hc1 : ¬k0_cond2 i = 1#1) (hc2 : k0_cond3 i = 1#1)
    (x0 : Vec F S1024x2048 .bf16) (x1 : Vec F S1x192x2048 .f32) (s : Vec F S2x1536x2048 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (outGate i hc2 x0 (putPiece i s x1)) ∗ owns (c : Thread nD τ) arg5 fullShare (putPiece i s x1)) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | sl_exact hc0 | sl_exact hc1 | sl_exact hc2)
  sl_step
  have hput : View.read (Elt F) arg5.view (arg5.view.writes (Elt F) (harg5.unread s) (run_G.sl.HS_1 c i arg3 harg3 hc0 x1)) = putPiece i s x1 := by
    unfold run_G.sl.HS_1
    rw [View.read_writes_cons_put _ _ _ _ _ rfl, View.writes_nil, hfs]
    unfold putPiece
    exact congrArg (fun X => VecWindow.put s (k0_off1 i) S1x192x2048.size (k0_pay1 X)) ((View.readAt_full (s := S1x192x2048) _ _ _).trans hf1)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_full (s := S1024x1536)]
    refine congr (congrArg k0_pay3 ((View.readAt_full (s := S1024x2048) _ _ _).trans hf0)) ?_
    exact congrArg (fun X => View.ld X _) hput
  iexists _; isplitr
  swap; · iexact HS
  ipureintro
  exact hput

set_option maxHeartbeats 1000000 in
theorem run_C (c : Dev nD) (i : grid0.Coords) (arg2 : Memref sig .tc .vmem S1024x2048 .bf16) (harg2 : arg2.IsWhole) (arg3 : Memref sig .tc .vmem S1x192x2048 .f32) (harg3 : arg3.IsWhole) (arg4 : Memref sig .tc .vmem S1024x1536 .bf16) (harg4 : arg4.IsWhole) (arg5 : Memref sig .tc .vmem S2x1536x2048 .bf16) (harg5 : arg5.IsWhole) (hc0 : ¬k0_cond1 i = 1#1) (hc1 : ¬k0_cond2 i = 1#1) (hc2 : k0_cond3 i = 1#1)
    (x0 : Vec F S1024x2048 .bf16) (s : Vec F S2x1536x2048 .bf16) (E : Set ℕ) (K : PUnit → sProp (MT nD τ sig Unit (Elt F) ℕ (UR sig nD τ) ℕ)) :
    iprop(owns (c : Thread nD τ) arg2 fullShare x0 ∗ (∃ d, owns (c : Thread nD τ) arg4 fullShare d) ∗ owns (c : Thread nD τ) arg5 fullShare s
        ∗ (iprop(owns (c : Thread nD τ) arg2 fullShare x0 ∗ owns (c : Thread nD τ) arg4 fullShare (outGate i hc2 x0 s) ∗ owns (c : Thread nD τ) arg5 fullShare s) -∗ K ⟨⟩))
      ⊢ wp frame (wpE (defs₀ (F := F)) Variants.none c none) E (cc0_in_projection i arg2 harg2 arg3 harg3 arg4 harg4 arg5 harg5) K := by
  simp only [cc0_in_projection_eq_skeleton]; unfold cc0_in_projection_skel
  unfold owns
  iintro ⟨⟨%f0, %hf0, H0⟩, ⟨%d2, %f2, -, H2⟩, ⟨%fs, %hfs, HS⟩, Hk⟩
  obtain rfl := harg2.eq_unread hf0; obtain rfl := harg5.eq_unread hfs
  sl_exec (disch := first | sl_exact hc0 | sl_exact hc1 | sl_exact hc2)
  sl_step
  iapply Hk
  isplitl [H0]
  · iexists _; isplitr; · ipureintro; exact harg2.read_unread _
    iexact H0
  isplitl [H2]
  · iexists _; isplitr
    swap; · iexact H2
    ipureintro
    rw [View.read_writes_full (s := S1024x1536)]
    refine congr (congrArg k0_pay3 ((View.readAt_full (s := S1024x2048) _ _ _).trans hf0)) ?_
    exact congrArg (fun X => View.ld X _) hfs
  iexists _; isplitr; · ipureintro; exact hfs
  iexact HS

end Cert.ProjIdeal.Gen

end
-- ==== Proof.ProjDatI.lean ====
module

public import proofs.«01_k».proof.Proof.ProjRunI
public import Idealize.ShloMosaic.Lib.Pipeline.Value
public import Idealize.ShloMosaic.Lib.Claim
public import Idealize.ShloMosaic.Lib.ValueIdxCore

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The points -/

theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)
theorem hcond1 : ∀ t : Fin cfg0.N, k0_cond1 (grid0.coords t) = 1#1 ↔ t.val < 72 :=
  (by decide +kernel : ∀ t : Fin grid0.N, k0_cond1 (grid0.coords t) = 1#1 ↔ t.val < 72)
theorem hcond2 : ∀ t : Fin cfg0.N, k0_cond2 (grid0.coords t) = 1#1 ↔ (8 ≤ t.val ∧ t.val < 48) :=
  (by decide +kernel : ∀ t : Fin grid0.N, k0_cond2 (grid0.coords t) = 1#1 ↔ (8 ≤ t.val ∧ t.val < 48))
theorem hcond3 : ∀ t : Fin cfg0.N, k0_cond3 (grid0.coords t) = 1#1 ↔ 48 ≤ t.val :=
  (by decide +kernel : ∀ t : Fin grid0.N, k0_cond3 (grid0.coords t) = 1#1 ↔ 48 ≤ t.val)
theorem flush2 : ∀ t : Fin cfg0.N, (cfg0.win 2).flush t = decide (8 ≤ t.val) :=
  (by decide +kernel : ∀ t : Fin grid0.N, win0_2.flush t = decide (8 ≤ t.val))

/-! ## What the scratch holds -/

/-- The weight piece the point fetched, rounded. -/
def pieceAt (c : Dev nD) (t : Fin cfg0.N) : Vec F S1x192x2048 .bf16 := k0_pay1 (iblk m c 1 t)

/-- The pieces of the last sixteen points with a piece are in their places. -/
def Good (c : Dev nD) (n : ℕ) (s : Vec F S2x1536x2048 .bf16) : Prop :=
  ∀ t : Fin cfg0.N, t.val < 72 → t.val < n → n ≤ t.val + 16 → ∀ (y : S1x192x2048.Idx) (x : S2x1536x2048.Idx),
    (x 0).val = t.val / 8 % 2 → (x 1).val = 192 * (t.val % 8) + (y 1).val → (x 2).val = (y 2).val → s x = pieceAt m c t y

theorem point_lt (t : Fin cfg0.N) (k : ℕ) (hk : k < 1536) : 8 * (t.val / 8 - 1) + k / 192 < cfg0.N := by
  have h : t.val < 80 := lt_of_lt_of_eq t.isLt (show cfg0.N = 80 from N_0)
  have e : cfg0.N = 80 := N_0
  omega

/-- The chunk of weights a point with a block multiplies by: its eight pieces. -/
def slotAt (c : Dev nD) (t : Fin cfg0.N) : Vec F S1x1536x2048 .bf16 := fun y =>
  pieceAt m c ⟨8 * (t.val / 8 - 1) + (y 1).val / 192, point_lt t _ (y 1).isLt⟩
    (ValueIdx.ix3 (n0 := 1) (n1 := 192) (n2 := 2048) 0 ⟨(y 1).val % 192, Nat.mod_lt _ (by decide)⟩ (y 2))

theorem good_zero (c : Dev nD) (s : Vec F S2x1536x2048 .bf16) : Good m c 0 s := fun t _ h => absurd h (Nat.not_lt_zero _)

theorem good_put (c : Dev nD) (t : Fin cfg0.N) (ht : t.val < 72) (s : Vec F S2x1536x2048 .bf16) (h : Good m c t.val s) :
    Good m c (t.val + 1) (putPiece (grid0.coords t) s (iblk m c 1 t)) := by
  intro u hu hlt hle y x hx0 hx1 hx2
  unfold putPiece VecWindow.put
  have e := off1_eq (grid0.coords t)
  rw [coords0, coords1] at e
  have y1 : (y 1).val < 192 := (y 1).isLt
  have y2 : (y 2).val < 2048 := (y 2).isLt
  have y0 : (y 0).val < 1 := (y 0).isLt
  by_cases hut : u.val = t.val
  · obtain rfl : u = t := Fin.ext hut
    have hin : ∀ a, (k0_off1 (grid0.coords u)) a ≤ (x a).val ∧ (x a).val < (k0_off1 (grid0.coords u)) a + S1x192x2048.size a := by
      rw [e]; intro a
      fin_cases a
      · show u.val / 8 % 2 ≤ (x 0).val ∧ (x 0).val < u.val / 8 % 2 + 1; omega
      · show 192 * (u.val % 8) ≤ (x 1).val ∧ (x 1).val < 192 * (u.val % 8) + 192; omega
      · show 0 ≤ (x 2).val ∧ (x 2).val < 0 + 2048; omega
    rw [dif_pos hin]
    unfold pieceAt
    refine congrArg _ (funext fun a => Fin.ext ?_)
    show (x a).val - (k0_off1 (grid0.coords u)) a = (y a).val
    rw [e]
    fin_cases a
    · show (x 0).val - u.val / 8 % 2 = (y 0).val; omega
    · show (x 1).val - 192 * (u.val % 8) = (y 1).val; omega
    · show (x 2).val - 0 = (y 2).val; omega
  · have hout : ¬ ∀ a, (k0_off1 (grid0.coords t)) a ≤ (x a).val ∧ (x a).val < (k0_off1 (grid0.coords t)) a + S1x192x2048.size a := by
      rw [e]; intro hall
      have h0 : t.val / 8 % 2 ≤ (x 0).val ∧ (x 0).val < t.val / 8 % 2 + 1 := hall 0
      have h1 : 192 * (t.val % 8) ≤ (x 1).val ∧ (x 1).val < 192 * (t.val % 8) + 192 := hall 1
      omega
    rw [dif_neg hout]
    exact h u hu (by omega) (by omega) y x hx0 hx1 hx2

theorem good_keep (c : Dev nD) (t : Fin cfg0.N) (ht : ¬ t.val < 72) (s : Vec F S2x1536x2048 .bf16) (h : Good m c t.val s) :
    Good m c (t.val + 1) s := fun u hu hlt hle y x => h u hu (by omega) (by omega) y x

theorem idx_unit_val' {s : Shape} (off size : Fin s.rank → ℕ) (inb) (j : (Rect.unit (s := s) off size inb).shape.Idx) (a : Fin s.rank) :
    ((Rect.unit (s := s) off size inb).idx j a).val = off a + (j a).val := by
  show off a + 1 * (j a).val = _
  rw [Nat.one_mul]

/-- A point with a block reads the chunk before the one being filled. -/
theorem ld_slot (c : Dev nD) (t : Fin cfg0.N) (ht : 8 ≤ t.val) (s : Vec F S2x1536x2048 .bf16) (h : Good m c (t.val + 1) s) (inb) :
    View.ld s (Rect.unit (s := S2x1536x2048) (k0_off2 (grid0.coords t)) S1x1536x2048.size inb) = slotAt m c t := by
  funext y
  have hN : t.val < 80 := lt_of_lt_of_eq t.isLt (show cfg0.N = 80 from N_0)
  have e := off2_eq (grid0.coords t)
  rw [coords0] at e
  have y1 : (y 1).val < 1536 := (y 1).isLt
  have y0 : (y 0).val < 1 := (y 0).isLt
  refine h _ ?_ ?_ ?_ _ _ ?_ ?_ ?_
  · show 8 * (t.val / 8 - 1) + (y 1).val / 192 < 72; omega
  · show 8 * (t.val / 8 - 1) + (y 1).val / 192 < t.val + 1; omega
  · show t.val + 1 ≤ 8 * (t.val / 8 - 1) + (y 1).val / 192 + 16; omega
  · refine (idx_unit_val' _ _ inb y 0).trans ((congrArg (fun n : ℕ => n + (y 0).val) (congrFun e 0)).trans ?_)
    show (t.val / 8 + 1) % 2 + (y 0).val = (8 * (t.val / 8 - 1) + (y 1).val / 192) / 8 % 2; omega
  · refine (idx_unit_val' _ _ inb y 1).trans ((congrArg (fun n : ℕ => n + (y 1).val) (congrFun e 1)).trans ?_)
    show 0 + (y 1).val = 192 * ((8 * (t.val / 8 - 1) + (y 1).val / 192) % 8) + (y 1).val % 192; omega
  · refine (idx_unit_val' _ _ inb y 2).trans ((congrArg (fun n : ℕ => n + (y 2).val) (congrFun e 2)).trans ?_)
    exact Nat.zero_add _

theorem outBlock_eq (c : Dev nD) (t : Fin cfg0.N) (ht : 8 ≤ t.val) (hc : k0_cond2 (grid0.coords t) = 1#1)
    (x0 : Vec F S1024x2048 .bf16) (s : Vec F S2x1536x2048 .bf16) (h : Good m c (t.val + 1) s) :
    outBlock (grid0.coords t) hc x0 s = k0_pay2 x0 (slotAt m c t) := by
  unfold outBlock; rw [ld_slot m c t ht s h]

/-- A point with a gate block reads the chunk before the one being filled. -/
theorem ld_slot3 (c : Dev nD) (t : Fin cfg0.N) (ht : 8 ≤ t.val) (s : Vec F S2x1536x2048 .bf16) (h : Good m c (t.val + 1) s) (inb) :
    View.ld s (Rect.unit (s := S2x1536x2048) (k0_off3 (grid0.coords t)) S1x1536x2048.size inb) = slotAt m c t := by
  funext y
  have hN : t.val < 80 := lt_of_lt_of_eq t.isLt (show cfg0.N = 80 from N_0)
  have e := off3_eq (grid0.coords t)
  rw [coords0] at e
  have y1 : (y 1).val < 1536 := (y 1).isLt
  have y0 : (y 0).val < 1 := (y 0).isLt
  refine h _ ?_ ?_ ?_ _ _ ?_ ?_ ?_
  · show 8 * (t.val / 8 - 1) + (y 1).val / 192 < 72; omega
  · show 8 * (t.val / 8 - 1) + (y 1).val / 192 < t.val + 1; omega
  · show t.val + 1 ≤ 8 * (t.val / 8 - 1) + (y 1).val / 192 + 16; omega
  · refine (idx_unit_val' _ _ inb y 0).trans ((congrArg (fun n : ℕ => n + (y 0).val) (congrFun e 0)).trans ?_)
    show (t.val / 8 + 1) % 2 + (y 0).val = (8 * (t.val / 8 - 1) + (y 1).val / 192) / 8 % 2; omega
  · refine (idx_unit_val' _ _ inb y 1).trans ((congrArg (fun n : ℕ => n + (y 1).val) (congrFun e 1)).trans ?_)
    show 0 + (y 1).val = 192 * ((8 * (t.val / 8 - 1) + (y 1).val / 192) % 8) + (y 1).val % 192; omega
  · refine (idx_unit_val' _ _ inb y 2).trans ((congrArg (fun n : ℕ => n + (y 2).val) (congrFun e 2)).trans ?_)
    exact Nat.zero_add _

theorem outGate_eq (c : Dev nD) (t : Fin cfg0.N) (ht : 8 ≤ t.val) (hc : k0_cond3 (grid0.coords t) = 1#1)
    (x0 : Vec F S1024x2048 .bf16) (s : Vec F S2x1536x2048 .bf16) (h : Good m c (t.val + 1) s) :
    outGate (grid0.coords t) hc x0 s = k0_pay3 x0 (slotAt m c t) := by
  unfold outGate; rw [ld_slot3 m c t ht s h]

/-- What a point leaves in its block: the matmul, through the gate function from the point 48 on. -/
def outAt (c : Dev nD) (t : Fin cfg0.N) : Vec F S1024x1536 .bf16 :=
  if t.val < 48 then k0_pay2 (iblk m c 0 t) (slotAt m c t) else k0_pay3 (iblk m c 0 t) (slotAt m c t)

/-! ## The proof data -/

abbrev scM0_0 : Memref sig .tc .vmem S2x1536x2048 .bf16 := Memref.whole cc0_scratch0

theorem PhiA0_eq (c : Dev nD) :
    (Pipeline.ΦA spec0 c : sProp (MT nD τ sig Unit (Elt F) ℕ (UR sig nD τ) ℕ))
      = iprop((∃ d, owns (c : Thread nD τ) scM0_0 fullShare d) ∗ (∃ r, prngReg c r)) := by
  unfold Pipeline.ΦA; rw [scopedRest0_eq]; simp only [scM0_0, owns_whole]; try rfl

/-- Between points: the scratch with the recent pieces in place, and the generator register at some state. -/
def PhiS (c : Dev nD) (n : ℕ) : sProp (MT nD τ sig Unit (Elt F) ℕ (UR sig nD τ) ℕ) :=
  iprop((∃ s, ⌜Good m c n s⌝ ∗ owns (c : Thread nD τ) scM0_0 fullShare s) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What a point without a block returns: the block's buffer as it was. -/
def bodyPostA (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ (∃ d, owns (c : Thread nD τ) (win0_2.stage (cfg0.slots t 2)) fullShare ((dats m 0 c).before 2 t d)))

/-- What a point with a block returns. -/
def bodyPostB (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

set_option maxHeartbeats 1000000 in
theorem sound_A (c : Dev nD) (t : Fin cfg0.N) (ht : ¬ 8 ≤ t.val) :
    bodyPre m c t ⊢ wp frame (wpE (defs₀ (F := F)) Variants.none c none) Set.univ (bodyAt0 t) (fun _ => bodyPostA m c t) := by
  unfold bodyPre bodyPostA bodyAt0
  simp only [before0_0, before0_1]
  rw [show (dats m 0 c).owesAt () t.succ = (dats m 0 c).owesAt () t.castSucc from rfl, after0_0, after0_1]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, H2⟩
  iapply (run_A c (grid0.coords t) _ _ _ _ _ _ _ _ ((hcond1 t).mpr (by omega)) (fun h => ht ((hcond2 t).mp h).1) (fun h => ht (le_trans (by decide) ((hcond3 t).mp h))) (iblk m c 1 t) s Set.univ _)
  isplitl [H1]; · iexact H1
  isplitl [HS]; · iexact HS
  iintro ⟨H1, HS⟩
  isplitl [HS Hg]
  · isplitl [HS]
    · iexists _; isplitr
      swap; · iexact HS
      ipureintro; exact good_put m c t (by omega) s hs
    iexact Hg
  isplitl [Ho]; · iexact Ho
  isplitl [H0]; · iexact H0
  isplitl [H1]; · iexact H1
  iexact H2

set_option maxHeartbeats 1000000 in
theorem sound_B (c : Dev nD) (t : Fin cfg0.N) (ht : 8 ≤ t.val) (hb : t.val < 48) :
    bodyPre m c t ⊢ wp frame (wpE (defs₀ (F := F)) Variants.none c none) Set.univ (bodyAt0 t) (fun _ => bodyPostB m c t) := by
  unfold bodyPre bodyPostB bodyAt0
  simp only [before0_0, before0_1]
  rw [show (dats m 0 c).owesAt () t.succ = (dats m 0 c).owesAt () t.castSucc from rfl, after0_0, after0_1, after0_2, outAt, if_pos hb]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, ⟨%d2, H2⟩⟩
  have hg := good_put m c t (by omega) s hs
  rw [← outBlock_eq m c t ht ((hcond2 t).mpr ⟨ht, hb⟩) (iblk m c 0 t) _ hg]
  iapply (run_B c (grid0.coords t) _ _ _ _ _ _ _ _ ((hcond1 t).mpr (by omega)) ((hcond2 t).mpr ⟨ht, hb⟩) (fun h => absurd ((hcond3 t).mp h) (by omega)) (iblk m c 0 t) (iblk m c 1 t) s Set.univ _)
  isplitl [H0]; · iexact H0
  isplitl [H1]; · iexact H1
  isplitl [H2]; · iexists _; iexact H2
  isplitl [HS]; · iexact HS
  iintro ⟨H0, H1, H2, HS⟩
  isplitl [HS Hg]
  · isplitl [HS]
    · iexists _; isplitr
      swap; · iexact HS
      ipureintro; exact hg
    iexact Hg
  isplitl [Ho]; · iexact Ho
  isplitl [H0]; · iexact H0
  isplitl [H1]; · iexact H1
  iexact H2

set_option maxHeartbeats 1000000 in
theorem sound_G (c : Dev nD) (t : Fin cfg0.N) (ht : 8 ≤ t.val) (hb : ¬ t.val < 48) :
    bodyPre m c t ⊢ wp frame (wpE (defs₀ (F := F)) Variants.none c none) Set.univ (bodyAt0 t) (fun _ => bodyPostB m c t) := by
  unfold bodyPre bodyPostB bodyAt0
  simp only [before0_0, before0_1]
  rw [show (dats m 0 c).owesAt () t.succ = (dats m 0 c).owesAt () t.castSucc from rfl, after0_0, after0_1, after0_2, outAt, if_neg hb]
  rw [show (dats m 0 c).Φ t.succ = PhiS m c (t.val + 1) from rfl, show (dats m 0 c).Φ t.castSucc = PhiS m c t.val from rfl]
  unfold PhiS
  iintro ⟨⟨⟨%s, %hs, HS⟩, Hg⟩, Ho, ⟨%d0, H0⟩, ⟨%d1, H1⟩, ⟨%d2, H2⟩⟩
  by_cases h72 : t.val < 72
  · have hg := good_put m c t h72 s hs
    rw [← outGate_eq m c t ht ((hcond3 t).mpr (by omega)) (iblk m c 0 t) _ hg]
    iapply (run_G c (grid0.coords t) _ _ _ _ _ _ _ _ ((hcond1 t).mpr h72) (fun h => absurd ((hcond2 t).mp h).2 hb) ((hcond3 t).mpr (by omega)) (iblk m c 0 t) (iblk m c 1 t) s Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    iexact H2
  · have hg := good_keep m c t h72 s hs
    rw [← outGate_eq m c t ht ((hcond3 t).mpr (by omega)) (iblk m c 0 t) _ hg]
    iapply (run_C c (grid0.coords t) _ _ _ _ _ _ _ _ (fun h => h72 ((hcond1 t).mp h)) (fun h => absurd ((hcond2 t).mp h).2 hb) ((hcond3 t).mpr (by omega)) (iblk m c 0 t) s Set.univ _)
    isplitl [H0]; · iexact H0
    isplitl [H2]; · iexists _; iexact H2
    isplitl [HS]; · iexact HS
    iintro ⟨H0, H2, HS⟩
    isplitl [HS Hg]
    · isplitl [HS]
      · iexists _; isplitr
        swap; · iexact HS
        ipureintro; exact hg
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases ht : 8 ≤ t.val
  · have hi : cfg0.idle 2 (cfg0.grid.coords t) = false := by
      show (!(k0_cond2 (grid0.coords t) == 1#1) && !(k0_cond3 (grid0.coords t) == 1#1)) = false
      by_cases hb : t.val < 48
      · rw [(hcond2 t).mpr ⟨ht, hb⟩]; rfl
      · rw [(hcond3 t).mpr (by omega)]; exact Bool.and_false _
    by_cases hb : t.val < 48
    · refine triple_restated (sound_B m c t ht hb) rfl (by exact Idealize.SL.BI.Entails.refl _) fun _ => ?_
      rw [hi]
      exact Idealize.SL.BI.Entails.refl _
    · refine triple_restated (sound_G m c t ht hb) rfl (by exact Idealize.SL.BI.Entails.refl _) fun _ => ?_
      rw [hi]
      exact Idealize.SL.BI.Entails.refl _
  · have hi : cfg0.idle 2 (cfg0.grid.coords t) = true := by
      show (!(k0_cond2 (grid0.coords t) == 1#1) && !(k0_cond3 (grid0.coords t) == 1#1)) = true
      rw [Bool.and_eq_true, Bool.not_eq_true', Bool.not_eq_true', beq_eq_false_iff_ne, beq_eq_false_iff_ne]
      exact ⟨fun h => ht ((hcond2 t).mp h).1, fun h => ht (le_trans (by decide) ((hcond3 t).mp h))⟩
    have hf : (cfg0.win 2).flush t = false := (flush2 t).trans (decide_eq_false ht)
    refine triple_restated (sound_A m c t ht) rfl (by exact Idealize.SL.BI.Entails.refl _) fun _ => ?_
    rw [hi, hf]
    exact Idealize.SL.BI.Entails.refl _

theorem hin (c : Dev nD) : Pipeline.ΦA spec0 c ⊢ (dats m 0 c).Φ 0 := by
  rw [show (dats m 0 c).Φ 0 = PhiS m c 0 from rfl, PhiA0_eq]
  unfold PhiS
  iintro ⟨⟨%s, HS⟩, Hg⟩
  isplitl [HS]
  · iexists s; isplitr
    swap; · iexact HS
    ipureintro; exact good_zero m c s
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%s, %hs, HS⟩, Hg⟩
  isplitl [HS]
  · iexists s; iexact HS
  iexact Hg

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.ProjIdeal.Gen

end
-- ==== Proof.ProjVal.lean ====
module

public import proofs.«01_k».proof.Proof.ProjDatI
public import proofs.«01_k».proof.Proof.Gen.ProjReferenceIdeal.Run
public import Idealize.ShloMosaic.Lib.Pipeline.ValueKit
public import Idealize.ShloMosaic.Lib.Pointwise
public import Idealize.ShloMosaic.Lib.KernelVsHost
public import Idealize.ShloMosaic.Lib.StableHlo.ReadAt
public import Idealize.ShloMosaic.PureOps.Ideal.Laws
public import Idealize.ShloMosaic.Lib.IdealHost

@[expose] public section

set_option maxRecDepth 16384

noncomputable section

namespace Cert.Proof.Proj

open Idealize.ShloMosaic Idealize.ShloMosaic.TcCoe Idealize.ShloMosaic.Tactic Idealize.SL.Sem Cert.ProjIdeal Cert.ProjIdeal.Gen

/-! ## The gate function -/

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = 1 := by
  simp [Ideal.ofBits, Ideal.ieee, -EReal.coe_mul]; norm_num

theorem real_half (r : ℝ) : 1 / 2 * Real.tanh (1 / 2 * r) + 1 / 2 = (1 + Real.exp (-r))⁻¹ := by
  have hp : (0 : ℝ) < Real.exp (1 / 2 * r) := Real.exp_pos _
  have e : Real.exp (-r) = Real.exp (-(1 / 2 * r)) * Real.exp (-(1 / 2 * r)) := by rw [← Real.exp_add]; congr 1; ring
  have en : Real.exp (-(1 / 2 * r)) = (Real.exp (1 / 2 * r))⁻¹ := Real.exp_neg _
  rw [Real.tanh_eq_sinh_div_cosh, Real.sinh_eq, Real.cosh_eq, e, en]
  generalize Real.exp (1 / 2 * r) = u at hp
  have h1 : u + u⁻¹ ≠ 0 := by positivity
  have h2 : 1 + u⁻¹ * u⁻¹ ≠ 0 := by positivity
  field_simp
  ring

/-- Half the hyperbolic tangent of the half, plus a half, is the logistic function, at the infinities too. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) from by norm_num, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add, real_half]

/-! ## The kernel -/

/-- The column of the weights a column of the result is computed with: the 64 in between are left out. -/
def col (j : ℕ) : ℕ := if j < 6144 then j else j + 64

theorem col_lt (j : ℕ) (h : j < 13824) : col j < 13888 := by unfold col; split <;> omega

/-- The dot of a row with a column of layer 0's weights. -/
def dotAt (h : Vec Ideal S8192x2048 .bf16) (w : Vec Ideal S2x2048x13888 .f32) (a : Fin 8192) (j : Fin 13888) : EReal :=
  ∑ k : Fin 2048, (h (ix2 (n0 := 8192) (n1 := 2048) a k) : EReal) * w (ix3 (n0 := 2) (n1 := 2048) (n2 := 13888) 0 k j)

/-- The result at an index: the dot, through the logistic function from column 7680 on. -/
def projAt (h : Vec Ideal S8192x2048 .bf16) (w : Vec Ideal S2x2048x13888 .f32) (a : Fin 8192) (j : Fin 13824) : EReal :=
  if j.val < 7680 then dotAt h w a ⟨col j.val, col_lt _ j.isLt⟩ else Ideal.logistic (dotAt h w a ⟨col j.val, col_lt _ j.isLt⟩)

theorem pay1_at (x : Vec Ideal S1x192x2048 .f32) (y : S1x192x2048.Idx) : k0_pay1 (F := Ideal) x y = x y := by
  unfold k0_pay1
  pointwise

theorem pay2_at (x : Vec Ideal S1024x2048 .bf16) (s : Vec Ideal S1x1536x2048 .bf16) (y : S1024x1536.Idx) :
    k0_pay2 (F := Ideal) x s y
      = ∑ k : Fin 2048, (x (ix2 (n0 := 1024) (n1 := 2048) (y 0) k) : EReal) * s (ix3 (n0 := 1) (n1 := 1536) (n2 := 2048) 0 (y 1) k) := by
  unfold k0_pay2
  pointwise

theorem pay3_at (x : Vec Ideal S1024x2048 .bf16) (s : Vec Ideal S1x1536x2048 .bf16) (y : S1024x1536.Idx) :
    k0_pay3 (F := Ideal) x s y
      = Ideal.logistic (∑ k : Fin 2048, (x (ix2 (n0 := 1024) (n1 := 2048) (y 0) k) : EReal) * s (ix3 (n0 := 1) (n1 := 1536) (n2 := 2048) 0 (y 1) k)) := by
  unfold k0_pay3
  rw [← half_tanh, ← bits_half]
  pointwise

theorem sum_eq (x : Vec Ideal S1024x2048 .bf16) (s : Vec Ideal S1x1536x2048 .bf16) (h : Vec Ideal S8192x2048 .bf16) (w : Vec Ideal S2x2048x13888 .f32)
    (a : Fin 1024) (b : Fin 1536) (a' : Fin 8192) (b' : Fin 13888)
    (hx : ∀ k : Fin 2048, x (ix2 (n0 := 1024) (n1 := 2048) a k) = h (ix2 (n0 := 8192) (n1 := 2048) a' k))
    (hs : ∀ k : Fin 2048, s (ix3 (n0 := 1) (n1 := 1536) (n2 := 2048) 0 b k) = w (ix3 (n0 := 2) (n1 := 2048) (n2 := 13888) 0 k b')) :
    ∑ k : Fin 2048, (x (ix2 (n0 := 1024) (n1 := 2048) a k) : EReal) * s (ix3 (n0 := 1) (n1 := 1536) (n2 := 2048) 0 b k) = dotAt h w a' b' := by
  unfold dotAt
  exact Finset.sum_congr rfl fun k _ => congrArg₂ (fun p q : EReal => p * q) (hx k) (hs k)

variable (m : (ℓ : Loc nD τ sig) → Buf (Elt Ideal) ℓ) (c : Dev nD) (t : Fin cfg0.N)

theorem t_lt : t.val < 80 := lt_of_lt_of_eq t.isLt N_0

/-- The first column of a chunk of the weights. -/
def chunkCol (q : ℕ) : ℕ := if q < 4 then 1536 * q else 1536 * q + 64

theorem chunkCol_le (q : ℕ) (h : q < 9) : chunkCol q + 1536 ≤ 13888 := by unfold chunkCol; split <;> omega

theorem idx0 : ∀ t : Fin cfg0.N, 8 ≤ t.val → (cfg0.win 0).index t = ![t.val % 8, 0] :=
  (by decide +kernel : ∀ t : Fin grid0.N, 8 ≤ t.val → win0_0.index t = ![t.val % 8, 0])
theorem idx1 : ∀ t : Fin cfg0.N, t.val < 72 → (cfg0.win 1).index t = ![0, chunkCol (t.val / 8) + 192 * (t.val % 8), 0] :=
  (by decide +kernel : ∀ t : Fin grid0.N, t.val < 72 → win0_1.index t = ![0, chunkCol (t.val / 8) + 192 * (t.val % 8), 0])
theorem idx2 : ∀ t : Fin cfg0.N, 8 ≤ t.val → (cfg0.win 2).index t = ![t.val % 8, t.val / 8 - 1] :=
  (by decide +kernel : ∀ t : Fin grid0.N, 8 ≤ t.val → win0_2.index t = ![t.val % 8, t.val / 8 - 1])

theorem v0_at (y : S2x13888x2048.Idx) : (V m c main_v0 : Vec Ideal S2x13888x2048 .f32) y
    = (m ((c.tc : Thread nD τ).loc main_arg1) : Vec Ideal S2x2048x13888 .f32) (ix3 (n0 := 2) (n1 := 2048) (n2 := 13888) (y 0) (y 2) (y 1)) := by
  entry_read
  pointwise

theorem blk0 (ht : 8 ≤ t.val) (y : S1024x2048.Idx) : (iblk m c 0 t : Vec Ideal S1024x2048 .bf16) y
    = (m ((c.tc : Thread nD τ).loc main_arg0) : Vec Ideal S8192x2048 .bf16) (ix2 (n0 := 8192) (n1 := 2048)
      ⟨1024 * (t.val % 8) + (y 0).val, by have : (y 0).val < 1024 := (y 0).isLt; omega⟩ (y 1)) := by
  have h := t_lt t
  have e : (iblk m c 0 t : Vec Ideal S1024x2048 .bf16) y = (V m c main_arg0 : Vec Ideal S8192x2048 .bf16) (ix2 (n0 := 8192) (n1 := 2048)
      ⟨1024 * (t.val % 8) + (y 0).val, by have : (y 0).val < 1024 := (y 0).isLt; omega⟩ (y 1)) := by
    blk_ext [iblk, idx0 t ht]
  exact e.trans (congrFun (V_main_arg0 m c) _)

theorem blk1 (ht : t.val < 72) (y : S1x192x2048.Idx) : (iblk m c 1 t : Vec Ideal S1x192x2048 .f32) y
    = (V m c main_v0 : Vec Ideal S2x13888x2048 .f32) (ix3 (n0 := 2) (n1 := 13888) (n2 := 2048) 0
      ⟨chunkCol (t.val / 8) + 192 * (t.val % 8) + (y 1).val, by
        have : (y 1).val < 192 := (y 1).isLt
        have := chunkCol_le (t.val / 8) (by omega); omega⟩ (y 2)) := by
  have h := t_lt t
  have e := idx1 t ht
  blk_ext [iblk]
  · show (cfg0.win 1).index t (0 : Fin 3) + 1 * (y 0).val = 0
    rw [e]; show 0 + 1 * (y 0).val = 0; omega
  · show (cfg0.win 1).index t (1 : Fin 3) + 1 * (y 1).val = chunkCol (t.val / 8) + 192 * (t.val % 8) + (y 1).val
    rw [e]; show chunkCol (t.val / 8) + 192 * (t.val % 8) + 1 * (y 1).val = _; omega
  · show (cfg0.win 1).index t (2 : Fin 3) + 1 * (y 2).val = (y 2).val
    rw [e]; show 0 + 1 * (y 2).val = _; omega

theorem slot_at (ht : 8 ≤ t.val) (j : Fin 1536) (k : Fin 2048) :
    (slotAt m c t : Vec Ideal S1x1536x2048 .bf16) (ix3 (n0 := 1) (n1 := 1536) (n2 := 2048) 0 j k)
      = (m ((c.tc : Thread nD τ).loc main_arg1) : Vec Ideal S2x2048x13888 .f32) (ix3 (n0 := 2) (n1 := 2048) (n2 := 13888) 0 k
        ⟨chunkCol (t.val / 8 - 1) + j.val, by have := t_lt t; have := chunkCol_le (t.val / 8 - 1) (by omega); omega⟩) := by
  have h := t_lt t
  have hk := j.isLt
  unfold slotAt pieceAt
  rw [pay1_at, blk1 m c _ (by show 8 * (t.val / 8 - 1) + j.val / 192 < 72; omega), v0_at]
  refine congrArg _ (congrArg (ix3 (n0 := 2) (n1 := 2048) (n2 := 13888) 0 k) (Fin.ext ?_))
  show chunkCol ((8 * (t.val / 8 - 1) + j.val / 192) / 8) + 192 * ((8 * (t.val / 8 - 1) + j.val / 192) % 8) + j.val % 192 = chunkCol (t.val / 8 - 1) + j.val
  rw [show (8 * (t.val / 8 - 1) + j.val / 192) / 8 = t.val / 8 - 1 by omega]
  omega

theorem col_chunk (q b : ℕ) (hb : b < 1536) : chunkCol q + b = col (1536 * q + b) := by
  unfold chunkCol col; split <;> split <;> omega

/-- What a point with a block leaves in it. -/
theorem block_at (ht : 8 ≤ t.val) (a : Fin 1024) (b : Fin 1536) :
    outAt m c t (ix2 (n0 := 1024) (n1 := 1536) a b)
      = projAt (m ((c.tc : Thread nD τ).loc main_arg0)) (m ((c.tc : Thread nD τ).loc main_arg1))
        ⟨1024 * (t.val % 8) + a.val, by omega⟩ ⟨1536 * (t.val / 8 - 1) + b.val, by have := t_lt t; omega⟩ := by
  have h := t_lt t
  have hb := b.isLt
  have e : chunkCol (t.val / 8 - 1) + b.val = col (1536 * (t.val / 8 - 1) + b.val) := col_chunk _ _ b.isLt
  have es := sum_eq (iblk m c 0 t) (slotAt m c t) (m ((c.tc : Thread nD τ).loc main_arg0)) (m ((c.tc : Thread nD τ).loc main_arg1)) a b
    ⟨1024 * (t.val % 8) + a.val, by omega⟩ ⟨col (1536 * (t.val / 8 - 1) + b.val), col_lt _ (by omega)⟩
    (fun k => blk0 m c t ht _) (fun k => (slot_at m c t ht b k).trans (congrArg _ (congrArg (ix3 (n0 := 2) (n1 := 2048) (n2 := 13888) 0 k) (Fin.ext e))))
  unfold outAt projAt
  by_cases hl : t.val < 48
  · rw [if_pos hl, if_pos (show 1536 * (t.val / 8 - 1) + b.val < 7680 by omega)]
    exact (pay2_at _ _ _).trans es
  · rw [if_neg hl, if_neg (show ¬ 1536 * (t.val / 8 - 1) + b.val < 7680 by omega)]
    exact (pay3_at _ _ _).trans (congrArg Ideal.logistic es)

/-- The whole result. -/
def G : Vec Ideal S8192x13824 .bf16 := fun i =>
  projAt (m ((c.tc : Thread nD τ).loc main_arg0)) (m ((c.tc : Thread nD τ).loc main_arg1)) (i 0) (i 1)

theorem flushed_eq (hf : (cfg0.win 2).flush t = true) :
    (dats m 0 c).flushed 2 t = ((cfg0.win 2).blk t).view.read (Elt Ideal) (G m c) := by
  have ht : 8 ≤ t.val := by
    have := (flush2 t).symm.trans hf
    exact of_decide_eq_true this
  show (cfg0.win 2).cut (grid0.coords t) ((dats m 0 c).after 2 t) = _
  rw [after0_2]
  have e := idx2 t ht
  have h := t_lt t
  funext y
  have hy0 : (y 0).val < 1024 := (y 0).isLt
  have hy1 : (y 1).val < 1536 := (y 1).isLt
  have e0 : ((((cfg0.win 2).blk t).view.emb y) : S8192x13824.Idx) = ix2 (n0 := 8192) (n1 := 13824)
      ⟨1024 * (t.val % 8) + (y 0).val, by omega⟩ ⟨1536 * (t.val / 8 - 1) + (y 1).val, by omega⟩ := by
    funext a
    apply Fin.ext
    match a with
    | ⟨0, _⟩ =>
      show (cfg0.win 2).index t (0 : Fin 2) * 1024 + 1 * (y 0).val = 1024 * (t.val % 8) + (y 0).val
      rw [e]; show t.val % 8 * 1024 + 1 * (y 0).val = _; omega
    | ⟨1, _⟩ =>
      show (cfg0.win 2).index t (1 : Fin 2) * 1536 + 1 * (y 1).val = 1536 * (t.val / 8 - 1) + (y 1).val
      rw [e]; show (t.val / 8 - 1) * 1536 + 1 * (y 1).val = _; omega
  have hx : (((cfg0.win 2).xinj (grid0.coords t) y) : S1024x1536.Idx) = ix2 (n0 := 1024) (n1 := 1536) ⟨(y 0).val, hy0⟩ ⟨(y 1).val, hy1⟩ := by
    funext a
    match a with
    | ⟨0, _⟩ => rfl
    | ⟨1, _⟩ => rfl
  show outAt m c t ((cfg0.win 2).xinj (grid0.coords t) y) = G m c (((cfg0.win 2).blk t).view.emb y)
  rw [hx, e0]
  exact block_at m c t ht _ _

theorem mem_blk (i : S8192x13824.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v1).slice (win0_2.rect t)).set ↔ _
  rw [View.set_slice_whole, Rect.mem_set_unit]
  exact Iff.rfl

theorem final : (dats m 0 c).arrAt 2 cfg0.N = G m c :=
  (dats m 0 c).arrAt_eq_of_cover 2 _ (fun t hf => flushed_eq m c t hf) fun i => by
    have hi0 : (i 0).val < 8192 := (i 0).isLt
    have hi1 : (i 1).val < 13824 := (i 1).isLt
    have hN : 8 * ((i 1).val / 1536 + 1) + (i 0).val / 1024 < cfg0.N := by
      rw [show cfg0.N = 80 from N_0]; omega
    have ht : 8 ≤ 8 * ((i 1).val / 1536 + 1) + (i 0).val / 1024 := by omega
    have e := idx2 ⟨_, hN⟩ ht
    refine ⟨⟨_, hN⟩, (flush2 _).trans (decide_eq_true ht), ?_⟩
    rw [mem_blk]
    have q0 : win0_2.index ⟨_, hN⟩ (0 : Fin 2) = (8 * ((i 1).val / 1536 + 1) + (i 0).val / 1024) % 8 := congrFun e 0
    have q1 : win0_2.index ⟨_, hN⟩ (1 : Fin 2) = (8 * ((i 1).val / 1536 + 1) + (i 0).val / 1024) / 8 - 1 := congrFun e 1
    intro a
    match a with
    | ⟨0, _⟩ =>
      show win0_2.index ⟨_, hN⟩ (0 : Fin 2) * 1024 ≤ (i 0).val ∧ (i 0).val < win0_2.index ⟨_, hN⟩ (0 : Fin 2) * 1024 + 1024
      rw [q0]; omega
    | ⟨1, _⟩ =>
      show win0_2.index ⟨_, hN⟩ (1 : Fin 2) * 1536 ≤ (i 1).val ∧ (i 1).val < win0_2.index ⟨_, hN⟩ (1 : Fin 2) * 1536 + 1536
      rw [q1]; omega

theorem run (ρ : Dev nD → PrngReg) : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final m c), h.2 c⟩)
    (θ_run_and (run_main m ρ) (unchanged m ρ))

end Cert.Proof.Proj

namespace Cert.Proof.Proj.Ref

open Idealize.ShloMosaic Idealize.ShloMosaic.TcCoe Idealize.ShloMosaic.Tactic Idealize.SL.Sem Cert.ProjReferenceIdeal Cert.ProjReferenceIdeal.Gen

/-- The projection. -/
def mm (h : Vec Ideal S8192x2048 .bf16) (w : Vec Ideal S2x2048x13888 .f32) : FVec Ideal S8192x13888 .f32 :=
  Host.dotGeneral (F := Ideal) (φ₁ := .f32) (φ₂ := .f32) dot_S8192x2048_S2048x13888_S8192x13888_1_0_0_1_n_n none
    (extf .f32 h bitsLt_bf16_f32)
    (shapeCast S2048x13888 (extractStridedSlice S1x2048x13888 ![0, 0, 0] w slices_S2x2048x13888_S1x2048x13888_0_0_0) shapeCasts_S1x2048x13888_S2048x13888)

theorem mm_at (h : Vec Ideal S8192x2048 .bf16) (w : Vec Ideal S2x2048x13888 .f32) (i : S8192x13888.Idx) :
    mm h w i = dotAt h w (i 0) (i 1) := by
  unfold mm dotAt
  pointwise

/-- The columns left as they are. -/
def rest (p : FVec Ideal S8192x13888 .f32) : FVec Ideal S8192x6144 .f32 := extractStridedSlice S8192x6144 ![0, 0] p slices_S8192x13888_S8192x6144_0_0

theorem rest_at (p : FVec Ideal S8192x13888 .f32) (i : S8192x6144.Idx) :
    rest p i = p (ix2 (n0 := 8192) (n1 := 13888) (i 0) ⟨(i 1).val, by have : (i 1).val < 6144 := (i 1).isLt; omega⟩) := by
  unfold rest
  pointwise

/-- The context's queries, keys and values. -/
def qkv (p : FVec Ideal S8192x13888 .f32) : FVec Ideal S8192x1536 .f32 := extractStridedSlice S8192x1536 ![0, 6208] p slices_S8192x13888_S8192x1536_0_6208

theorem qkv_at (p : FVec Ideal S8192x13888 .f32) (i : S8192x1536.Idx) :
    qkv p i = p (ix2 (n0 := 8192) (n1 := 13888) (i 0) ⟨6208 + (i 1).val, by have : (i 1).val < 1536 := (i 1).isLt; omega⟩) := by
  unfold qkv
  pointwise

/-- The gates, through the logistic function. -/
def gates (p : FVec Ideal S8192x13888 .f32) : FVec Ideal S8192x6144 .f32 :=
  Host.divf (broadcastInDim S8192x6144 ![] bcast_S_S8192x6144 (constant S_ .f32 0x3F800000#32))
    (addf (broadcastInDim S8192x6144 ![] bcast_S_S8192x6144 (constant S_ .f32 0x3F800000#32))
      (Host.exp (Host.negf (extractStridedSlice S8192x6144 ![0, 7744] p slices_S8192x13888_S8192x6144_0_7744))))

theorem gates_at (p : FVec Ideal S8192x13888 .f32) (i : S8192x6144.Idx) :
    gates p i = Ideal.logistic (p (ix2 (n0 := 8192) (n1 := 13888) (i 0) ⟨7744 + (i 1).val, by have : (i 1).val < 6144 := (i 1).isLt; omega⟩)) := by
  unfold gates Ideal.logistic
  rw [← bits_one]
  pointwise

/-- The reference's result. -/
def res (h : Vec Ideal S8192x2048 .bf16) (w : Vec Ideal S2x2048x13888 .f32) : Vec Ideal S8192x13824 .bf16 :=
  truncf .bf16 (concatenate S8192x13824 1 [⟨S8192x6144, (rest (mm h w) : FVec Ideal S8192x6144 .f32)⟩, ⟨S8192x1536, qkv (mm h w)⟩, ⟨S8192x6144, gates (mm h w)⟩]
    concatenates_S8192x6144_S8192x1536_S8192x6144_S8192x13824_d1 : FVec Ideal S8192x13824 .f32) bitsLt_bf16_f32

theorem cat_at (h : Vec Ideal S8192x2048 .bf16) (w : Vec Ideal S2x2048x13888 .f32) (i : S8192x13824.Idx) :
    (concatenate S8192x13824 1 [⟨S8192x6144, (rest (mm h w) : FVec Ideal S8192x6144 .f32)⟩, ⟨S8192x1536, qkv (mm h w)⟩, ⟨S8192x6144, gates (mm h w)⟩]
    concatenates_S8192x6144_S8192x1536_S8192x6144_S8192x13824_d1 : FVec Ideal S8192x13824 .f32) i = projAt h w (i 0) (i 1) := by
  have hi : (i 1).val < 13824 := (i 1).isLt
  unfold projAt
  by_cases h1 : (i 1).val < 6144
  · rw [if_pos (show (i 1).val < 7680 by omega)]
    refine (concatenate_apply_piece 1 [⟨S8192x6144, (rest (mm h w) : FVec Ideal S8192x6144 .f32)⟩, ⟨S8192x1536, qkv (mm h w)⟩, ⟨S8192x6144, gates (mm h w)⟩] _ i 0 (show 0 < 3 by decide) S8192x6144 (rest (mm h w)) rfl rfl 0 rfl
      (ix2 (n0 := 8192) (n1 := 6144) (i 0) ⟨(i 1).val, h1⟩) (fun b hb => ?_) ?_).trans ?_
    · match b with
      | ⟨0, _⟩ => rfl
      | ⟨1, _⟩ => exact absurd rfl hb
    · exact Nat.zero_add _
    rw [rest_at, mm_at]
    exact congrArg (dotAt h w (i 0)) (Fin.ext (if_pos h1).symm)
  · have ec : col (i 1).val = (i 1).val + 64 := if_neg h1
    by_cases h2 : (i 1).val < 7680
    · rw [if_pos h2]
      refine (concatenate_apply_piece 1 [⟨S8192x6144, (rest (mm h w) : FVec Ideal S8192x6144 .f32)⟩, ⟨S8192x1536, qkv (mm h w)⟩, ⟨S8192x6144, gates (mm h w)⟩] _ i 1 (show 1 < 3 by decide) S8192x1536 (qkv (mm h w)) rfl rfl 6144 rfl
        (ix2 (n0 := 8192) (n1 := 1536) (i 0) ⟨(i 1).val - 6144, by omega⟩) (fun b hb => ?_) ?_).trans ?_
      · match b with
        | ⟨0, _⟩ => rfl
        | ⟨1, _⟩ => exact absurd rfl hb
      · show 6144 + ((i 1).val - 6144) = (i 1).val; omega
      rw [qkv_at, mm_at]
      exact congrArg (dotAt h w (i 0)) (Fin.ext (by show 6208 + ((i 1).val - 6144) = col (i 1).val; omega))
    · rw [if_neg h2]
      refine (concatenate_apply_piece 1 [⟨S8192x6144, (rest (mm h w) : FVec Ideal S8192x6144 .f32)⟩, ⟨S8192x1536, qkv (mm h w)⟩, ⟨S8192x6144, gates (mm h w)⟩] _ i 2 (show 2 < 3 by decide) S8192x6144 (gates (mm h w)) rfl rfl 7680 rfl
        (ix2 (n0 := 8192) (n1 := 6144) (i 0) ⟨(i 1).val - 7680, by omega⟩) (fun b hb => ?_) ?_).trans ?_
      · match b with
        | ⟨0, _⟩ => rfl
        | ⟨1, _⟩ => exact absurd rfl hb
      · show 7680 + ((i 1).val - 7680) = (i 1).val; omega
      rw [gates_at, mm_at]
      exact congrArg (fun r => Ideal.logistic (dotAt h w (i 0) r)) (Fin.ext (by show 7744 + ((i 1).val - 7680) = col (i 1).val; omega))

theorem res_at (h : Vec Ideal S8192x2048 .bf16) (w : Vec Ideal S2x2048x13888 .f32) (i : S8192x13824.Idx) : res h w i = projAt h w (i 0) (i 1) := by
  unfold res
  exact cat_at h w i

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ProjReferenceIdeal.Value.run (F := Ideal) m ρ

end Cert.Proof.Proj.Ref

end
-- ==== Proof.MergeCVal.lean ====
module

public import proofs.«01_k».proof.Proof.Gen.MergeCIdeal.Value
public import proofs.«01_k».proof.Proof.Gen.MergeCReferenceIdeal.Run
public import Idealize.ShloMosaic.Lib.VecWindow
public import Idealize.ShloMosaic.Lib.Pipeline.ValueKit
public import Idealize.ShloMosaic.Lib.Pointwise
public import Idealize.ShloMosaic.Lib.KernelVsHost
public import Idealize.ShloMosaic.Lib.StableHlo.ReadAt
public import Idealize.ShloMosaic.PureOps.Ideal.Laws
public import Idealize.ShloMosaic.Lib.IdealHost

@[expose] public section

set_option maxRecDepth 16384

noncomputable section

namespace Cert.Proof.MergeC

open Idealize.ShloMosaic Idealize.ShloMosaic.TcCoe Idealize.ShloMosaic.Tactic Idealize.SL.Sem Cert.MergeCIdeal Cert.MergeCIdeal.Gen

section Body

variable {F : FTy → Type} [FloatOps F]

theorem z2 : (![0, 0] : Fin 2 → Nat) = fun _ => 0 := by funext a; fin_cases a <;> rfl
theorem z3 : (![0, 0, 0] : Fin 3 → Nat) = fun _ => 0 := by funext a; fin_cases a <;> rfl

/-- A chunk's weights as the scratch holds them: the three branches' rows one below the other. -/
def stack (x6 : Vec F S1x1024x512 .f32) (x7 : Vec F S1x2048x512 .f32) (x8 : Vec F S1x1024x512 .f32) : Vec F S4096x512 .bf16 := fun y =>
  if h : (y 0).val < 1024 then k0_pay1 x6 (ix2 (n0 := 1024) (n1 := 512) ⟨(y 0).val, h⟩ (y 1))
  else if h' : (y 0).val < 3072 then k0_pay2 x7 (ix2 (n0 := 2048) (n1 := 512) ⟨(y 0).val - 1024, by omega⟩ (y 1))
  else k0_pay3 x8 (ix2 (n0 := 1024) (n1 := 512) ⟨(y 0).val - 3072, by have : (y 0).val < 4096 := (y 0).isLt; omega⟩ (y 1))

/-- What a point writes, over the weights the scratch holds. -/
def merged (x0 : Vec F S1024x1024 .bf16) (x1 : Vec F S1024x2048 .bf16) (x2 : Vec F S1024x1024 .bf16) (x3 x4 x5 : Vec F S1024x512 .bf16) (s : Vec F S4096x512 .bf16) : Vec F S1024x512 .bf16 :=
  k0_pay4 x0 (View.ld s (Rect.unit (s := S4096x512) ![0, 0] S1024x512.size inb_S4096x512_S1024x512_0_0))
    x1 (View.ld s (Rect.unit (s := S4096x512) ![1024, 0] S2048x512.size inb_S4096x512_S2048x512_1024_0))
    x2 (View.ld s (Rect.unit (s := S4096x512) ![3072, 0] S1024x512.size inb_S4096x512_S1024x512_3072_0)) x3 x4 x5

theorem scr_A (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = stack x6 x7 x8 := by
  have hc : ∀ y, ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set := scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8
  unfold sout0_A_0
  rw [View.read_writes_junk_eq_canon]
  unfold kernelRun0_A at hc ⊢
  dsimp only at hc ⊢
  funext y
  have hcov := hc y
  unfold kernelRun0_A.sl.HS0_3 at hcov ⊢
  canon_tiles x hx using hcov
  case piece0 =>
    unfold stack
    rw [dif_neg (by omega), dif_neg (by omega)]
    refine congr (congrArg k0_pay3 ((View.readAt_full (s := S1x1024x512) _ _ _).trans (harg10.read_unread _))) (funext fun a => Fin.ext ?_)
    match a with
    | ⟨0, _⟩ => show (x 0).val = (y 0).val - 3072; omega
    | ⟨1, _⟩ => exact hx1.symm
  case piece1 =>
    unfold stack
    have b0 : (x 0).val < 2048 := (x 0).isLt
    rw [dif_neg (by omega), dif_pos (by omega)]
    refine congr (congrArg k0_pay2 ((View.readAt_full (s := S1x2048x512) _ _ _).trans (harg9.read_unread _))) (funext fun a => Fin.ext ?_)
    match a with
    | ⟨0, _⟩ => show (x 0).val = (y 0).val - 1024; omega
    | ⟨1, _⟩ => exact hx1.symm
  case piece2 =>
    unfold stack
    have b0 : (x 0).val < 1024 := (x 0).isLt
    rw [dif_pos (by omega)]
    refine congr (congrArg k0_pay1 ((View.readAt_full (s := S1x1024x512) _ _ _).trans (harg8.read_unread _))) (funext fun a => Fin.ext ?_)
    match a with
    | ⟨0, _⟩ => show (x 0).val = (y 0).val; omega
    | ⟨1, _⟩ => exact hx1.symm

theorem pay4_congr {x0 x0' : Vec F S1024x1024 .bf16} {w0 w0' : Vec F S1024x512 .bf16} {x1 x1' : Vec F S1024x2048 .bf16} {w1 w1' : Vec F S2048x512 .bf16}
    {x2 x2' : Vec F S1024x1024 .bf16} {w2 w2' x3 x3' x4 x4' x5 x5' : Vec F S1024x512 .bf16}
    (h0 : x0 = x0') (k0 : w0 = w0') (h1 : x1 = x1') (k1 : w1 = w1') (h2 : x2 = x2') (k2 : w2 = w2') (h3 : x3 = x3') (h4 : x4 = x4') (h5 : x5 = x5') :
    k0_pay4 x0 w0 x1 w1 x2 w2 x3 x4 x5 = k0_pay4 x0' w0' x1' w1' x2' w2' x3' x4' x5' := by
  subst h0 k0 h1 k1 h2 k2 h3 h4 h5; rfl

theorem out_A (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = merged x0 x1 x2 x3 x4 x5 (stack x6 x7 x8) := by
  rw [← scr_A c i arg2 harg2 arg3 harg3 arg4 harg4 arg5 harg5 arg6 harg6 arg7 harg7 arg8 harg8 arg9 harg9 arg10 harg10 arg11 harg11 arg12 harg12 hc0 x0 x1 x2 x3 x4 x5 x6 x7 x8]
  unfold out0_A_9 sout0_A_0
  simp only [View.read_writes_junk_eq_canon]
  unfold kernelRun0_A
  dsimp only
  unfold kernelRun0_A.sl.v4 kernelRun0_A.sl.v7 kernelRun0_A.sl.v10
  refine (View.canon_unit_zero (S := S1024x512) z2 _ _).trans ?_
  unfold merged
  refine pay4_congr ?_ ?_ ?_ ?_ ?_ ?_ ?_ ?_ ?_
  · exact (View.readAt_full (s := S1024x1024) _ _ _).trans (harg2.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x2048) _ _ _).trans (harg3.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x1024) _ _ _).trans (harg4.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x512) _ _ _).trans (harg5.read_unread _)
  · exact (View.readAt_full (s := S1024x512) _ _ _).trans (harg6.read_unread _)
  · exact (View.readAt_full (s := S1024x512) _ _ _).trans (harg7.read_unread _)

theorem out_B (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : ¬cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) (xs0 : Vec F S4096x512 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = merged x0 x1 x2 x3 x4 x5 xs0 := by
  unfold out0_B_9
  rw [View.read_writes_junk_eq_canon]
  unfold kernelRun0_B
  dsimp only
  refine (View.canon_unit_zero (S := S1024x512) z2 _ _).trans ?_
  unfold merged
  refine pay4_congr ?_ ?_ ?_ ?_ ?_ ?_ ?_ ?_ ?_
  · exact (View.readAt_full (s := S1024x1024) _ _ _).trans (harg2.read_unread _)
  · exact congrArg (fun X => View.ld X _) (harg12.read_unread xs0)
  · exact (View.readAt_full (s := S1024x2048) _ _ _).trans (harg3.read_unread _)
  · exact congrArg (fun X => View.ld X _) (harg12.read_unread xs0)
  · exact (View.readAt_full (s := S1024x1024) _ _ _).trans (harg4.read_unread _)
  · exact congrArg (fun X => View.ld X _) (harg12.read_unread xs0)
  · exact (View.readAt_full (s := S1024x512) _ _ _).trans (harg5.read_unread _)
  · exact (View.readAt_full (s := S1024x512) _ _ _).trans (harg6.read_unread _)
  · exact (View.readAt_full (s := S1024x512) _ _ _).trans (harg7.read_unread _)

variable (m : (ℓ : Loc nD τ sig) → Buf (Elt F) ℓ)

/-- The first point of a point's chunk of columns. -/
def base (n : ℕ) (hn : n < cfg0.N) : Fin cfg0.N := ⟨4 * (n / 4), by have := lt_of_lt_of_eq hn (show cfg0.N = 16 from N_0); rw [show cfg0.N = 16 from N_0]; omega⟩

/-- The weights staged at a point, as the scratch holds them. -/
def stackAt (c : Dev nD) (t : Fin cfg0.N) : Vec F S4096x512 .bf16 := stack (iblk m c 6 t) (iblk m c 7 t) (iblk m c 8 t)

/-- What a point writes over given weights. -/
def mergedAt (c : Dev nD) (t : Fin cfg0.N) (s : Vec F S4096x512 .bf16) : Vec F S1024x512 .bf16 :=
  merged (iblk m c 0 t) (iblk m c 1 t) (iblk m c 2 t) (iblk m c 3 t) (iblk m c 4 t) (iblk m c 5 t) s

theorem outs_fill (c : Dev nD) (t : Fin cfg0.N) (h : t.val % 4 = 0) :
    outsAt0 m c t.val t.isLt = (mergedAt m c t (stackAt m c t), stackAt m c t) := by
  rw [outsAt0_A m c t h, out_A, scr_A]
  unfold mergedAt stackAt
  rfl

theorem outs_keep (c : Dev nD) (t : Fin cfg0.N) (h : ¬ t.val % 4 = 0) (h' : t.val - 1 < cfg0.N) :
    outsAt0 m c t.val t.isLt = (mergedAt m c t (outsAt0 m c (t.val - 1) h').2, (outsAt0 m c (t.val - 1) h').2) := by
  rw [outsAt0_B m c t h, out_B]
  unfold mergedAt sout0_B_0
  rfl

/-- What the scratch holds after a point: the weights of the chunk. -/
theorem scr_at (c : Dev nD) : ∀ (n : ℕ) (hn : n < cfg0.N), (outsAt0 m c n hn).2 = stackAt m c (base n hn) := by
  intro n
  induction n with
  | zero => exact fun hn => congrArg Prod.snd (outs_fill m c ⟨0, hn⟩ rfl)
  | succ n ih =>
    intro hn
    by_cases h : (n + 1) % 4 = 0
    · have e : base (n + 1) hn = ⟨n + 1, hn⟩ := Fin.ext (by show 4 * ((n + 1) / 4) = n + 1; omega)
      rw [e]
      exact congrArg Prod.snd (outs_fill m c ⟨n + 1, hn⟩ h)
    · have e : base (n + 1) hn = base n (Nat.lt_of_succ_lt hn) := Fin.ext (by show 4 * ((n + 1) / 4) = 4 * (n / 4); omega)
      rw [e, ← ih]
      exact (congrArg Prod.snd (outs_keep m c ⟨n + 1, hn⟩ h (Nat.lt_of_succ_lt hn))).trans rfl

/-- What a point writes: the merge over the weights of its chunk. -/
theorem out_at (c : Dev nD) (n : ℕ) (hn : n < cfg0.N) :
    (outsAt0 m c n hn).1 = mergedAt m c ⟨n, hn⟩ (stackAt m c (base n hn)) := by
  by_cases h : n % 4 = 0
  · have e : base n hn = ⟨n, hn⟩ := Fin.ext (by show 4 * (n / 4) = n; omega)
    rw [e]
    exact congrArg Prod.fst (outs_fill m c ⟨n, hn⟩ h)
  · have h' : n - 1 < cfg0.N := lt_of_le_of_lt (Nat.sub_le _ _) hn
    have e : base n hn = base (n - 1) h' := Fin.ext (by show 4 * (n / 4) = 4 * ((n - 1) / 4); omega)
    rw [e, ← scr_at m c (n - 1) h']
    exact congrArg Prod.fst (outs_keep m c ⟨n, hn⟩ h h')

/-- The result's array at an index. -/
theorem G_at (c : Dev nD) (i : S4096x2048.Idx) (h : Value.pt9Of i < cfg0.N) :
    Value.G9 m c i = mergedAt m c ⟨Value.pt9Of i, h⟩ (stackAt m c (base _ h)) (Value.loc9Of i) := by
  unfold Value.G9
  rw [dif_pos h, ← Value.outsAt0_sweep m c _ h, out_at]

end Body

/-! ## The formula -/

/-- A dot of a branch's row with a column of its layer-0 weights. -/
def dotA (y : Vec Ideal S4096x1024 .bf16) (w : Vec Ideal S2x1024x2048 .f32) (a : Fin 4096) (j : Fin 2048) : EReal :=
  ∑ k : Fin 1024, (y (ix2 (n0 := 4096) (n1 := 1024) a k) : EReal) * w (ix3 (n0 := 2) (n1 := 1024) (n2 := 2048) 0 k j)
def dotB (y : Vec Ideal S4096x2048 .bf16) (w : Vec Ideal S2x2048x2048 .f32) (a : Fin 4096) (j : Fin 2048) : EReal :=
  ∑ k : Fin 2048, (y (ix2 (n0 := 4096) (n1 := 2048) a k) : EReal) * w (ix3 (n0 := 2) (n1 := 2048) (n2 := 2048) 0 k j)

/-- A gate: the token's row of the projection, at the branch's column. -/
def gate (pr : Vec Ideal S8192x13824 .bf16) (off : ℕ) (hoff : off + 2048 ≤ 13824) (a : Fin 4096) (j : Fin 2048) : EReal :=
  pr (ix2 (n0 := 8192) (n1 := 13824) ⟨0 + a.val, by omega⟩ ⟨off + j.val, by omega⟩)

/-- The merged row: each branch's dot times its gate, added up. -/
def mergeAt (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) (a : Fin 4096) (j : Fin 2048) : EReal :=
  gate pr 7680 (by decide) a j * dotA ya wa a j + gate pr 9728 (by decide) a j * dotB yb wb a j + gate pr 11776 (by decide) a j * dotA yc wc a j

theorem pay1_at (x : Vec Ideal S1x1024x512 .f32) (a : Fin 1024) (b : Fin 512) :
    k0_pay1 (F := Ideal) x (ix2 (n0 := 1024) (n1 := 512) a b) = x (ix3 (n0 := 1) (n1 := 1024) (n2 := 512) 0 a b) := by
  unfold k0_pay1
  pointwise
theorem pay2_at (x : Vec Ideal S1x2048x512 .f32) (a : Fin 2048) (b : Fin 512) :
    k0_pay2 (F := Ideal) x (ix2 (n0 := 2048) (n1 := 512) a b) = x (ix3 (n0 := 1) (n1 := 2048) (n2 := 512) 0 a b) := by
  unfold k0_pay2
  pointwise
theorem pay3_at (x : Vec Ideal S1x1024x512 .f32) (a : Fin 1024) (b : Fin 512) :
    k0_pay3 (F := Ideal) x (ix2 (n0 := 1024) (n1 := 512) a b) = x (ix3 (n0 := 1) (n1 := 1024) (n2 := 512) 0 a b) := by
  unfold k0_pay3
  pointwise

theorem pay4_at (x0 : Vec Ideal S1024x1024 .bf16) (w0 : Vec Ideal S1024x512 .bf16) (x1 : Vec Ideal S1024x2048 .bf16) (w1 : Vec Ideal S2048x512 .bf16)
    (x2 : Vec Ideal S1024x1024 .bf16) (w2 g0 g1 g2 : Vec Ideal S1024x512 .bf16) (a : Fin 1024) (b : Fin 512) :
    k0_pay4 (F := Ideal) x0 w0 x1 w1 x2 w2 g0 g1 g2 (ix2 (n0 := 1024) (n1 := 512) a b)
      = (g0 (ix2 (n0 := 1024) (n1 := 512) a b) : EReal) * (∑ k : Fin 1024, (x0 (ix2 (n0 := 1024) (n1 := 1024) a k) : EReal) * w0 (ix2 (n0 := 1024) (n1 := 512) k b))
        + (g1 (ix2 (n0 := 1024) (n1 := 512) a b) : EReal) * (∑ k : Fin 2048, (x1 (ix2 (n0 := 1024) (n1 := 2048) a k) : EReal) * w1 (ix2 (n0 := 2048) (n1 := 512) k b))
        + (g2 (ix2 (n0 := 1024) (n1 := 512) a b) : EReal) * (∑ k : Fin 1024, (x2 (ix2 (n0 := 1024) (n1 := 1024) a k) : EReal) * w2 (ix2 (n0 := 1024) (n1 := 512) k b)) := by
  unfold k0_pay4
  pointwise

variable (x6 : Vec Ideal S1x1024x512 .f32) (x7 : Vec Ideal S1x2048x512 .f32) (x8 : Vec Ideal S1x1024x512 .f32)

theorem stack_lo (k : Fin 1024) (b : Fin 512) :
    View.ld (stack (F := Ideal) x6 x7 x8) (Rect.unit (s := S4096x512) ![0, 0] S1024x512.size inb_S4096x512_S1024x512_0_0) (ix2 (n0 := 1024) (n1 := 512) k b)
      = x6 (ix3 (n0 := 1) (n1 := 1024) (n2 := 512) 0 k b) := by
  have e : (Rect.unit (s := S4096x512) ![0, 0] S1024x512.size inb_S4096x512_S1024x512_0_0).emb (ix2 (n0 := 1024) (n1 := 512) k b)
      = ix2 (n0 := 4096) (n1 := 512) ⟨k.val, by omega⟩ b := by
    funext a; apply Fin.ext
    match a with
    | ⟨0, _⟩ => show 0 + 1 * k.val = k.val; omega
    | ⟨1, _⟩ => show 0 + 1 * b.val = b.val; omega
  show stack (F := Ideal) x6 x7 x8 ((Rect.unit (s := S4096x512) ![0, 0] S1024x512.size inb_S4096x512_S1024x512_0_0).emb (ix2 (n0 := 1024) (n1 := 512) k b)) = _
  rw [e, ← pay1_at x6 k b]
  exact dif_pos k.isLt

theorem stack_mid (k : Fin 2048) (b : Fin 512) :
    View.ld (stack (F := Ideal) x6 x7 x8) (Rect.unit (s := S4096x512) ![1024, 0] S2048x512.size inb_S4096x512_S2048x512_1024_0) (ix2 (n0 := 2048) (n1 := 512) k b)
      = x7 (ix3 (n0 := 1) (n1 := 2048) (n2 := 512) 0 k b) := by
  have e : (Rect.unit (s := S4096x512) ![1024, 0] S2048x512.size inb_S4096x512_S2048x512_1024_0).emb (ix2 (n0 := 2048) (n1 := 512) k b)
      = ix2 (n0 := 4096) (n1 := 512) ⟨1024 + k.val, by omega⟩ b := by
    funext a; apply Fin.ext
    match a with
    | ⟨0, _⟩ => show 1024 + 1 * k.val = 1024 + k.val; omega
    | ⟨1, _⟩ => show 0 + 1 * b.val = b.val; omega
  show stack (F := Ideal) x6 x7 x8 ((Rect.unit (s := S4096x512) ![1024, 0] S2048x512.size inb_S4096x512_S2048x512_1024_0).emb (ix2 (n0 := 2048) (n1 := 512) k b)) = _
  rw [e, ← pay2_at x7 k b]
  refine (dif_neg (show ¬ 1024 + k.val < 1024 by omega)).trans ((dif_pos (show 1024 + k.val < 3072 by omega)).trans ?_)
  exact congrArg (fun r => k0_pay2 (F := Ideal) x7 (ix2 (n0 := 2048) (n1 := 512) r b)) (Fin.ext (by show 1024 + k.val - 1024 = k.val; omega))

theorem stack_hi (k : Fin 1024) (b : Fin 512) :
    View.ld (stack (F := Ideal) x6 x7 x8) (Rect.unit (s := S4096x512) ![3072, 0] S1024x512.size inb_S4096x512_S1024x512_3072_0) (ix2 (n0 := 1024) (n1 := 512) k b)
      = x8 (ix3 (n0 := 1) (n1 := 1024) (n2 := 512) 0 k b) := by
  have e : (Rect.unit (s := S4096x512) ![3072, 0] S1024x512.size inb_S4096x512_S1024x512_3072_0).emb (ix2 (n0 := 1024) (n1 := 512) k b)
      = ix2 (n0 := 4096) (n1 := 512) ⟨3072 + k.val, by omega⟩ b := by
    funext a; apply Fin.ext
    match a with
    | ⟨0, _⟩ => show 3072 + 1 * k.val = 3072 + k.val; omega
    | ⟨1, _⟩ => show 0 + 1 * b.val = b.val; omega
  show stack (F := Ideal) x6 x7 x8 ((Rect.unit (s := S4096x512) ![3072, 0] S1024x512.size inb_S4096x512_S1024x512_3072_0).emb (ix2 (n0 := 1024) (n1 := 512) k b)) = _
  rw [e, ← pay3_at x8 k b]
  refine (dif_neg (show ¬ 3072 + k.val < 1024 by omega)).trans ((dif_neg (show ¬ 3072 + k.val < 3072 by omega)).trans ?_)
  exact congrArg (fun r => k0_pay3 (F := Ideal) x8 (ix2 (n0 := 1024) (n1 := 512) r b)) (Fin.ext (by show 3072 + k.val - 3072 = k.val; omega))

/-- A block of the merge, from where its operands come from. -/
theorem block_eq (x0 : Vec Ideal S1024x1024 .bf16) (x1 : Vec Ideal S1024x2048 .bf16) (x2 : Vec Ideal S1024x1024 .bf16) (g0 g1 g2 : Vec Ideal S1024x512 .bf16)
    (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32)
    (a : Fin 1024) (b : Fin 512) (a' : Fin 4096) (b' : Fin 2048)
    (h0 : ∀ k, x0 (ix2 (n0 := 1024) (n1 := 1024) a k) = ya (ix2 (n0 := 4096) (n1 := 1024) a' k))
    (h1 : ∀ k, x1 (ix2 (n0 := 1024) (n1 := 2048) a k) = yb (ix2 (n0 := 4096) (n1 := 2048) a' k))
    (h2 : ∀ k, x2 (ix2 (n0 := 1024) (n1 := 1024) a k) = yc (ix2 (n0 := 4096) (n1 := 1024) a' k))
    (h3 : g0 (ix2 (n0 := 1024) (n1 := 512) a b) = gate pr 7680 (by decide) a' b')
    (h4 : g1 (ix2 (n0 := 1024) (n1 := 512) a b) = gate pr 9728 (by decide) a' b')
    (h5 : g2 (ix2 (n0 := 1024) (n1 := 512) a b) = gate pr 11776 (by decide) a' b')
    (h6 : ∀ k, x6 (ix3 (n0 := 1) (n1 := 1024) (n2 := 512) 0 k b) = wa (ix3 (n0 := 2) (n1 := 1024) (n2 := 2048) 0 k b'))
    (h7 : ∀ k, x7 (ix3 (n0 := 1) (n1 := 2048) (n2 := 512) 0 k b) = wb (ix3 (n0 := 2) (n1 := 2048) (n2 := 2048) 0 k b'))
    (h8 : ∀ k, x8 (ix3 (n0 := 1) (n1 := 1024) (n2 := 512) 0 k b) = wc (ix3 (n0 := 2) (n1 := 1024) (n2 := 2048) 0 k b')) :
    merged (F := Ideal) x0 x1 x2 g0 g1 g2 (stack x6 x7 x8) (ix2 (n0 := 1024) (n1 := 512) a b) = mergeAt ya yb yc pr wa wb wc a' b' := by
  unfold merged
  rw [pay4_at, h3, h4, h5]
  unfold mergeAt dotA dotB
  refine congrArg₂ (fun p q : EReal => p + q) (congrArg₂ (fun p q : EReal => p + q) (congrArg (fun p : EReal => _ * p) ?_) (congrArg (fun p : EReal => _ * p) ?_)) (congrArg (fun p : EReal => _ * p) ?_)
  · exact Finset.sum_congr rfl fun k _ => congrArg₂ (fun p q : EReal => p * q) (h0 k) ((stack_lo x6 x7 x8 k b).trans (h6 k))
  · exact Finset.sum_congr rfl fun k _ => congrArg₂ (fun p q : EReal => p * q) (h1 k) ((stack_mid x6 x7 x8 k b).trans (h7 k))
  · exact Finset.sum_congr rfl fun k _ => congrArg₂ (fun p q : EReal => p * q) (h2 k) ((stack_hi x6 x7 x8 k b).trans (h8 k))

/-! ## The blocks -/

variable (m : (ℓ : Loc nD τ sig) → Buf (Elt Ideal) ℓ) (c : Dev nD) (t : Fin cfg0.N)

theorem t_lt : t.val < 16 := lt_of_lt_of_eq t.isLt N_0

theorem idx0 : ∀ t : Fin cfg0.N, (cfg0.win 0).index t = ![t.val % 4, 0] :=
  (by decide +kernel : ∀ t : Fin grid0.N, win0_0.index t = ![t.val % 4, 0])
theorem idx1 : ∀ t : Fin cfg0.N, (cfg0.win 1).index t = ![t.val % 4, 0] :=
  (by decide +kernel : ∀ t : Fin grid0.N, win0_1.index t = ![t.val % 4, 0])
theorem idx2 : ∀ t : Fin cfg0.N, (cfg0.win 2).index t = ![t.val % 4, 0] :=
  (by decide +kernel : ∀ t : Fin grid0.N, win0_2.index t = ![t.val % 4, 0])
theorem idx3 : ∀ t : Fin cfg0.N, (cfg0.win 3).index t = ![0 + t.val % 4, 15 + t.val / 4] :=
  (by decide +kernel : ∀ t : Fin grid0.N, win0_3.index t = ![0 + t.val % 4, 15 + t.val / 4])
theorem idx4 : ∀ t : Fin cfg0.N, (cfg0.win 4).index t = ![0 + t.val % 4, 19 + t.val / 4] :=
  (by decide +kernel : ∀ t : Fin grid0.N, win0_4.index t = ![0 + t.val % 4, 19 + t.val / 4])
theorem idx5 : ∀ t : Fin cfg0.N, (cfg0.win 5).index t = ![0 + t.val % 4, 23 + t.val / 4] :=
  (by decide +kernel : ∀ t : Fin grid0.N, win0_5.index t = ![0 + t.val % 4, 23 + t.val / 4])
theorem idx6 : ∀ t : Fin cfg0.N, (cfg0.win 6).index t = ![0, 0, t.val / 4] :=
  (by decide +kernel : ∀ t : Fin grid0.N, win0_6.index t = ![0, 0, t.val / 4])
theorem idx7 : ∀ t : Fin cfg0.N, (cfg0.win 7).index t = ![0, 0, t.val / 4] :=
  (by decide +kernel : ∀ t : Fin grid0.N, win0_7.index t = ![0, 0, t.val / 4])
theorem idx8 : ∀ t : Fin cfg0.N, (cfg0.win 8).index t = ![0, 0, t.val / 4] :=
  (by decide +kernel : ∀ t : Fin grid0.N, win0_8.index t = ![0, 0, t.val / 4])

theorem blk0 (a : Fin 1024) (b : Fin 1024) : (iblk m c 0 t : Vec Ideal S1024x1024 .bf16) (ix2 (n0 := 1024) (n1 := 1024) a b)
    = (m ((c.tc : Thread nD τ).loc main_arg0) : Vec Ideal S4096x1024 .bf16) (ix2 (n0 := 4096) (n1 := 1024)
      ⟨1024 * (t.val % 4) + a.val, by omega⟩ b) := by
  have h := t_lt t
  have e : (iblk m c 0 t : Vec Ideal S1024x1024 .bf16) (ix2 (n0 := 1024) (n1 := 1024) a b) = (V m c main_arg0 : Vec Ideal S4096x1024 .bf16) (ix2 (n0 := 4096) (n1 := 1024)
      ⟨1024 * (t.val % 4) + a.val, by omega⟩ b) := by
    blk_ext [iblk, idx0 t]
  exact e.trans (congrFun (V_main_arg0 m c) _)

theorem blk1 (a : Fin 1024) (b : Fin 2048) : (iblk m c 1 t : Vec Ideal S1024x2048 .bf16) (ix2 (n0 := 1024) (n1 := 2048) a b)
    = (m ((c.tc : Thread nD τ).loc main_arg1) : Vec Ideal S4096x2048 .bf16) (ix2 (n0 := 4096) (n1 := 2048)
      ⟨1024 * (t.val % 4) + a.val, by omega⟩ b) := by
  have h := t_lt t
  have e : (iblk m c 1 t : Vec Ideal S1024x2048 .bf16) (ix2 (n0 := 1024) (n1 := 2048) a b) = (V m c main_arg1 : Vec Ideal S4096x2048 .bf16) (ix2 (n0 := 4096) (n1 := 2048)
      ⟨1024 * (t.val % 4) + a.val, by omega⟩ b) := by
    blk_ext [iblk, idx1 t]
  exact e.trans (congrFun (V_main_arg1 m c) _)

theorem blk2 (a : Fin 1024) (b : Fin 1024) : (iblk m c 2 t : Vec Ideal S1024x1024 .bf16) (ix2 (n0 := 1024) (n1 := 1024) a b)
    = (m ((c.tc : Thread nD τ).loc main_arg2) : Vec Ideal S4096x1024 .bf16) (ix2 (n0 := 4096) (n1 := 1024)
      ⟨1024 * (t.val % 4) + a.val, by omega⟩ b) := by
  have h := t_lt t
  have e : (iblk m c 2 t : Vec Ideal S1024x1024 .bf16) (ix2 (n0 := 1024) (n1 := 1024) a b) = (V m c main_arg2 : Vec Ideal S4096x1024 .bf16) (ix2 (n0 := 4096) (n1 := 1024)
      ⟨1024 * (t.val % 4) + a.val, by omega⟩ b) := by
    blk_ext [iblk, idx2 t]
  exact e.trans (congrFun (V_main_arg2 m c) _)

theorem blk3 (a : Fin 1024) (b : Fin 512) : (iblk m c 3 t : Vec Ideal S1024x512 .bf16) (ix2 (n0 := 1024) (n1 := 512) a b)
    = gate (m ((c.tc : Thread nD τ).loc main_arg3)) 7680 (by decide) ⟨1024 * (t.val % 4) + a.val, by omega⟩ ⟨512 * (t.val / 4) + b.val, by have := t_lt t; omega⟩ := by
  have h := t_lt t
  have e : (iblk m c 3 t : Vec Ideal S1024x512 .bf16) (ix2 (n0 := 1024) (n1 := 512) a b) = gate (V m c main_arg3) 7680 (by decide) ⟨1024 * (t.val % 4) + a.val, by omega⟩ ⟨512 * (t.val / 4) + b.val, by have := t_lt t; omega⟩ := by
    unfold gate
    blk_ext [iblk, idx3 t]
  refine e.trans ?_
  unfold gate
  exact congrFun (V_main_arg3 m c) _

theorem blk4 (a : Fin 1024) (b : Fin 512) : (iblk m c 4 t : Vec Ideal S1024x512 .bf16) (ix2 (n0 := 1024) (n1 := 512) a b)
    = gate (m ((c.tc : Thread nD τ).loc main_arg3)) 9728 (by decide) ⟨1024 * (t.val % 4) + a.val, by omega⟩ ⟨512 * (t.val / 4) + b.val, by have := t_lt t; omega⟩ := by
  have h := t_lt t
  have e : (iblk m c 4 t : Vec Ideal S1024x512 .bf16) (ix2 (n0 := 1024) (n1 := 512) a b) = gate (V m c main_arg3) 9728 (by decide) ⟨1024 * (t.val % 4) + a.val, by omega⟩ ⟨512 * (t.val / 4) + b.val, by have := t_lt t; omega⟩ := by
    unfold gate
    blk_ext [iblk, idx4 t]
  refine e.trans ?_
  unfold gate
  exact congrFun (V_main_arg3 m c) _

theorem blk5 (a : Fin 1024) (b : Fin 512) : (iblk m c 5 t : Vec Ideal S1024x512 .bf16) (ix2 (n0 := 1024) (n1 := 512) a b)
    = gate (m ((c.tc : Thread nD τ).loc main_arg3)) 11776 (by decide) ⟨1024 * (t.val % 4) + a.val, by omega⟩ ⟨512 * (t.val / 4) + b.val, by have := t_lt t; omega⟩ := by
  have h := t_lt t
  have e : (iblk m c 5 t : Vec Ideal S1024x512 .bf16) (ix2 (n0 := 1024) (n1 := 512) a b) = gate (V m c main_arg3) 11776 (by decide) ⟨1024 * (t.val % 4) + a.val, by omega⟩ ⟨512 * (t.val / 4) + b.val, by have := t_lt t; omega⟩ := by
    unfold gate
    blk_ext [iblk, idx5 t]
  refine e.trans ?_
  unfold gate
  exact congrFun (V_main_arg3 m c) _

theorem blk6 (k : Fin 1024) (b : Fin 512) : (iblk m c 6 t : Vec Ideal S1x1024x512 .f32) (ix3 (n0 := 1) (n1 := 1024) (n2 := 512) 0 k b)
    = (m ((c.tc : Thread nD τ).loc main_arg4) : Vec Ideal S2x1024x2048 .f32) (ix3 (n0 := 2) (n1 := 1024) (n2 := 2048) 0 k
      ⟨512 * (t.val / 4) + b.val, by have := t_lt t; omega⟩) := by
  have h := t_lt t
  have e : (iblk m c 6 t : Vec Ideal S1x1024x512 .f32) (ix3 (n0 := 1) (n1 := 1024) (n2 := 512) 0 k b) = (V m c main_arg4 : Vec Ideal S2x1024x2048 .f32) (ix3 (n0 := 2) (n1 := 1024) (n2 := 2048) 0 k
      ⟨512 * (t.val / 4) + b.val, by have := t_lt t; omega⟩) := by
    blk_ext [iblk, idx6 t]
  exact e.trans (congrFun (V_main_arg4 m c) _)

theorem blk7 (k : Fin 2048) (b : Fin 512) : (iblk m c 7 t : Vec Ideal S1x2048x512 .f32) (ix3 (n0 := 1) (n1 := 2048) (n2 := 512) 0 k b)
    = (m ((c.tc : Thread nD τ).loc main_arg5) : Vec Ideal S2x2048x2048 .f32) (ix3 (n0 := 2) (n1 := 2048) (n2 := 2048) 0 k
      ⟨512 * (t.val / 4) + b.val, by have := t_lt t; omega⟩) := by
  have h := t_lt t
  have e : (iblk m c 7 t : Vec Ideal S1x2048x512 .f32) (ix3 (n0 := 1) (n1 := 2048) (n2 := 512) 0 k b) = (V m c main_arg5 : Vec Ideal S2x2048x2048 .f32) (ix3 (n0 := 2) (n1 := 2048) (n2 := 2048) 0 k
      ⟨512 * (t.val / 4) + b.val, by have := t_lt t; omega⟩) := by
    blk_ext [iblk, idx7 t]
  exact e.trans (congrFun (V_main_arg5 m c) _)

theorem blk8 (k : Fin 1024) (b : Fin 512) : (iblk m c 8 t : Vec Ideal S1x1024x512 .f32) (ix3 (n0 := 1) (n1 := 1024) (n2 := 512) 0 k b)
    = (m ((c.tc : Thread nD τ).loc main_arg6) : Vec Ideal S2x1024x2048 .f32) (ix3 (n0 := 2) (n1 := 1024) (n2 := 2048) 0 k
      ⟨512 * (t.val / 4) + b.val, by have := t_lt t; omega⟩) := by
  have h := t_lt t
  have e : (iblk m c 8 t : Vec Ideal S1x1024x512 .f32) (ix3 (n0 := 1) (n1 := 1024) (n2 := 512) 0 k b) = (V m c main_arg6 : Vec Ideal S2x1024x2048 .f32) (ix3 (n0 := 2) (n1 := 1024) (n2 := 2048) 0 k
      ⟨512 * (t.val / 4) + b.val, by have := t_lt t; omega⟩) := by
    blk_ext [iblk, idx8 t]
  exact e.trans (congrFun (V_main_arg6 m c) _)

/-- The whole result. -/
def G : Vec Ideal S4096x2048 .bf16 := fun i => mergeAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1)

theorem value_eq : Value.G9 m c = G m c := by
  funext i
  have hi0 : (i 0).val < 4096 := (i 0).isLt
  have hi1 : (i 1).val < 2048 := (i 1).isLt
  have hp : Value.pt9Of i = (i 0).val / 1024 + 4 * ((i 1).val / 512) := by
    show 1 * ((i 0).val / 1024 - 0) + 4 * ((i 1).val / 512 - 0) = _; omega
  have h : Value.pt9Of i < cfg0.N := by rw [hp, show cfg0.N = 16 from N_0]; omega
  have hb : (base (Value.pt9Of i) h).val = 4 * (Value.pt9Of i / 4) := rfl
  rw [G_at m c i h]
  have hl : Value.loc9Of i = ix2 (n0 := 1024) (n1 := 512) ⟨(i 0).val % 1024, Nat.mod_lt _ (by decide)⟩ ⟨(i 1).val % 512, Nat.mod_lt _ (by decide)⟩ := by
    funext a
    match a with
    | ⟨0, _⟩ => rfl
    | ⟨1, _⟩ => rfl
  have er : ∀ hr, (⟨1024 * (Value.pt9Of i % 4) + (i 0).val % 1024, hr⟩ : Fin 4096) = i 0 := fun hr => Fin.ext (by
    show 1024 * (Value.pt9Of i % 4) + (i 0).val % 1024 = (i 0).val; omega)
  have ec : ∀ hr, (⟨512 * (Value.pt9Of i / 4) + (i 1).val % 512, hr⟩ : Fin 2048) = i 1 := fun hr => Fin.ext (by
    show 512 * (Value.pt9Of i / 4) + (i 1).val % 512 = (i 1).val; omega)
  have eb : ∀ hr, (⟨512 * ((base (Value.pt9Of i) h).val / 4) + (i 1).val % 512, hr⟩ : Fin 2048) = i 1 := fun hr => Fin.ext (by
    show 512 * ((base (Value.pt9Of i) h).val / 4) + (i 1).val % 512 = (i 1).val; omega)
  rw [hl]
  unfold mergedAt stackAt G
  refine block_eq _ _ _ _ _ _ _ _ _ _ _ _ _ _ _ _ _ _ _ _ (fun k => ?_) (fun k => ?_) (fun k => ?_) ?_ ?_ ?_ (fun k => ?_) (fun k => ?_) (fun k => ?_)
  · exact (blk0 m c _ _ _).trans (congrArg (fun r => (m ((c.tc : Thread nD τ).loc main_arg0) : Vec Ideal S4096x1024 .bf16) (ix2 (n0 := 4096) (n1 := 1024) r k)) (er _))
  · exact (blk1 m c _ _ _).trans (congrArg (fun r => (m ((c.tc : Thread nD τ).loc main_arg1) : Vec Ideal S4096x2048 .bf16) (ix2 (n0 := 4096) (n1 := 2048) r k)) (er _))
  · exact (blk2 m c _ _ _).trans (congrArg (fun r => (m ((c.tc : Thread nD τ).loc main_arg2) : Vec Ideal S4096x1024 .bf16) (ix2 (n0 := 4096) (n1 := 1024) r k)) (er _))
  · exact (blk3 m c _ _ _).trans (congrArg₂ (gate (m ((c.tc : Thread nD τ).loc main_arg3)) 7680 (by decide)) (er _) (ec _))
  · exact (blk4 m c _ _ _).trans (congrArg₂ (gate (m ((c.tc : Thread nD τ).loc main_arg3)) 9728 (by decide)) (er _) (ec _))
  · exact (blk5 m c _ _ _).trans (congrArg₂ (gate (m ((c.tc : Thread nD τ).loc main_arg3)) 11776 (by decide)) (er _) (ec _))
  · exact (blk6 m c _ _ _).trans (congrArg (fun r => (m ((c.tc : Thread nD τ).loc main_arg4) : Vec Ideal S2x1024x2048 .f32) (ix3 (n0 := 2) (n1 := 1024) (n2 := 2048) 0 k r)) (eb _))
  · exact (blk7 m c _ _ _).trans (congrArg (fun r => (m ((c.tc : Thread nD τ).loc main_arg5) : Vec Ideal S2x2048x2048 .f32) (ix3 (n0 := 2) (n1 := 2048) (n2 := 2048) 0 k r)) (eb _))
  · exact (blk8 m c _ _ _).trans (congrArg (fun r => (m ((c.tc : Thread nD τ).loc main_arg6) : Vec Ideal S2x1024x2048 .f32) (ix3 (n0 := 2) (n1 := 1024) (n2 := 2048) 0 k r)) (eb _))

theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (value_eq m c), (h c).2⟩) (Value.run (F := Ideal) m ρ)

end Cert.Proof.MergeC

namespace Cert.Proof.MergeC.Ref

open Idealize.ShloMosaic Idealize.ShloMosaic.TcCoe Idealize.ShloMosaic.Tactic Idealize.SL.Sem Cert.MergeCReferenceIdeal Cert.MergeCReferenceIdeal.Gen

/-- The gates' columns of the tokens' rows. -/
def gates (pr : Vec Ideal S8192x13824 .bf16) : FVec Ideal S4096x6144 .f32 :=
  extf .f32 (extractStridedSlice S4096x6144 ![0, 7680] (extractStridedSlice S4096x13824 ![0, 0] pr slices_S8192x13824_S4096x13824_0_0) slices_S4096x13824_S4096x6144_0_7680) bitsLt_bf16_f32

theorem gates_at (pr : Vec Ideal S8192x13824 .bf16) (i : S4096x6144.Idx) :
    gates pr i = pr (ix2 (n0 := 8192) (n1 := 13824) ⟨0 + (i 0).val, by have : (i 0).val < 4096 := (i 0).isLt; omega⟩
      ⟨7680 + (i 1).val, by have : (i 1).val < 6144 := (i 1).isLt; omega⟩) := by
  unfold gates
  pointwise

def mmA (y : Vec Ideal S4096x1024 .bf16) (w : Vec Ideal S2x1024x2048 .f32) : FVec Ideal S4096x2048 .f32 :=
  Host.dotGeneral (F := Ideal) (φ₁ := .f32) (φ₂ := .f32) dot_S4096x1024_S1024x2048_S4096x2048_1_0_0_1_n_n none (extf .f32 y bitsLt_bf16_f32)
    (shapeCast S1024x2048 (extractStridedSlice S1x1024x2048 ![0, 0, 0] w slices_S2x1024x2048_S1x1024x2048_0_0_0) shapeCasts_S1x1024x2048_S1024x2048)

theorem mmA_at (y : Vec Ideal S4096x1024 .bf16) (w : Vec Ideal S2x1024x2048 .f32) (i : S4096x2048.Idx) : mmA y w i = dotA y w (i 0) (i 1) := by
  unfold mmA dotA
  pointwise

def mmB (y : Vec Ideal S4096x2048 .bf16) (w : Vec Ideal S2x2048x2048 .f32) : FVec Ideal S4096x2048 .f32 :=
  Host.dotGeneral (F := Ideal) (φ₁ := .f32) (φ₂ := .f32) dot_S4096x2048_S2048x2048_S4096x2048_1_0_0_1_n_n none (extf .f32 y bitsLt_bf16_f32)
    (shapeCast S2048x2048 (extractStridedSlice S1x2048x2048 ![0, 0, 0] w slices_S2x2048x2048_S1x2048x2048_0_0_0) shapeCasts_S1x2048x2048_S2048x2048)

theorem mmB_at (y : Vec Ideal S4096x2048 .bf16) (w : Vec Ideal S2x2048x2048 .f32) (i : S4096x2048.Idx) : mmB y w i = dotB y w (i 0) (i 1) := by
  unfold mmB dotB
  pointwise

def ga (g : FVec Ideal S4096x6144 .f32) : FVec Ideal S4096x2048 .f32 := extractStridedSlice S4096x2048 ![0, 0] g slices_S4096x6144_S4096x2048_0_0
def gb (g : FVec Ideal S4096x6144 .f32) : FVec Ideal S4096x2048 .f32 := extractStridedSlice S4096x2048 ![0, 2048] g slices_S4096x6144_S4096x2048_0_2048
def gc (g : FVec Ideal S4096x6144 .f32) : FVec Ideal S4096x2048 .f32 := extractStridedSlice S4096x2048 ![0, 4096] g slices_S4096x6144_S4096x2048_0_4096

theorem ga_at (g : FVec Ideal S4096x6144 .f32) (i : S4096x2048.Idx) :
    ga g i = g (ix2 (n0 := 4096) (n1 := 6144) (i 0) ⟨(i 1).val, by have : (i 1).val < 2048 := (i 1).isLt; omega⟩) := by
  unfold ga
  pointwise
theorem gb_at (g : FVec Ideal S4096x6144 .f32) (i : S4096x2048.Idx) :
    gb g i = g (ix2 (n0 := 4096) (n1 := 6144) (i 0) ⟨2048 + (i 1).val, by have : (i 1).val < 2048 := (i 1).isLt; omega⟩) := by
  unfold gb
  pointwise
theorem gc_at (g : FVec Ideal S4096x6144 .f32) (i : S4096x2048.Idx) :
    gc g i = g (ix2 (n0 := 4096) (n1 := 6144) (i 0) ⟨4096 + (i 1).val, by have : (i 1).val < 2048 := (i 1).isLt; omega⟩) := by
  unfold gc
  pointwise

/-- The reference's result. -/
def res (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) : Vec Ideal S4096x2048 .bf16 :=
  truncf .bf16 (addf (addf (mulf (ga (gates pr)) (mmA ya wa)) (mulf (gb (gates pr)) (mmB yb wb))) (mulf (gc (gates pr)) (mmA yc wc))) bitsLt_bf16_f32

theorem res_at (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) (i : S4096x2048.Idx) :
    res ya yb yc pr wa wb wc i = mergeAt ya yb yc pr wa wb wc (i 0) (i 1) := by
  have ea : ga (gates pr) i = gate pr 7680 (by decide) (i 0) (i 1) := by
    rw [ga_at, gates_at]; rfl
  have eb : gb (gates pr) i = gate pr 9728 (by decide) (i 0) (i 1) := by
    rw [gb_at, gates_at]; unfold gate
    exact congrArg (fun r => pr (ix2 (n0 := 8192) (n1 := 13824) _ r)) (Fin.ext (by show 7680 + (2048 + (i 1).val) = 9728 + (i 1).val; omega))
  have ec : gc (gates pr) i = gate pr 11776 (by decide) (i 0) (i 1) := by
    rw [gc_at, gates_at]; unfold gate
    exact congrArg (fun r => pr (ix2 (n0 := 8192) (n1 := 13824) _ r)) (Fin.ext (by show 7680 + (4096 + (i 1).val) = 11776 + (i 1).val; omega))
  unfold mergeAt
  rw [← ea, ← eb, ← ec, ← mmA_at ya wa i, ← mmB_at yb wb i, ← mmA_at yc wc i]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.MergeCReferenceIdeal.Value.run (F := Ideal) m ρ

end Cert.Proof.MergeC.Ref

end
-- ==== Proof.MergeLVal.lean ====
module

public import proofs.«01_k».proof.Proof.Gen.MergeLIdeal.Value
public import proofs.«01_k».proof.Proof.Gen.MergeLReferenceIdeal.Run
public import Idealize.ShloMosaic.Lib.VecWindow
public import Idealize.ShloMosaic.Lib.Pipeline.ValueKit
public import Idealize.ShloMosaic.Lib.Pointwise
public import Idealize.ShloMosaic.Lib.KernelVsHost
public import Idealize.ShloMosaic.Lib.StableHlo.ReadAt
public import Idealize.ShloMosaic.PureOps.Ideal.Laws
public import Idealize.ShloMosaic.Lib.IdealHost

@[expose] public section

set_option maxRecDepth 16384

noncomputable section

namespace Cert.Proof.MergeL

open Idealize.ShloMosaic Idealize.ShloMosaic.TcCoe Idealize.ShloMosaic.Tactic Idealize.SL.Sem Cert.MergeLIdeal Cert.MergeLIdeal.Gen

section Body

variable {F : FTy → Type} [FloatOps F]

theorem z2 : (![0, 0] : Fin 2 → Nat) = fun _ => 0 := by funext a; fin_cases a <;> rfl
theorem z3 : (![0, 0, 0] : Fin 3 → Nat) = fun _ => 0 := by funext a; fin_cases a <;> rfl

/-- A chunk's weights as the scratch holds them: the three branches' rows one below the other. -/
def stack (x6 : Vec F S1x1024x512 .f32) (x7 : Vec F S1x2048x512 .f32) (x8 : Vec F S1x1024x512 .f32) : Vec F S4096x512 .bf16 := fun y =>
  if h : (y 0).val < 1024 then k0_pay1 x6 (ix2 (n0 := 1024) (n1 := 512) ⟨(y 0).val, h⟩ (y 1))
  else if h' : (y 0).val < 3072 then k0_pay2 x7 (ix2 (n0 := 2048) (n1 := 512) ⟨(y 0).val - 1024, by omega⟩ (y 1))
  else k0_pay3 x8 (ix2 (n0 := 1024) (n1 := 512) ⟨(y 0).val - 3072, by have : (y 0).val < 4096 := (y 0).isLt; omega⟩ (y 1))

/-- What a point writes, over the weights the scratch holds. -/
def merged (x0 : Vec F S1024x1024 .bf16) (x1 : Vec F S1024x2048 .bf16) (x2 : Vec F S1024x1024 .bf16) (x3 x4 x5 : Vec F S1024x512 .bf16) (s : Vec F S4096x512 .bf16) : Vec F S1024x512 .bf16 :=
  k0_pay4 x0 (View.ld s (Rect.unit (s := S4096x512) ![0, 0] S1024x512.size inb_S4096x512_S1024x512_0_0))
    x1 (View.ld s (Rect.unit (s := S4096x512) ![1024, 0] S2048x512.size inb_S4096x512_S2048x512_1024_0))
    x2 (View.ld s (Rect.unit (s := S4096x512) ![3072, 0] S1024x512.size inb_S4096x512_S1024x512_3072_0)) x3 x4 x5

theorem scr_A (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = stack x6 x7 x8 := by
  have hc : ∀ y, ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set := scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8
  unfold sout0_A_0
  rw [View.read_writes_junk_eq_canon]
  unfold kernelRun0_A at hc ⊢
  dsimp only at hc ⊢
  funext y
  have hcov := hc y
  unfold kernelRun0_A.sl.HS0_3 at hcov ⊢
  canon_tiles x hx using hcov
  case piece0 =>
    unfold stack
    rw [dif_neg (by omega), dif_neg (by omega)]
    refine congr (congrArg k0_pay3 ((View.readAt_full (s := S1x1024x512) _ _ _).trans (harg10.read_unread _))) (funext fun a => Fin.ext ?_)
    match a with
    | ⟨0, _⟩ => show (x 0).val = (y 0).val - 3072; omega
    | ⟨1, _⟩ => exact hx1.symm
  case piece1 =>
    unfold stack
    have b0 : (x 0).val < 2048 := (x 0).isLt
    rw [dif_neg (by omega), dif_pos (by omega)]
    refine congr (congrArg k0_pay2 ((View.readAt_full (s := S1x2048x512) _ _ _).trans (harg9.read_unread _))) (funext fun a => Fin.ext ?_)
    match a with
    | ⟨0, _⟩ => show (x 0).val = (y 0).val - 1024; omega
    | ⟨1, _⟩ => exact hx1.symm
  case piece2 =>
    unfold stack
    have b0 : (x 0).val < 1024 := (x 0).isLt
    rw [dif_pos (by omega)]
    refine congr (congrArg k0_pay1 ((View.readAt_full (s := S1x1024x512) _ _ _).trans (harg8.read_unread _))) (funext fun a => Fin.ext ?_)
    match a with
    | ⟨0, _⟩ => show (x 0).val = (y 0).val; omega
    | ⟨1, _⟩ => exact hx1.symm

theorem pay4_congr {x0 x0' : Vec F S1024x1024 .bf16} {w0 w0' : Vec F S1024x512 .bf16} {x1 x1' : Vec F S1024x2048 .bf16} {w1 w1' : Vec F S2048x512 .bf16}
    {x2 x2' : Vec F S1024x1024 .bf16} {w2 w2' x3 x3' x4 x4' x5 x5' : Vec F S1024x512 .bf16}
    (h0 : x0 = x0') (k0 : w0 = w0') (h1 : x1 = x1') (k1 : w1 = w1') (h2 : x2 = x2') (k2 : w2 = w2') (h3 : x3 = x3') (h4 : x4 = x4') (h5 : x5 = x5') :
    k0_pay4 x0 w0 x1 w1 x2 w2 x3 x4 x5 = k0_pay4 x0' w0' x1' w1' x2' w2' x3' x4' x5' := by
  subst h0 k0 h1 k1 h2 k2 h3 h4 h5; rfl

theorem out_A (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = merged x0 x1 x2 x3 x4 x5 (stack x6 x7 x8) := by
  rw [← scr_A c i arg2 harg2 arg3 harg3 arg4 harg4 arg5 harg5 arg6 harg6 arg7 harg7 arg8 harg8 arg9 harg9 arg10 harg10 arg11 harg11 arg12 harg12 hc0 x0 x1 x2 x3 x4 x5 x6 x7 x8]
  unfold out0_A_9 sout0_A_0
  simp only [View.read_writes_junk_eq_canon]
  unfold kernelRun0_A
  dsimp only
  unfold kernelRun0_A.sl.v4 kernelRun0_A.sl.v7 kernelRun0_A.sl.v10
  refine (View.canon_unit_zero (S := S1024x512) z2 _ _).trans ?_
  unfold merged
  refine pay4_congr ?_ ?_ ?_ ?_ ?_ ?_ ?_ ?_ ?_
  · exact (View.readAt_full (s := S1024x1024) _ _ _).trans (harg2.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x2048) _ _ _).trans (harg3.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x1024) _ _ _).trans (harg4.read_unread _)
  · generalize kernelRun0_A.sl.HS0_3 c arg8 harg8 arg9 harg9 arg10 harg10 x6 x7 x8 = L
    exact congrArg (fun X => View.ld X _) (View.read_writes_junk_eq_canon arg12.view L)
  · exact (View.readAt_full (s := S1024x512) _ _ _).trans (harg5.read_unread _)
  · exact (View.readAt_full (s := S1024x512) _ _ _).trans (harg6.read_unread _)
  · exact (View.readAt_full (s := S1024x512) _ _ _).trans (harg7.read_unread _)

theorem out_B (c : Dev nD) (i : grid0.Coords) (arg2 : Memref sig .tc .vmem S1024x1024 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x1024x512 .f32) (harg8 : arg8.IsWhole) (arg9 : Memref sig .tc .vmem S1x2048x512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S4096x512 .bf16) (harg12 : arg12.IsWhole) (hc0 : ¬cond0_0 i)
    (x0 : Vec F S1024x1024 .bf16) (x1 : Vec F S1024x2048 .bf16) (x2 : Vec F S1024x1024 .bf16) (x3 : Vec F S1024x512 .bf16) (x4 : Vec F S1024x512 .bf16) (x5 : Vec F S1024x512 .bf16) (x6 : Vec F S1x1024x512 .f32) (x7 : Vec F S1x2048x512 .f32) (x8 : Vec F S1x1024x512 .f32) (xs0 : Vec F S4096x512 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = merged x0 x1 x2 x3 x4 x5 xs0 := by
  unfold out0_B_9
  rw [View.read_writes_junk_eq_canon]
  unfold kernelRun0_B
  dsimp only
  refine (View.canon_unit_zero (S := S1024x512) z2 _ _).trans ?_
  unfold merged
  refine pay4_congr ?_ ?_ ?_ ?_ ?_ ?_ ?_ ?_ ?_
  · exact (View.readAt_full (s := S1024x1024) _ _ _).trans (harg2.read_unread _)
  · exact congrArg (fun X => View.ld X _) (harg12.read_unread xs0)
  · exact (View.readAt_full (s := S1024x2048) _ _ _).trans (harg3.read_unread _)
  · exact congrArg (fun X => View.ld X _) (harg12.read_unread xs0)
  · exact (View.readAt_full (s := S1024x1024) _ _ _).trans (harg4.read_unread _)
  · exact congrArg (fun X => View.ld X _) (harg12.read_unread xs0)
  · exact (View.readAt_full (s := S1024x512) _ _ _).trans (harg5.read_unread _)
  · exact (View.readAt_full (s := S1024x512) _ _ _).trans (harg6.read_unread _)
  · exact (View.readAt_full (s := S1024x512) _ _ _).trans (harg7.read_unread _)

variable (m : (ℓ : Loc nD τ sig) → Buf (Elt F) ℓ)

/-- The first point of a point's chunk of columns. -/
def base (n : ℕ) (hn : n < cfg0.N) : Fin cfg0.N := ⟨4 * (n / 4), by have := lt_of_lt_of_eq hn (show cfg0.N = 16 from N_0); rw [show cfg0.N = 16 from N_0]; omega⟩

/-- The weights staged at a point, as the scratch holds them. -/
def stackAt (c : Dev nD) (t : Fin cfg0.N) : Vec F S4096x512 .bf16 := stack (iblk m c 6 t) (iblk m c 7 t) (iblk m c 8 t)

/-- What a point writes over given weights. -/
def mergedAt (c : Dev nD) (t : Fin cfg0.N) (s : Vec F S4096x512 .bf16) : Vec F S1024x512 .bf16 :=
  merged (iblk m c 0 t) (iblk m c 1 t) (iblk m c 2 t) (iblk m c 3 t) (iblk m c 4 t) (iblk m c 5 t) s

theorem outs_fill (c : Dev nD) (t : Fin cfg0.N) (h : t.val % 4 = 0) :
    outsAt0 m c t.val t.isLt = (mergedAt m c t (stackAt m c t), stackAt m c t) := by
  rw [outsAt0_A m c t h, out_A, scr_A]
  unfold mergedAt stackAt
  rfl

theorem outs_keep (c : Dev nD) (t : Fin cfg0.N) (h : ¬ t.val % 4 = 0) (h' : t.val - 1 < cfg0.N) :
    outsAt0 m c t.val t.isLt = (mergedAt m c t (outsAt0 m c (t.val - 1) h').2, (outsAt0 m c (t.val - 1) h').2) := by
  rw [outsAt0_B m c t h, out_B]
  unfold mergedAt sout0_B_0
  rfl

/-- What the scratch holds after a point: the weights of the chunk. -/
theorem scr_at (c : Dev nD) : ∀ (n : ℕ) (hn : n < cfg0.N), (outsAt0 m c n hn).2 = stackAt m c (base n hn) := by
  intro n
  induction n with
  | zero => exact fun hn => congrArg Prod.snd (outs_fill m c ⟨0, hn⟩ rfl)
  | succ n ih =>
    intro hn
    by_cases h : (n + 1) % 4 = 0
    · have e : base (n + 1) hn = ⟨n + 1, hn⟩ := Fin.ext (by show 4 * ((n + 1) / 4) = n + 1; omega)
      rw [e]
      exact congrArg Prod.snd (outs_fill m c ⟨n + 1, hn⟩ h)
    · have e : base (n + 1) hn = base n (Nat.lt_of_succ_lt hn) := Fin.ext (by show 4 * ((n + 1) / 4) = 4 * (n / 4); omega)
      rw [e, ← ih]
      exact (congrArg Prod.snd (outs_keep m c ⟨n + 1, hn⟩ h (Nat.lt_of_succ_lt hn))).trans rfl

/-- What a point writes: the merge over the weights of its chunk. -/
theorem out_at (c : Dev nD) (n : ℕ) (hn : n < cfg0.N) :
    (outsAt0 m c n hn).1 = mergedAt m c ⟨n, hn⟩ (stackAt m c (base n hn)) := by
  by_cases h : n % 4 = 0
  · have e : base n hn = ⟨n, hn⟩ := Fin.ext (by show 4 * (n / 4) = n; omega)
    rw [e]
    exact congrArg Prod.fst (outs_fill m c ⟨n, hn⟩ h)
  · have h' : n - 1 < cfg0.N := lt_of_le_of_lt (Nat.sub_le _ _) hn
    have e : base n hn = base (n - 1) h' := Fin.ext (by show 4 * (n / 4) = 4 * ((n - 1) / 4); omega)
    rw [e, ← scr_at m c (n - 1) h']
    exact congrArg Prod.fst (outs_keep m c ⟨n, hn⟩ h h')

/-- The result's array at an index. -/
theorem G_at (c : Dev nD) (i : S4096x2048.Idx) (h : Value.pt9Of i < cfg0.N) :
    Value.G9 m c i = mergedAt m c ⟨Value.pt9Of i, h⟩ (stackAt m c (base _ h)) (Value.loc9Of i) := by
  unfold Value.G9
  rw [dif_pos h, ← Value.outsAt0_sweep m c _ h, out_at]

end Body

/-! ## The formula -/

/-- A dot of a branch's row with a column of its layer-0 weights. -/
def dotA (y : Vec Ideal S4096x1024 .bf16) (w : Vec Ideal S2x1024x2048 .f32) (a : Fin 4096) (j : Fin 2048) : EReal :=
  ∑ k : Fin 1024, (y (ix2 (n0 := 4096) (n1 := 1024) a k) : EReal) * w (ix3 (n0 := 2) (n1 := 1024) (n2 := 2048) 0 k j)
def dotB (y : Vec Ideal S4096x2048 .bf16) (w : Vec Ideal S2x2048x2048 .f32) (a : Fin 4096) (j : Fin 2048) : EReal :=
  ∑ k : Fin 2048, (y (ix2 (n0 := 4096) (n1 := 2048) a k) : EReal) * w (ix3 (n0 := 2) (n1 := 2048) (n2 := 2048) 0 k j)

/-- A gate: the token's row of the projection, at the branch's column. -/
def gate (pr : Vec Ideal S8192x13824 .bf16) (off : ℕ) (hoff : off + 2048 ≤ 13824) (a : Fin 4096) (j : Fin 2048) : EReal :=
  pr (ix2 (n0 := 8192) (n1 := 13824) ⟨4096 + a.val, by omega⟩ ⟨off + j.val, by omega⟩)

/-- The merged row: each branch's dot times its gate, added up. -/
def mergeAt (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) (a : Fin 4096) (j : Fin 2048) : EReal :=
  gate pr 7680 (by decide) a j * dotA ya wa a j + gate pr 9728 (by decide) a j * dotB yb wb a j + gate pr 11776 (by decide) a j * dotA yc wc a j

theorem pay1_at (x : Vec Ideal S1x1024x512 .f32) (a : Fin 1024) (b : Fin 512) :
    k0_pay1 (F := Ideal) x (ix2 (n0 := 1024) (n1 := 512) a b) = x (ix3 (n0 := 1) (n1 := 1024) (n2 := 512) 0 a b) := by
  unfold k0_pay1
  pointwise
theorem pay2_at (x : Vec Ideal S1x2048x512 .f32) (a : Fin 2048) (b : Fin 512) :
    k0_pay2 (F := Ideal) x (ix2 (n0 := 2048) (n1 := 512) a b) = x (ix3 (n0 := 1) (n1 := 2048) (n2 := 512) 0 a b) := by
  unfold k0_pay2
  pointwise
theorem pay3_at (x : Vec Ideal S1x1024x512 .f32) (a : Fin 1024) (b : Fin 512) :
    k0_pay3 (F := Ideal) x (ix2 (n0 := 1024) (n1 := 512) a b) = x (ix3 (n0 := 1) (n1 := 1024) (n2 := 512) 0 a b) := by
  unfold k0_pay3
  pointwise

theorem pay4_at (x0 : Vec Ideal S1024x1024 .bf16) (w0 : Vec Ideal S1024x512 .bf16) (x1 : Vec Ideal S1024x2048 .bf16) (w1 : Vec Ideal S2048x512 .bf16)
    (x2 : Vec Ideal S1024x1024 .bf16) (w2 g0 g1 g2 : Vec Ideal S1024x512 .bf16) (a : Fin 1024) (b : Fin 512) :
    k0_pay4 (F := Ideal) x0 w0 x1 w1 x2 w2 g0 g1 g2 (ix2 (n0 := 1024) (n1 := 512) a b)
      = (g0 (ix2 (n0 := 1024) (n1 := 512) a b) : EReal) * (∑ k : Fin 1024, (x0 (ix2 (n0 := 1024) (n1 := 1024) a k) : EReal) * w0 (ix2 (n0 := 1024) (n1 := 512) k b))
        + (g1 (ix2 (n0 := 1024) (n1 := 512) a b) : EReal) * (∑ k : Fin 2048, (x1 (ix2 (n0 := 1024) (n1 := 2048) a k) : EReal) * w1 (ix2 (n0 := 2048) (n1 := 512) k b))
        + (g2 (ix2 (n0 := 1024) (n1 := 512) a b) : EReal) * (∑ k : Fin 1024, (x2 (ix2 (n0 := 1024) (n1 := 1024) a k) : EReal) * w2 (ix2 (n0 := 1024) (n1 := 512) k b)) := by
  unfold k0_pay4
  pointwise

variable (x6 : Vec Ideal S1x1024x512 .f32) (x7 : Vec Ideal S1x2048x512 .f32) (x8 : Vec Ideal S1x1024x512 .f32)

theorem stack_lo (k : Fin 1024) (b : Fin 512) :
    View.ld (stack (F := Ideal) x6 x7 x8) (Rect.unit (s := S4096x512) ![0, 0] S1024x512.size inb_S4096x512_S1024x512_0_0) (ix2 (n0 := 1024) (n1 := 512) k b)
      = x6 (ix3 (n0 := 1) (n1 := 1024) (n2 := 512) 0 k b) := by
  have e : (Rect.unit (s := S4096x512) ![0, 0] S1024x512.size inb_S4096x512_S1024x512_0_0).emb (ix2 (n0 := 1024) (n1 := 512) k b)
      = ix2 (n0 := 4096) (n1 := 512) ⟨k.val, by omega⟩ b := by
    funext a; apply Fin.ext
    match a with
    | ⟨0, _⟩ => show 0 + 1 * k.val = k.val; omega
    | ⟨1, _⟩ => show 0 + 1 * b.val = b.val; omega
  show stack (F := Ideal) x6 x7 x8 ((Rect.unit (s := S4096x512) ![0, 0] S1024x512.size inb_S4096x512_S1024x512_0_0).emb (ix2 (n0 := 1024) (n1 := 512) k b)) = _
  rw [e, ← pay1_at x6 k b]
  exact dif_pos k.isLt

theorem stack_mid (k : Fin 2048) (b : Fin 512) :
    View.ld (stack (F := Ideal) x6 x7 x8) (Rect.unit (s := S4096x512) ![1024, 0] S2048x512.size inb_S4096x512_S2048x512_1024_0) (ix2 (n0 := 2048) (n1 := 512) k b)
      = x7 (ix3 (n0 := 1) (n1 := 2048) (n2 := 512) 0 k b) := by
  have e : (Rect.unit (s := S4096x512) ![1024, 0] S2048x512.size inb_S4096x512_S2048x512_1024_0).emb (ix2 (n0 := 2048) (n1 := 512) k b)
      = ix2 (n0 := 4096) (n1 := 512) ⟨1024 + k.val, by omega⟩ b := by
    funext a; apply Fin.ext
    match a with
    | ⟨0, _⟩ => show 1024 + 1 * k.val = 1024 + k.val; omega
    | ⟨1, _⟩ => show 0 + 1 * b.val = b.val; omega
  show stack (F := Ideal) x6 x7 x8 ((Rect.unit (s := S4096x512) ![1024, 0] S2048x512.size inb_S4096x512_S2048x512_1024_0).emb (ix2 (n0 := 2048) (n1 := 512) k b)) = _
  rw [e, ← pay2_at x7 k b]
  refine (dif_neg (show ¬ 1024 + k.val < 1024 by omega)).trans ((dif_pos (show 1024 + k.val < 3072 by omega)).trans ?_)
  exact congrArg (fun r => k0_pay2 (F := Ideal) x7 (ix2 (n0 := 2048) (n1 := 512) r b)) (Fin.ext (by show 1024 + k.val - 1024 = k.val; omega))

theorem stack_hi (k : Fin 1024) (b : Fin 512) :
    View.ld (stack (F := Ideal) x6 x7 x8) (Rect.unit (s := S4096x512) ![3072, 0] S1024x512.size inb_S4096x512_S1024x512_3072_0) (ix2 (n0 := 1024) (n1 := 512) k b)
      = x8 (ix3 (n0 := 1) (n1 := 1024) (n2 := 512) 0 k b) := by
  have e : (Rect.unit (s := S4096x512) ![3072, 0] S1024x512.size inb_S4096x512_S1024x512_3072_0).emb (ix2 (n0 := 1024) (n1 := 512) k b)
      = ix2 (n0 := 4096) (n1 := 512) ⟨3072 + k.val, by omega⟩ b := by
    funext a; apply Fin.ext
    match a with
    | ⟨0, _⟩ => show 3072 + 1 * k.val = 3072 + k.val; omega
    | ⟨1, _⟩ => show 0 + 1 * b.val = b.val; omega
  show stack (F := Ideal) x6 x7 x8 ((Rect.unit (s := S4096x512) ![3072, 0] S1024x512.size inb_S4096x512_S1024x512_3072_0).emb (ix2 (n0 := 1024) (n1 := 512) k b)) = _
  rw [e, ← pay3_at x8 k b]
  refine (dif_neg (show ¬ 3072 + k.val < 1024 by omega)).trans ((dif_neg (show ¬ 3072 + k.val < 3072 by omega)).trans ?_)
  exact congrArg (fun r => k0_pay3 (F := Ideal) x8 (ix2 (n0 := 1024) (n1 := 512) r b)) (Fin.ext (by show 3072 + k.val - 3072 = k.val; omega))

/-- A block of the merge, from where its operands come from. -/
theorem block_eq (x0 : Vec Ideal S1024x1024 .bf16) (x1 : Vec Ideal S1024x2048 .bf16) (x2 : Vec Ideal S1024x1024 .bf16) (g0 g1 g2 : Vec Ideal S1024x512 .bf16)
    (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32)
    (a : Fin 1024) (b : Fin 512) (a' : Fin 4096) (b' : Fin 2048)
    (h0 : ∀ k, x0 (ix2 (n0 := 1024) (n1 := 1024) a k) = ya (ix2 (n0 := 4096) (n1 := 1024) a' k))
    (h1 : ∀ k, x1 (ix2 (n0 := 1024) (n1 := 2048) a k) = yb (ix2 (n0 := 4096) (n1 := 2048) a' k))
    (h2 : ∀ k, x2 (ix2 (n0 := 1024) (n1 := 1024) a k) = yc (ix2 (n0 := 4096) (n1 := 1024) a' k))
    (h3 : g0 (ix2 (n0 := 1024) (n1 := 512) a b) = gate pr 7680 (by decide) a' b')
    (h4 : g1 (ix2 (n0 := 1024) (n1 := 512) a b) = gate pr 9728 (by decide) a' b')
    (h5 : g2 (ix2 (n0 := 1024) (n1 := 512) a b) = gate pr 11776 (by decide) a' b')
    (h6 : ∀ k, x6 (ix3 (n0 := 1) (n1 := 1024) (n2 := 512) 0 k b) = wa (ix3 (n0 := 2) (n1 := 1024) (n2 := 2048) 0 k b'))
    (h7 : ∀ k, x7 (ix3 (n0 := 1) (n1 := 2048) (n2 := 512) 0 k b) = wb (ix3 (n0 := 2) (n1 := 2048) (n2 := 2048) 0 k b'))
    (h8 : ∀ k, x8 (ix3 (n0 := 1) (n1 := 1024) (n2 := 512) 0 k b) = wc (ix3 (n0 := 2) (n1 := 1024) (n2 := 2048) 0 k b')) :
    merged (F := Ideal) x0 x1 x2 g0 g1 g2 (stack x6 x7 x8) (ix2 (n0 := 1024) (n1 := 512) a b) = mergeAt ya yb yc pr wa wb wc a' b' := by
  unfold merged
  rw [pay4_at, h3, h4, h5]
  unfold mergeAt dotA dotB
  refine congrArg₂ (fun p q : EReal => p + q) (congrArg₂ (fun p q : EReal => p + q) (congrArg (fun p : EReal => _ * p) ?_) (congrArg (fun p : EReal => _ * p) ?_)) (congrArg (fun p : EReal => _ * p) ?_)
  · exact Finset.sum_congr rfl fun k _ => congrArg₂ (fun p q : EReal => p * q) (h0 k) ((stack_lo x6 x7 x8 k b).trans (h6 k))
  · exact Finset.sum_congr rfl fun k _ => congrArg₂ (fun p q : EReal => p * q) (h1 k) ((stack_mid x6 x7 x8 k b).trans (h7 k))
  · exact Finset.sum_congr rfl fun k _ => congrArg₂ (fun p q : EReal => p * q) (h2 k) ((stack_hi x6 x7 x8 k b).trans (h8 k))

/-! ## The blocks -/

variable (m : (ℓ : Loc nD τ sig) → Buf (Elt Ideal) ℓ) (c : Dev nD) (t : Fin cfg0.N)

theorem t_lt : t.val < 16 := lt_of_lt_of_eq t.isLt N_0

theorem idx0 : ∀ t : Fin cfg0.N, (cfg0.win 0).index t = ![t.val % 4, 0] :=
  (by decide +kernel : ∀ t : Fin grid0.N, win0_0.index t = ![t.val % 4, 0])
theorem idx1 : ∀ t : Fin cfg0.N, (cfg0.win 1).index t = ![t.val % 4, 0] :=
  (by decide +kernel : ∀ t : Fin grid0.N, win0_1.index t = ![t.val % 4, 0])
theorem idx2 : ∀ t : Fin cfg0.N, (cfg0.win 2).index t = ![t.val % 4, 0] :=
  (by decide +kernel : ∀ t : Fin grid0.N, win0_2.index t = ![t.val % 4, 0])
theorem idx3 : ∀ t : Fin cfg0.N, (cfg0.win 3).index t = ![4 + t.val % 4, 15 + t.val / 4] :=
  (by decide +kernel : ∀ t : Fin grid0.N, win0_3.index t = ![4 + t.val % 4, 15 + t.val / 4])
theorem idx4 : ∀ t : Fin cfg0.N, (cfg0.win 4).index t = ![4 + t.val % 4, 19 + t.val / 4] :=
  (by decide +kernel : ∀ t : Fin grid0.N, win0_4.index t = ![4 + t.val % 4, 19 + t.val / 4])
theorem idx5 : ∀ t : Fin cfg0.N, (cfg0.win 5).index t = ![4 + t.val % 4, 23 + t.val / 4] :=
  (by decide +kernel : ∀ t : Fin grid0.N, win0_5.index t = ![4 + t.val % 4, 23 + t.val / 4])
theorem idx6 : ∀ t : Fin cfg0.N, (cfg0.win 6).index t = ![0, 0, t.val / 4] :=
  (by decide +kernel : ∀ t : Fin grid0.N, win0_6.index t = ![0, 0, t.val / 4])
theorem idx7 : ∀ t : Fin cfg0.N, (cfg0.win 7).index t = ![0, 0, t.val / 4] :=
  (by decide +kernel : ∀ t : Fin grid0.N, win0_7.index t = ![0, 0, t.val / 4])
theorem idx8 : ∀ t : Fin cfg0.N, (cfg0.win 8).index t = ![0, 0, t.val / 4] :=
  (by decide +kernel : ∀ t : Fin grid0.N, win0_8.index t = ![0, 0, t.val / 4])

theorem blk0 (a : Fin 1024) (b : Fin 1024) : (iblk m c 0 t : Vec Ideal S1024x1024 .bf16) (ix2 (n0 := 1024) (n1 := 1024) a b)
    = (m ((c.tc : Thread nD τ).loc main_arg0) : Vec Ideal S4096x1024 .bf16) (ix2 (n0 := 4096) (n1 := 1024)
      ⟨1024 * (t.val % 4) + a.val, by omega⟩ b) := by
  have h := t_lt t
  have e : (iblk m c 0 t : Vec Ideal S1024x1024 .bf16) (ix2 (n0 := 1024) (n1 := 1024) a b) = (V m c main_arg0 : Vec Ideal S4096x1024 .bf16) (ix2 (n0 := 4096) (n1 := 1024)
      ⟨1024 * (t.val % 4) + a.val, by omega⟩ b) := by
    blk_ext [iblk, idx0 t]
  exact e.trans (congrFun (V_main_arg0 m c) _)

theorem blk1 (a : Fin 1024) (b : Fin 2048) : (iblk m c 1 t : Vec Ideal S1024x2048 .bf16) (ix2 (n0 := 1024) (n1 := 2048) a b)
    = (m ((c.tc : Thread nD τ).loc main_arg1) : Vec Ideal S4096x2048 .bf16) (ix2 (n0 := 4096) (n1 := 2048)
      ⟨1024 * (t.val % 4) + a.val, by omega⟩ b) := by
  have h := t_lt t
  have e : (iblk m c 1 t : Vec Ideal S1024x2048 .bf16) (ix2 (n0 := 1024) (n1 := 2048) a b) = (V m c main_arg1 : Vec Ideal S4096x2048 .bf16) (ix2 (n0 := 4096) (n1 := 2048)
      ⟨1024 * (t.val % 4) + a.val, by omega⟩ b) := by
    blk_ext [iblk, idx1 t]
  exact e.trans (congrFun (V_main_arg1 m c) _)

theorem blk2 (a : Fin 1024) (b : Fin 1024) : (iblk m c 2 t : Vec Ideal S1024x1024 .bf16) (ix2 (n0 := 1024) (n1 := 1024) a b)
    = (m ((c.tc : Thread nD τ).loc main_arg2) : Vec Ideal S4096x1024 .bf16) (ix2 (n0 := 4096) (n1 := 1024)
      ⟨1024 * (t.val % 4) + a.val, by omega⟩ b) := by
  have h := t_lt t
  have e : (iblk m c 2 t : Vec Ideal S1024x1024 .bf16) (ix2 (n0 := 1024) (n1 := 1024) a b) = (V m c main_arg2 : Vec Ideal S4096x1024 .bf16) (ix2 (n0 := 4096) (n1 := 1024)
      ⟨1024 * (t.val % 4) + a.val, by omega⟩ b) := by
    blk_ext [iblk, idx2 t]
  exact e.trans (congrFun (V_main_arg2 m c) _)

theorem blk3 (a : Fin 1024) (b : Fin 512) : (iblk m c 3 t : Vec Ideal S1024x512 .bf16) (ix2 (n0 := 1024) (n1 := 512) a b)
    = gate (m ((c.tc : Thread nD τ).loc main_arg3)) 7680 (by decide) ⟨1024 * (t.val % 4) + a.val, by omega⟩ ⟨512 * (t.val / 4) + b.val, by have := t_lt t; omega⟩ := by
  have h := t_lt t
  have e : (iblk m c 3 t : Vec Ideal S1024x512 .bf16) (ix2 (n0 := 1024) (n1 := 512) a b) = gate (V m c main_arg3) 7680 (by decide) ⟨1024 * (t.val % 4) + a.val, by omega⟩ ⟨512 * (t.val / 4) + b.val, by have := t_lt t; omega⟩ := by
    unfold gate
    blk_ext [iblk, idx3 t]
  refine e.trans ?_
  unfold gate
  exact congrFun (V_main_arg3 m c) _

theorem blk4 (a : Fin 1024) (b : Fin 512) : (iblk m c 4 t : Vec Ideal S1024x512 .bf16) (ix2 (n0 := 1024) (n1 := 512) a b)
    = gate (m ((c.tc : Thread nD τ).loc main_arg3)) 9728 (by decide) ⟨1024 * (t.val % 4) + a.val, by omega⟩ ⟨512 * (t.val / 4) + b.val, by have := t_lt t; omega⟩ := by
  have h := t_lt t
  have e : (iblk m c 4 t : Vec Ideal S1024x512 .bf16) (ix2 (n0 := 1024) (n1 := 512) a b) = gate (V m c main_arg3) 9728 (by decide) ⟨1024 * (t.val % 4) + a.val, by omega⟩ ⟨512 * (t.val / 4) + b.val, by have := t_lt t; omega⟩ := by
    unfold gate
    blk_ext [iblk, idx4 t]
  refine e.trans ?_
  unfold gate
  exact congrFun (V_main_arg3 m c) _

theorem blk5 (a : Fin 1024) (b : Fin 512) : (iblk m c 5 t : Vec Ideal S1024x512 .bf16) (ix2 (n0 := 1024) (n1 := 512) a b)
    = gate (m ((c.tc : Thread nD τ).loc main_arg3)) 11776 (by decide) ⟨1024 * (t.val % 4) + a.val, by omega⟩ ⟨512 * (t.val / 4) + b.val, by have := t_lt t; omega⟩ := by
  have h := t_lt t
  have e : (iblk m c 5 t : Vec Ideal S1024x512 .bf16) (ix2 (n0 := 1024) (n1 := 512) a b) = gate (V m c main_arg3) 11776 (by decide) ⟨1024 * (t.val % 4) + a.val, by omega⟩ ⟨512 * (t.val / 4) + b.val, by have := t_lt t; omega⟩ := by
    unfold gate
    blk_ext [iblk, idx5 t]
  refine e.trans ?_
  unfold gate
  exact congrFun (V_main_arg3 m c) _

theorem blk6 (k : Fin 1024) (b : Fin 512) : (iblk m c 6 t : Vec Ideal S1x1024x512 .f32) (ix3 (n0 := 1) (n1 := 1024) (n2 := 512) 0 k b)
    = (m ((c.tc : Thread nD τ).loc main_arg4) : Vec Ideal S2x1024x2048 .f32) (ix3 (n0 := 2) (n1 := 1024) (n2 := 2048) 0 k
      ⟨512 * (t.val / 4) + b.val, by have := t_lt t; omega⟩) := by
  have h := t_lt t
  have e : (iblk m c 6 t : Vec Ideal S1x1024x512 .f32) (ix3 (n0 := 1) (n1 := 1024) (n2 := 512) 0 k b) = (V m c main_arg4 : Vec Ideal S2x1024x2048 .f32) (ix3 (n0 := 2) (n1 := 1024) (n2 := 2048) 0 k
      ⟨512 * (t.val / 4) + b.val, by have := t_lt t; omega⟩) := by
    blk_ext [iblk, idx6 t]
  exact e.trans (congrFun (V_main_arg4 m c) _)

theorem blk7 (k : Fin 2048) (b : Fin 512) : (iblk m c 7 t : Vec Ideal S1x2048x512 .f32) (ix3 (n0 := 1) (n1 := 2048) (n2 := 512) 0 k b)
    = (m ((c.tc : Thread nD τ).loc main_arg5) : Vec Ideal S2x2048x2048 .f32) (ix3 (n0 := 2) (n1 := 2048) (n2 := 2048) 0 k
      ⟨512 * (t.val / 4) + b.val, by have := t_lt t; omega⟩) := by
  have h := t_lt t
  have e : (iblk m c 7 t : Vec Ideal S1x2048x512 .f32) (ix3 (n0 := 1) (n1 := 2048) (n2 := 512) 0 k b) = (V m c main_arg5 : Vec Ideal S2x2048x2048 .f32) (ix3 (n0 := 2) (n1 := 2048) (n2 := 2048) 0 k
      ⟨512 * (t.val / 4) + b.val, by have := t_lt t; omega⟩) := by
    blk_ext [iblk, idx7 t]
  exact e.trans (congrFun (V_main_arg5 m c) _)

theorem blk8 (k : Fin 1024) (b : Fin 512) : (iblk m c 8 t : Vec Ideal S1x1024x512 .f32) (ix3 (n0 := 1) (n1 := 1024) (n2 := 512) 0 k b)
    = (m ((c.tc : Thread nD τ).loc main_arg6) : Vec Ideal S2x1024x2048 .f32) (ix3 (n0 := 2) (n1 := 1024) (n2 := 2048) 0 k
      ⟨512 * (t.val / 4) + b.val, by have := t_lt t; omega⟩) := by
  have h := t_lt t
  have e : (iblk m c 8 t : Vec Ideal S1x1024x512 .f32) (ix3 (n0 := 1) (n1 := 1024) (n2 := 512) 0 k b) = (V m c main_arg6 : Vec Ideal S2x1024x2048 .f32) (ix3 (n0 := 2) (n1 := 1024) (n2 := 2048) 0 k
      ⟨512 * (t.val / 4) + b.val, by have := t_lt t; omega⟩) := by
    blk_ext [iblk, idx8 t]
  exact e.trans (congrFun (V_main_arg6 m c) _)

/-- The whole result. -/
def G : Vec Ideal S4096x2048 .bf16 := fun i => mergeAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1)

theorem value_eq : Value.G9 m c = G m c := by
  funext i
  have hi0 : (i 0).val < 4096 := (i 0).isLt
  have hi1 : (i 1).val < 2048 := (i 1).isLt
  have hp : Value.pt9Of i = (i 0).val / 1024 + 4 * ((i 1).val / 512) := by
    show 1 * ((i 0).val / 1024 - 0) + 4 * ((i 1).val / 512 - 0) = _; omega
  have h : Value.pt9Of i < cfg0.N := by rw [hp, show cfg0.N = 16 from N_0]; omega
  have hb : (base (Value.pt9Of i) h).val = 4 * (Value.pt9Of i / 4) := rfl
  rw [G_at m c i h]
  have hl : Value.loc9Of i = ix2 (n0 := 1024) (n1 := 512) ⟨(i 0).val % 1024, Nat.mod_lt _ (by decide)⟩ ⟨(i 1).val % 512, Nat.mod_lt _ (by decide)⟩ := by
    funext a
    match a with
    | ⟨0, _⟩ => rfl
    | ⟨1, _⟩ => rfl
  have er : ∀ hr, (⟨1024 * (Value.pt9Of i % 4) + (i 0).val % 1024, hr⟩ : Fin 4096) = i 0 := fun hr => Fin.ext (by
    show 1024 * (Value.pt9Of i % 4) + (i 0).val % 1024 = (i 0).val; omega)
  have ec : ∀ hr, (⟨512 * (Value.pt9Of i / 4) + (i 1).val % 512, hr⟩ : Fin 2048) = i 1 := fun hr => Fin.ext (by
    show 512 * (Value.pt9Of i / 4) + (i 1).val % 512 = (i 1).val; omega)
  have eb : ∀ hr, (⟨512 * ((base (Value.pt9Of i) h).val / 4) + (i 1).val % 512, hr⟩ : Fin 2048) = i 1 := fun hr => Fin.ext (by
    show 512 * ((base (Value.pt9Of i) h).val / 4) + (i 1).val % 512 = (i 1).val; omega)
  rw [hl]
  unfold mergedAt stackAt G
  refine block_eq _ _ _ _ _ _ _ _ _ _ _ _ _ _ _ _ _ _ _ _ (fun k => ?_) (fun k => ?_) (fun k => ?_) ?_ ?_ ?_ (fun k => ?_) (fun k => ?_) (fun k => ?_)
  · exact (blk0 m c _ _ _).trans (congrArg (fun r => (m ((c.tc : Thread nD τ).loc main_arg0) : Vec Ideal S4096x1024 .bf16) (ix2 (n0 := 4096) (n1 := 1024) r k)) (er _))
  · exact (blk1 m c _ _ _).trans (congrArg (fun r => (m ((c.tc : Thread nD τ).loc main_arg1) : Vec Ideal S4096x2048 .bf16) (ix2 (n0 := 4096) (n1 := 2048) r k)) (er _))
  · exact (blk2 m c _ _ _).trans (congrArg (fun r => (m ((c.tc : Thread nD τ).loc main_arg2) : Vec Ideal S4096x1024 .bf16) (ix2 (n0 := 4096) (n1 := 1024) r k)) (er _))
  · exact (blk3 m c _ _ _).trans (congrArg₂ (gate (m ((c.tc : Thread nD τ).loc main_arg3)) 7680 (by decide)) (er _) (ec _))
  · exact (blk4 m c _ _ _).trans (congrArg₂ (gate (m ((c.tc : Thread nD τ).loc main_arg3)) 9728 (by decide)) (er _) (ec _))
  · exact (blk5 m c _ _ _).trans (congrArg₂ (gate (m ((c.tc : Thread nD τ).loc main_arg3)) 11776 (by decide)) (er _) (ec _))
  · exact (blk6 m c _ _ _).trans (congrArg (fun r => (m ((c.tc : Thread nD τ).loc main_arg4) : Vec Ideal S2x1024x2048 .f32) (ix3 (n0 := 2) (n1 := 1024) (n2 := 2048) 0 k r)) (eb _))
  · exact (blk7 m c _ _ _).trans (congrArg (fun r => (m ((c.tc : Thread nD τ).loc main_arg5) : Vec Ideal S2x2048x2048 .f32) (ix3 (n0 := 2) (n1 := 2048) (n2 := 2048) 0 k r)) (eb _))
  · exact (blk8 m c _ _ _).trans (congrArg (fun r => (m ((c.tc : Thread nD τ).loc main_arg6) : Vec Ideal S2x1024x2048 .f32) (ix3 (n0 := 2) (n1 := 1024) (n2 := 2048) 0 k r)) (eb _))

theorem run (ρ : Dev nD → PrngReg) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (value_eq m c), (h c).2⟩) (Value.run (F := Ideal) m ρ)

end Cert.Proof.MergeL

namespace Cert.Proof.MergeL.Ref

open Idealize.ShloMosaic Idealize.ShloMosaic.TcCoe Idealize.ShloMosaic.Tactic Idealize.SL.Sem Cert.MergeLReferenceIdeal Cert.MergeLReferenceIdeal.Gen

/-- The gates' columns of the tokens' rows. -/
def gates (pr : Vec Ideal S8192x13824 .bf16) : FVec Ideal S4096x6144 .f32 :=
  extf .f32 (extractStridedSlice S4096x6144 ![0, 7680] (extractStridedSlice S4096x13824 ![4096, 0] pr slices_S8192x13824_S4096x13824_4096_0) slices_S4096x13824_S4096x6144_0_7680) bitsLt_bf16_f32

theorem gates_at (pr : Vec Ideal S8192x13824 .bf16) (i : S4096x6144.Idx) :
    gates pr i = pr (ix2 (n0 := 8192) (n1 := 13824) ⟨4096 + (i 0).val, by have : (i 0).val < 4096 := (i 0).isLt; omega⟩
      ⟨7680 + (i 1).val, by have : (i 1).val < 6144 := (i 1).isLt; omega⟩) := by
  unfold gates
  pointwise

def mmA (y : Vec Ideal S4096x1024 .bf16) (w : Vec Ideal S2x1024x2048 .f32) : FVec Ideal S4096x2048 .f32 :=
  Host.dotGeneral (F := Ideal) (φ₁ := .f32) (φ₂ := .f32) dot_S4096x1024_S1024x2048_S4096x2048_1_0_0_1_n_n none (extf .f32 y bitsLt_bf16_f32)
    (shapeCast S1024x2048 (extractStridedSlice S1x1024x2048 ![0, 0, 0] w slices_S2x1024x2048_S1x1024x2048_0_0_0) shapeCasts_S1x1024x2048_S1024x2048)

theorem mmA_at (y : Vec Ideal S4096x1024 .bf16) (w : Vec Ideal S2x1024x2048 .f32) (i : S4096x2048.Idx) : mmA y w i = dotA y w (i 0) (i 1) := by
  unfold mmA dotA
  pointwise

def mmB (y : Vec Ideal S4096x2048 .bf16) (w : Vec Ideal S2x2048x2048 .f32) : FVec Ideal S4096x2048 .f32 :=
  Host.dotGeneral (F := Ideal) (φ₁ := .f32) (φ₂ := .f32) dot_S4096x2048_S2048x2048_S4096x2048_1_0_0_1_n_n none (extf .f32 y bitsLt_bf16_f32)
    (shapeCast S2048x2048 (extractStridedSlice S1x2048x2048 ![0, 0, 0] w slices_S2x2048x2048_S1x2048x2048_0_0_0) shapeCasts_S1x2048x2048_S2048x2048)

theorem mmB_at (y : Vec Ideal S4096x2048 .bf16) (w : Vec Ideal S2x2048x2048 .f32) (i : S4096x2048.Idx) : mmB y w i = dotB y w (i 0) (i 1) := by
  unfold mmB dotB
  pointwise

def ga (g : FVec Ideal S4096x6144 .f32) : FVec Ideal S4096x2048 .f32 := extractStridedSlice S4096x2048 ![0, 0] g slices_S4096x6144_S4096x2048_0_0
def gb (g : FVec Ideal S4096x6144 .f32) : FVec Ideal S4096x2048 .f32 := extractStridedSlice S4096x2048 ![0, 2048] g slices_S4096x6144_S4096x2048_0_2048
def gc (g : FVec Ideal S4096x6144 .f32) : FVec Ideal S4096x2048 .f32 := extractStridedSlice S4096x2048 ![0, 4096] g slices_S4096x6144_S4096x2048_0_4096

theorem ga_at (g : FVec Ideal S4096x6144 .f32) (i : S4096x2048.Idx) :
    ga g i = g (ix2 (n0 := 4096) (n1 := 6144) (i 0) ⟨(i 1).val, by have : (i 1).val < 2048 := (i 1).isLt; omega⟩) := by
  unfold ga
  pointwise
theorem gb_at (g : FVec Ideal S4096x6144 .f32) (i : S4096x2048.Idx) :
    gb g i = g (ix2 (n0 := 4096) (n1 := 6144) (i 0) ⟨2048 + (i 1).val, by have : (i 1).val < 2048 := (i 1).isLt; omega⟩) := by
  unfold gb
  pointwise
theorem gc_at (g : FVec Ideal S4096x6144 .f32) (i : S4096x2048.Idx) :
    gc g i = g (ix2 (n0 := 4096) (n1 := 6144) (i 0) ⟨4096 + (i 1).val, by have : (i 1).val < 2048 := (i 1).isLt; omega⟩) := by
  unfold gc
  pointwise

/-- The reference's result. -/
def res (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) : Vec Ideal S4096x2048 .bf16 :=
  truncf .bf16 (addf (addf (mulf (ga (gates pr)) (mmA ya wa)) (mulf (gb (gates pr)) (mmB yb wb))) (mulf (gc (gates pr)) (mmA yc wc))) bitsLt_bf16_f32

theorem res_at (ya : Vec Ideal S4096x1024 .bf16) (yb : Vec Ideal S4096x2048 .bf16) (yc : Vec Ideal S4096x1024 .bf16) (pr : Vec Ideal S8192x13824 .bf16)
    (wa : Vec Ideal S2x1024x2048 .f32) (wb : Vec Ideal S2x2048x2048 .f32) (wc : Vec Ideal S2x1024x2048 .f32) (i : S4096x2048.Idx) :
    res ya yb yc pr wa wb wc i = mergeAt ya yb yc pr wa wb wc (i 0) (i 1) := by
  have ea : ga (gates pr) i = gate pr 7680 (by decide) (i 0) (i 1) := by
    rw [ga_at, gates_at]; rfl
  have eb : gb (gates pr) i = gate pr 9728 (by decide) (i 0) (i 1) := by
    rw [gb_at, gates_at]; unfold gate
    exact congrArg (fun r => pr (ix2 (n0 := 8192) (n1 := 13824) _ r)) (Fin.ext (by show 7680 + (2048 + (i 1).val) = 9728 + (i 1).val; omega))
  have ec : gc (gates pr) i = gate pr 11776 (by decide) (i 0) (i 1) := by
    rw [gc_at, gates_at]; unfold gate
    exact congrArg (fun r => pr (ix2 (n0 := 8192) (n1 := 13824) _ r)) (Fin.ext (by show 7680 + (4096 + (i 1).val) = 11776 + (i 1).val; omega))
  unfold mergeAt
  rw [← ea, ← eb, ← ec, ← mmA_at ya wa i, ← mmB_at yb wb i, ← mmA_at yc wc i]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.MergeLReferenceIdeal.Value.run (F := Ideal) m ρ

end Cert.Proof.MergeL.Ref

end
-- ==== Proof.OutpVal.lean ====
module

public import proofs.«01_k».proof.Proof.DownVal
public import proofs.«01_k».proof.Proof.Gen.OutpIdeal.Value
public import proofs.«01_k».proof.Proof.Gen.OutpReferenceIdeal.Run
public import Idealize.ShloMosaic.Lib.Pipeline.ValueKit
public import Idealize.ShloMosaic.Lib.Pointwise
public import Idealize.ShloMosaic.Lib.KernelVsHost
public import Idealize.ShloMosaic.Lib.StableHlo.ReadAt
public import Idealize.ShloMosaic.PureOps.Ideal.Laws
public import Idealize.ShloMosaic.Lib.IdealHost

@[expose] public section

set_option maxRecDepth 16384

noncomputable section

namespace Cert.Proof.Outp

open Idealize.ShloMosaic Idealize.ShloMosaic.TcCoe Idealize.ShloMosaic.Tactic Idealize.SL.Sem Cert.OutpIdeal Cert.OutpIdeal.Gen
open Cert.Proof.Down (modRow modRow_lt tileRow tileRow_lt row_tile)

/-! ## The formula -/

/-- The merged rows: the context's, then the latent layer's. -/
def rowsAt (mc ml : Vec Ideal S4096x2048 .bf16) (a : Fin 8192) (k : Fin 2048) : EReal :=
  if h : a.val < 4096 then mc (ix2 (n0 := 4096) (n1 := 2048) ⟨a.val, h⟩ k)
  else ml (ix2 (n0 := 4096) (n1 := 2048) ⟨a.val - 4096, by omega⟩ k)

/-- A part of layer 1's modulation for a token. -/
def modAt (mod : Vec Ideal S2x8x6x1x2048 .f32) (p : Fin 6) (a : Fin 8192) (b : Fin 2048) : EReal :=
  mod (ix5 (n0 := 2) (n1 := 8) (n2 := 6) (n3 := 1) (n4 := 2048) 1 ⟨modRow a.val, modRow_lt _ a.isLt⟩ p 0 b)

/-- The first result: the residual plus the gate times the dot of a merged row with a column of layer 1's weights. -/
def sumAt (mc ml : Vec Ideal S4096x2048 .bf16) (x : Vec Ideal S8192x2048 .f32) (w : Vec Ideal S2x2048x2048 .f32) (mod : Vec Ideal S2x8x6x1x2048 .f32) (a : Fin 8192) (b : Fin 2048) : EReal :=
  (x (ix2 (n0 := 8192) (n1 := 2048) a b) : EReal) + modAt mod 2 a b * ∑ k : Fin 2048, rowsAt mc ml a k * w (ix3 (n0 := 2) (n1 := 2048) (n2 := 2048) 1 k b)

/-- A row divided by the root of its mean square. -/
def normAt (r : Fin 2048 → EReal) (b : Fin 2048) : EReal :=
  r b * Ideal.rsqrt (Ideal.div (∑ k : Fin 2048, r k * r k) (Ideal.ofBits .f32 0x45000000#32) + Ideal.ofBits .f32 0x358637BD#32)

/-- The second result: the first one normed, gained, scaled and shifted. -/
def nextAt (mc ml : Vec Ideal S4096x2048 .bf16) (x : Vec Ideal S8192x2048 .f32) (w : Vec Ideal S2x2048x2048 .f32) (gain : Vec Ideal S2x2048 .f32) (mod : Vec Ideal S2x8x6x1x2048 .f32) (a : Fin 8192) (b : Fin 2048) : EReal :=
  normAt (sumAt mc ml x w mod a) b * gain (ix2 (n0 := 2) (n1 := 2048) 1 b) * (Ideal.ofBits .f32 0x3F800000#32 + modAt mod 4 a b) + modAt mod 3 a b

/-! ## The body -/

/-- Adding a gated dot to a block, with the merged block given. -/
def core (v3 : Vec Ideal S512x2048 .bf16) (v4 : Vec Ideal S512x2048 .f32) (v5 : Vec Ideal S1x1x1x1x2048 .f32) (v7 : Vec Ideal S1x2048x2048 .bf16) : FVec Ideal S512x2048 .f32 :=
  addf v4 (mulf (broadcastTo S512x2048 (shapeCast S1x2048 v5 shapeCasts_S1x1x1x1x2048_S1x2048 : FVec Ideal S1x2048 .f32) broadcasts_S1x2048_S512x2048)
    (matmul (φ₁ := .bf16) (φ₂ := .bf16) dot_S512x2048_S2048x2048_S512x2048_1_0_0_1_n_n none v3 (shapeCast S2048x2048 v7 shapeCasts_S1x2048x2048_S2048x2048 : FVec Ideal S2048x2048 .bf16) (constant S512x2048 .f32 0x00000000#32)))

theorem core_at (v3 : Vec Ideal S512x2048 .bf16) (v4 : Vec Ideal S512x2048 .f32) (v5 : Vec Ideal S1x1x1x1x2048 .f32) (v7 : Vec Ideal S1x2048x2048 .bf16) (a : Fin 512) (b : Fin 2048) :
    core v3 v4 v5 v7 (ix2 (n0 := 512) (n1 := 2048) a b) = (v4 (ix2 (n0 := 512) (n1 := 2048) a b) : EReal)
      + (v5 (ix5 (n0 := 1) (n1 := 1) (n2 := 1) (n3 := 1) (n4 := 2048) 0 0 0 0 b) : EReal)
        * ∑ k : Fin 2048, (v3 (ix2 (n0 := 512) (n1 := 2048) a k) : EReal) * v7 (ix3 (n0 := 1) (n1 := 2048) (n2 := 2048) 0 k b) := by
  unfold core
  pointwise

theorem slt_eq : ∀ n : Fin 16, Scalar.cmpi .slt (BitVec.ofNat 32 n.val) 8#32 = if n.val < 8 then 1#1 else 0#1 := by decide

theorem pay2_lo (i : grid0.Coords) (h : (i 0).val < 8) (v1 : Vec Ideal S512x2048 .bf16) (v2 : Vec Ideal S512x2048 .bf16) (v4 : Vec Ideal S512x2048 .f32) (v5 : Vec Ideal S1x1x1x1x2048 .f32) (v7 : Vec Ideal S1x2048x2048 .bf16) : k0_pay2 (F := Ideal) i v1 v2 v4 v5 v7 = core v1 v4 v5 v7 := by
  have e : Scalar.cmpi .slt (BitVec.ofNat 32 (i 0).val) 8#32 = 1#1 := (slt_eq (i 0)).trans (if_pos h)
  unfold k0_pay2
  dsimp only
  rw [e]
  rfl

theorem pay2_hi (i : grid0.Coords) (h : ¬ (i 0).val < 8) (v1 : Vec Ideal S512x2048 .bf16) (v2 : Vec Ideal S512x2048 .bf16) (v4 : Vec Ideal S512x2048 .f32) (v5 : Vec Ideal S1x1x1x1x2048 .f32) (v7 : Vec Ideal S1x2048x2048 .bf16) : k0_pay2 (F := Ideal) i v1 v2 v4 v5 v7 = core v2 v4 v5 v7 := by
  have e : Scalar.cmpi .slt (BitVec.ofNat 32 (i 0).val) 8#32 = 0#1 := (slt_eq (i 0)).trans (if_neg h)
  unfold k0_pay2
  dsimp only
  rw [e]
  rfl

/-- Norming and gaining a block. -/
def nrm (s : FVec Ideal S512x2048 .f32) (v14 : Vec Ideal S1x1x2048 .f32) : FVec Ideal S512x2048 .f32 :=
  mulf (mulf s (broadcastTo S512x2048 (rsqrt (addf (divf (shapeCast S512x1 (multiReduction .add [1] S512 (mulf s s) 0x00000000#32 reduces_S512x2048_S512 (.inl rfl) rfl : FVec Ideal S512 .f32) shapeCasts_S512_S512x1 : FVec Ideal S512x1 .f32)
    (broadcast S512x1 (Scalar.ofBits (F := Ideal) .f32 0x45000000#32))) (broadcast S512x1 (Scalar.ofBits (F := Ideal) .f32 0x358637BD#32)))) broadcasts_S512x1_S512x2048))
    (broadcastTo S512x2048 (shapeCast S1x2048 v14 shapeCasts_S1x1x2048_S1x2048 : FVec Ideal S1x2048 .f32) broadcasts_S1x2048_S512x2048)

theorem pay3_eq (i : grid0.Coords) (v1 : Vec Ideal S512x2048 .bf16) (v2 : Vec Ideal S512x2048 .bf16) (v4 : Vec Ideal S512x2048 .f32) (v5 : Vec Ideal S1x1x1x1x2048 .f32) (v7 : Vec Ideal S1x2048x2048 .bf16) (v14 : Vec Ideal S1x1x2048 .f32) :
    k0_pay3 (F := Ideal) i v1 v2 v4 v5 v7 v14 = nrm (k0_pay2 (F := Ideal) i v1 v2 v4 v5 v7) v14 := rfl

theorem nrm_at (s : FVec Ideal S512x2048 .f32) (v14 : Vec Ideal S1x1x2048 .f32) (a : Fin 512) (b : Fin 2048) :
    nrm s v14 (ix2 (n0 := 512) (n1 := 2048) a b)
      = normAt (fun k => s (ix2 (n0 := 512) (n1 := 2048) a k)) b * v14 (ix3 (n0 := 1) (n1 := 1) (n2 := 2048) 0 0 b) := by
  unfold nrm normAt
  pointwise

theorem pay1_at (s : FVec Ideal S512x2048 .f32) (u v : Vec Ideal S1x1x1x1x2048 .f32) (a : Fin 512) (b : Fin 2048) :
    k0_pay1 (F := Ideal) s u v (ix2 (n0 := 512) (n1 := 2048) a b)
      = (s (ix2 (n0 := 512) (n1 := 2048) a b) : EReal) * (Ideal.ofBits .f32 0x3F800000#32 + u (ix5 (n0 := 1) (n1 := 1) (n2 := 1) (n3 := 1) (n4 := 2048) 0 0 0 0 b))
        + v (ix5 (n0 := 1) (n1 := 1) (n2 := 1) (n3 := 1) (n4 := 2048) 0 0 0 0 b) := by
  unfold k0_pay1
  pointwise

theorem z2 : (![0, 0] : Fin 2 → Nat) = fun _ => 0 := by funext a; fin_cases a <;> rfl
theorem z3 : (![0, 0, 0] : Fin 3 → Nat) = fun _ => 0 := by funext a; fin_cases a <;> rfl
theorem z5 : (![0, 0, 0, 0, 0] : Fin 5 → Nat) = fun _ => 0 := by funext a; fin_cases a <;> rfl

theorem out8 (i : grid0.Coords) (x0 x1 : Vec Ideal S512x2048 .bf16) (x2 : Vec Ideal S1x2048x2048 .bf16) (x3 : Vec Ideal S512x2048 .f32) (x4 : Vec Ideal S1x1x1x1x2048 .f32)
    (x5 : Vec Ideal S1x1x2048 .f32) (x6 x7 : Vec Ideal S1x1x1x1x2048 .f32) :
    out0_8 (F := Ideal) i x0 x1 x2 x3 x4 x5 x6 x7 = k0_pay2 (F := Ideal) i x0 x1 x3 x4 x2 := by
  unfold out0_8
  refine (View.canon_unit_zero (S := S512x2048) z2 _ _).trans ?_
  rw [View.ld_unit_zero (S := S512x2048) z2 _ x0, View.ld_unit_zero (S := S512x2048) z2 _ x1, View.ld_unit_zero (S := S512x2048) z2 _ x3,
    View.ld_unit_zero (S := S1x1x1x1x2048) z5 _ x4, View.ld_unit_zero (S := S1x2048x2048) z3 _ x2]

theorem out9 (i : grid0.Coords) (x0 x1 : Vec Ideal S512x2048 .bf16) (x2 : Vec Ideal S1x2048x2048 .bf16) (x3 : Vec Ideal S512x2048 .f32) (x4 : Vec Ideal S1x1x1x1x2048 .f32)
    (x5 : Vec Ideal S1x1x2048 .f32) (x6 x7 : Vec Ideal S1x1x1x1x2048 .f32) :
    out0_9 (F := Ideal) i x0 x1 x2 x3 x4 x5 x6 x7 = k0_pay1 (F := Ideal) (nrm (k0_pay2 (F := Ideal) i x0 x1 x3 x4 x2) x5) x7 x6 := by
  unfold out0_9
  refine (View.canon_unit_zero (S := S512x2048) z2 _ _).trans ?_
  rw [View.ld_unit_zero (S := S512x2048) z2 _ x0, View.ld_unit_zero (S := S512x2048) z2 _ x1, View.ld_unit_zero (S := S512x2048) z2 _ x3,
    View.ld_unit_zero (S := S1x1x1x1x2048) z5 _ x4, View.ld_unit_zero (S := S1x2048x2048) z3 _ x2, View.ld_unit_zero (S := S1x1x2048) z3 _ x5,
    View.ld_unit_zero (S := S1x1x1x1x2048) z5 _ x6, View.ld_unit_zero (S := S1x1x1x1x2048) z5 _ x7, pay3_eq]

/-! ## The blocks -/

variable (m : (ℓ : Loc nD τ sig) → Buf (Elt Ideal) ℓ) (c : Dev nD) (t : Fin cfg0.N)

theorem t_lt : t.val < 16 := lt_of_lt_of_eq t.isLt N_0

theorem coord : ∀ t : Fin cfg0.N, ((grid0.coords t) 0).val = t.val :=
  (by decide +kernel : ∀ t : Fin grid0.N, ((grid0.coords t) 0).val = t.val)

theorem idx0 : ∀ t : Fin cfg0.N, t.val < 8 → (cfg0.win 0).index t = ![t.val, 0] :=
  (by decide +kernel : ∀ t : Fin grid0.N, t.val < 8 → win0_0.index t = ![t.val, 0])
theorem idx1 : ∀ t : Fin cfg0.N, ¬ t.val < 8 → (cfg0.win 1).index t = ![t.val - 8, 0] :=
  (by decide +kernel : ∀ t : Fin grid0.N, ¬ t.val < 8 → win0_1.index t = ![t.val - 8, 0])
theorem idx2 : ∀ t : Fin cfg0.N, (cfg0.win 2).index t = ![1, 0, 0] :=
  (by decide +kernel : ∀ t : Fin grid0.N, win0_2.index t = ![1, 0, 0])
theorem idx3 : ∀ t : Fin cfg0.N, (cfg0.win 3).index t = ![t.val, 0] :=
  (by decide +kernel : ∀ t : Fin grid0.N, win0_3.index t = ![t.val, 0])
theorem idx5 : ∀ t : Fin cfg0.N, (cfg0.win 5).index t = ![1, 0, 0] :=
  (by decide +kernel : ∀ t : Fin grid0.N, win0_5.index t = ![1, 0, 0])
theorem idx4 : ∀ t : Fin cfg0.N, (cfg0.win 4).index t = ![1, tileRow t.val, 2, 0, 0] :=
  (by decide +kernel : ∀ t : Fin grid0.N, win0_4.index t = ![1, tileRow t.val, 2, 0, 0])
theorem idx6 : ∀ t : Fin cfg0.N, (cfg0.win 6).index t = ![1, tileRow t.val, 3, 0, 0] :=
  (by decide +kernel : ∀ t : Fin grid0.N, win0_6.index t = ![1, tileRow t.val, 3, 0, 0])
theorem idx7 : ∀ t : Fin cfg0.N, (cfg0.win 7).index t = ![1, tileRow t.val, 4, 0, 0] :=
  (by decide +kernel : ∀ t : Fin grid0.N, win0_7.index t = ![1, tileRow t.val, 4, 0, 0])
theorem idx8 : ∀ t : Fin cfg0.N, (cfg0.win 8).index t = ![t.val, 0] :=
  (by decide +kernel : ∀ t : Fin grid0.N, win0_8.index t = ![t.val, 0])
theorem idx9 : ∀ t : Fin cfg0.N, (cfg0.win 9).index t = ![t.val, 0] :=
  (by decide +kernel : ∀ t : Fin grid0.N, win0_9.index t = ![t.val, 0])

theorem v0_at (y : S2x2048x2048.Idx) : (V m c main_v0 : Vec Ideal S2x2048x2048 .bf16) y = (m ((c.tc : Thread nD τ).loc main_arg3) : Vec Ideal S2x2048x2048 .f32) y := by
  entry_read
  pointwise

theorem v1_at (y : S2x1x2048.Idx) : (V m c main_v1 : Vec Ideal S2x1x2048 .f32) y
    = (m ((c.tc : Thread nD τ).loc main_arg4) : Vec Ideal S2x2048 .f32) (ix2 (n0 := 2) (n1 := 2048) (y 0) (y 2)) := by
  entry_read
  pointwise
  try rfl

theorem blk0 (ht : t.val < 8) (a : Fin 512) (b : Fin 2048) : (iblk m c 0 t : Vec Ideal S512x2048 .bf16) (ix2 (n0 := 512) (n1 := 2048) a b)
    = (m ((c.tc : Thread nD τ).loc main_arg0) : Vec Ideal S4096x2048 .bf16) (ix2 (n0 := 4096) (n1 := 2048) ⟨512 * t.val + a.val, by omega⟩ b) := by
  have h := t_lt t
  have e : (iblk m c 0 t : Vec Ideal S512x2048 .bf16) (ix2 (n0 := 512) (n1 := 2048) a b) = (V m c main_arg0 : Vec Ideal S4096x2048 .bf16) (ix2 (n0 := 4096) (n1 := 2048) ⟨512 * t.val + a.val, by omega⟩ b) := by
    blk_ext [iblk, idx0 t ht]
  exact e.trans (congrFun (V_main_arg0 m c) _)

theorem blk1 (ht : ¬ t.val < 8) (a : Fin 512) (b : Fin 2048) : (iblk m c 1 t : Vec Ideal S512x2048 .bf16) (ix2 (n0 := 512) (n1 := 2048) a b)
    = (m ((c.tc : Thread nD τ).loc main_arg1) : Vec Ideal S4096x2048 .bf16) (ix2 (n0 := 4096) (n1 := 2048) ⟨512 * (t.val - 8) + a.val, by have := t_lt t; omega⟩ b) := by
  have h := t_lt t
  have e : (iblk m c 1 t : Vec Ideal S512x2048 .bf16) (ix2 (n0 := 512) (n1 := 2048) a b) = (V m c main_arg1 : Vec Ideal S4096x2048 .bf16) (ix2 (n0 := 4096) (n1 := 2048) ⟨512 * (t.val - 8) + a.val, by have := t_lt t; omega⟩ b) := by
    blk_ext [iblk, idx1 t ht]
  exact e.trans (congrFun (V_main_arg1 m c) _)

theorem blk3 (a : Fin 512) (b : Fin 2048) : (iblk m c 3 t : Vec Ideal S512x2048 .f32) (ix2 (n0 := 512) (n1 := 2048) a b)
    = (m ((c.tc : Thread nD τ).loc main_arg2) : Vec Ideal S8192x2048 .f32) (ix2 (n0 := 8192) (n1 := 2048) ⟨512 * t.val + a.val, by have := t_lt t; omega⟩ b) := by
  have h := t_lt t
  have e : (iblk m c 3 t : Vec Ideal S512x2048 .f32) (ix2 (n0 := 512) (n1 := 2048) a b) = (V m c main_arg2 : Vec Ideal S8192x2048 .f32) (ix2 (n0 := 8192) (n1 := 2048) ⟨512 * t.val + a.val, by have := t_lt t; omega⟩ b) := by
    blk_ext [iblk, idx3 t]
  exact e.trans (congrFun (V_main_arg2 m c) _)

theorem blk2 (k b : Fin 2048) : (iblk m c 2 t : Vec Ideal S1x2048x2048 .bf16) (ix3 (n0 := 1) (n1 := 2048) (n2 := 2048) 0 k b)
    = (m ((c.tc : Thread nD τ).loc main_arg3) : Vec Ideal S2x2048x2048 .f32) (ix3 (n0 := 2) (n1 := 2048) (n2 := 2048) 1 k b) := by
  have e : (iblk m c 2 t : Vec Ideal S1x2048x2048 .bf16) (ix3 (n0 := 1) (n1 := 2048) (n2 := 2048) 0 k b)
      = (V m c main_v0 : Vec Ideal S2x2048x2048 .bf16) (ix3 (n0 := 2) (n1 := 2048) (n2 := 2048) 1 k b) := by
    blk_ext [iblk, idx2 t]
  exact e.trans (v0_at m c _)

theorem blk5 (b : Fin 2048) : (iblk m c 5 t : Vec Ideal S1x1x2048 .f32) (ix3 (n0 := 1) (n1 := 1) (n2 := 2048) 0 0 b)
    = (m ((c.tc : Thread nD τ).loc main_arg4) : Vec Ideal S2x2048 .f32) (ix2 (n0 := 2) (n1 := 2048) 1 b) := by
  have e : (iblk m c 5 t : Vec Ideal S1x1x2048 .f32) (ix3 (n0 := 1) (n1 := 1) (n2 := 2048) 0 0 b)
      = (V m c main_v1 : Vec Ideal S2x1x2048 .f32) (ix3 (n0 := 2) (n1 := 1) (n2 := 2048) 1 0 b) := by
    blk_ext [iblk, idx5 t]
  exact e.trans (v1_at m c _)

theorem blk4 (a : Fin 512) (b : Fin 2048) : (iblk m c 4 t : Vec Ideal S1x1x1x1x2048 .f32) (ix5 (n0 := 1) (n1 := 1) (n2 := 1) (n3 := 1) (n4 := 2048) 0 0 0 0 b)
    = modAt (m ((c.tc : Thread nD τ).loc main_arg5)) 2 ⟨512 * t.val + a.val, by have := t_lt t; omega⟩ b := by
  have h := t_lt t
  have e : (iblk m c 4 t : Vec Ideal S1x1x1x1x2048 .f32) (ix5 (n0 := 1) (n1 := 1) (n2 := 1) (n3 := 1) (n4 := 2048) 0 0 0 0 b)
      = (V m c main_arg5 : Vec Ideal S2x8x6x1x2048 .f32) (ix5 (n0 := 2) (n1 := 8) (n2 := 6) (n3 := 1) (n4 := 2048) 1 ⟨tileRow t.val, tileRow_lt _ (t_lt t)⟩ 2 0 b) := by
    blk_ext [iblk, idx4 t]
  refine e.trans ((congrFun (V_main_arg5 m c) _).trans ?_)
  unfold modAt
  exact congrArg (fun r : Fin 8 => (m ((c.tc : Thread nD τ).loc main_arg5) : Vec Ideal S2x8x6x1x2048 .f32) (ix5 (n0 := 2) (n1 := 8) (n2 := 6) (n3 := 1) (n4 := 2048) 1 r 2 0 b))
    (Fin.ext (row_tile t.val a.val h a.isLt))

theorem blk6 (a : Fin 512) (b : Fin 2048) : (iblk m c 6 t : Vec Ideal S1x1x1x1x2048 .f32) (ix5 (n0 := 1) (n1 := 1) (n2 := 1) (n3 := 1) (n4 := 2048) 0 0 0 0 b)
    = modAt (m ((c.tc : Thread nD τ).loc main_arg5)) 3 ⟨512 * t.val + a.val, by have := t_lt t; omega⟩ b := by
  have h := t_lt t
  have e : (iblk m c 6 t : Vec Ideal S1x1x1x1x2048 .f32) (ix5 (n0 := 1) (n1 := 1) (n2 := 1) (n3 := 1) (n4 := 2048) 0 0 0 0 b)
      = (V m c main_arg5 : Vec Ideal S2x8x6x1x2048 .f32) (ix5 (n0 := 2) (n1 := 8) (n2 := 6) (n3 := 1) (n4 := 2048) 1 ⟨tileRow t.val, tileRow_lt _ (t_lt t)⟩ 3 0 b) := by
    blk_ext [iblk, idx6 t]
  refine e.trans ((congrFun (V_main_arg5 m c) _).trans ?_)
  unfold modAt
  exact congrArg (fun r : Fin 8 => (m ((c.tc : Thread nD τ).loc main_arg5) : Vec Ideal S2x8x6x1x2048 .f32) (ix5 (n0 := 2) (n1 := 8) (n2 := 6) (n3 := 1) (n4 := 2048) 1 r 3 0 b))
    (Fin.ext (row_tile t.val a.val h a.isLt))

theorem blk7 (a : Fin 512) (b : Fin 2048) : (iblk m c 7 t : Vec Ideal S1x1x1x1x2048 .f32) (ix5 (n0 := 1) (n1 := 1) (n2 := 1) (n3 := 1) (n4 := 2048) 0 0 0 0 b)
    = modAt (m ((c.tc : Thread nD τ).loc main_arg5)) 4 ⟨512 * t.val + a.val, by have := t_lt t; omega⟩ b := by
  have h := t_lt t
  have e : (iblk m c 7 t : Vec Ideal S1x1x1x1x2048 .f32) (ix5 (n0 := 1) (n1 := 1) (n2 := 1) (n3 := 1) (n4 := 2048) 0 0 0 0 b)
      = (V m c main_arg5 : Vec Ideal S2x8x6x1x2048 .f32) (ix5 (n0 := 2) (n1 := 8) (n2 := 6) (n3 := 1) (n4 := 2048) 1 ⟨tileRow t.val, tileRow_lt _ (t_lt t)⟩ 4 0 b) := by
    blk_ext [iblk, idx7 t]
  refine e.trans ((congrFun (V_main_arg5 m c) _).trans ?_)
  unfold modAt
  exact congrArg (fun r : Fin 8 => (m ((c.tc : Thread nD τ).loc main_arg5) : Vec Ideal S2x8x6x1x2048 .f32) (ix5 (n0 := 2) (n1 := 8) (n2 := 6) (n3 := 1) (n4 := 2048) 1 r 4 0 b))
    (Fin.ext (row_tile t.val a.val h a.isLt))

/-- What a point adds up. -/
theorem sum_block (a : Fin 512) (b : Fin 2048) : k0_pay2 (F := Ideal) (grid0.coords t) (iblk m c 0 t) (iblk m c 1 t) (iblk m c 3 t) (iblk m c 4 t) (iblk m c 2 t) (ix2 (n0 := 512) (n1 := 2048) a b)
    = sumAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) ⟨512 * t.val + a.val, by have := t_lt t; omega⟩ b := by
  have h := t_lt t
  unfold sumAt
  by_cases ht : t.val < 8
  · rw [pay2_lo (grid0.coords t) ((coord t).trans_lt ht), core_at]
    refine congrArg₂ (fun p q : EReal => p + q) (blk3 m c t a b) (congrArg₂ (fun p q : EReal => p * q) (blk4 m c t a b)
      (Finset.sum_congr rfl fun k _ => congrArg₂ (fun p q : EReal => p * q) ((blk0 m c t ht a k).trans ?_) (blk2 m c t k b)))
    unfold rowsAt
    refine Eq.trans ?_ (dif_pos (show 512 * t.val + a.val < 4096 by omega)).symm
    rfl
  · rw [pay2_hi (grid0.coords t) (by rw [coord t]; exact ht), core_at]
    refine congrArg₂ (fun p q : EReal => p + q) (blk3 m c t a b) (congrArg₂ (fun p q : EReal => p * q) (blk4 m c t a b)
      (Finset.sum_congr rfl fun k _ => congrArg₂ (fun p q : EReal => p * q) ((blk1 m c t ht a k).trans ?_) (blk2 m c t k b)))
    unfold rowsAt
    refine Eq.trans ?_ (dif_neg (show ¬ 512 * t.val + a.val < 4096 by omega)).symm
    exact congrArg (fun r : Fin 4096 => (m ((c.tc : Thread nD τ).loc main_arg1) : Vec Ideal S4096x2048 .bf16) (ix2 (n0 := 4096) (n1 := 2048) r k))
      (Fin.ext (by show 512 * (t.val - 8) + a.val = 512 * t.val + a.val - 4096; omega))

/-- What a point norms. -/
theorem next_block (a : Fin 512) (b : Fin 2048) :
    k0_pay1 (F := Ideal) (nrm (k0_pay2 (F := Ideal) (grid0.coords t) (iblk m c 0 t) (iblk m c 1 t) (iblk m c 3 t) (iblk m c 4 t) (iblk m c 2 t)) (iblk m c 5 t)) (iblk m c 7 t) (iblk m c 6 t) (ix2 (n0 := 512) (n1 := 2048) a b)
    = nextAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ⟨512 * t.val + a.val, by have := t_lt t; omega⟩ b := by
  rw [pay1_at, nrm_at]
  unfold nextAt
  refine congrArg₂ (fun p q : EReal => p + q) (congrArg₂ (fun p q : EReal => p * q) (congrArg₂ (fun p q : EReal => p * q) ?_ (blk5 m c t b))
    (congrArg (fun q : EReal => Ideal.ofBits .f32 0x3F800000#32 + q) (blk7 m c t a b))) (blk6 m c t a b)
  exact congrArg (fun r => normAt r b) (funext fun k => sum_block m c t a k)

/-- The first result. -/
def G : Vec Ideal S8192x2048 .f32 := fun i => sumAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (i 0) (i 1)

/-- The second result. -/
def H : Vec Ideal S8192x2048 .bf16 := fun i => nextAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1)

theorem flush8 : ∀ t : Fin cfg0.N, (cfg0.win 8).flush t = true :=
  (by decide +kernel : ∀ t : Fin grid0.N, win0_8.flush t = true)

theorem flushed_eq8 : (dats m 0 c).flushed 8 t = ((cfg0.win 8).blk t).view.read (Elt Ideal) (G m c) := by
  rw [Value.flushed8, out8]
  have e := idx8 t
  have h := t_lt t
  funext y
  have hy0 : (y 0).val < 512 := (y 0).isLt
  have hy1 : (y 1).val < 2048 := (y 1).isLt
  have e0 : ((((cfg0.win 8).blk t).view.emb y) : S8192x2048.Idx) = ix2 (n0 := 8192) (n1 := 2048)
      ⟨512 * t.val + (y 0).val, by omega⟩ ⟨(y 1).val, hy1⟩ := by
    funext a
    apply Fin.ext
    match a with
    | ⟨0, _⟩ =>
      show (cfg0.win 8).index t (0 : Fin 2) * 512 + 1 * (y 0).val = 512 * t.val + (y 0).val
      rw [e]; show t.val * 512 + 1 * (y 0).val = _; omega
    | ⟨1, _⟩ =>
      show (cfg0.win 8).index t (1 : Fin 2) * 2048 + 1 * (y 1).val = (y 1).val
      rw [e]; show 0 * 2048 + 1 * (y 1).val = _; omega
  have hx : (((cfg0.win 8).xinj (grid0.coords t) y) : S512x2048.Idx) = ix2 (n0 := 512) (n1 := 2048) ⟨(y 0).val, hy0⟩ ⟨(y 1).val, hy1⟩ := by
    funext a
    match a with
    | ⟨0, _⟩ => rfl
    | ⟨1, _⟩ => rfl
  show k0_pay2 (F := Ideal) (grid0.coords t) (iblk m c 0 t) (iblk m c 1 t) (iblk m c 3 t) (iblk m c 4 t) (iblk m c 2 t) ((cfg0.win 8).xinj (grid0.coords t) y) = G m c (((cfg0.win 8).blk t).view.emb y)
  rw [hx, e0]
  exact sum_block m c t _ _

theorem mem_blk8 (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v2_0).slice (win0_8.rect t)).set ↔ _
  rw [View.set_slice_whole, Rect.mem_set_unit]
  exact Iff.rfl

theorem final8 : (dats m 0 c).arrAt 8 cfg0.N = G m c :=
  (dats m 0 c).arrAt_eq_of_cover 8 _ (fun t _ => flushed_eq8 m c t) fun i => by
    have hi0 : (i 0).val < 8192 := (i 0).isLt
    have hi1 : (i 1).val < 2048 := (i 1).isLt
    have hN : (i 0).val / 512 < cfg0.N := by
      rw [show cfg0.N = 16 from N_0]; omega
    have e := idx8 ⟨_, hN⟩
    refine ⟨⟨_, hN⟩, flush8 _, ?_⟩
    rw [mem_blk8]
    have q0 : win0_8.index ⟨_, hN⟩ (0 : Fin 2) = (i 0).val / 512 := congrFun e 0
    have q1 : win0_8.index ⟨_, hN⟩ (1 : Fin 2) = 0 := congrFun e 1
    intro a
    match a with
    | ⟨0, _⟩ =>
      show win0_8.index ⟨_, hN⟩ (0 : Fin 2) * 512 ≤ (i 0).val ∧ (i 0).val < win0_8.index ⟨_, hN⟩ (0 : Fin 2) * 512 + 512
      rw [q0]; omega
    | ⟨1, _⟩ =>
      show win0_8.index ⟨_, hN⟩ (1 : Fin 2) * 2048 ≤ (i 1).val ∧ (i 1).val < win0_8.index ⟨_, hN⟩ (1 : Fin 2) * 2048 + 2048
      rw [q1]; omega

theorem flush9 : ∀ t : Fin cfg0.N, (cfg0.win 9).flush t = true :=
  (by decide +kernel : ∀ t : Fin grid0.N, win0_9.flush t = true)

theorem flushed_eq9 : (dats m 0 c).flushed 9 t = ((cfg0.win 9).blk t).view.read (Elt Ideal) (H m c) := by
  rw [Value.flushed9, out9]
  have e := idx9 t
  have h := t_lt t
  funext y
  have hy0 : (y 0).val < 512 := (y 0).isLt
  have hy1 : (y 1).val < 2048 := (y 1).isLt
  have e0 : ((((cfg0.win 9).blk t).view.emb y) : S8192x2048.Idx) = ix2 (n0 := 8192) (n1 := 2048)
      ⟨512 * t.val + (y 0).val, by omega⟩ ⟨(y 1).val, hy1⟩ := by
    funext a
    apply Fin.ext
    match a with
    | ⟨0, _⟩ =>
      show (cfg0.win 9).index t (0 : Fin 2) * 512 + 1 * (y 0).val = 512 * t.val + (y 0).val
      rw [e]; show t.val * 512 + 1 * (y 0).val = _; omega
    | ⟨1, _⟩ =>
      show (cfg0.win 9).index t (1 : Fin 2) * 2048 + 1 * (y 1).val = (y 1).val
      rw [e]; show 0 * 2048 + 1 * (y 1).val = _; omega
  have hx : (((cfg0.win 9).xinj (grid0.coords t) y) : S512x2048.Idx) = ix2 (n0 := 512) (n1 := 2048) ⟨(y 0).val, hy0⟩ ⟨(y 1).val, hy1⟩ := by
    funext a
    match a with
    | ⟨0, _⟩ => rfl
    | ⟨1, _⟩ => rfl
  show k0_pay1 (F := Ideal) (nrm (k0_pay2 (F := Ideal) (grid0.coords t) (iblk m c 0 t) (iblk m c 1 t) (iblk m c 3 t) (iblk m c 4 t) (iblk m c 2 t)) (iblk m c 5 t)) (iblk m c 7 t) (iblk m c 6 t) ((cfg0.win 9).xinj (grid0.coords t) y) = H m c (((cfg0.win 9).blk t).view.emb y)
  rw [hx, e0]
  exact next_block m c t _ _

theorem mem_blk9 (i : S8192x2048.Idx) :
    i ∈ ((cfg0.win 9).blk t).view.set ↔ ∀ a : Fin 2, win0_9.index t a * S512x2048.size a ≤ (i a).val ∧ (i a).val < win0_9.index t a * S512x2048.size a + S512x2048.size a := by
  show i ∈ ((View.whole main_v2_1).slice (win0_9.rect t)).set ↔ _
  rw [View.set_slice_whole, Rect.mem_set_unit]
  exact Iff.rfl

theorem final9 : (dats m 0 c).arrAt 9 cfg0.N = H m c :=
  (dats m 0 c).arrAt_eq_of_cover 9 _ (fun t _ => flushed_eq9 m c t) fun i => by
    have hi0 : (i 0).val < 8192 := (i 0).isLt
    have hi1 : (i 1).val < 2048 := (i 1).isLt
    have hN : (i 0).val / 512 < cfg0.N := by
      rw [show cfg0.N = 16 from N_0]; omega
    have e := idx9 ⟨_, hN⟩
    refine ⟨⟨_, hN⟩, flush9 _, ?_⟩
    rw [mem_blk9]
    have q0 : win0_9.index ⟨_, hN⟩ (0 : Fin 2) = (i 0).val / 512 := congrFun e 0
    have q1 : win0_9.index ⟨_, hN⟩ (1 : Fin 2) = 0 := congrFun e 1
    intro a
    match a with
    | ⟨0, _⟩ =>
      show win0_9.index ⟨_, hN⟩ (0 : Fin 2) * 512 ≤ (i 0).val ∧ (i 0).val < win0_9.index ⟨_, hN⟩ (0 : Fin 2) * 512 + 512
      rw [q0]; omega
    | ⟨1, _⟩ =>
      show win0_9.index ⟨_, hN⟩ (1 : Fin 2) * 2048 ≤ (i 1).val ∧ (i 1).val < win0_9.index ⟨_, hN⟩ (1 : Fin 2) * 2048 + 2048
      rw [q1]; omega

theorem run (ρ : Dev nD → PrngReg) : θ_run defs (onTc (τ := τ) (main (F := Ideal))) ⟨m, fun _ => 0, ρ⟩ fun r => ∀ c : Dev nD,
      r.2.mem ((c.tc : Thread nD τ).loc main_v2_0) = G m c
      ∧ r.2.mem ((c.tc : Thread nD τ).loc main_v2_1) = H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final8 m c), (h c).2.1.trans (final9 m c), (h c).2.2⟩) (Value.run_blocks (F := Ideal) m ρ)

end Cert.Proof.Outp

namespace Cert.Proof.Outp.Ref

open Idealize.ShloMosaic Idealize.ShloMosaic.TcCoe Idealize.ShloMosaic.Tactic Idealize.SL.Sem Cert.OutpReferenceIdeal Cert.OutpReferenceIdeal.Gen
open Cert.Proof.Down (modRow modRow_lt)

/-- A part of layer 1's modulation. -/
def mod2 (mod : Vec Ideal S2x8x6x1x2048 .f32) : FVec Ideal S8x2048 .f32 :=
  shapeCast S8x2048 (extractStridedSlice S1x8x1x1x2048 ![1, 0, 2, 0, 0] mod slices_S2x8x6x1x2048_S1x8x1x1x2048_1_0_2_0_0) shapeCasts_S1x8x1x1x2048_S8x2048

theorem mod2_at (mod : Vec Ideal S2x8x6x1x2048 .f32) (i : S8x2048.Idx) : mod2 mod i = mod (ix5 (n0 := 2) (n1 := 8) (n2 := 6) (n3 := 1) (n4 := 2048) 1 (i 0) 2 0 (i 1)) := by
  unfold mod2
  pointwise

theorem mod2_ctx (mod : Vec Ideal S2x8x6x1x2048 .f32) (a : Fin 8192) (b : Fin 2048) (h : a.val < 4096) : mod2 mod (ix2 (n0 := 8) (n1 := 2048) 4 b) = modAt mod 2 a b := by
  have e : (⟨modRow a.val, modRow_lt _ a.isLt⟩ : Fin 8) = 4 := Fin.ext (if_pos h)
  unfold modAt
  rw [mod2_at, e]
  rfl

theorem mod2_lat (mod : Vec Ideal S2x8x6x1x2048 .f32) (a : Fin 8192) (b : Fin 2048) (u : Fin 8) (h : ¬ a.val < 4096) (hu : u.val = (a.val - 4096) / 1024) :
    mod2 mod (ix2 (n0 := 8) (n1 := 2048) u b) = modAt mod 2 a b := by
  have e : (⟨modRow a.val, modRow_lt _ a.isLt⟩ : Fin 8) = u := Fin.ext ((if_neg h).trans hu.symm)
  unfold modAt
  rw [mod2_at, e]
  rfl

/-- A part of layer 1's modulation. -/
def mod3 (mod : Vec Ideal S2x8x6x1x2048 .f32) : FVec Ideal S8x2048 .f32 :=
  shapeCast S8x2048 (extractStridedSlice S1x8x1x1x2048 ![1, 0, 3, 0, 0] mod slices_S2x8x6x1x2048_S1x8x1x1x2048_1_0_3_0_0) shapeCasts_S1x8x1x1x2048_S8x2048

theorem mod3_at (mod : Vec Ideal S2x8x6x1x2048 .f32) (i : S8x2048.Idx) : mod3 mod i = mod (ix5 (n0 := 2) (n1 := 8) (n2 := 6) (n3 := 1) (n4 := 2048) 1 (i 0) 3 0 (i 1)) := by
  unfold mod3
  pointwise

theorem mod3_ctx (mod : Vec Ideal S2x8x6x1x2048 .f32) (a : Fin 8192) (b : Fin 2048) (h : a.val < 4096) : mod3 mod (ix2 (n0 := 8) (n1 := 2048) 4 b) = modAt mod 3 a b := by
  have e : (⟨modRow a.val, modRow_lt _ a.isLt⟩ : Fin 8) = 4 := Fin.ext (if_pos h)
  unfold modAt
  rw [mod3_at, e]
  rfl

theorem mod3_lat (mod : Vec Ideal S2x8x6x1x2048 .f32) (a : Fin 8192) (b : Fin 2048) (u : Fin 8) (h : ¬ a.val < 4096) (hu : u.val = (a.val - 4096) / 1024) :
    mod3 mod (ix2 (n0 := 8) (n1 := 2048) u b) = modAt mod 3 a b := by
  have e : (⟨modRow a.val, modRow_lt _ a.isLt⟩ : Fin 8) = u := Fin.ext ((if_neg h).trans hu.symm)
  unfold modAt
  rw [mod3_at, e]
  rfl

/-- A part of layer 1's modulation. -/
def mod4 (mod : Vec Ideal S2x8x6x1x2048 .f32) : FVec Ideal S8x2048 .f32 :=
  shapeCast S8x2048 (extractStridedSlice S1x8x1x1x2048 ![1, 0, 4, 0, 0] mod slices_S2x8x6x1x2048_S1x8x1x1x2048_1_0_4_0_0) shapeCasts_S1x8x1x1x2048_S8x2048

theorem mod4_at (mod : Vec Ideal S2x8x6x1x2048 .f32) (i : S8x2048.Idx) : mod4 mod i = mod (ix5 (n0 := 2) (n1 := 8) (n2 := 6) (n3 := 1) (n4 := 2048) 1 (i 0) 4 0 (i 1)) := by
  unfold mod4
  pointwise

theorem mod4_ctx (mod : Vec Ideal S2x8x6x1x2048 .f32) (a : Fin 8192) (b : Fin 2048) (h : a.val < 4096) : mod4 mod (ix2 (n0 := 8) (n1 := 2048) 4 b) = modAt mod 4 a b := by
  have e : (⟨modRow a.val, modRow_lt _ a.isLt⟩ : Fin 8) = 4 := Fin.ext (if_pos h)
  unfold modAt
  rw [mod4_at, e]
  rfl

theorem mod4_lat (mod : Vec Ideal S2x8x6x1x2048 .f32) (a : Fin 8192) (b : Fin 2048) (u : Fin 8) (h : ¬ a.val < 4096) (hu : u.val = (a.val - 4096) / 1024) :
    mod4 mod (ix2 (n0 := 8) (n1 := 2048) u b) = modAt mod 4 a b := by
  have e : (⟨modRow a.val, modRow_lt _ a.isLt⟩ : Fin 8) = u := Fin.ext ((if_neg h).trans hu.symm)
  unfold modAt
  rw [mod4_at, e]
  rfl

/-- The context's rows multiplied by layer 1's weights. -/
def mmC (y : Vec Ideal S4096x2048 .bf16) (w : Vec Ideal S2x2048x2048 .f32) : FVec Ideal S4096x2048 .f32 :=
  Host.dotGeneral (F := Ideal) (φ₁ := .f32) (φ₂ := .f32) dot_S4096x2048_S2048x2048_S4096x2048_1_0_0_1_n_n none (extf .f32 y bitsLt_bf16_f32)
    (shapeCast S2048x2048 (extractStridedSlice S1x2048x2048 ![1, 0, 0] w slices_S2x2048x2048_S1x2048x2048_1_0_0) shapeCasts_S1x2048x2048_S2048x2048)

theorem mmC_at (y : Vec Ideal S4096x2048 .bf16) (w : Vec Ideal S2x2048x2048 .f32) (i : S4096x2048.Idx) :
    mmC y w i = ∑ k : Fin 2048, (y (ix2 (n0 := 4096) (n1 := 2048) (i 0) k) : EReal) * w (ix3 (n0 := 2) (n1 := 2048) (n2 := 2048) 1 k (i 1)) := by
  unfold mmC
  pointwise

/-- The latent layer's rows multiplied by layer 1's weights. -/
def mmL (y : Vec Ideal S4096x2048 .bf16) (w : Vec Ideal S2x2048x2048 .f32) : FVec Ideal S4x1024x2048 .f32 :=
  Host.dotGeneral (F := Ideal) (φ₁ := .f32) (φ₂ := .f32) dot_S4x1024x2048_S2048x2048_S4x1024x2048_2_0_01_1_n_n none
    (extf .f32 (shapeCast S4x1024x2048 y shapeCasts_S4096x2048_S4x1024x2048 : FVec Ideal S4x1024x2048 .bf16) bitsLt_bf16_f32)
    (shapeCast S2048x2048 (extractStridedSlice S1x2048x2048 ![1, 0, 0] w slices_S2x2048x2048_S1x2048x2048_1_0_0) shapeCasts_S1x2048x2048_S2048x2048)

theorem mmL_at (y : Vec Ideal S4096x2048 .bf16) (w : Vec Ideal S2x2048x2048 .f32) (i : S4x1024x2048.Idx) :
    mmL y w i = ∑ k : Fin 2048, (y (ix2 (n0 := 4096) (n1 := 2048) ⟨(i 0).val * 1024 + (i 1).val, by
        have : (i 0).val < 4 := (i 0).isLt; have : (i 1).val < 1024 := (i 1).isLt; omega⟩ k) : EReal)
      * w (ix3 (n0 := 2) (n1 := 2048) (n2 := 2048) 1 k (i 2)) := by
  unfold mmL
  pointwise

/-- The context's rows of the first result. -/
def sumC (x : Vec Ideal S8192x2048 .f32) (g : FVec Ideal S8x2048 .f32) (f : FVec Ideal S4096x2048 .f32) : FVec Ideal S4096x2048 .f32 :=
  addf (extractStridedSlice S4096x2048 ![0, 0] x slices_S8192x2048_S4096x2048_0_0) (mulf (broadcastInDim S4096x2048 ![0, 1] bcast_S1x2048_S4096x2048_0_1 (broadcastInDim S1x2048 ![1] bcast_S2048_S1x2048_1 (shapeCast S2048 (extractStridedSlice S1x2048 ![4, 0] g slices_S8x2048_S1x2048_4_0) shapeCasts_S1x2048_S2048))) f)

theorem sumC_at (x : Vec Ideal S8192x2048 .f32) (g : FVec Ideal S8x2048 .f32) (f : FVec Ideal S4096x2048 .f32) (i : S4096x2048.Idx) :
    sumC x g f i = (x (ix2 (n0 := 8192) (n1 := 2048) ⟨(i 0).val, by have : (i 0).val < 4096 := (i 0).isLt; omega⟩ (i 1)) : EReal)
      + (g (ix2 (n0 := 8) (n1 := 2048) 4 (i 1)) : EReal) * f i := by
  unfold sumC
  pointwise

/-- The latent layer's rows of the first result. -/
def sumL (x : Vec Ideal S8192x2048 .f32) (g : FVec Ideal S8x2048 .f32) (f : FVec Ideal S4x1024x2048 .f32) : FVec Ideal S4x1024x2048 .f32 :=
  addf (shapeCast S4x1024x2048 (extractStridedSlice S4096x2048 ![4096, 0] x slices_S8192x2048_S4096x2048_4096_0) shapeCasts_S4096x2048_S4x1024x2048)
    (mulf (broadcastInDim S4x1024x2048 ![0, 1, 2] bcast_S4x1x2048_S4x1024x2048_0_1_2 (broadcastInDim S4x1x2048 ![0, 2] bcast_S4x2048_S4x1x2048_0_2 (extractStridedSlice S4x2048 ![0, 0] g slices_S8x2048_S4x2048_0_0))) f)

theorem sumL_at (x : Vec Ideal S8192x2048 .f32) (g : FVec Ideal S8x2048 .f32) (f : FVec Ideal S4x1024x2048 .f32) (i : S4x1024x2048.Idx) :
    sumL x g f i = (x (ix2 (n0 := 8192) (n1 := 2048) ⟨4096 + ((i 0).val * 1024 + (i 1).val), by
        have : (i 0).val < 4 := (i 0).isLt; have : (i 1).val < 1024 := (i 1).isLt; omega⟩ (i 2)) : EReal)
      + (g (ix2 (n0 := 8) (n1 := 2048) ⟨(i 0).val, by have : (i 0).val < 4 := (i 0).isLt; omega⟩ (i 2)) : EReal) * f i := by
  unfold sumL
  pointwise

/-- The context's rows normed, gained, scaled and shifted. -/
def nextC (s : FVec Ideal S4096x2048 .f32) (gain : Vec Ideal S2x2048 .f32) (q p : FVec Ideal S8x2048 .f32) : FVec Ideal S4096x2048 .f32 :=
  addf (mulf (mulf (mulf s (broadcastInDim S4096x2048 ![0, 1] bcast_S4096x1_S4096x2048_0_1
    (Host.rsqrt (addf (Host.divf (broadcastInDim S4096x1 ![0] bcast_S4096_S4096x1_0
      (Host.reduceAdd (mulf s s) (constant S_ .f32 0x00000000#32) reducesTo_S4096x2048_S4096_d1 h_S_))
      (broadcastInDim S4096x1 ![] bcast_S_S4096x1 (constant S_ .f32 0x45000000#32)))
      (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 (shapeCast S2048 (extractStridedSlice S1x2048 ![1, 0] gain slices_S2x2048_S1x2048_1_0) shapeCasts_S1x2048_S2048))))
    (broadcastInDim S4096x2048 ![0, 1] bcast_S1x2048_S4096x2048_0_1 (broadcastInDim S1x2048 ![1] bcast_S2048_S1x2048_1 (addf (broadcastInDim S2048 ![] bcast_S_S2048 (constant S_ .f32 0x3F800000#32)) (shapeCast S2048 (extractStridedSlice S1x2048 ![4, 0] q slices_S8x2048_S1x2048_4_0) shapeCasts_S1x2048_S2048)))))
    (broadcastInDim S4096x2048 ![0, 1] bcast_S1x2048_S4096x2048_0_1 (broadcastInDim S1x2048 ![1] bcast_S2048_S1x2048_1 (shapeCast S2048 (extractStridedSlice S1x2048 ![4, 0] p slices_S8x2048_S1x2048_4_0) shapeCasts_S1x2048_S2048)))

theorem nextC_at (s : FVec Ideal S4096x2048 .f32) (gain : Vec Ideal S2x2048 .f32) (q p : FVec Ideal S8x2048 .f32) (a : Fin 4096) (b : Fin 2048) :
    nextC s gain q p (ix2 (n0 := 4096) (n1 := 2048) a b)
      = normAt (fun k => s (ix2 (n0 := 4096) (n1 := 2048) a k)) b * gain (ix2 (n0 := 2) (n1 := 2048) 1 b)
        * (Ideal.ofBits .f32 0x3F800000#32 + q (ix2 (n0 := 8) (n1 := 2048) 4 b)) + p (ix2 (n0 := 8) (n1 := 2048) 4 b) := by
  unfold nextC normAt
  pointwise

/-- The latent layer's rows normed, gained, scaled and shifted. -/
def nextL (s : FVec Ideal S4x1024x2048 .f32) (gain : Vec Ideal S2x2048 .f32) (q p : FVec Ideal S8x2048 .f32) : FVec Ideal S4x1024x2048 .f32 :=
  addf (mulf (mulf (mulf s (broadcastInDim S4x1024x2048 ![0, 1, 2] bcast_S4x1024x1_S4x1024x2048_0_1_2
    (Host.rsqrt (addf (Host.divf (broadcastInDim S4x1024x1 ![0, 1] bcast_S4x1024_S4x1024x1_0_1
      (Host.reduceAdd (mulf s s) (constant S_ .f32 0x00000000#32) reducesTo_S4x1024x2048_S4x1024_d2 h_S_))
      (broadcastInDim S4x1024x1 ![] bcast_S_S4x1024x1 (constant S_ .f32 0x45000000#32)))
      (broadcastInDim S4x1024x1 ![] bcast_S_S4x1024x1 (constant S_ .f32 0x358637BD#32))))))
    (broadcastInDim S4x1024x2048 ![0, 1, 2] bcast_S1x1x2048_S4x1024x2048_0_1_2 (broadcastInDim S1x1x2048 ![2] bcast_S2048_S1x1x2048_2 (shapeCast S2048 (extractStridedSlice S1x2048 ![1, 0] gain slices_S2x2048_S1x2048_1_0) shapeCasts_S1x2048_S2048))))
    (broadcastInDim S4x1024x2048 ![0, 1, 2] bcast_S4x1x2048_S4x1024x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 0] q slices_S8x2048_S4x2048_0_0)))))
    (broadcastInDim S4x1024x2048 ![0, 1, 2] bcast_S4x1x2048_S4x1024x2048_0_1_2 (broadcastInDim S4x1x2048 ![0, 2] bcast_S4x2048_S4x1x2048_0_2 (extractStridedSlice S4x2048 ![0, 0] p slices_S8x2048_S4x2048_0_0)))

theorem nextL_at (s : FVec Ideal S4x1024x2048 .f32) (gain : Vec Ideal S2x2048 .f32) (q p : FVec Ideal S8x2048 .f32) (u : Fin 4) (v : Fin 1024) (b : Fin 2048) :
    nextL s gain q p (ix3 (n0 := 4) (n1 := 1024) (n2 := 2048) u v b)
      = normAt (fun k => s (ix3 (n0 := 4) (n1 := 1024) (n2 := 2048) u v k)) b * gain (ix2 (n0 := 2) (n1 := 2048) 1 b)
        * (Ideal.ofBits .f32 0x3F800000#32 + q (ix2 (n0 := 8) (n1 := 2048) ⟨u.val, by omega⟩ b)) + p (ix2 (n0 := 8) (n1 := 2048) ⟨u.val, by omega⟩ b) := by
  unfold nextL normAt
  pointwise

/-! ## The rows -/

theorem sumC_eq (mc ml : Vec Ideal S4096x2048 .bf16) (x : Vec Ideal S8192x2048 .f32) (w : Vec Ideal S2x2048x2048 .f32) (mod : Vec Ideal S2x8x6x1x2048 .f32) (a : Fin 4096) (b : Fin 2048) :
    sumC x (mod2 mod) (mmC mc w) (ix2 (n0 := 4096) (n1 := 2048) a b) = sumAt mc ml x w mod ⟨a.val, by omega⟩ b := by
  rw [sumC_at, mmC_at]
  unfold sumAt
  refine congrArg₂ (fun p q : EReal => p + q) rfl (congrArg₂ (fun p q : EReal => p * q) (mod2_ctx mod ⟨a.val, by omega⟩ b a.isLt)
    (Finset.sum_congr rfl fun k _ => congrArg (fun q : EReal => q * _) ?_))
  unfold rowsAt
  refine Eq.trans ?_ (dif_pos (show a.val < 4096 from a.isLt)).symm
  rfl

theorem sumL_eq (mc ml : Vec Ideal S4096x2048 .bf16) (x : Vec Ideal S8192x2048 .f32) (w : Vec Ideal S2x2048x2048 .f32) (mod : Vec Ideal S2x8x6x1x2048 .f32) (u : Fin 4) (v : Fin 1024) (b : Fin 2048) :
    sumL x (mod2 mod) (mmL ml w) (ix3 (n0 := 4) (n1 := 1024) (n2 := 2048) u v b) = sumAt mc ml x w mod ⟨4096 + (u.val * 1024 + v.val), by omega⟩ b := by
  rw [sumL_at, mmL_at]
  unfold sumAt
  refine congrArg₂ (fun p q : EReal => p + q) rfl (congrArg₂ (fun p q : EReal => p * q)
    (mod2_lat mod ⟨4096 + (u.val * 1024 + v.val), by omega⟩ b ⟨u.val, by omega⟩ (by show ¬ 4096 + (u.val * 1024 + v.val) < 4096; omega)
      (by show u.val = (4096 + (u.val * 1024 + v.val) - 4096) / 1024; omega))
    (Finset.sum_congr rfl fun k _ => congrArg (fun q : EReal => q * _) ?_))
  unfold rowsAt
  refine Eq.trans ?_ (dif_neg (show ¬ 4096 + (u.val * 1024 + v.val) < 4096 by omega)).symm
  exact congrArg (fun r : Fin 4096 => ml (ix2 (n0 := 4096) (n1 := 2048) r k)) (Fin.ext (by
    show u.val * 1024 + v.val = 4096 + (u.val * 1024 + v.val) - 4096; omega))

theorem nextC_eq (mc ml : Vec Ideal S4096x2048 .bf16) (x : Vec Ideal S8192x2048 .f32) (w : Vec Ideal S2x2048x2048 .f32) (gain : Vec Ideal S2x2048 .f32) (mod : Vec Ideal S2x8x6x1x2048 .f32) (a : Fin 4096) (b : Fin 2048) :
    nextC (sumC x (mod2 mod) (mmC mc w)) gain (mod4 mod) (mod3 mod) (ix2 (n0 := 4096) (n1 := 2048) a b)
      = nextAt mc ml x w gain mod ⟨a.val, by omega⟩ b := by
  rw [nextC_at, mod4_ctx mod ⟨a.val, by omega⟩ b a.isLt, mod3_ctx mod ⟨a.val, by omega⟩ b a.isLt]
  unfold nextAt
  rw [show (fun k => sumC x (mod2 mod) (mmC mc w) (ix2 (n0 := 4096) (n1 := 2048) a k)) = sumAt mc ml x w mod ⟨a.val, by omega⟩ from
    funext fun k => sumC_eq mc ml x w mod a k]

theorem nextL_eq (mc ml : Vec Ideal S4096x2048 .bf16) (x : Vec Ideal S8192x2048 .f32) (w : Vec Ideal S2x2048x2048 .f32) (gain : Vec Ideal S2x2048 .f32) (mod : Vec Ideal S2x8x6x1x2048 .f32) (u : Fin 4) (v : Fin 1024) (b : Fin 2048) :
    nextL (sumL x (mod2 mod) (mmL ml w)) gain (mod4 mod) (mod3 mod) (ix3 (n0 := 4) (n1 := 1024) (n2 := 2048) u v b)
      = nextAt mc ml x w gain mod ⟨4096 + (u.val * 1024 + v.val), by omega⟩ b := by
  have h : ¬ 4096 + (u.val * 1024 + v.val) < 4096 := by omega
  have hu : u.val = (4096 + (u.val * 1024 + v.val) - 4096) / 1024 := by omega
  rw [nextL_at, mod4_lat mod ⟨4096 + (u.val * 1024 + v.val), by omega⟩ b ⟨u.val, by omega⟩ h hu,
    mod3_lat mod ⟨4096 + (u.val * 1024 + v.val), by omega⟩ b ⟨u.val, by omega⟩ h hu]
  unfold nextAt
  rw [show (fun k => sumL x (mod2 mod) (mmL ml w) (ix3 (n0 := 4) (n1 := 1024) (n2 := 2048) u v k)) = sumAt mc ml x w mod ⟨4096 + (u.val * 1024 + v.val), by omega⟩ from
    funext fun k => sumL_eq mc ml x w mod u v k]

/-- The two halves one above the other. -/
def both (p : FVec Ideal S4096x2048 .f32) (q : FVec Ideal S4x1024x2048 .f32) : FVec Ideal S8192x2048 .f32 :=
  concatenate S8192x2048 0 [⟨S4096x2048, p⟩, ⟨S4096x2048, shapeCast S4096x2048 q shapeCasts_S4x1024x2048_S4096x2048⟩] concatenates_S4096x2048_S4096x2048_S8192x2048_d0

theorem flat_at (q : FVec Ideal S4x1024x2048 .f32) (i : S4096x2048.Idx) :
    shapeCast S4096x2048 q shapeCasts_S4x1024x2048_S4096x2048 i = q (ix3 (n0 := 4) (n1 := 1024) (n2 := 2048)
      ⟨(i 0).val / 1024, by have : (i 0).val < 4096 := (i 0).isLt; omega⟩ ⟨(i 0).val % 1024, Nat.mod_lt _ (by decide)⟩ (i 1)) := by
  pointwise

theorem both_at (p : FVec Ideal S4096x2048 .f32) (q : FVec Ideal S4x1024x2048 .f32) (f : Fin 8192 → Fin 2048 → EReal)
    (hp : ∀ (a : Fin 4096) (b : Fin 2048), p (ix2 (n0 := 4096) (n1 := 2048) a b) = f ⟨a.val, by omega⟩ b)
    (hq : ∀ (u : Fin 4) (v : Fin 1024) (b : Fin 2048), q (ix3 (n0 := 4) (n1 := 1024) (n2 := 2048) u v b) = f ⟨4096 + (u.val * 1024 + v.val), by omega⟩ b)
    (i : S8192x2048.Idx) : both p q i = f (i 0) (i 1) := by
  have hi : (i 0).val < 8192 := (i 0).isLt
  unfold both
  by_cases hlt : (i 0).val < 4096
  · refine (concatenate_pair_apply_left (s₁ := S4096x2048) (s₂ := S4096x2048) 0 _ _ _ i rfl (ix2 (n0 := 4096) (n1 := 2048) ⟨(i 0).val, hlt⟩ (i 1)) (fun b => ?_)).trans ?_
    · match b with
      | ⟨0, _⟩ => rfl
      | ⟨1, _⟩ => rfl
    exact hp ⟨(i 0).val, hlt⟩ (i 1)
  · refine (concatenate_pair_apply_right (s₁ := S4096x2048) (s₂ := S4096x2048) 0 _ _ _ i rfl rfl (ix2 (n0 := 4096) (n1 := 2048) ⟨(i 0).val - 4096, by omega⟩ (i 1)) (fun b hb => ?_) ?_).trans ?_
    · match b with
      | ⟨0, _⟩ => exact absurd rfl hb
      | ⟨1, _⟩ => rfl
    · show (i 0).val - 4096 + 4096 = (i 0).val; omega
    rw [flat_at]
    refine (hq _ _ _).trans (congrArg (fun r => f r (i 1)) (Fin.ext ?_))
    show 4096 + (((i 0).val - 4096) / 1024 * 1024 + ((i 0).val - 4096) % 1024) = (i 0).val
    omega

/-- The reference's first result. -/
def res (mc ml : Vec Ideal S4096x2048 .bf16) (x : Vec Ideal S8192x2048 .f32) (w : Vec Ideal S2x2048x2048 .f32) (mod : Vec Ideal S2x8x6x1x2048 .f32) : Vec Ideal S8192x2048 .f32 :=
  both (sumC x (mod2 mod) (mmC mc w)) (sumL x (mod2 mod) (mmL ml w))

theorem res_at (mc ml : Vec Ideal S4096x2048 .bf16) (x : Vec Ideal S8192x2048 .f32) (w : Vec Ideal S2x2048x2048 .f32) (mod : Vec Ideal S2x8x6x1x2048 .f32) (i : S8192x2048.Idx) : res mc ml x w mod i = sumAt mc ml x w mod (i 0) (i 1) :=
  both_at _ _ (sumAt mc ml x w mod) (sumC_eq mc ml x w mod) (sumL_eq mc ml x w mod) i

/-- The reference's second result. -/
def next (mc ml : Vec Ideal S4096x2048 .bf16) (x : Vec Ideal S8192x2048 .f32) (w : Vec Ideal S2x2048x2048 .f32) (gain : Vec Ideal S2x2048 .f32) (mod : Vec Ideal S2x8x6x1x2048 .f32) : Vec Ideal S8192x2048 .bf16 :=
  truncf .bf16 (both (nextC (sumC x (mod2 mod) (mmC mc w)) gain (mod4 mod) (mod3 mod)) (nextL (sumL x (mod2 mod) (mmL ml w)) gain (mod4 mod) (mod3 mod))) bitsLt_bf16_f32

theorem next_at (mc ml : Vec Ideal S4096x2048 .bf16) (x : Vec Ideal S8192x2048 .f32) (w : Vec Ideal S2x2048x2048 .f32) (gain : Vec Ideal S2x2048 .f32) (mod : Vec Ideal S2x8x6x1x2048 .f32) (i : S8192x2048.Idx) : next mc ml x w gain mod i = nextAt mc ml x w gain mod (i 0) (i 1) :=
  both_at _ _ (nextAt mc ml x w gain mod) (nextC_eq mc ml x w gain mod) (nextL_eq mc ml x w gain mod) i

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v85) = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2.1.trans (by unfold Cert.OutpReferenceIdeal.Value.res_main_v85; rfl), (h c).2.2⟩)
    (Cert.OutpReferenceIdeal.Value.run (F := Ideal) m ρ)

end Cert.Proof.Outp.Ref

end
-- ==== Proof.Heads.lean ====
module

public import proofs.«01_k».proof.Proof.Gen.KernelIdeal.Value
public import Idealize.ShloMosaic.Lib.Pipeline.ValueKit.Tiles
public import Idealize.ShloMosaic.Lib.ValueLayout

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

open ValueIdx

/-- One head's block: the queries normed, turned and scaled, their scores against the keys, the weighted values over
the weights' sum. -/
def head (q : Vec F S256x128 .bf16) (g : Vec F S1x1x128 .f32) (cs sn : Vec F S256x128 .f32) (k : Vec F S1280x128 .bf16)
    (v : Vec F S1280x256 .bf16) : FVec F S256x128 .bf16 := k0_pay11 (k0_pay10 q g cs sn) k v

/-- The columns of head `h`. -/
def cols (x : Vec F S256x1024 .bf16) (h : Fin 8) : Vec F S256x128 .bf16 :=
  fun y => x (ix2 (n0 := 256) (n1 := 1024) (y 0)
    ⟨h.val * 128 + (y 1).val, by have := h.isLt; have : (y 1).val < 128 := (y 1).isLt; omega⟩)

/-- The keys of group `j`. -/
def slabK (X : Vec F S2x1280x128 .bf16) (j : Fin 2) : Vec F S1280x128 .bf16 :=
  fun y => X (ix3 (n0 := 2) (n1 := 1280) (n2 := 128) j (y 0) (y 1))

/-- The values of group `j`, beside the columns of ones. -/
def slabV (X : Vec F S2x1280x256 .bf16) (j : Fin 2) : Vec F S1280x256 .bf16 :=
  fun y => X (ix3 (n0 := 2) (n1 := 1280) (n2 := 256) j (y 0) (y 1))

/-- The eight heads side by side. -/
def heads (x : Vec F S256x1024 .bf16) (g : Vec F S1x1x128 .f32) (cs sn : Vec F S256x128 .f32) (K : Vec F S2x1280x128 .bf16)
    (V : Vec F S2x1280x256 .bf16) : Vec F S256x1024 .bf16 := fun y =>
  have hy : (y 1).val < 1024 := (y 1).isLt
  head (cols x ⟨(y 1).val / 128, by omega⟩) g cs sn (slabK K ⟨(y 1).val / 512, by omega⟩) (slabV V ⟨(y 1).val / 512, by omega⟩)
    (ix2 (n0 := 256) (n1 := 128) (y 0) ⟨(y 1).val % 128, by omega⟩)

theorem heads_at (x : Vec F S256x1024 .bf16) (g : Vec F S1x1x128 .f32) (cs sn : Vec F S256x128 .f32)
    (K : Vec F S2x1280x128 .bf16) (V : Vec F S2x1280x256 .bf16) (n : Fin 8) (j : Fin 2) (hj : n.val / 4 = j.val)
    (y : S256x1024.Idx) (z : S256x128.Idx) (h0 : (y 0).val = (z 0).val) (h1 : (y 1).val = n.val * 128 + (z 1).val) :
    heads x g cs sn K V y = head (cols x n) g cs sn (slabK K j) (slabV V j) z := by
  have hz : (z 1).val < 128 := (z 1).isLt
  have e1 : (⟨(y 1).val / 128, by have : (y 1).val < 1024 := (y 1).isLt; omega⟩ : Fin 8) = n := Fin.ext (by dsimp only; omega)
  have e2 : (⟨(y 1).val / 512, by have : (y 1).val < 1024 := (y 1).isLt; omega⟩ : Fin 2) = j := Fin.ext (by dsimp only; omega)
  have e3 : (ix2 (n0 := 256) (n1 := 128) (y 0) ⟨(y 1).val % 128, by omega⟩) = z := by
    funext a; match a with
    | ⟨0, _⟩ => exact Fin.ext h0
    | ⟨1, _⟩ => exact Fin.ext (by show (y 1).val % 128 = (z 1).val; omega)
  show head (cols x ⟨(y 1).val / 128, _⟩) g cs sn (slabK K ⟨(y 1).val / 512, _⟩) (slabV V ⟨(y 1).val / 512, _⟩) _ = _
  rw [e1, e2, e3]

/-- A piece of the output is its head's block. -/
theorem piece (x : Vec F S256x1024 .bf16) (g : Vec F S1x1x128 .f32) (cs sn : Vec F S256x128 .f32)
    (K : Vec F S2x1280x128 .bf16) (V : Vec F S2x1280x256 .bf16) (n : Fin 8) (j : Fin 2) (hj : n.val / 4 = j.val)
    (y : S256x1024.Idx) (z : S256x128.Idx) (h0 : (y 0).val = (z 0).val) (h1 : (y 1).val = n.val * 128 + (z 1).val)
    {w : S256x128.Idx → Elt F .bf16} {q' : Vec F S256x128 .bf16} {g' : Vec F S1x1x128 .f32} {cs' sn' : Vec F S256x128 .f32}
    {k' : Vec F S1280x128 .bf16} {v' : Vec F S1280x256 .bf16}
    (hw : w = head q' g' cs' sn' k' v') (hq : q' = cols x n) (hg : g' = g) (hc : cs' = cs) (hs : sn' = sn)
    (hk : k' = slabK K j) (hv : v' = slabV V j) : w z = heads x g cs sn K V y := by
  rw [heads_at x g cs sn K V n j hj y z h0 h1, hw, hq, hg, hc, hs, hk, hv]

theorem cols_ld (x : Vec F S256x1024 .bf16) (n : Fin 8) (off : Fin 2 → Nat) (hoff : off = ![0, n.val * 128])
    (inb : ∀ a, off a + S256x128.size a ≤ S256x1024.size a) :
    View.ld x (Rect.unit (s := S256x1024) off S256x128.size inb) = cols x n := by
  subst hoff
  funext y
  refine congrArg x (funext fun a => Fin.ext ?_)
  rw [Rect.idx_unit_val]
  match a with
  | ⟨0, _⟩ => exact Nat.zero_add _
  | ⟨1, _⟩ => rfl

theorem z2 : (![0, 0] : Fin 2 → Nat) = fun _ => 0 := by funext a; fin_cases a <;> rfl
theorem z3 : (![0, 0, 0] : Fin 3 → Nat) = fun _ => 0 := by funext a; fin_cases a <;> rfl
theorem z4 : (![0, 0, 0, 0] : Fin 4 → Nat) = fun _ => 0 := by funext a; fin_cases a <;> rfl

section
variable (q : Vec F S256x128 .bf16) (g : Vec F S1x1x128 .f32) (cs sn : Vec F S256x128 .f32) (k : Vec F S1280x128 .bf16)
  (v : Vec F S1280x256 .bf16)
theorem head_0 : k0_pay11 (k0_pay10 q g cs sn) k v = head q g cs sn k v := rfl
theorem head_1 : k0_pay13 (k0_pay12 q g) cs sn k v = head q g cs sn k v := rfl
theorem head_2 : k0_pay16 (k0_pay15 (k0_pay14 q) g cs sn k) v (constant S256x256 .f32 0x00000000#32) = head q g cs sn k v := rfl
theorem head_3 : k0_pay18 (k0_pay17 q g cs sn) k v = head q g cs sn k v := rfl
theorem head_4 : k0_pay26 (k0_pay23 q) (k0_pay24 g) (k0_pay25 q) (Scalar.ofBits .f32 0x358637BD#32) cs sn k v = head q g cs sn k v := rfl
theorem head_5 : k0_pay28 (k0_pay27 q g cs sn k) v = head q g cs sn k v := rfl
theorem head_6 : k0_pay31 (k0_pay29 q g cs sn) k0_pay30 k v = head q g cs sn k v := rfl
theorem head_7 : k0_pay1 (k0_pay36 (k0_pay32 q) (k0_pay33 g) (k0_pay34 q) cs sn k v) (k0_pay37 (k0_pay32 q) (k0_pay33 g) (k0_pay34 q) cs sn k v) = head q g cs sn k v := rfl
end

/-- A load of group `j` of the keys through the squeezed plane reads the group. -/
theorem rawK {sp : Space} {κ : Kind} (w : View sig κ sp S2x1280x128 .bf16) (f : w.ty.Contents (Elt F)) (j : Fin 2)
    (off : Fin 3 → Nat) (hoff : off = ![j.val, 0, 0])
    (inb : ∀ a, off a + S1x1280x128.size a ≤ S2x1280x128.size a) (h0) (hs) (h1) (hR) (X : Vec F S2x1280x128 .bf16)
    (hX : w.read (Elt F) f = X) :
    (LoadRect.valAlong (lr := (Rect.unit (s := S1280x128) ![0, 0] S1280x128.size inb_S1280x128_S1280x128_0_0).toLoadRect) hR
      (View.readAt (Elt F) w ((Rect.unit (s := S2x1280x128) off S1x1280x128.size inb).withinL
        ((Rect.unit (s := S1280x128) ![0, 0] S1280x128.size inb_S1280x128_S1280x128_0_0).toLoadRect.consLift ![1, 1280, 128] h0 hs) h1) f) :
      Vec F S1280x128 .bf16) = slabK X j := by
  subst hoff; subst hX
  funext y
  obtain ⟨a, b, rfl⟩ : ∃ (a : Fin 1280) (b : Fin 128), y = ix2 a b :=
    ⟨y 0, y 1, funext fun k => by match k with | ⟨0, _⟩ => rfl | ⟨1, _⟩ => rfl⟩
  have e := reshapeEquiv_ix2_1ab (a := 1280) (b := 128) hR a b
  show w.read (Elt F) f (((Rect.unit (s := S2x1280x128) ![j.val, 0, 0] S1x1280x128.size inb).withinL
        ((Rect.unit (s := S1280x128) ![0, 0] S1280x128.size inb_S1280x128_S1280x128_0_0).toLoadRect.consLift ![1, 1280, 128] h0 hs) h1).idx
        (Shape.reshapeEquiv hR (ix2 a b))) = w.read (Elt F) f _
  refine congrArg _ ?_
  refine (congrArg _ e).trans ?_
  funext k
  match k with
  | ⟨0, _⟩ => exact Fin.ext (by show j.val + 0 + 1 * 0 = j.val; omega)
  | ⟨1, _⟩ => exact Fin.ext (by show 0 + 0 + 1 * a.val = a.val; omega)
  | ⟨2, _⟩ => exact Fin.ext (by show 0 + 0 + 1 * b.val = b.val; omega)

/-- A load of group `j` of the values through the squeezed plane reads the group. -/
theorem rawV {sp : Space} {κ : Kind} (w : View sig κ sp S2x1280x256 .bf16) (f : w.ty.Contents (Elt F)) (j : Fin 2)
    (off : Fin 3 → Nat) (hoff : off = ![j.val, 0, 0])
    (inb : ∀ a, off a + S1x1280x256.size a ≤ S2x1280x256.size a) (h0) (hs) (h1) (hR) (X : Vec F S2x1280x256 .bf16)
    (hX : w.read (Elt F) f = X) :
    (LoadRect.valAlong (lr := (Rect.unit (s := S1280x256) ![0, 0] S1280x256.size inb_S1280x256_S1280x256_0_0).toLoadRect) hR
      (View.readAt (Elt F) w ((Rect.unit (s := S2x1280x256) off S1x1280x256.size inb).withinL
        ((Rect.unit (s := S1280x256) ![0, 0] S1280x256.size inb_S1280x256_S1280x256_0_0).toLoadRect.consLift ![1, 1280, 256] h0 hs) h1) f) :
      Vec F S1280x256 .bf16) = slabV X j := by
  subst hoff; subst hX
  funext y
  obtain ⟨a, b, rfl⟩ : ∃ (a : Fin 1280) (b : Fin 256), y = ix2 a b :=
    ⟨y 0, y 1, funext fun k => by match k with | ⟨0, _⟩ => rfl | ⟨1, _⟩ => rfl⟩
  have e := reshapeEquiv_ix2_1ab (a := 1280) (b := 256) hR a b
  show w.read (Elt F) f (((Rect.unit (s := S2x1280x256) ![j.val, 0, 0] S1x1280x256.size inb).withinL
        ((Rect.unit (s := S1280x256) ![0, 0] S1280x256.size inb_S1280x256_S1280x256_0_0).toLoadRect.consLift ![1, 1280, 256] h0 hs) h1).idx
        (Shape.reshapeEquiv hR (ix2 a b))) = w.read (Elt F) f _
  refine congrArg _ ?_
  refine (congrArg _ e).trans ?_
  funext k
  match k with
  | ⟨0, _⟩ => exact Fin.ext (by show j.val + 0 + 1 * 0 = j.val; omega)
  | ⟨1, _⟩ => exact Fin.ext (by show 0 + 0 + 1 * a.val = a.val; omega)
  | ⟨2, _⟩ => exact Fin.ext (by show 0 + 0 + 1 * b.val = b.val; omega)

/-- A later store into group 1 of the keys leaves group 0. -/
theorem slabK_skip1 (off size : Fin 3 → Nat) (inb : ∀ a, off a + size a ≤ S2x1280x128.size a) (h : off 0 = 1) (w)
    (L : List (View.Piece (Elt F) S2x1280x128 .bf16)) :
    slabK (View.canon (⟨Rect.unit (s := S2x1280x128) off size inb, w⟩ :: L)) 0 = slabK (View.canon L) 0 := by
  funext y
  refine View.canon_cons_of_not_mem _ L ?_
  rw [Rect.mem_set_unit]
  intro hm
  have := (hm 0).1
  rw [h] at this
  exact absurd this (by show ¬ 1 ≤ 0; omega)

/-- A later store into group 1 of the values leaves group 0. -/
theorem slabV_skip1 (off size : Fin 3 → Nat) (inb : ∀ a, off a + size a ≤ S2x1280x256.size a) (h : off 0 = 1) (w)
    (L : List (View.Piece (Elt F) S2x1280x256 .bf16)) :
    slabV (View.canon (⟨Rect.unit (s := S2x1280x256) off size inb, w⟩ :: L)) 0 = slabV (View.canon L) 0 := by
  funext y
  refine View.canon_cons_of_not_mem _ L ?_
  rw [Rect.mem_set_unit]
  intro hm
  have := (hm 0).1
  rw [h] at this
  exact absurd this (by show ¬ 1 ≤ 0; omega)

end Cert.Proof
-- ==== Proof.Scratch.lean ====
module

public import proofs.«01_k».proof.Proof.Gen.KernelIdeal.Value
public import proofs.«01_k».proof.Proof.Heads

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

open ValueIdx

/-- Rows `2 r + j` of a cache plane: the rows of group `j`. -/
def strided (x : Vec F S1x1x512x128 .f32) (j : Fin 2) : Vec F S1x1x256x128 .f32 :=
  fun y => x (ix4 (n0 := 1) (n1 := 1) (n2 := 512) (n3 := 128) (y 0) (y 1)
    ⟨j.val + 2 * (y 2).val, by have := j.isLt; have : (y 2).val < 256 := (y 2).isLt; omega⟩ (y 3))

/-- The columns of group `j`. -/
def kcols (x : Vec F S1024x256 .bf16) (j : Fin 2) : Vec F S1024x128 .bf16 :=
  fun y => x (ix2 (n0 := 1024) (n1 := 256) (y 0)
    ⟨j.val * 128 + (y 1).val, by have := j.isLt; have : (y 1).val < 128 := (y 1).isLt; omega⟩)

/-- The keys laid out by group: the cached rows, then the normed and turned rows. -/
def keys (x1 : Vec F S1024x256 .bf16) (x3 : Vec F S1x1x512x128 .f32) (x6 : Vec F S1x1x128 .f32)
    (x9 x10 : Vec F S1024x128 .f32) : Vec F S2x1280x128 .bf16 := fun y =>
  have hy : (y 1).val < 1280 := (y 1).isLt
  if h : (y 1).val < 256 then k0_pay3 (strided x3 (y 0)) (ix3 (n0 := 1) (n1 := 256) (n2 := 128) 0 ⟨(y 1).val, h⟩ (y 2))
  else k0_pay7 (k0_pay2 (kcols x1 (y 0)) x6 x9 x10) (ix3 (n0 := 1) (n1 := 1024) (n2 := 128) 0 ⟨(y 1).val - 256, by omega⟩ (y 2))

/-- The values laid out by group: the cached rows, then the fresh rows, a column of ones beside each. -/
def vals (x2 : Vec F S1024x256 .bf16) (x4 : Vec F S1x1x512x128 .f32) : Vec F S2x1280x256 .bf16 := fun y =>
  have hy : (y 1).val < 1280 := (y 1).isLt
  have hz : (y 2).val < 256 := (y 2).isLt
  if h2 : (y 2).val < 128 then
    if h : (y 1).val < 256 then k0_pay6 (strided x4 (y 0)) (ix3 (n0 := 1) (n1 := 256) (n2 := 128) 0 ⟨(y 1).val, h⟩ ⟨(y 2).val, h2⟩)
    else k0_pay8 (kcols x2 (y 0)) (ix3 (n0 := 1) (n1 := 1024) (n2 := 128) 0 ⟨(y 1).val - 256, by omega⟩ ⟨(y 2).val, h2⟩)
  else k0_pay9 (ix3 (n0 := 1) (n1 := 1280) (n2 := 128) 0 (y 1) ⟨(y 2).val - 128, by omega⟩)

theorem kcols_ld (x : Vec F S1024x256 .bf16) (n : Fin 2) (off : Fin 2 → Nat) (hoff : off = ![0, n.val * 128])
    (inb : ∀ a, off a + S1024x128.size a ≤ S1024x256.size a) :
    View.ld x (Rect.unit (s := S1024x256) off S1024x128.size inb) = kcols x n := by
  subst hoff
  funext y
  refine congrArg x (funext fun a => Fin.ext ?_)
  rw [Rect.idx_unit_val]
  match a with
  | ⟨0, _⟩ => exact Nat.zero_add _
  | ⟨1, _⟩ => rfl

theorem off1_eq (i : grid0.Coords) : k0_off1 i = ![0, 0, 0, 0] := by
  have h : (i 1).val = 0 := by have : (i 1).val < 1 := (i 1).isLt; omega
  unfold k0_off1
  rw [h]; rfl

theorem off2_eq (i : grid0.Coords) : k0_off2 i = ![0, 0, 1, 0] := by
  have h : (i 1).val = 0 := by have : (i 1).val < 1 := (i 1).isLt; omega
  unfold k0_off2
  rw [h]; rfl

theorem strided_ld {arg : Memref sig .tc .vmem S1x1x512x128 .f32} (harg : arg.IsWhole) (x : Vec F S1x1x512x128 .f32) (j : Fin 2)
    (off : Fin 4 → Nat) (hoff : off = ![0, 0, j.val, 0]) (inb) :
    View.readAt (Elt F) arg.view (⟨off, S1x1x256x128.size, ![1, 1, 2, 1], inb⟩ : LoadRect S1x1x512x128) (harg.unread x) = strided x j := by
  subst hoff
  funext y
  rw [View.readAt_apply]
  refine (congrFun (harg.read_unread x) _).trans ?_
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show j.val + 2 * (y 2).val = _; rfl
  | ⟨3, _⟩ => show 0 + 1 * (y 3).val = (y 3).val; omega

theorem keys_hi (x1 : Vec F S1024x256 .bf16) (x3 : Vec F S1x1x512x128 .f32) (x6 : Vec F S1x1x128 .f32)
    (x9 x10 : Vec F S1024x128 .f32) (j : Fin 2) (y : S2x1280x128.Idx) (z : S1x1024x128.Idx)
    (h0 : (y 0).val = j.val + (z 0).val) (h1 : (y 1).val = 256 + (z 1).val) (h2 : (y 2).val = 0 + (z 2).val)
    {w : S1x1024x128.Idx → Elt F .bf16} {k' : Vec F S1024x128 .bf16} {g' : Vec F S1x1x128 .f32} {cs' sn' : Vec F S1024x128 .f32}
    (hw : w = k0_pay7 (k0_pay2 k' g' cs' sn')) (hk : k' = kcols x1 j) (hg : g' = x6) (hc : cs' = x9) (hs : sn' = x10) :
    w z = keys x1 x3 x6 x9 x10 y := by
  subst hw hk hg hc hs
  have hz : (z 0).val < 1 := (z 0).isLt
  have e0 : y 0 = j := Fin.ext (by omega)
  have e : (ix3 (n0 := 1) (n1 := 1024) (n2 := 128) 0 ⟨(y 1).val - 256, by have : (y 1).val < 1280 := (y 1).isLt; omega⟩ (y 2)) = z := by
    funext a; match a with
    | ⟨0, _⟩ => exact Fin.ext (by show 0 = (z 0).val; omega)
    | ⟨1, _⟩ => exact Fin.ext (by show (y 1).val - 256 = (z 1).val; omega)
    | ⟨2, _⟩ => exact Fin.ext (by show (y 2).val = (z 2).val; omega)
  unfold keys
  dsimp only
  rw [dif_neg (by omega), e, e0]

theorem keys_lo (x1 : Vec F S1024x256 .bf16) (x3 : Vec F S1x1x512x128 .f32) (x6 : Vec F S1x1x128 .f32)
    (x9 x10 : Vec F S1024x128 .f32) (j : Fin 2) (y : S2x1280x128.Idx) (z : S1x256x128.Idx)
    (h0 : (y 0).val = j.val + (z 0).val) (h1 : (y 1).val = 0 + (z 1).val) (h2 : (y 2).val = 0 + (z 2).val)
    {w : S1x256x128.Idx → Elt F .bf16} {k' : Vec F S1x1x256x128 .f32}
    (hw : w = k0_pay3 k') (hk : k' = strided x3 j) :
    w z = keys x1 x3 x6 x9 x10 y := by
  subst hw hk
  have hz : (z 0).val < 1 := (z 0).isLt
  have hz1 : (z 1).val < 256 := (z 1).isLt
  have e0 : y 0 = j := Fin.ext (by omega)
  have h : (y 1).val < 256 := by omega
  have e : (ix3 (n0 := 1) (n1 := 256) (n2 := 128) 0 ⟨(y 1).val, h⟩ (y 2)) = z := by
    funext a; match a with
    | ⟨0, _⟩ => exact Fin.ext (by show 0 = (z 0).val; omega)
    | ⟨1, _⟩ => exact Fin.ext (by show (y 1).val = (z 1).val; omega)
    | ⟨2, _⟩ => exact Fin.ext (by show (y 2).val = (z 2).val; omega)
  unfold keys
  dsimp only
  rw [dif_pos h, e, e0]

theorem vals_one (x2 : Vec F S1024x256 .bf16) (x4 : Vec F S1x1x512x128 .f32) (j : Fin 2) (y : S2x1280x256.Idx) (z : S1x1280x128.Idx)
    (h0 : (y 0).val = j.val + (z 0).val) (h1 : (y 1).val = 0 + (z 1).val) (h2 : (y 2).val = 128 + (z 2).val)
    {w : S1x1280x128.Idx → Elt F .bf16} (hw : w = k0_pay9) :
    w z = vals x2 x4 y := by
  subst hw
  have hz : (z 0).val < 1 := (z 0).isLt
  have e : (ix3 (n0 := 1) (n1 := 1280) (n2 := 128) 0 (y 1) ⟨(y 2).val - 128, by have : (y 2).val < 256 := (y 2).isLt; omega⟩) = z := by
    funext a; match a with
    | ⟨0, _⟩ => exact Fin.ext (by show 0 = (z 0).val; omega)
    | ⟨1, _⟩ => exact Fin.ext (by show (y 1).val = (z 1).val; omega)
    | ⟨2, _⟩ => exact Fin.ext (by show (y 2).val - 128 = (z 2).val; omega)
  unfold vals
  dsimp only
  rw [dif_neg (by omega), e]

theorem vals_hi (x2 : Vec F S1024x256 .bf16) (x4 : Vec F S1x1x512x128 .f32) (j : Fin 2) (y : S2x1280x256.Idx) (z : S1x1024x128.Idx)
    (h0 : (y 0).val = j.val + (z 0).val) (h1 : (y 1).val = 256 + (z 1).val) (h2 : (y 2).val = 0 + (z 2).val)
    {w : S1x1024x128.Idx → Elt F .bf16} {k' : Vec F S1024x128 .bf16} (hw : w = k0_pay8 k') (hk : k' = kcols x2 j) :
    w z = vals x2 x4 y := by
  subst hw hk
  have hz : (z 0).val < 1 := (z 0).isLt
  have hz2 : (z 2).val < 128 := (z 2).isLt
  have e0 : y 0 = j := Fin.ext (by omega)
  have h2' : (y 2).val < 128 := by omega
  have e : (ix3 (n0 := 1) (n1 := 1024) (n2 := 128) 0 ⟨(y 1).val - 256, by have : (y 1).val < 1280 := (y 1).isLt; omega⟩ ⟨(y 2).val, h2'⟩) = z := by
    funext a; match a with
    | ⟨0, _⟩ => exact Fin.ext (by show 0 = (z 0).val; omega)
    | ⟨1, _⟩ => exact Fin.ext (by show (y 1).val - 256 = (z 1).val; omega)
    | ⟨2, _⟩ => exact Fin.ext (by show (y 2).val = (z 2).val; omega)
  unfold vals
  dsimp only
  rw [dif_pos h2', dif_neg (by omega), e, e0]

theorem vals_lo (x2 : Vec F S1024x256 .bf16) (x4 : Vec F S1x1x512x128 .f32) (j : Fin 2) (y : S2x1280x256.Idx) (z : S1x256x128.Idx)
    (h0 : (y 0).val = j.val + (z 0).val) (h1 : (y 1).val = 0 + (z 1).val) (h2 : (y 2).val = 0 + (z 2).val)
    {w : S1x256x128.Idx → Elt F .bf16} {k' : Vec F S1x1x256x128 .f32} (hw : w = k0_pay6 k') (hk : k' = strided x4 j) :
    w z = vals x2 x4 y := by
  subst hw hk
  have hz : (z 0).val < 1 := (z 0).isLt
  have hz1 : (z 1).val < 256 := (z 1).isLt
  have hz2 : (z 2).val < 128 := (z 2).isLt
  have e0 : y 0 = j := Fin.ext (by omega)
  have h : (y 1).val < 256 := by omega
  have h2' : (y 2).val < 128 := by omega
  have e : (ix3 (n0 := 1) (n1 := 256) (n2 := 128) 0 ⟨(y 1).val, h⟩ ⟨(y 2).val, h2'⟩) = z := by
    funext a; match a with
    | ⟨0, _⟩ => exact Fin.ext (by show 0 = (z 0).val; omega)
    | ⟨1, _⟩ => exact Fin.ext (by show (y 1).val = (z 1).val; omega)
    | ⟨2, _⟩ => exact Fin.ext (by show (y 2).val = (z 2).val; omega)
  unfold vals
  dsimp only
  rw [dif_pos h2', dif_pos h, e, e0]

theorem kfill_0 (k : Vec F S1024x128 .bf16) (g : Vec F S1x1x128 .f32) (cs sn : Vec F S1024x128 .f32) :
    k0_pay7 (k0_pay2 k g cs sn) = k0_pay7 (k0_pay2 k g cs sn) := rfl
theorem kfill_1 (k : Vec F S1024x128 .bf16) (g : Vec F S1x1x128 .f32) (cs sn : Vec F S1024x128 .f32) :
    k0_pay20 (k0_pay4 k g cs sn) = k0_pay7 (k0_pay2 k g cs sn) := rfl
theorem kctx_0 (k : Vec F S1x1x256x128 .f32) : k0_pay3 k = k0_pay3 k := rfl
theorem kctx_1 (k : Vec F S1x1x256x128 .f32) : k0_pay5 k = k0_pay3 k := rfl
theorem vctx_0 (k : Vec F S1x1x256x128 .f32) : k0_pay6 k = k0_pay6 k := rfl
theorem vctx_1 (k : Vec F S1x1x256x128 .f32) : k0_pay19 k = k0_pay6 k := rfl
theorem vfill_0 (k : Vec F S1024x128 .bf16) : k0_pay8 k = k0_pay8 k := rfl
theorem vfill_1 (k : Vec F S1024x128 .bf16) : k0_pay21 k = k0_pay8 k := rfl

/-- The keys a filling point leaves in the scratch. -/
theorem scr_A_0 (c : Dev nD) (i : grid0.Coords) (arg3 : Memref sig .tc .vmem S256x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S256x1024 .bf16) (harg14 : arg14.IsWhole) (arg15 : Memref sig .tc .vmem S2x1280x128 .bf16) (harg15 : arg15.IsWhole) (arg16 : Memref sig .tc .vmem S2x1280x256 .bf16) (harg16 : arg16.IsWhole) (hc0 : cond0_0 i) (hc1 : cond0_1 i)
    (x0 : Vec F S256x1024 .bf16) (x1 : Vec F S1024x256 .bf16) (x2 : Vec F S1024x256 .bf16) (x3 : Vec F S1x1x512x128 .f32) (x4 : Vec F S1x1x512x128 .f32) (x5 : Vec F S1x1x128 .f32) (x6 : Vec F S1x1x128 .f32) (x7 : Vec F S256x128 .f32) (x8 : Vec F S256x128 .f32) (x9 : Vec F S1024x128 .f32) (x10 : Vec F S1024x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = keys x1 x3 x6 x9 x10 := by
  have hcov := scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
  unfold sout0_A_0
  simp only [View.read_writes_junk_eq_canon]
  unfold kernelRun0_A
  dsimp only
  funext y
  unfold kernelRun0_A.sl.HS0_4
  unfold kernelRun0_A.sl.HS0_2
  canon_tiles x hx using (hcov y)
  case piece0 =>
    refine keys_hi x1 x3 x6 x9 x10 1 y x hx0 hx1 (hx2.trans (Nat.zero_add _).symm) (kfill_1 _ _ _ _) ?_ ?_ ?_ ?_
    · exact (congrArg (fun X => View.ld X _) (harg4.read_unread x1)).trans (kcols_ld x1 1 ![0, 128] rfl _)
    · exact (congrArg (fun X => View.ld X _) (harg9.read_unread x6)).trans (View.ld_unit_zero (S := S1x1x128) z3 _ _)
    · exact (congrArg (fun X => View.ld X _) (harg12.read_unread x9)).trans (View.ld_unit_zero (S := S1024x128) z2 _ _)
    · exact (congrArg (fun X => View.ld X _) (harg13.read_unread x10)).trans (View.ld_unit_zero (S := S1024x128) z2 _ _)
  case piece1 =>
    refine keys_lo x1 x3 x6 x9 x10 1 y x hx0 (hx1.trans (Nat.zero_add _).symm) (hx2.trans (Nat.zero_add _).symm) (kctx_1 _) ?_
    exact strided_ld harg6 x3 1 _ (off2_eq i) _
  case piece2 =>
    refine keys_hi x1 x3 x6 x9 x10 0 y x (hx0.trans (Nat.zero_add _).symm) hx1 (hx2.trans (Nat.zero_add _).symm) (kfill_0 _ _ _ _) ?_ ?_ ?_ ?_
    · exact (congrArg (fun X => View.ld X _) (harg4.read_unread x1)).trans (kcols_ld x1 0 ![0, 0] rfl _)
    · exact (congrArg (fun X => View.ld X _) (harg9.read_unread x6)).trans (View.ld_unit_zero (S := S1x1x128) z3 _ _)
    · exact (congrArg (fun X => View.ld X _) (harg12.read_unread x9)).trans (View.ld_unit_zero (S := S1024x128) z2 _ _)
    · exact (congrArg (fun X => View.ld X _) (harg13.read_unread x10)).trans (View.ld_unit_zero (S := S1024x128) z2 _ _)
  case piece3 =>
    refine keys_lo x1 x3 x6 x9 x10 0 y x (hx0.trans (Nat.zero_add _).symm) (hx1.trans (Nat.zero_add _).symm) (hx2.trans (Nat.zero_add _).symm) (kctx_0 _) ?_
    exact strided_ld harg6 x3 0 _ (off1_eq i) _

/-- The values a filling point leaves in the scratch. -/
theorem scr_A_1 (c : Dev nD) (i : grid0.Coords) (arg3 : Memref sig .tc .vmem S256x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S256x1024 .bf16) (harg14 : arg14.IsWhole) (arg15 : Memref sig .tc .vmem S2x1280x128 .bf16) (harg15 : arg15.IsWhole) (arg16 : Memref sig .tc .vmem S2x1280x256 .bf16) (harg16 : arg16.IsWhole) (hc0 : cond0_0 i) (hc1 : cond0_1 i)
    (x0 : Vec F S256x1024 .bf16) (x1 : Vec F S1024x256 .bf16) (x2 : Vec F S1024x256 .bf16) (x3 : Vec F S1x1x512x128 .f32) (x4 : Vec F S1x1x512x128 .f32) (x5 : Vec F S1x1x128 .f32) (x6 : Vec F S1x1x128 .f32) (x7 : Vec F S256x128 .f32) (x8 : Vec F S256x128 .f32) (x9 : Vec F S1024x128 .f32) (x10 : Vec F S1024x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = vals x2 x4 := by
  have hcov := scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
  unfold sout0_A_1
  simp only [View.read_writes_junk_eq_canon]
  unfold kernelRun0_A
  dsimp only
  funext y
  unfold kernelRun0_A.sl.HS1_6
  unfold kernelRun0_A.sl.HS1_3
  canon_tiles x hx using (hcov y)
  case piece0 =>
    exact vals_one x2 x4 1 y x hx0 (hx1.trans (Nat.zero_add _).symm) hx2 rfl
  case piece1 =>
    refine vals_hi x2 x4 1 y x hx0 hx1 (hx2.trans (Nat.zero_add _).symm) (vfill_1 _) ?_
    exact (congrArg (fun X => View.ld X _) (harg5.read_unread x2)).trans (kcols_ld x2 1 ![0, 128] rfl _)
  case piece2 =>
    refine vals_lo x2 x4 1 y x hx0 (hx1.trans (Nat.zero_add _).symm) (hx2.trans (Nat.zero_add _).symm) (vctx_1 _) ?_
    exact strided_ld harg7 x4 1 _ (off2_eq i) _
  case piece3 =>
    exact vals_one x2 x4 0 y x (hx0.trans (Nat.zero_add _).symm) (hx1.trans (Nat.zero_add _).symm) hx2 rfl
  case piece4 =>
    refine vals_hi x2 x4 0 y x (hx0.trans (Nat.zero_add _).symm) hx1 (hx2.trans (Nat.zero_add _).symm) (vfill_0 _) ?_
    exact (congrArg (fun X => View.ld X _) (harg5.read_unread x2)).trans (kcols_ld x2 0 ![0, 0] rfl _)
  case piece5 =>
    refine vals_lo x2 x4 0 y x (hx0.trans (Nat.zero_add _).symm) (hx1.trans (Nat.zero_add _).symm) (hx2.trans (Nat.zero_add _).symm) (vctx_0 _) ?_
    exact strided_ld harg7 x4 0 _ (off1_eq i) _

end Cert.Proof
-- ==== Proof.Consts.lean ====
module

public import Idealize.ShloMosaic.PureOps.Ideal.Laws
public import Idealize.ShloMosaic.Lib.IdealHost

@[expose] public section

noncomputable section

namespace Cert.Proof

open Idealize.ShloMosaic

theorem bits_128 : Ideal.ofBits .f32 0x43000000#32 = ((128 : ℝ) : EReal) := by
  simp [Ideal.ofBits, Ideal.ieee, -EReal.coe_mul]; norm_num

theorem bits_scl : Ideal.ofBits .f32 0x3DB504F3#32 = ((11863283 / 134217728 : ℝ) : EReal) := by
  simp [Ideal.ofBits, Ideal.ieee, -EReal.coe_mul]; norm_num

theorem bits_32 : Ideal.ofBits .f32 0x42000000#32 = ((32 : ℝ) : EReal) := by
  simp [Ideal.ofBits, Ideal.ieee, -EReal.coe_mul]; norm_num

theorem bits_10000 : Ideal.ofBits .f32 0x461C4000#32 = ((10000 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem bits_neg_inf : Ideal.ofBits .f32 0xFF800000#32 = ⊥ := by
  simp [Ideal.ofBits, Ideal.ieee]

theorem bits_pos_inf : Ideal.ofBits .f32 0x7F800000#32 = ⊤ := by
  simp [Ideal.ofBits, Ideal.ieee]

end Cert.Proof
-- ==== Proof.Maths.lean ====
module

public import proofs.«01_k».proof.Proof.Consts
public import Mathlib.Analysis.SpecialFunctions.Pow.Real

@[expose] public section

noncomputable section

namespace Cert.Proof

open Idealize.ShloMosaic

/-- A value that is a real number. -/
def IsReal (x : EReal) : Prop := ∃ r : ℝ, x = (r : EReal)

theorem IsReal.coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The maximum of reals from the bottom is one of them. -/
theorem fold_max_real {n : ℕ} (hn : 0 < n) (a : Fin n → ℝ) :
    ∃ k : Fin n, (Finset.univ : Finset (Fin n)).fold max (⊥ : EReal) (fun k => (a k : EReal)) = (a k : EReal) ∧ ∀ j, a j ≤ a k := by
  obtain ⟨k, -, hk⟩ := Finset.exists_max_image (Finset.univ : Finset (Fin n)) a ⟨⟨0, hn⟩, Finset.mem_univ _⟩
  refine ⟨k, le_antisymm ?_ ?_, fun j => hk j (Finset.mem_univ _)⟩
  · exact (Finset.fold_max_le _).mpr ⟨bot_le, fun j _ => EReal.coe_le_coe_iff.mpr (hk j (Finset.mem_univ _))⟩
  · exact (Finset.le_fold_max _).mpr (.inr ⟨k, Finset.mem_univ _, le_rfl⟩)

/-- The scale of the scores: the root of 1 / 128 as single precision has it. -/
def scl : ℝ := 11863283 / 134217728
/-- The same in base two. -/
def qscl : ℝ := (11863283 / 134217728) * (Real.log 2)⁻¹

theorem div_real (x : ℝ) {y : ℝ} (hy : y ≠ 0) : Ideal.div (x : EReal) (y : EReal) = ((x * y⁻¹ : ℝ) : EReal) := by
  unfold Ideal.div
  rw [if_neg (by exact_mod_cast hy), ← EReal.coe_inv, ← EReal.coe_mul]

/-- A query's attention as the reference writes it: softmax of the scaled scores, then the weighted values. -/
def attnR {n : ℕ} (q : Fin 128 → EReal) (K : Fin n → Fin 128 → EReal) (V : Fin n → EReal) : EReal :=
  ∑ k, V k * Ideal.div
    (Ideal.exp ((∑ d, K k d * q d) * (scl : EReal) - max ⊥ (Finset.univ.fold max ⊥ (fun k => (∑ d, K k d * q d) * (scl : EReal)))))
    (0 + ∑ k, Ideal.exp ((∑ d, K k d * q d) * (scl : EReal) - max ⊥ (Finset.univ.fold max ⊥ (fun k => (∑ d, K k d * q d) * (scl : EReal)))))

/-- The same as the kernel writes it: weights in base two, the weighted values over the weights' sum. -/
def attnK {n : ℕ} (q : Fin 128 → EReal) (K : Fin n → Fin 128 → EReal) (V : Fin n → EReal) : EReal :=
  (∑ k, Ideal.exp2 ((∑ d, q d * (qscl : EReal) * K k d) - Finset.univ.fold max ⊥ (fun k => ∑ d, q d * (qscl : EReal) * K k d)) * V k)
    * Ideal.div 1 (∑ k, Ideal.exp2 ((∑ d, q d * (qscl : EReal) * K k d) - Finset.univ.fold max ⊥ (fun k => ∑ d, q d * (qscl : EReal) * K k d)) * 1)

/-- Dividing the weighted sum, or weighting by the quotients. -/
theorem ratio_eq {n : ℕ} (hn : 0 < n) (V : Fin n → EReal) (p : Fin n → ℝ) (hp : ∀ k, 0 < p k) :
    (∑ k, (p k : EReal) * V k) * Ideal.div 1 (∑ k, (p k : EReal)) = ∑ k, V k * Ideal.div (p k : EReal) (∑ k, (p k : EReal)) := by
  have hP : 0 < ∑ k, p k := Finset.sum_pos (fun k _ => hp k) ⟨⟨0, hn⟩, Finset.mem_univ _⟩
  rw [← coe_sum, ← EReal.coe_one, div_real 1 hP.ne', one_mul, sum_mul_real _ _ _ (inv_pos.mpr hP).le]
  refine Finset.sum_congr rfl fun k _ => ?_
  rw [div_real _ hP.ne', EReal.coe_mul, mul_comm (p k : EReal), mul_assoc]

theorem attn_eq {n : ℕ} (hn : 0 < n) (q : Fin 128 → EReal) (K : Fin n → Fin 128 → EReal) (V : Fin n → EReal)
    (hq : ∀ d, IsReal (q d)) (hK : ∀ k d, IsReal (K k d)) : attnK q K V = attnR q K V := by
  choose qr hqr using hq
  choose kr hkr using hK
  obtain rfl : q = fun d => (qr d : EReal) := funext hqr
  obtain rfl : K = fun k d => (kr k d : EReal) := funext fun k => funext (hkr k)
  have hl : 0 < Real.log 2 := Real.log_pos (by norm_num)
  have s1 : ∀ k, (∑ d, (kr k d : EReal) * (qr d : EReal)) * (scl : EReal) = (((∑ d, kr k d * qr d) * scl : ℝ) : EReal) := fun k => by
    rw [EReal.coe_mul, coe_sum]; simp only [EReal.coe_mul]
  have s2 : ∀ k, (∑ d, (qr d : EReal) * (qscl : EReal) * (kr k d : EReal)) = ((((∑ d, kr k d * qr d) * scl) * (Real.log 2)⁻¹ : ℝ) : EReal) := fun k => by
    have : (∑ d, kr k d * qr d) * scl * (Real.log 2)⁻¹ = ∑ d, qr d * qscl * kr k d := by
      rw [mul_assoc, Finset.sum_mul]
      exact Finset.sum_congr rfl fun d _ => by unfold qscl scl; ring
    rw [this, coe_sum]; simp only [EReal.coe_mul]
  unfold attnK attnR
  simp only [s1, s2]
  obtain ⟨k0, h0, m0⟩ := fold_max_real hn (fun k => (∑ d, kr k d * qr d) * scl)
  obtain ⟨k1, h1, m1⟩ := fold_max_real hn (fun k => (∑ d, kr k d * qr d) * scl * (Real.log 2)⁻¹)
  rw [h0, h1]
  have e01 : (∑ d, kr k1 d * qr d) * scl = (∑ d, kr k0 d * qr d) * scl :=
    le_antisymm (m0 k1) (le_of_mul_le_mul_right (m1 k0) (inv_pos.mpr hl))
  have pe : ∀ k, Ideal.exp2 ((((∑ d, kr k d * qr d) * scl * (Real.log 2)⁻¹ : ℝ) : EReal) - (((∑ d, kr k1 d * qr d) * scl * (Real.log 2)⁻¹ : ℝ) : EReal))
      = ((Real.exp ((∑ d, kr k d * qr d) * scl - (∑ d, kr k0 d * qr d) * scl) : ℝ) : EReal) := fun k => by
    rw [e01, ← EReal.coe_sub]
    refine congrArg Real.toEReal ((Real.rpow_def_of_pos (by norm_num : (0 : ℝ) < 2) _).trans (congrArg Real.exp ?_))
    field_simp
  have pr : ∀ k, Ideal.exp ((((∑ d, kr k d * qr d) * scl : ℝ) : EReal) - max ⊥ (((∑ d, kr k0 d * qr d) * scl : ℝ) : EReal))
      = ((Real.exp ((∑ d, kr k d * qr d) * scl - (∑ d, kr k0 d * qr d) * scl) : ℝ) : EReal) := fun k => by
    rw [max_eq_right bot_le, ← EReal.coe_sub]; rfl
  simp only [pe, pr, mul_one, zero_add]
  have hp : ∀ k, 0 < Real.exp ((∑ d, kr k d * qr d) * scl - (∑ d, kr k0 d * qr d) * scl) := fun k => Real.exp_pos _
  exact ratio_eq hn V (fun k => Real.exp ((∑ d, kr k d * qr d) * scl - (∑ d, kr k0 d * qr d) * scl)) hp

/-- A row normed by the root of its mean square, times a gain. -/
def nrm (x g : Fin 128 → EReal) (d : Fin 128) : EReal :=
  x d * Ideal.rsqrt (Ideal.div (∑ e, x e * x e) (Ideal.ofBits .f32 0x43000000#32) + Ideal.ofBits .f32 0x358637BD#32) * g d

/-- A row turned, half against half. -/
def rot (x : Fin 128 → EReal) (c s : Fin 64 → EReal) (d : Fin 128) : EReal :=
  if h : d.val < 64 then x d * c ⟨d.val, h⟩ - x ⟨d.val + 64, by omega⟩ * s ⟨d.val, h⟩
  else x d * c ⟨d.val - 64, by omega⟩ + x ⟨d.val - 64, by omega⟩ * s ⟨d.val - 64, by omega⟩

theorem nrm_real (x g : Fin 128 → EReal) (hx : ∀ d, IsReal (x d)) (hg : ∀ d, IsReal (g d)) (d : Fin 128) : IsReal (nrm x g d) := by
  unfold nrm
  refine ((hx d).mul ?_).mul (hg d)
  choose xr hxr using hx
  obtain rfl : x = fun d => (xr d : EReal) := funext hxr
  obtain ⟨e, he, hb⟩ := bits_eps
  rw [hb, bits_128]
  simp only [← EReal.coe_mul]
  rw [← coe_sum, div_real _ (by norm_num), ← EReal.coe_add]
  have hs : 0 ≤ ∑ i, xr i * xr i := Finset.sum_nonneg fun i _ => mul_self_nonneg _
  have hpos : 0 < (∑ i, xr i * xr i) * (128 : ℝ)⁻¹ + e := by positivity
  refine ⟨(Real.sqrt ((∑ i, xr i * xr i) * (128 : ℝ)⁻¹ + e))⁻¹, ?_⟩
  unfold Ideal.rsqrt
  show (if _ < _ then _ else if _ = _ then _ else _) = _
  rw [if_neg (not_lt.mpr hpos.le), if_neg hpos.ne']

theorem rot_real (x : Fin 128 → EReal) (c s : Fin 64 → EReal) (hx : ∀ d, IsReal (x d)) (hc : ∀ d, IsReal (c d)) (hs : ∀ d, IsReal (s d))
    (d : Fin 128) : IsReal (rot x c s d) := by
  unfold rot
  split
  · exact ((hx _).mul (hc _)).sub ((hx _).mul (hs _))
  · exact ((hx _).mul (hc _)).add ((hx _).mul (hs _))

end Cert.Proof
-- ==== Proof.KerAt.lean ====
module

public import proofs.«01_k».proof.Proof.Scratch
public import proofs.«01_k».proof.Proof.Maths
public import Idealize.ShloMosaic.Lib.Pipeline.ValueKit
public import Idealize.ShloMosaic.Lib.Pointwise
public import Idealize.ShloMosaic.Lib.KernelVsHost

@[expose] public section

set_option maxRecDepth 16384

noncomputable section

namespace Cert.Proof

open Idealize.ShloMosaic Idealize.ShloMosaic.TcCoe Idealize.ShloMosaic.Tactic Cert.KernelIdeal Cert.KernelIdeal.Gen

/-- A row turned by a doubled table. -/
def rot2 (x cs sn : Fin 128 → EReal) (d : Fin 128) : EReal :=
  x d * cs d + x ⟨(d.val + 64) % 128, by omega⟩ * sn d

theorem pay2_at (x : Vec Ideal S1024x128 .bf16) (g : Vec Ideal S1x1x128 .f32) (cs sn : Vec Ideal S1024x128 .f32) (i : S1024x128.Idx) :
    k0_pay2 (F := Ideal) x g cs sn i = rot2 (nrm (fun d => x (ix2 (n0 := 1024) (n1 := 128) (i 0) d)) (fun d => g (ix3 (n0 := 1) (n1 := 1) (n2 := 128) 0 0 d)))
      (fun d => cs (ix2 (n0 := 1024) (n1 := 128) (i 0) d)) (fun d => sn (ix2 (n0 := 1024) (n1 := 128) (i 0) d)) (i 1) := by
  unfold k0_pay2 rot2 nrm
  pointwise
  have e : (⟨((i 1).val + 128 - 64) % 128, Nat.mod_lt _ (by omega)⟩ : Fin 128) = ⟨((i 1).val + 64) % 128, Nat.mod_lt _ (by omega)⟩ :=
    Fin.ext (congrArg (· % 128) (by show (i 1).val + 128 - 64 = (i 1).val + 64; omega))
  rw [e]

theorem pay10_at (x : Vec Ideal S256x128 .bf16) (g : Vec Ideal S1x1x128 .f32) (cs sn : Vec Ideal S256x128 .f32) (i : S256x128.Idx) :
    k0_pay10 (F := Ideal) x g cs sn i = rot2 (nrm (fun d => x (ix2 (n0 := 256) (n1 := 128) (i 0) d)) (fun d => g (ix3 (n0 := 1) (n1 := 1) (n2 := 128) 0 0 d)))
      (fun d => cs (ix2 (n0 := 256) (n1 := 128) (i 0) d)) (fun d => sn (ix2 (n0 := 256) (n1 := 128) (i 0) d)) (i 1) * (qscl : EReal) := by
  unfold k0_pay10 rot2 nrm
  pointwise
  have e : (⟨((i 1).val + 128 - 64) % 128, Nat.mod_lt _ (by omega)⟩ : Fin 128) = ⟨((i 1).val + 64) % 128, Nat.mod_lt _ (by omega)⟩ :=
    Fin.ext (congrArg (· % 128) (by show (i 1).val + 128 - 64 = (i 1).val + 64; omega))
  have hn : (Named.named κ "qscale" 0x3E0293EE#32 : Ideal FTy.f32) = (qscl : EReal) := IdealRules.named_const.ideal_named_scalar _ _ _ _ rfl
  rw [e, hn]

theorem pay3_at (x : Vec Ideal S1x1x256x128 .f32) (i : S1x256x128.Idx) :
    k0_pay3 (F := Ideal) x i = x (ix4 (n0 := 1) (n1 := 1) (n2 := 256) (n3 := 128) 0 0 (i 1) (i 2)) := by
  unfold k0_pay3
  pointwise

theorem pay6_at (x : Vec Ideal S1x1x256x128 .f32) (i : S1x256x128.Idx) :
    k0_pay6 (F := Ideal) x i = x (ix4 (n0 := 1) (n1 := 1) (n2 := 256) (n3 := 128) 0 0 (i 1) (i 2)) := by
  unfold k0_pay6
  pointwise

theorem pay7_at (x : FVec Ideal S1024x128 .f32) (i : S1x1024x128.Idx) :
    k0_pay7 (F := Ideal) x i = x (ix2 (n0 := 1024) (n1 := 128) (i 1) (i 2)) := by
  unfold k0_pay7
  pointwise

theorem pay8_at (x : Vec Ideal S1024x128 .bf16) (i : S1x1024x128.Idx) :
    k0_pay8 (F := Ideal) x i = x (ix2 (n0 := 1024) (n1 := 128) (i 1) (i 2)) := by
  unfold k0_pay8
  pointwise

theorem pay9_at (i : S1x1280x128.Idx) : k0_pay9 (F := Ideal) i = (1 : EReal) := by
  unfold k0_pay9
  pointwise

/-- The scores of a head. -/
def sc (q : FVec Ideal S256x128 .bf16) (k : FVec Ideal S1280x128 .bf16) : FVec Ideal S256x1280 .f32 :=
  matmul dot_S256x128_S1280x128_S256x1280_1_1_0_0_n_n none q k (constant S256x1280 .f32 0x00000000#32)

theorem sc_at (q : FVec Ideal S256x128 .bf16) (k : FVec Ideal S1280x128 .bf16) (i : S256x1280.Idx) :
    sc q k i = ∑ d : Fin 128, q (ix2 (n0 := 256) (n1 := 128) (i 0) d) * k (ix2 (n0 := 1280) (n1 := 128) (i 1) d) := by
  unfold sc
  pointwise

/-- Their rows' maxima. -/
def mxs (s : FVec Ideal S256x1280 .f32) : FVec Ideal S256 .f32 :=
  multiReduction .maximumf [1] S256 s 0xFF800000#32 reduces_S256x1280_S256 (.inl rfl) rfl

theorem mxs_at (s : FVec Ideal S256x1280 .f32) (j : S256.Idx) :
    mxs s j = Finset.univ.fold max ⊥ (fun k : Fin 1280 => s (ix2 (n0 := 256) (n1 := 1280) (j 0) k)) := by
  unfold mxs
  refine (Ideal.multiReduction_maximumf_single s _ reduces_S256x1280_S256 _ _ j).trans ?_
  have hb : (FloatOps.ofBits FTy.f32 0xFF800000#32 : Ideal FTy.f32) = ⊥ := bits_neg_inf
  rw [hb]
  have e : (s ∘ reduces_S256x1280_S256.lift j) = (fun k : Fin 1280 => s (ix2 (n0 := 256) (n1 := 1280) (j 0) k)) := by
    funext k
    refine congrArg s (funext fun a => ?_)
    match a with
    | ⟨0, _⟩ => rfl
    | ⟨1, _⟩ => rfl
  exact congrArg (fun f => Finset.fold max ⊥ f Finset.univ) e

/-- The weights. -/
def wts (s : FVec Ideal S256x1280 .f32) (M : FVec Ideal S256 .f32) : FVec Ideal S256x1280 .bf16 :=
  truncf .bf16 (exp2 (subf s (broadcastTo S256x1280 (shapeCast S256x1 M shapeCasts_S256_S256x1) broadcasts_S256x1_S256x1280))) bitsLt_bf16_f32

theorem wts_at (s : FVec Ideal S256x1280 .f32) (M : FVec Ideal S256 .f32) (i : S256x1280.Idx) :
    wts s M i = Ideal.exp2 (s i - M (ix1 (n0 := 256) (i 0))) := by
  unfold wts
  pointwise
  rfl

/-- The weighted values beside the weights' sum. -/
def wv (p : FVec Ideal S256x1280 .bf16) (v : FVec Ideal S1280x256 .bf16) : FVec Ideal S256x256 .f32 :=
  matmul dot_S256x1280_S1280x256_S256x256_1_0_0_1_n_n none p v (constant S256x256 .f32 0x00000000#32)

theorem wv_at (p : FVec Ideal S256x1280 .bf16) (v : FVec Ideal S1280x256 .bf16) (i : S256x256.Idx) :
    wv p v i = ∑ k : Fin 1280, p (ix2 (n0 := 256) (n1 := 1280) (i 0) k) * v (ix2 (n0 := 1280) (n1 := 256) k (i 1)) := by
  unfold wv
  pointwise

/-- The one over the other. -/
def quo (o : FVec Ideal S256x256 .f32) : FVec Ideal S256x128 .bf16 :=
  truncf .bf16 (mulf (extractStridedSlice S256x128 ![0, 0] o slices_S256x256_o0_0_S256x128)
    (divf (broadcast S256x128 (Scalar.ofBits .f32 0x3F800000#32)) (extractStridedSlice S256x128 ![0, 128] o slices_S256x256_o0_128_S256x128))) bitsLt_bf16_f32

theorem quo_at (o : FVec Ideal S256x256 .f32) (i : S256x128.Idx) :
    quo o i = o (ix2 (n0 := 256) (n1 := 256) (i 0) ⟨(i 1).val, by have : (i 1).val < 128 := (i 1).isLt; omega⟩)
      * Ideal.div 1 (o (ix2 (n0 := 256) (n1 := 256) (i 0) ⟨128 + (i 1).val, by have : (i 1).val < 128 := (i 1).isLt; omega⟩)) := by
  unfold quo
  pointwise

theorem pay11_eq (q : FVec Ideal S256x128 .bf16) (k : FVec Ideal S1280x128 .bf16) (v : FVec Ideal S1280x256 .bf16) :
    k0_pay11 (F := Ideal) q k v = quo (wv (wts (sc q k) (mxs (sc q k))) v) := rfl

end Cert.Proof
-- ==== Proof.Blocks.lean ====
module

public import proofs.«01_k».proof.Proof.Gen.KernelIdeal.Value
public import Idealize.ShloMosaic.Lib.Pipeline.ValueKit
public import Idealize.ShloMosaic.Lib.ValueLayout
public import Idealize.ShloMosaic.Lib.StableHlo.ReadAt

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

variable (m : (ℓ : Loc nD τ sig) → Buf (Elt F) ℓ) (c : Dev nD) (t : Fin cfg0.N)

theorem t_lt : t.val < 16 := lt_of_lt_of_eq t.isLt N_0

theorem idx0 : ∀ t : Fin cfg0.N, (cfg0.win 0).index t = ![16 + t.val, 6] := by decide +kernel
theorem idx1 : ∀ t : Fin cfg0.N, (cfg0.win 1).index t = ![4 + t.val / 4, 28] := by decide +kernel
theorem idx2 : ∀ t : Fin cfg0.N, (cfg0.win 2).index t = ![4 + t.val / 4, 29] := by decide +kernel
theorem idx3 : ∀ t : Fin cfg0.N, (cfg0.win 3).index t = ![t.val / 4, 0, 0, 0] := by decide +kernel
theorem idx4 : ∀ t : Fin cfg0.N, (cfg0.win 4).index t = ![t.val / 4, 0, 0, 0] := by decide +kernel
theorem idx5 : ∀ t : Fin cfg0.N, (cfg0.win 5).index t = ![0, 0, 0] := by decide +kernel
theorem idx6 : ∀ t : Fin cfg0.N, (cfg0.win 6).index t = ![0, 0, 0] := by decide +kernel
theorem idx7 : ∀ t : Fin cfg0.N, (cfg0.win 7).index t = ![t.val % 4, 0] := by decide +kernel
theorem idx8 : ∀ t : Fin cfg0.N, (cfg0.win 8).index t = ![t.val % 4, 0] := by decide +kernel
theorem idx9 : ∀ t : Fin cfg0.N, (cfg0.win 9).index t = ![0, 0] := by decide +kernel
theorem idx10 : ∀ t : Fin cfg0.N, (cfg0.win 10).index t = ![0, 0] := by decide +kernel

theorem v29_at (y : S4x2x512x128.Idx) : (V m c main_v29 : Vec F S4x2x512x128 .f32) y
    = (m ((c.tc : Thread nD τ).loc main_arg1) : Vec F S4x2x256x2x128 .f32) (ix5 (n0 := 4) (n1 := 2) (n2 := 256) (n3 := 2) (n4 := 128)
      (y 0) (y 1) ⟨(y 2).val / 2, by have : (y 2).val < 512 := (y 2).isLt; omega⟩
      ⟨(y 2).val % 2, by omega⟩ (y 3)) := by
  entry_read
  pointwise

theorem v30_at (y : S4x2x512x128.Idx) : (V m c main_v30 : Vec F S4x2x512x128 .f32) y
    = (m ((c.tc : Thread nD τ).loc main_arg2) : Vec F S4x2x256x2x128 .f32) (ix5 (n0 := 4) (n1 := 2) (n2 := 256) (n3 := 2) (n4 := 128)
      (y 0) (y 1) ⟨(y 2).val / 2, by have : (y 2).val < 512 := (y 2).isLt; omega⟩
      ⟨(y 2).val % 2, by omega⟩ (y 3)) := by
  entry_read
  pointwise

theorem v31_at (y : S2x1x128.Idx) : (V m c main_v31 : Vec F S2x1x128 .f32) y
    = (m ((c.tc : Thread nD τ).loc main_arg3) : Vec F S2x128 .f32) (ix2 (n0 := 2) (n1 := 128) (y 0) (y 2)) := by
  entry_read
  pointwise
  try rfl

theorem v32_at (y : S2x1x128.Idx) : (V m c main_v32 : Vec F S2x1x128 .f32) y
    = (m ((c.tc : Thread nD τ).loc main_arg4) : Vec F S2x128 .f32) (ix2 (n0 := 2) (n1 := 128) (y 0) (y 2)) := by
  entry_read
  pointwise
  try rfl

/-- The queries' block. -/
theorem blk0 (y : S256x1024.Idx) : (X0_0 m c t : Vec F S256x1024 .bf16) y
    = (m ((c.tc : Thread nD τ).loc main_arg0) : Vec F S8192x13824 .bf16) (ix2 (n0 := 8192) (n1 := 13824)
      ⟨4096 + 256 * t.val + (y 0).val, by have := t_lt t; have : (y 0).val < 256 := (y 0).isLt; omega⟩
      ⟨6144 + (y 1).val, by have : (y 1).val < 1024 := (y 1).isLt; omega⟩) := by
  have ht := t_lt t
  unfold X0_0 Pipeline.Window.fill
  rw [dif_pos (moved0_0 t y)]
  blk_ext [iblk, V, idx0 t]

/-- The keys' block. -/
theorem blk1 (y : S1024x256.Idx) : (iblk m c 1 t : Vec F S1024x256 .bf16) y
    = (m ((c.tc : Thread nD τ).loc main_arg0) : Vec F S8192x13824 .bf16) (ix2 (n0 := 8192) (n1 := 13824)
      ⟨4096 + 1024 * (t.val / 4) + (y 0).val, by have := t_lt t; have : (y 0).val < 1024 := (y 0).isLt; omega⟩
      ⟨7168 + (y 1).val, by have : (y 1).val < 256 := (y 1).isLt; omega⟩) := by
  have ht := t_lt t
  blk_ext [iblk, V, idx1 t]

/-- The values' block. -/
theorem blk2 (y : S1024x256.Idx) : (iblk m c 2 t : Vec F S1024x256 .bf16) y
    = (m ((c.tc : Thread nD τ).loc main_arg0) : Vec F S8192x13824 .bf16) (ix2 (n0 := 8192) (n1 := 13824)
      ⟨4096 + 1024 * (t.val / 4) + (y 0).val, by have := t_lt t; have : (y 0).val < 1024 := (y 0).isLt; omega⟩
      ⟨7424 + (y 1).val, by have : (y 1).val < 256 := (y 1).isLt; omega⟩) := by
  have ht := t_lt t
  blk_ext [iblk, V, idx2 t]

/-- The cached keys' block. -/
theorem blk3 (y : S1x1x512x128.Idx) : (iblk m c 3 t : Vec F S1x1x512x128 .f32) y
    = (m ((c.tc : Thread nD τ).loc main_arg1) : Vec F S4x2x256x2x128 .f32) (ix5 (n0 := 4) (n1 := 2) (n2 := 256) (n3 := 2) (n4 := 128)
      ⟨t.val / 4, by have := t_lt t; omega⟩ 0 ⟨(y 2).val / 2, by have : (y 2).val < 512 := (y 2).isLt; omega⟩
      ⟨(y 2).val % 2, by omega⟩ (y 3)) := by
  have ht := t_lt t
  refine Eq.trans (b := (V m c main_v29 : Vec F S4x2x512x128 .f32) (ix4 (n0 := 4) (n1 := 2) (n2 := 512) (n3 := 128)
    ⟨t.val / 4, by omega⟩ 0 (y 2) (y 3))) ?_ (v29_at m c _)
  blk_ext [iblk, idx3 t]

/-- The cached values' block. -/
theorem blk4 (y : S1x1x512x128.Idx) : (iblk m c 4 t : Vec F S1x1x512x128 .f32) y
    = (m ((c.tc : Thread nD τ).loc main_arg2) : Vec F S4x2x256x2x128 .f32) (ix5 (n0 := 4) (n1 := 2) (n2 := 256) (n3 := 2) (n4 := 128)
      ⟨t.val / 4, by have := t_lt t; omega⟩ 0 ⟨(y 2).val / 2, by have : (y 2).val < 512 := (y 2).isLt; omega⟩
      ⟨(y 2).val % 2, by omega⟩ (y 3)) := by
  have ht := t_lt t
  refine Eq.trans (b := (V m c main_v30 : Vec F S4x2x512x128 .f32) (ix4 (n0 := 4) (n1 := 2) (n2 := 512) (n3 := 128)
    ⟨t.val / 4, by omega⟩ 0 (y 2) (y 3))) ?_ (v30_at m c _)
  blk_ext [iblk, idx4 t]

/-- The queries' gain. -/
theorem blk5 (y : S1x1x128.Idx) : (iblk m c 5 t : Vec F S1x1x128 .f32) y
    = (m ((c.tc : Thread nD τ).loc main_arg3) : Vec F S2x128 .f32) (ix2 (n0 := 2) (n1 := 128) 0 (y 2)) := by
  have ht := t_lt t
  refine Eq.trans (b := (V m c main_v31 : Vec F S2x1x128 .f32) (ix3 (n0 := 2) (n1 := 1) (n2 := 128) 0 0 (y 2))) ?_ (v31_at m c _)
  blk_ext [iblk, idx5 t]

/-- The keys' gain. -/
theorem blk6 (y : S1x1x128.Idx) : (iblk m c 6 t : Vec F S1x1x128 .f32) y
    = (m ((c.tc : Thread nD τ).loc main_arg4) : Vec F S2x128 .f32) (ix2 (n0 := 2) (n1 := 128) 0 (y 2)) := by
  have ht := t_lt t
  refine Eq.trans (b := (V m c main_v32 : Vec F S2x1x128 .f32) (ix3 (n0 := 2) (n1 := 1) (n2 := 128) 0 0 (y 2))) ?_ (v32_at m c _)
  blk_ext [iblk, idx6 t]

theorem blk7 (y : S256x128.Idx) : (iblk m c 7 t : Vec F S256x128 .f32) y
    = (V m c main_v26 : Vec F S1024x128 .f32) (ix2 (n0 := 1024) (n1 := 128)
      ⟨256 * (t.val % 4) + (y 0).val, by have : (y 0).val < 256 := (y 0).isLt; omega⟩ (y 1)) := by
  have ht := t_lt t
  blk_ext [iblk, idx7 t]

theorem blk8 (y : S256x128.Idx) : (iblk m c 8 t : Vec F S256x128 .f32) y
    = (V m c main_v28 : Vec F S1024x128 .f32) (ix2 (n0 := 1024) (n1 := 128)
      ⟨256 * (t.val % 4) + (y 0).val, by have : (y 0).val < 256 := (y 0).isLt; omega⟩ (y 1)) := by
  have ht := t_lt t
  blk_ext [iblk, idx8 t]

theorem blk9 (y : S1024x128.Idx) : (iblk m c 9 t : Vec F S1024x128 .f32) y
    = (V m c main_v26 : Vec F S1024x128 .f32) y := by
  have ht := t_lt t
  blk_ext [iblk, idx9 t]

theorem blk10 (y : S1024x128.Idx) : (iblk m c 10 t : Vec F S1024x128 .f32) y
    = (V m c main_v28 : Vec F S1024x128 .f32) y := by
  have ht := t_lt t
  blk_ext [iblk, idx10 t]

/-- The rotary angles: by row of the grid for the first half of the frequencies, by column for the second. -/
def ang : Vec F S1024x64 .f32 :=
  concatenate S1024x64 1
    [⟨S1024x32, mulf
      (broadcastInDim S1024x32 ![0, 1] bcast_S1024x1_S1024x32_0_1
        (broadcastInDim S1024x1 ![0] bcast_S1024_S1024x1_0
          (shapeCast S1024 (broadcastInDim S16x64 ![0] bcast_S16_S16x64_0 (sitofp FTy.f32 (iotaInDim S16 32 0))) shapeCasts_S16x64_S1024)))
      (broadcastInDim S1024x32 ![0, 1] bcast_S1x32_S1024x32_0_1
        (broadcastInDim S1x32 ![1] bcast_S32_S1x32_1
          (Host.powf (broadcastInDim S32 ![] bcast_S_S32 (constant S_ FTy.f32 0x461C4000#32))
            (Host.divf (Host.negf (sitofp FTy.f32 (iotaInDim S32 32 0)))
              (broadcastInDim S32 ![] bcast_S_S32 (constant S_ FTy.f32 0x42000000#32))))))⟩,
     ⟨S1024x32, mulf
      (broadcastInDim S1024x32 ![0, 1] bcast_S1024x1_S1024x32_0_1
        (broadcastInDim S1024x1 ![0] bcast_S1024_S1024x1_0
          (shapeCast S1024 (broadcastInDim S16x64 ![0, 1] bcast_S1x64_S16x64_0_1
            (shapeCast S1x64 (sitofp FTy.f32 (iotaInDim S64 32 0)) shapeCasts_S64_S1x64)) shapeCasts_S16x64_S1024)))
      (broadcastInDim S1024x32 ![0, 1] bcast_S1x32_S1024x32_0_1
        (broadcastInDim S1x32 ![1] bcast_S32_S1x32_1
          (Host.powf (broadcastInDim S32 ![] bcast_S_S32 (constant S_ FTy.f32 0x461C4000#32))
            (Host.divf (Host.negf (sitofp FTy.f32 (iotaInDim S32 32 0)))
              (broadcastInDim S32 ![] bcast_S_S32 (constant S_ FTy.f32 0x42000000#32))))))⟩]
    concatenates_S1024x32_S1024x32_S1024x64_d1

theorem v26 : V m c main_v26 = concatenate S1024x128 1 [⟨S1024x64, Host.cos (ang (F := F))⟩, ⟨S1024x64, Host.cos (ang (F := F))⟩]
    concatenates_S1024x64_S1024x64_S1024x128_d1 := by
  entry_read
  rfl

theorem v28 : V m c main_v28 = concatenate S1024x128 1 [⟨S1024x64, Host.negf (Host.sin (ang (F := F)))⟩, ⟨S1024x64, Host.sin (ang (F := F))⟩]
    concatenates_S1024x64_S1024x64_S1024x128_d1 := by
  entry_read
  rfl

/-- The cosines' table, each half the same. -/
theorem v26_at (y : S1024x128.Idx) : (V m c main_v26 : Vec F S1024x128 .f32) y
    = Host.cos (ang (F := F)) (ix2 (n0 := 1024) (n1 := 64) (y 0) ⟨(y 1).val % 64, by omega⟩) := by
  have hb : (y 1).val < 128 := (y 1).isLt
  rw [v26]
  pointwise
  split
  · congr 3; exact Fin.ext (Nat.mod_eq_of_lt ‹_›).symm
  · congr 3; refine Fin.ext ?_; have : (y 1).val < 128 := (y 1).isLt; show (y 1).val - 64 = (y 1).val % 64; omega

/-- The sines' table, the first half negated. -/
theorem v28_at (y : S1024x128.Idx) : (V m c main_v28 : Vec F S1024x128 .f32) y
    = if (y 1).val < 64 then Host.negf (Host.sin (ang (F := F))) (ix2 (n0 := 1024) (n1 := 64) (y 0) ⟨(y 1).val % 64, by omega⟩)
      else Host.sin (ang (F := F)) (ix2 (n0 := 1024) (n1 := 64) (y 0) ⟨(y 1).val % 64, by omega⟩) := by
  rw [v28]
  pointwise
  split
  · congr 4; exact Fin.ext (Nat.mod_eq_of_lt ‹_›).symm
  · congr 3; refine Fin.ext ?_; have : (y 1).val < 128 := (y 1).isLt; show (y 1).val - 64 = (y 1).val % 64; omega

end Cert.Proof
-- ==== Proof.OutA.lean ====
module

public import proofs.«01_k».proof.Proof.Gen.KernelIdeal.Value
public import proofs.«01_k».proof.Proof.Heads

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

open ValueIdx

/-- A point that fills the scratch leaves the eight heads over what it filled in. -/
theorem out_A (c : Dev nD) (i : grid0.Coords) (arg3 : Memref sig .tc .vmem S256x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S256x1024 .bf16) (harg14 : arg14.IsWhole) (arg15 : Memref sig .tc .vmem S2x1280x128 .bf16) (harg15 : arg15.IsWhole) (arg16 : Memref sig .tc .vmem S2x1280x256 .bf16) (harg16 : arg16.IsWhole) (hc0 : cond0_0 i) (hc1 : cond0_1 i) (x0 : Vec F S256x1024 .bf16) (x1 : Vec F S1024x256 .bf16) (x2 : Vec F S1024x256 .bf16) (x3 : Vec F S1x1x512x128 .f32) (x4 : Vec F S1x1x512x128 .f32) (x5 : Vec F S1x1x128 .f32) (x6 : Vec F S1x1x128 .f32) (x7 : Vec F S256x128 .f32) (x8 : Vec F S256x128 .f32) (x9 : Vec F S1024x128 .f32) (x10 : Vec F S1024x128 .f32) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = heads x0 x5 x7 x8 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10) (sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10) := by
  unfold out0_A_11 sout0_A_0 sout0_A_1
  simp only [View.read_writes_junk_eq_canon]
  unfold kernelRun0_A
  dsimp only
  funext y
  canon_tiles x hx
  case piece0 =>
    refine piece x0 x5 x7 x8 _ _ 7 1 rfl y x hx0 hx1
      (head_7 _ _ _ _ _ _) ?_ ?_ ?_ ?_ ?_ ?_
    · refine (congrArg (fun X => View.ld X _) (harg3.read_unread x0)).trans (cols_ld x0 7 ![0, 896] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 1 ![1, 0, 0] rfl _ _ _ _ _ _ (View.read_writes_junk_eq_canon _ _)).trans ?_
      exact rfl
    · refine (rawV arg16.view _ 1 ![1, 0, 0] rfl _ _ _ _ _ _ (View.read_writes_junk_eq_canon _ _)).trans ?_
      exact rfl
  case piece1 =>
    refine piece x0 x5 x7 x8 _ _ 6 1 rfl y x hx0 hx1
      (head_6 _ _ _ _ _ _) ?_ ?_ ?_ ?_ ?_ ?_
    · refine (congrArg (fun X => View.ld X _) (harg3.read_unread x0)).trans (cols_ld x0 6 ![0, 768] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 1 ![1, 0, 0] rfl _ _ _ _ _ _ (View.read_writes_junk_eq_canon _ _)).trans ?_
      exact rfl
    · refine (rawV arg16.view _ 1 ![1, 0, 0] rfl _ _ _ _ _ _ (View.read_writes_junk_eq_canon _ _)).trans ?_
      exact rfl
  case piece2 =>
    refine piece x0 x5 x7 x8 _ _ 5 1 rfl y x hx0 hx1
      (head_5 _ _ _ _ _ _) ?_ ?_ ?_ ?_ ?_ ?_
    · refine (congrArg (fun X => View.ld X _) (harg3.read_unread x0)).trans (cols_ld x0 5 ![0, 640] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 1 ![1, 0, 0] rfl _ _ _ _ _ _ (View.read_writes_junk_eq_canon _ _)).trans ?_
      exact rfl
    · refine (rawV arg16.view _ 1 ![1, 0, 0] rfl _ _ _ _ _ _ (View.read_writes_junk_eq_canon _ _)).trans ?_
      exact rfl
  case piece3 =>
    refine piece x0 x5 x7 x8 _ _ 4 1 rfl y x hx0 hx1
      (head_4 _ _ _ _ _ _) ?_ ?_ ?_ ?_ ?_ ?_
    · refine (congrArg (fun X => View.ld X _) (harg3.read_unread x0)).trans (cols_ld x0 4 ![0, 512] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 1 ![1, 0, 0] rfl _ _ _ _ _ _ (View.read_writes_junk_eq_canon _ _)).trans ?_
      exact rfl
    · refine (rawV arg16.view _ 1 ![1, 0, 0] rfl _ _ _ _ _ _ (View.read_writes_junk_eq_canon _ _)).trans ?_
      exact rfl
  case piece4 =>
    refine piece x0 x5 x7 x8 _ _ 3 0 rfl y x hx0 hx1
      (head_3 _ _ _ _ _ _) ?_ ?_ ?_ ?_ ?_ ?_
    · refine (congrArg (fun X => View.ld X _) (harg3.read_unread x0)).trans (cols_ld x0 3 ![0, 384] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 0 ![0, 0, 0] rfl _ _ _ _ _ _ (View.read_writes_junk_eq_canon _ _)).trans ?_
      exact (((slabK_skip1 _ _ _ rfl _ _).trans (slabK_skip1 _ _ _ rfl _ _)).symm)
    · refine (rawV arg16.view _ 0 ![0, 0, 0] rfl _ _ _ _ _ _ (View.read_writes_junk_eq_canon _ _)).trans ?_
      exact (((slabV_skip1 _ _ _ rfl _ _).trans ((slabV_skip1 _ _ _ rfl _ _).trans (slabV_skip1 _ _ _ rfl _ _))).symm)
  case piece5 =>
    refine piece x0 x5 x7 x8 _ _ 2 0 rfl y x hx0 hx1
      (head_2 _ _ _ _ _ _) ?_ ?_ ?_ ?_ ?_ ?_
    · refine (congrArg (fun X => View.ld X _) (harg3.read_unread x0)).trans (cols_ld x0 2 ![0, 256] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 0 ![0, 0, 0] rfl _ _ _ _ _ _ (View.read_writes_junk_eq_canon _ _)).trans ?_
      exact (((slabK_skip1 _ _ _ rfl _ _).trans (slabK_skip1 _ _ _ rfl _ _)).symm)
    · refine (rawV arg16.view _ 0 ![0, 0, 0] rfl _ _ _ _ _ _ (View.read_writes_junk_eq_canon _ _)).trans ?_
      exact (((slabV_skip1 _ _ _ rfl _ _).trans ((slabV_skip1 _ _ _ rfl _ _).trans (slabV_skip1 _ _ _ rfl _ _))).symm)
  case piece6 =>
    refine piece x0 x5 x7 x8 _ _ 1 0 rfl y x hx0 hx1
      (head_1 _ _ _ _ _ _) ?_ ?_ ?_ ?_ ?_ ?_
    · refine (congrArg (fun X => View.ld X _) (harg3.read_unread x0)).trans (cols_ld x0 1 ![0, 128] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 0 ![0, 0, 0] rfl _ _ _ _ _ _ (View.read_writes_junk_eq_canon _ _)).trans ?_
      exact (((slabK_skip1 _ _ _ rfl _ _).trans (slabK_skip1 _ _ _ rfl _ _)).symm)
    · refine (rawV arg16.view _ 0 ![0, 0, 0] rfl _ _ _ _ _ _ (View.read_writes_junk_eq_canon _ _)).trans ?_
      exact (((slabV_skip1 _ _ _ rfl _ _).trans ((slabV_skip1 _ _ _ rfl _ _).trans (slabV_skip1 _ _ _ rfl _ _))).symm)
  case piece7 =>
    refine piece x0 x5 x7 x8 _ _ 0 0 rfl y x hx0 (by simpa using hx1)
      (head_0 _ _ _ _ _ _) ?_ ?_ ?_ ?_ ?_ ?_
    · refine (congrArg (fun X => View.ld X _) (harg3.read_unread x0)).trans (cols_ld x0 0 ![0, 0] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · refine (rawK arg15.view _ 0 ![0, 0, 0] rfl _ _ _ _ _ _ (View.read_writes_junk_eq_canon _ _)).trans ?_
      exact (((slabK_skip1 _ _ _ rfl _ _).trans (slabK_skip1 _ _ _ rfl _ _)).symm)
    · refine (rawV arg16.view _ 0 ![0, 0, 0] rfl _ _ _ _ _ _ (View.read_writes_junk_eq_canon _ _)).trans ?_
      exact (((slabV_skip1 _ _ _ rfl _ _).trans ((slabV_skip1 _ _ _ rfl _ _).trans (slabV_skip1 _ _ _ rfl _ _))).symm)

end Cert.Proof
-- ==== Proof.OutB.lean ====
module

public import proofs.«01_k».proof.Proof.Gen.KernelIdeal.Value
public import proofs.«01_k».proof.Proof.Heads

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

open ValueIdx

/-- A point that finds the keys and values in the scratch leaves the eight heads over them. -/
theorem out_B (c : Dev nD) (i : grid0.Coords) (arg3 : Memref sig .tc .vmem S256x1024 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S256x1024 .bf16) (harg14 : arg14.IsWhole) (arg15 : Memref sig .tc .vmem S2x1280x128 .bf16) (harg15 : arg15.IsWhole) (arg16 : Memref sig .tc .vmem S2x1280x256 .bf16) (harg16 : arg16.IsWhole) (hc0 : ¬cond0_0 i) (hc1 : ¬cond0_1 i) (x0 : Vec F S256x1024 .bf16) (x1 : Vec F S1024x256 .bf16) (x2 : Vec F S1024x256 .bf16) (x3 : Vec F S1x1x512x128 .f32) (x4 : Vec F S1x1x512x128 .f32) (x5 : Vec F S1x1x128 .f32) (x6 : Vec F S1x1x128 .f32) (x7 : Vec F S256x128 .f32) (x8 : Vec F S256x128 .f32) (x9 : Vec F S1024x128 .f32) (x10 : Vec F S1024x128 .f32) (xs0 : Vec F S2x1280x128 .bf16) (xs1 : Vec F S2x1280x256 .bf16) :
    out0_B_11 c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 xs1 = heads x0 x5 x7 x8 xs0 xs1 := by
  unfold out0_B_11
  rw [View.read_writes_junk_eq_canon]
  unfold kernelRun0_B
  dsimp only
  funext y
  canon_tiles x hx
  case piece0 =>
    refine piece x0 x5 x7 x8 xs0 xs1 7 1 rfl y x hx0 hx1
      (head_7 _ _ _ _ _ _) ?_ ?_ ?_ ?_ ?_ ?_
    · refine (congrArg (fun X => View.ld X _) (harg3.read_unread x0)).trans (cols_ld x0 7 ![0, 896] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 1 ![1, 0, 0] rfl _ _ _ _ _ _ (harg15.read_unread _)
    · exact rawV arg16.view (harg16.unread xs1) 1 ![1, 0, 0] rfl _ _ _ _ _ _ (harg16.read_unread _)
  case piece1 =>
    refine piece x0 x5 x7 x8 xs0 xs1 6 1 rfl y x hx0 hx1
      (head_6 _ _ _ _ _ _) ?_ ?_ ?_ ?_ ?_ ?_
    · refine (congrArg (fun X => View.ld X _) (harg3.read_unread x0)).trans (cols_ld x0 6 ![0, 768] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 1 ![1, 0, 0] rfl _ _ _ _ _ _ (harg15.read_unread _)
    · exact rawV arg16.view (harg16.unread xs1) 1 ![1, 0, 0] rfl _ _ _ _ _ _ (harg16.read_unread _)
  case piece2 =>
    refine piece x0 x5 x7 x8 xs0 xs1 5 1 rfl y x hx0 hx1
      (head_5 _ _ _ _ _ _) ?_ ?_ ?_ ?_ ?_ ?_
    · refine (congrArg (fun X => View.ld X _) (harg3.read_unread x0)).trans (cols_ld x0 5 ![0, 640] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 1 ![1, 0, 0] rfl _ _ _ _ _ _ (harg15.read_unread _)
    · exact rawV arg16.view (harg16.unread xs1) 1 ![1, 0, 0] rfl _ _ _ _ _ _ (harg16.read_unread _)
  case piece3 =>
    refine piece x0 x5 x7 x8 xs0 xs1 4 1 rfl y x hx0 hx1
      (head_4 _ _ _ _ _ _) ?_ ?_ ?_ ?_ ?_ ?_
    · refine (congrArg (fun X => View.ld X _) (harg3.read_unread x0)).trans (cols_ld x0 4 ![0, 512] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 1 ![1, 0, 0] rfl _ _ _ _ _ _ (harg15.read_unread _)
    · exact rawV arg16.view (harg16.unread xs1) 1 ![1, 0, 0] rfl _ _ _ _ _ _ (harg16.read_unread _)
  case piece4 =>
    refine piece x0 x5 x7 x8 xs0 xs1 3 0 rfl y x hx0 hx1
      (head_3 _ _ _ _ _ _) ?_ ?_ ?_ ?_ ?_ ?_
    · refine (congrArg (fun X => View.ld X _) (harg3.read_unread x0)).trans (cols_ld x0 3 ![0, 384] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 0 ![0, 0, 0] rfl _ _ _ _ _ _ (harg15.read_unread _)
    · exact rawV arg16.view (harg16.unread xs1) 0 ![0, 0, 0] rfl _ _ _ _ _ _ (harg16.read_unread _)
  case piece5 =>
    refine piece x0 x5 x7 x8 xs0 xs1 2 0 rfl y x hx0 hx1
      (head_2 _ _ _ _ _ _) ?_ ?_ ?_ ?_ ?_ ?_
    · refine (congrArg (fun X => View.ld X _) (harg3.read_unread x0)).trans (cols_ld x0 2 ![0, 256] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 0 ![0, 0, 0] rfl _ _ _ _ _ _ (harg15.read_unread _)
    · exact rawV arg16.view (harg16.unread xs1) 0 ![0, 0, 0] rfl _ _ _ _ _ _ (harg16.read_unread _)
  case piece6 =>
    refine piece x0 x5 x7 x8 xs0 xs1 1 0 rfl y x hx0 hx1
      (head_1 _ _ _ _ _ _) ?_ ?_ ?_ ?_ ?_ ?_
    · refine (congrArg (fun X => View.ld X _) (harg3.read_unread x0)).trans (cols_ld x0 1 ![0, 128] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 0 ![0, 0, 0] rfl _ _ _ _ _ _ (harg15.read_unread _)
    · exact rawV arg16.view (harg16.unread xs1) 0 ![0, 0, 0] rfl _ _ _ _ _ _ (harg16.read_unread _)
  case piece7 =>
    refine piece x0 x5 x7 x8 xs0 xs1 0 0 rfl y x hx0 (by simpa using hx1)
      (head_0 _ _ _ _ _ _) ?_ ?_ ?_ ?_ ?_ ?_
    · refine (congrArg (fun X => View.ld X _) (harg3.read_unread x0)).trans (cols_ld x0 0 ![0, 0] rfl _)
    · refine (congrArg (fun X => View.ld X _) (harg8.read_unread x5)).trans (View.ld_unit_zero (S := S1x1x128) z3 _ _)
    · refine (congrArg (fun X => View.ld X _) (harg10.read_unread x7)).trans (View.ld_unit_zero (S := S256x128) z2 _ _)
    · refine (congrArg (fun X => View.ld X _) (harg11.read_unread x8)).trans (View.ld_unit_zero (S := S256x128) z2 _ _)
    · exact rawK arg15.view (harg15.unread xs0) 0 ![0, 0, 0] rfl _ _ _ _ _ _ (harg15.read_unread _)
    · exact rawV arg16.view (harg16.unread xs1) 0 ![0, 0, 0] rfl _ _ _ _ _ _ (harg16.read_unread _)

end Cert.Proof
-- ==== Proof.Fold.lean ====
module

public import proofs.«01_k».proof.Proof.Gen.KernelIdeal.Value
public import proofs.«01_k».proof.Proof.OutA
public import proofs.«01_k».proof.Proof.OutB
public import proofs.«01_k».proof.Proof.Scratch

@[expose] public section

set_option maxRecDepth 16384

noncomputable section

namespace Cert.Proof

open Idealize.ShloMosaic Idealize.ShloMosaic.TcCoe Idealize.ShloMosaic.Tactic Cert.KernelIdeal Cert.KernelIdeal.Gen

variable {F : FTy → Type} [FloatOps F] [Named F]

variable (m : (ℓ : Loc nD τ sig) → Buf (Elt F) ℓ)

/-- The first point of the batch element of point `n`. -/
def base (n : ℕ) (hn : n < cfg0.N) : Fin cfg0.N := ⟨4 * (n / 4), by have := lt_of_lt_of_eq hn (show cfg0.N = 16 from N_0); rw [show cfg0.N = 16 from N_0]; omega⟩

/-- The keys of the batch element whose first point is `t`. -/
def keysAt (c : Dev nD) (t : Fin cfg0.N) : Vec F S2x1280x128 .bf16 :=
  keys (iblk m c 1 t) (iblk m c 3 t) (iblk m c 6 t) (iblk m c 9 t) (iblk m c 10 t)

/-- The values of the batch element whose first point is `t`. -/
def valsAt (c : Dev nD) (t : Fin cfg0.N) : Vec F S2x1280x256 .bf16 :=
  vals (iblk m c 2 t) (iblk m c 4 t)

/-- The output block of point `t` over given keys and values. -/
def headsAt (c : Dev nD) (t : Fin cfg0.N) (K : Vec F S2x1280x128 .bf16) (V : Vec F S2x1280x256 .bf16) : Vec F S256x1024 .bf16 :=
  heads (X0_0 m c t) (iblk m c 5 t) (iblk m c 7 t) (iblk m c 8 t) K V

theorem outs_fill (c : Dev nD) (t : Fin cfg0.N) (h : t.val % 4 = 0) :
    outsAt0 m c t.val t.isLt = (headsAt m c t (keysAt m c t) (valsAt m c t), keysAt m c t, valsAt m c t) := by
  rw [outsAt0_A m c t h h, out_A, scr_A_0, scr_A_1]
  unfold headsAt keysAt valsAt
  rfl

theorem outs_keep (c : Dev nD) (t : Fin cfg0.N) (h : ¬ t.val % 4 = 0) (h' : t.val - 1 < cfg0.N) :
    outsAt0 m c t.val t.isLt = (headsAt m c t (outsAt0 m c (t.val - 1) h').2.1 (outsAt0 m c (t.val - 1) h').2.2,
      (outsAt0 m c (t.val - 1) h').2.1, (outsAt0 m c (t.val - 1) h').2.2) := by
  rw [outsAt0_B m c t h h, out_B]
  unfold headsAt sout0_B_0 sout0_B_1
  rfl

/-- What the scratch holds after a point: the batch element's keys and values. -/
theorem scr_at (c : Dev nD) : ∀ (n : ℕ) (hn : n < cfg0.N),
    (outsAt0 m c n hn).2 = (keysAt m c (base n hn), valsAt m c (base n hn)) := by
  intro n
  induction n with
  | zero => exact fun hn => congrArg Prod.snd (outs_fill m c ⟨0, hn⟩ rfl)
  | succ n ih =>
    intro hn
    by_cases h : (n + 1) % 4 = 0
    · have e : base (n + 1) hn = ⟨n + 1, hn⟩ := Fin.ext (by show 4 * ((n + 1) / 4) = n + 1; omega)
      rw [e]
      exact congrArg Prod.snd (outs_fill m c ⟨n + 1, hn⟩ h)
    · have e : base (n + 1) hn = base n (Nat.lt_of_succ_lt hn) := Fin.ext (by show 4 * ((n + 1) / 4) = 4 * (n / 4); omega)
      rw [e, ← ih]
      exact (congrArg Prod.snd (outs_keep m c ⟨n + 1, hn⟩ h (Nat.lt_of_succ_lt hn))).trans rfl

/-- What a point writes: its heads over its batch element's keys and values. -/
theorem out_at (c : Dev nD) (n : ℕ) (hn : n < cfg0.N) :
    (outsAt0 m c n hn).1 = headsAt m c ⟨n, hn⟩ (keysAt m c (base n hn)) (valsAt m c (base n hn)) := by
  by_cases h : n % 4 = 0
  · have e : base n hn = ⟨n, hn⟩ := Fin.ext (by show 4 * (n / 4) = n; omega)
    rw [e]
    exact congrArg Prod.fst (outs_fill m c ⟨n, hn⟩ h)
  · have h' : n - 1 < cfg0.N := lt_of_le_of_lt (Nat.sub_le _ _) hn
    have e : base n hn = base (n - 1) h' := Fin.ext (by show 4 * (n / 4) = 4 * ((n - 1) / 4); omega)
    have s := scr_at m c (n - 1) h'
    have s1 := congrArg Prod.fst s
    have s2 := congrArg Prod.snd s
    dsimp only at s1 s2
    rw [e, ← s1, ← s2]
    exact congrArg Prod.fst (outs_keep m c ⟨n, hn⟩ h h')

/-- The result's array at an index. -/
theorem G_at (c : Dev nD) (i : S4096x1024.Idx) (h : Value.pt11Of i < cfg0.N) :
    Value.G11 m c i = headsAt m c ⟨Value.pt11Of i, h⟩ (keysAt m c (base _ h)) (valsAt m c (base _ h)) (Value.loc11Of i) := by
  unfold Value.G11
  rw [dif_pos h, ← Value.outsAt0_sweep m c _ h, out_at]

end Cert.Proof
-- ==== Proof.Spec.lean ====
module

public import proofs.«01_k».proof.Proof.Maths
public import Idealize.ShloMosaic.Lib.Pointwise

@[expose] public section

noncomputable section

namespace Cert.Proof

open Idealize.ShloMosaic

variable (pr : (⟨2, ![8192, 13824]⟩ : Shape).Idx → EReal) (ck : (⟨5, ![4, 2, 256, 2, 128]⟩ : Shape).Idx → EReal)
  (g : (⟨2, ![2, 128]⟩ : Shape).Idx → EReal) (ct st : Fin 1024 → Fin 64 → EReal)

/-- A head's query at a row: the projection's columns, normed and turned. -/
def qRow (b : Fin 4) (r : Fin 1024) (h : Fin 8) : Fin 128 → EReal :=
  rot (nrm (fun d => pr (ix2 (n0 := 8192) (n1 := 13824) ⟨4096 + 1024 * b.val + r.val, by omega⟩ ⟨6144 + 128 * h.val + d.val, by omega⟩))
    (fun d => g (ix2 (n0 := 2) (n1 := 128) 0 d))) (ct r) (st r)

/-- A group's keys: the cached rows, then the projection's rows normed and turned. -/
def kRow (b : Fin 4) (j : Fin 2) (k : Fin 1280) (d : Fin 128) : EReal :=
  if h : k.val < 256 then ck (ix5 (n0 := 4) (n1 := 2) (n2 := 256) (n3 := 2) (n4 := 128) b 0 ⟨k.val, h⟩ j d)
  else rot (nrm (fun d => pr (ix2 (n0 := 8192) (n1 := 13824) ⟨4096 + 1024 * b.val + (k.val - 256), by omega⟩ ⟨7168 + 128 * j.val + d.val, by omega⟩))
    (fun d => g (ix2 (n0 := 2) (n1 := 128) 0 d))) (ct ⟨k.val - 256, by omega⟩) (st ⟨k.val - 256, by omega⟩) d

/-- A group's values: the cached rows, then the projection's rows. -/
def vCol (b : Fin 4) (j : Fin 2) (d : Fin 128) (k : Fin 1280) : EReal :=
  if h : k.val < 256 then ck (ix5 (n0 := 4) (n1 := 2) (n2 := 256) (n3 := 2) (n4 := 128) b 0 ⟨k.val, h⟩ j d)
  else pr (ix2 (n0 := 8192) (n1 := 13824) ⟨4096 + 1024 * b.val + (k.val - 256), by omega⟩ ⟨7424 + 128 * j.val + d.val, by omega⟩)

/-- A row turned by a doubled table is the row turned. -/
theorem rot2_eq (x : Fin 128 → EReal) (cs sn : Fin 128 → EReal) (c s : Fin 64 → EReal)
    (hc : ∀ d, cs d = c ⟨d.val % 64, by omega⟩)
    (hs : ∀ d : Fin 128, sn d = if d.val < 64 then -(s ⟨d.val % 64, by omega⟩) else s ⟨d.val % 64, by omega⟩) (d : Fin 128) :
    x d * cs d + x ⟨(d.val + 64) % 128, by omega⟩ * sn d = rot x c s d := by
  unfold rot
  rw [hc, hs]
  split
  · rename_i h
    have e1 : (⟨d.val % 64, by omega⟩ : Fin 64) = ⟨d.val, h⟩ := Fin.ext (Nat.mod_eq_of_lt h)
    have e2 : (⟨(d.val + 64) % 128, by omega⟩ : Fin 128) = ⟨d.val + 64, by omega⟩ := Fin.ext (Nat.mod_eq_of_lt (by omega))
    rw [e1, e2, mul_neg, ← sub_eq_add_neg]
  · rename_i h
    have e1 : (⟨d.val % 64, by omega⟩ : Fin 64) = ⟨d.val - 64, by omega⟩ := Fin.ext (by show d.val % 64 = d.val - 64; omega)
    have e2 : (⟨(d.val + 64) % 128, by omega⟩ : Fin 128) = ⟨d.val - 64, by omega⟩ := Fin.ext (by show (d.val + 64) % 128 = d.val - 64; omega)
    rw [e1, e2]

end Cert.Proof
-- ==== Proof.KerFin.lean ====
module

public import proofs.«01_k».proof.Proof.KerAt
public import proofs.«01_k».proof.Proof.Blocks
public import proofs.«01_k».proof.Proof.Fold
public import proofs.«01_k».proof.Proof.Spec

@[expose] public section

set_option maxRecDepth 16384

noncomputable section

namespace Cert.Proof

open Idealize.ShloMosaic Idealize.ShloMosaic.TcCoe Idealize.ShloMosaic.Tactic Cert.KernelIdeal Cert.KernelIdeal.Gen

theorem head_at (q : FVec Ideal S256x128 .bf16) (g : FVec Ideal S1x1x128 .f32) (cs sn : FVec Ideal S256x128 .f32)
    (k : FVec Ideal S1280x128 .bf16) (v : FVec Ideal S1280x256 .bf16) (r : Fin 256) (d : Fin 128)
    (hv : ∀ κ : Fin 1280, v (ix2 (n0 := 1280) (n1 := 256) κ ⟨128 + d.val, by omega⟩) = (1 : EReal)) :
    head (F := Ideal) q g cs sn k v (ix2 (n0 := 256) (n1 := 128) r d)
      = attnK (rot2 (nrm (fun d => q (ix2 (n0 := 256) (n1 := 128) r d)) (fun d => g (ix3 (n0 := 1) (n1 := 1) (n2 := 128) 0 0 d)))
          (fun d => cs (ix2 (n0 := 256) (n1 := 128) r d)) (fun d => sn (ix2 (n0 := 256) (n1 := 128) r d)))
        (fun κ d => k (ix2 (n0 := 1280) (n1 := 128) κ d)) (fun κ => v (ix2 (n0 := 1280) (n1 := 256) κ ⟨d.val, by omega⟩)) := by
  have hs : ∀ κ : Fin 1280, sc (k0_pay10 (F := Ideal) q g cs sn) k (ix2 (n0 := 256) (n1 := 1280) r κ)
      = ∑ d : Fin 128, rot2 (nrm (fun d => q (ix2 (n0 := 256) (n1 := 128) r d)) (fun d => g (ix3 (n0 := 1) (n1 := 1) (n2 := 128) 0 0 d)))
          (fun d => cs (ix2 (n0 := 256) (n1 := 128) r d)) (fun d => sn (ix2 (n0 := 256) (n1 := 128) r d)) d * (qscl : EReal)
          * k (ix2 (n0 := 1280) (n1 := 128) κ d) := fun κ =>
    (sc_at _ _ _).trans (Finset.sum_congr rfl fun d _ => congrArg (· * k (ix2 (n0 := 1280) (n1 := 128) κ d)) (pay10_at q g cs sn _))
  unfold head
  rw [pay11_eq]
  refine (quo_at _ _).trans ?_
  generalize sc (k0_pay10 (F := Ideal) q g cs sn) k = S at hs ⊢
  have hm : mxs S (ix1 (n0 := 256) r) = _ := (mxs_at S _).trans (congrArg (fun f => Finset.univ.fold max (⊥ : EReal) f) (funext hs))
  have hw : ∀ κ : Fin 1280, wts S (mxs S) (ix2 (n0 := 256) (n1 := 1280) r κ) = _ := fun κ =>
    (wts_at S (mxs S) _).trans (congrArg₂ (fun a b => Ideal.exp2 (a - b)) (hs κ) hm)
  generalize wts S (mxs S) = W at hw ⊢
  unfold attnK
  refine congrArg₂ (fun a b => a * Ideal.div 1 b) ((wv_at W v _).trans ?_) ((wv_at W v _).trans ?_)
  · exact Finset.sum_congr rfl fun κ _ => congrArg (· * _) (hw κ)
  · exact Finset.sum_congr rfl fun κ _ => congrArg₂ (· * ·) (hw κ) (hv κ)

theorem keys_at (x1 : FVec Ideal S1024x256 .bf16) (x3 : FVec Ideal S1x1x512x128 .f32) (x6 : FVec Ideal S1x1x128 .f32)
    (x9 x10 : FVec Ideal S1024x128 .f32) (j : Fin 2) (k : Fin 1280) (d : Fin 128) :
    keys (F := Ideal) x1 x3 x6 x9 x10 (ix3 (n0 := 2) (n1 := 1280) (n2 := 128) j k d)
      = if h : k.val < 256 then x3 (ix4 (n0 := 1) (n1 := 1) (n2 := 512) (n3 := 128) 0 0 ⟨j.val + 2 * k.val, by omega⟩ d)
        else rot2 (nrm (fun d => x1 (ix2 (n0 := 1024) (n1 := 256) ⟨k.val - 256, by omega⟩ ⟨j.val * 128 + d.val, by omega⟩))
            (fun d => x6 (ix3 (n0 := 1) (n1 := 1) (n2 := 128) 0 0 d)))
          (fun d => x9 (ix2 (n0 := 1024) (n1 := 128) ⟨k.val - 256, by omega⟩ d)) (fun d => x10 (ix2 (n0 := 1024) (n1 := 128) ⟨k.val - 256, by omega⟩ d)) d := by
  unfold keys
  refine dite_congr rfl (fun h => ?_) fun h => ?_
  · exact pay3_at _ _
  · exact (pay7_at _ _).trans (pay2_at _ _ _ _ _)

theorem vals_at (x2 : FVec Ideal S1024x256 .bf16) (x4 : FVec Ideal S1x1x512x128 .f32) (j : Fin 2) (k : Fin 1280) (d : Fin 128) :
    vals (F := Ideal) x2 x4 (ix3 (n0 := 2) (n1 := 1280) (n2 := 256) j k ⟨d.val, by omega⟩)
      = if h : k.val < 256 then x4 (ix4 (n0 := 1) (n1 := 1) (n2 := 512) (n3 := 128) 0 0 ⟨j.val + 2 * k.val, by omega⟩ d)
        else x2 (ix2 (n0 := 1024) (n1 := 256) ⟨k.val - 256, by omega⟩ ⟨j.val * 128 + d.val, by omega⟩) := by
  unfold vals
  refine (dif_pos d.isLt).trans ?_
  refine dite_congr rfl (fun h => ?_) fun h => ?_
  · exact pay6_at _ _
  · exact pay8_at _ _

theorem vals_ones (x2 : FVec Ideal S1024x256 .bf16) (x4 : FVec Ideal S1x1x512x128 .f32) (j : Fin 2) (k : Fin 1280) (d : Fin 128) :
    vals (F := Ideal) x2 x4 (ix3 (n0 := 2) (n1 := 1280) (n2 := 256) j k ⟨128 + d.val, by omega⟩) = (1 : EReal) := by
  unfold vals
  exact (dif_neg (by show ¬ (128 + d.val < 128); omega)).trans (pay9_at _)

/-- The cosines' table. -/
def ct (r : Fin 1024) (d : Fin 64) : EReal := Ideal.cos (ang (F := Ideal) (ix2 (n0 := 1024) (n1 := 64) r d))
/-- The sines' table. -/
def st (r : Fin 1024) (d : Fin 64) : EReal := Ideal.sin (ang (F := Ideal) (ix2 (n0 := 1024) (n1 := 64) r d))

variable (m : (ℓ : Loc nD τ sig) → Buf (Elt Ideal) ℓ) (c : Dev nD)

theorem turn_at (r : Fin 1024) (x : Fin 128 → EReal) (cs sn : Fin 128 → EReal)
    (hc : ∀ d, cs d = (V m c main_v26 : FVec Ideal S1024x128 .f32) (ix2 (n0 := 1024) (n1 := 128) r d))
    (hs : ∀ d, sn d = (V m c main_v28 : FVec Ideal S1024x128 .f32) (ix2 (n0 := 1024) (n1 := 128) r d)) :
    rot2 x cs sn = rot x (ct r) (st r) := by
  funext d
  refine rot2_eq x cs sn (ct r) (st r) (fun d => (hc d).trans ((v26_at m c _).trans rfl)) (fun d => (hs d).trans ((v28_at m c _).trans ?_)) d
  rfl

theorem kq_at (t : Fin cfg0.N) (b : Fin 4) (r : Fin 1024) (h : Fin 8) (y : Fin 256) (hb : b.val = t.val / 4) (hr : r.val = 256 * (t.val % 4) + y.val) :
    rot2 (nrm (fun d => cols (X0_0 m c t) h (ix2 (n0 := 256) (n1 := 128) y d)) (fun d => (iblk m c 5 t : FVec Ideal S1x1x128 .f32) (ix3 (n0 := 1) (n1 := 1) (n2 := 128) 0 0 d)))
        (fun d => (iblk m c 7 t : FVec Ideal S256x128 .f32) (ix2 (n0 := 256) (n1 := 128) y d)) (fun d => (iblk m c 8 t : FVec Ideal S256x128 .f32) (ix2 (n0 := 256) (n1 := 128) y d))
      = qRow (m ((c.tc : Thread nD τ).loc main_arg0)) (m ((c.tc : Thread nD τ).loc main_arg3)) ct st b r h := by
  have ht := t_lt t
  refine (turn_at m c r _ _ _ (fun d => ?_) fun d => ?_).trans ?_
  · refine (blk7 m c t _).trans (congrArg (V m c main_v26 : FVec Ideal S1024x128 .f32) ?_)
    exact congrArg (fun a => ix2 (n0 := 1024) (n1 := 128) a d) (Fin.ext hr.symm)
  · refine (blk8 m c t _).trans (congrArg (V m c main_v28 : FVec Ideal S1024x128 .f32) ?_)
    exact congrArg (fun a => ix2 (n0 := 1024) (n1 := 128) a d) (Fin.ext hr.symm)
  · unfold qRow
    refine congrArg (fun x => rot x (ct r) (st r)) (congrArg₂ nrm (funext fun d => ?_) (funext fun d => ?_))
    · refine (blk0 m c t _).trans (congrArg (m ((c.tc : Thread nD τ).loc main_arg0) : FVec Ideal S8192x13824 .bf16) ?_)
      refine congrArg₂ (fun a b => ix2 (n0 := 8192) (n1 := 13824) a b) (Fin.ext ?_) (Fin.ext ?_)
      · show 4096 + 256 * t.val + y.val = 4096 + 1024 * b.val + r.val
        omega
      · show 6144 + (h.val * 128 + d.val) = 6144 + 128 * h.val + d.val
        omega
    · exact blk5 m c t _

theorem ix5_congr {a a' : Fin 4} {e e' : Fin 256} {j j' : Fin 2} {d : Fin 128} (ha : a.val = a'.val) (he : e.val = e'.val) (hj : j.val = j'.val) :
    ix5 (n0 := 4) (n1 := 2) (n2 := 256) (n3 := 2) (n4 := 128) a 0 e j d = ix5 (n0 := 4) (n1 := 2) (n2 := 256) (n3 := 2) (n4 := 128) a' 0 e' j' d := by
  rw [Fin.ext ha, Fin.ext he, Fin.ext hj]

theorem kk_at (t : Fin cfg0.N) (b : Fin 4) (j : Fin 2) (k : Fin 1280) (d : Fin 128) (hb : b.val = t.val / 4) :
    slabK (keysAt m c t) j (ix2 (n0 := 1280) (n1 := 128) k d)
      = kRow (m ((c.tc : Thread nD τ).loc main_arg0)) (m ((c.tc : Thread nD τ).loc main_arg1)) (m ((c.tc : Thread nD τ).loc main_arg4)) ct st b j k d := by
  have ht := t_lt t
  refine (keys_at _ _ _ _ _ j k d).trans ?_
  unfold kRow
  refine dite_congr rfl (fun h => ?_) fun h => ?_
  · refine (blk3 m c t _).trans (congrArg (m ((c.tc : Thread nD τ).loc main_arg1) : FVec Ideal S4x2x256x2x128 .f32) ?_)
    refine ix5_congr hb.symm ?_ ?_
    · show (j.val + 2 * k.val) / 2 = k.val
      omega
    · show (j.val + 2 * k.val) % 2 = j.val
      omega
  · refine (congrFun (turn_at m c ⟨k.val - 256, by omega⟩ _ _ _ (fun d => blk9 m c t _) fun d => blk10 m c t _) d).trans ?_
    refine congrArg (fun x => rot x (ct _) (st _) d) (congrArg₂ nrm (funext fun d => ?_) (funext fun d => ?_))
    · refine (blk1 m c t _).trans (congrArg (m ((c.tc : Thread nD τ).loc main_arg0) : FVec Ideal S8192x13824 .bf16) ?_)
      refine congrArg₂ (fun a b => ix2 (n0 := 8192) (n1 := 13824) a b) (Fin.ext ?_) (Fin.ext ?_)
      · show 4096 + 1024 * (t.val / 4) + (k.val - 256) = 4096 + 1024 * b.val + (k.val - 256)
        omega
      · show 7168 + (j.val * 128 + d.val) = 7168 + 128 * j.val + d.val
        omega
    · exact blk6 m c t _

theorem kv_at (t : Fin cfg0.N) (b : Fin 4) (j : Fin 2) (d : Fin 128) (k : Fin 1280) (hb : b.val = t.val / 4) :
    slabV (valsAt m c t) j (ix2 (n0 := 1280) (n1 := 256) k ⟨d.val, by omega⟩)
      = vCol (m ((c.tc : Thread nD τ).loc main_arg0)) (m ((c.tc : Thread nD τ).loc main_arg2)) b j d k := by
  have ht := t_lt t
  refine (vals_at _ _ j k d).trans ?_
  unfold vCol
  refine dite_congr rfl (fun h => ?_) fun h => ?_
  · refine (blk4 m c t _).trans (congrArg (m ((c.tc : Thread nD τ).loc main_arg2) : FVec Ideal S4x2x256x2x128 .f32) ?_)
    refine ix5_congr hb.symm ?_ ?_
    · show (j.val + 2 * k.val) / 2 = k.val
      omega
    · show (j.val + 2 * k.val) % 2 = j.val
      omega
  · refine (blk2 m c t _).trans (congrArg (m ((c.tc : Thread nD τ).loc main_arg0) : FVec Ideal S8192x13824 .bf16) ?_)
    refine congrArg₂ (fun a b => ix2 (n0 := 8192) (n1 := 13824) a b) (Fin.ext ?_) (Fin.ext ?_)
    · show 4096 + 1024 * (t.val / 4) + (k.val - 256) = 4096 + 1024 * b.val + (k.val - 256)
      omega
    · show 7424 + (j.val * 128 + d.val) = 7424 + 128 * j.val + d.val
      omega

/-- The kernel's result at an index. -/
theorem ker_at (i : S4096x1024.Idx)
    (b : Fin 4) (r : Fin 1024) (h : Fin 8) (j : Fin 2) (d : Fin 128) (hb : b.val = (i 0).val / 1024) (hr : r.val = (i 0).val % 1024)
    (hh : h.val = (i 1).val / 128) (hj : j.val = (i 1).val / 512) (hd : d.val = (i 1).val % 128) :
    Value.G11 m c i = attnK (qRow (m ((c.tc : Thread nD τ).loc main_arg0)) (m ((c.tc : Thread nD τ).loc main_arg3)) ct st b r h)
      (kRow (m ((c.tc : Thread nD τ).loc main_arg0)) (m ((c.tc : Thread nD τ).loc main_arg1)) (m ((c.tc : Thread nD τ).loc main_arg4)) ct st b j)
      (vCol (m ((c.tc : Thread nD τ).loc main_arg0)) (m ((c.tc : Thread nD τ).loc main_arg2)) b j d) := by
  have h0 : (i 0).val < 4096 := (i 0).isLt
  have h1 : (i 1).val < 1024 := (i 1).isLt
  have e : Value.pt11Of i = (i 0).val / 256 := by
    show 1 * ((i 0).val / 256 - 0) + 1 * ((i 1).val / 1024 - 0) = _
    omega
  have hN : Value.pt11Of i < cfg0.N := lt_of_lt_of_eq (by rw [e]; omega) N_0.symm
  refine (G_at m c i hN).trans ?_
  obtain ⟨h, lh⟩ := h
  obtain ⟨j, lj⟩ := j
  obtain ⟨d, ld⟩ := d
  have eh : h = (Value.loc11Of i 1).val / 128 := by
    show h = (i 1).val % 1024 / 128
    change h = _ at hh
    omega
  have ej : j = (Value.loc11Of i 1).val / 512 := by
    show j = (i 1).val % 1024 / 512
    change j = _ at hj
    omega
  have ed : d = (Value.loc11Of i 1).val % 128 := by
    show d = (i 1).val % 1024 % 128
    change d = _ at hd
    omega
  have et : (base (Value.pt11Of i) hN).val / 4 = Value.pt11Of i / 4 := by
    show 4 * (Value.pt11Of i / 4) / 4 = _
    omega
  subst eh
  subst ej
  subst ed
  refine (head_at _ _ _ _ _ _ (Value.loc11Of i 0) _ fun κ => vals_ones _ _ _ κ _).trans ?_
  have e1 := kq_at m c ⟨Value.pt11Of i, hN⟩ b r ⟨_, lh⟩ (Value.loc11Of i 0) (by show b.val = Value.pt11Of i / 4; omega)
    (by show r.val = 256 * (Value.pt11Of i % 4) + (i 0).val % 256; omega)
  have e2 := funext fun k => funext fun d => kk_at m c (base (Value.pt11Of i) hN) b ⟨_, lj⟩ k d (by omega)
  have e3 := funext fun k => kv_at m c (base (Value.pt11Of i) hN) b ⟨_, lj⟩ ⟨_, ld⟩ k (by omega)
  rw [← e1, ← e2, ← e3]

end Cert.Proof
-- ==== Proof.RefVal.lean ====
module

public import proofs.«01_k».proof.Proof.Gen.ReferenceIdeal.Run
public import proofs.«01_k».proof.Proof.Maths
public import Idealize.ShloMosaic.Lib.Pipeline.ValueKit
public import Idealize.ShloMosaic.Lib.ValueLayout
public import Idealize.ShloMosaic.Lib.KernelVsHost
public import Idealize.ShloMosaic.Lib.Pointwise

@[expose] public section

set_option maxRecDepth 16384

noncomputable section

namespace Cert.Proof.Ref

open Idealize.ShloMosaic Idealize.ShloMosaic.TcCoe Idealize.ShloMosaic.Tactic Cert.ReferenceIdeal Cert.ReferenceIdeal.Gen

variable {F : FTy → Type} [FloatOps F]

/-- The rotary angles. -/
def ang : Vec F S1024x64 .f32 :=
  concatenate S1024x64 1
    [⟨S1024x32, mulf
      (broadcastInDim S1024x32 ![0, 1] bcast_S1024x1_S1024x32_0_1
        (broadcastInDim S1024x1 ![0] bcast_S1024_S1024x1_0
          (shapeCast S1024 (broadcastInDim S16x64 ![0] bcast_S16_S16x64_0 (sitofp FTy.f32 (iotaInDim S16 32 0))) shapeCasts_S16x64_S1024)))
      (broadcastInDim S1024x32 ![0, 1] bcast_S1x32_S1024x32_0_1
        (broadcastInDim S1x32 ![1] bcast_S32_S1x32_1
          (Host.powf (broadcastInDim S32 ![] bcast_S_S32 (constant S_ FTy.f32 0x461C4000#32))
            (Host.divf (Host.negf (sitofp FTy.f32 (iotaInDim S32 32 0)))
              (broadcastInDim S32 ![] bcast_S_S32 (constant S_ FTy.f32 0x42000000#32))))))⟩,
     ⟨S1024x32, mulf
      (broadcastInDim S1024x32 ![0, 1] bcast_S1024x1_S1024x32_0_1
        (broadcastInDim S1024x1 ![0] bcast_S1024_S1024x1_0
          (shapeCast S1024 (broadcastInDim S16x64 ![0, 1] bcast_S1x64_S16x64_0_1
            (shapeCast S1x64 (sitofp FTy.f32 (iotaInDim S64 32 0)) shapeCasts_S64_S1x64)) shapeCasts_S16x64_S1024)))
      (broadcastInDim S1024x32 ![0, 1] bcast_S1x32_S1024x32_0_1
        (broadcastInDim S1x32 ![1] bcast_S32_S1x32_1
          (Host.powf (broadcastInDim S32 ![] bcast_S_S32 (constant S_ FTy.f32 0x461C4000#32))
            (Host.divf (Host.negf (sitofp FTy.f32 (iotaInDim S32 32 0)))
              (broadcastInDim S32 ![] bcast_S_S32 (constant S_ FTy.f32 0x42000000#32))))))⟩]
    concatenates_S1024x32_S1024x32_S1024x64_d1

/-- The queries, normed. -/
def normQ (x : Vec F S4x1024x8x128 .f32) (g : Vec F S128 .f32) : Vec F S4x1024x8x128 .f32 :=
  mulf (mulf x (broadcastInDim S4x1024x8x128 ![0, 1, 2, 3] bcast_S4x1024x8x1_S4x1024x8x128_0_1_2_3
    (Host.rsqrt (addf (Host.divf (broadcastInDim S4x1024x8x1 ![0, 1, 2] bcast_S4x1024x8_S4x1024x8x1_0_1_2
      (Host.reduceAdd (mulf x x) (constant S_ .f32 0x00000000#32) reducesTo_S4x1024x8x128_S4x1024x8_d3 h_S_))
      (broadcastInDim S4x1024x8x1 ![] bcast_S_S4x1024x8x1 (constant S_ .f32 0x43000000#32)))
      (broadcastInDim S4x1024x8x1 ![] bcast_S_S4x1024x8x1 (constant S_ .f32 0x358637BD#32))))))
    (broadcastInDim S4x1024x8x128 ![0, 1, 2, 3] bcast_S1x1x1x128_S4x1024x8x128_0_1_2_3
      (broadcastInDim S1x1x1x128 ![3] bcast_S128_S1x1x1x128_3 g))

/-- The queries, turned. -/
def ropeQ (x : Vec F S4x1024x8x128 .f32) (c s : Vec F S1024x64 .f32) : Vec F S4x1024x8x128 .f32 :=
  concatenate S4x1024x8x128 3
    [⟨S4x1024x8x64, subf
      (mulf (extractStridedSlice S4x1024x8x64 ![0, 0, 0, 0] x slices_S4x1024x8x128_S4x1024x8x64_0_0_0_0)
        (broadcastInDim S4x1024x8x64 ![0, 1, 2, 3] bcast_S1x1024x1x64_S4x1024x8x64_0_1_2_3 (broadcastInDim S1x1024x1x64 ![1, 3] bcast_S1024x64_S1x1024x1x64_1_3 c)))
      (mulf (extractStridedSlice S4x1024x8x64 ![0, 0, 0, 64] x slices_S4x1024x8x128_S4x1024x8x64_0_0_0_64)
        (broadcastInDim S4x1024x8x64 ![0, 1, 2, 3] bcast_S1x1024x1x64_S4x1024x8x64_0_1_2_3 (broadcastInDim S1x1024x1x64 ![1, 3] bcast_S1024x64_S1x1024x1x64_1_3 s)))⟩,
     ⟨S4x1024x8x64, addf
      (mulf (extractStridedSlice S4x1024x8x64 ![0, 0, 0, 64] x slices_S4x1024x8x128_S4x1024x8x64_0_0_0_64)
        (broadcastInDim S4x1024x8x64 ![0, 1, 2, 3] bcast_S1x1024x1x64_S4x1024x8x64_0_1_2_3 (broadcastInDim S1x1024x1x64 ![1, 3] bcast_S1024x64_S1x1024x1x64_1_3 c)))
      (mulf (extractStridedSlice S4x1024x8x64 ![0, 0, 0, 0] x slices_S4x1024x8x128_S4x1024x8x64_0_0_0_0)
        (broadcastInDim S4x1024x8x64 ![0, 1, 2, 3] bcast_S1x1024x1x64_S4x1024x8x64_0_1_2_3 (broadcastInDim S1x1024x1x64 ![1, 3] bcast_S1024x64_S1x1024x1x64_1_3 s)))⟩]
    concatenates_S4x1024x8x64_S4x1024x8x64_S4x1024x8x128_d3

/-- The keys, normed. -/
def normK (x : Vec F S4x1024x2x128 .f32) (g : Vec F S128 .f32) : Vec F S4x1024x2x128 .f32 :=
  mulf (mulf x (broadcastInDim S4x1024x2x128 ![0, 1, 2, 3] bcast_S4x1024x2x1_S4x1024x2x128_0_1_2_3
    (Host.rsqrt (addf (Host.divf (broadcastInDim S4x1024x2x1 ![0, 1, 2] bcast_S4x1024x2_S4x1024x2x1_0_1_2
      (Host.reduceAdd (mulf x x) (constant S_ .f32 0x00000000#32) reducesTo_S4x1024x2x128_S4x1024x2_d3 h_S_))
      (broadcastInDim S4x1024x2x1 ![] bcast_S_S4x1024x2x1 (constant S_ .f32 0x43000000#32)))
      (broadcastInDim S4x1024x2x1 ![] bcast_S_S4x1024x2x1 (constant S_ .f32 0x358637BD#32))))))
    (broadcastInDim S4x1024x2x128 ![0, 1, 2, 3] bcast_S1x1x1x128_S4x1024x2x128_0_1_2_3
      (broadcastInDim S1x1x1x128 ![3] bcast_S128_S1x1x1x128_3 g))

/-- The keys, turned. -/
def ropeK (x : Vec F S4x1024x2x128 .f32) (c s : Vec F S1024x64 .f32) : Vec F S4x1024x2x128 .f32 :=
  concatenate S4x1024x2x128 3
    [⟨S4x1024x2x64, subf
      (mulf (extractStridedSlice S4x1024x2x64 ![0, 0, 0, 0] x slices_S4x1024x2x128_S4x1024x2x64_0_0_0_0)
        (broadcastInDim S4x1024x2x64 ![0, 1, 2, 3] bcast_S1x1024x1x64_S4x1024x2x64_0_1_2_3 (broadcastInDim S1x1024x1x64 ![1, 3] bcast_S1024x64_S1x1024x1x64_1_3 c)))
      (mulf (extractStridedSlice S4x1024x2x64 ![0, 0, 0, 64] x slices_S4x1024x2x128_S4x1024x2x64_0_0_0_64)
        (broadcastInDim S4x1024x2x64 ![0, 1, 2, 3] bcast_S1x1024x1x64_S4x1024x2x64_0_1_2_3 (broadcastInDim S1x1024x1x64 ![1, 3] bcast_S1024x64_S1x1024x1x64_1_3 s)))⟩,
     ⟨S4x1024x2x64, addf
      (mulf (extractStridedSlice S4x1024x2x64 ![0, 0, 0, 64] x slices_S4x1024x2x128_S4x1024x2x64_0_0_0_64)
        (broadcastInDim S4x1024x2x64 ![0, 1, 2, 3] bcast_S1x1024x1x64_S4x1024x2x64_0_1_2_3 (broadcastInDim S1x1024x1x64 ![1, 3] bcast_S1024x64_S1x1024x1x64_1_3 c)))
      (mulf (extractStridedSlice S4x1024x2x64 ![0, 0, 0, 0] x slices_S4x1024x2x128_S4x1024x2x64_0_0_0_0)
        (broadcastInDim S4x1024x2x64 ![0, 1, 2, 3] bcast_S1x1024x1x64_S4x1024x2x64_0_1_2_3 (broadcastInDim S1x1024x1x64 ![1, 3] bcast_S1024x64_S1x1024x1x64_1_3 s)))⟩]
    concatenates_S4x1024x2x64_S4x1024x2x64_S4x1024x2x128_d3

/-- The cached rows before the fresh ones. -/
def catKV (a : Vec F S4x2x256x2x128 .f32) (x : Vec F S4x1024x2x128 .f32) : Vec F S4x1280x2x128 .f32 :=
  concatenate S4x1280x2x128 1 [⟨S4x256x2x128, shapeCast _ (extractStridedSlice S4x1x256x2x128 ![0, 0, 0, 0, 0] a slices_S4x2x256x2x128_S4x1x256x2x128_0_0_0_0_0) shapeCasts_S4x1x256x2x128_S4x256x2x128⟩,
    ⟨S4x1024x2x128, x⟩] concatenates_S4x256x2x128_S4x1024x2x128_S4x1280x2x128_d1

/-- The scaled scores. -/
def scores (K : Vec F S4x1280x2x128 .f32) (q : Vec F S4x1024x8x128 .f32) : Vec F S4x2x4x1024x1280 .f32 :=
  mulf (transpose S4x2x4x1024x1280 [0, 1, 4, 3, 2]
    (Host.dotGeneral dot_S4x1280x2x128_S4x1024x2x4x128_S4x2x1280x1024x4_3_4_1_13_02_02 none K (shapeCast S4x1024x2x4x128 q shapeCasts_S4x1024x8x128_S4x1024x2x4x128))
    transposes_S4x2x1280x1024x4_S4x2x4x1024x1280_0_1_4_3_2)
    (broadcastInDim S4x2x4x1024x1280 ![] bcast_S_S4x2x4x1024x1280 (constant S_ .f32 0x3DB504F3#32))

/-- The scores' exponentials from their row's maximum. -/
def expo (s : Vec F S4x2x4x1024x1280 .f32) : Vec F S4x2x4x1024x1280 .f32 :=
  Host.exp (subf s (broadcastInDim S4x2x4x1024x1280 ![0, 1, 2, 3, 4] bcast_S4x2x4x1024x1_S4x2x4x1024x1280_0_1_2_3_4
    (broadcastInDim S4x2x4x1024x1 ![0, 1, 2, 3] bcast_S4x2x4x1024_S4x2x4x1024x1_0_1_2_3
      (maximumf (broadcastInDim S4x2x4x1024 ![] bcast_S_S4x2x4x1024 (constant S_ .f32 0xFF800000#32))
        (Host.reduce FloatOps.maximumf s (constant S_ .f32 0xFF800000#32) reducesTo_S4x2x4x1024x1280_S4x2x4x1024_d4 h_S_)))))

/-- Each row over its sum. -/
def soft (p : Vec F S4x2x4x1024x1280 .f32) : Vec F S4x2x4x1024x1280 .f32 :=
  Host.divf p (broadcastInDim S4x2x4x1024x1280 ![0, 1, 2, 3, 4] bcast_S4x2x4x1024x1_S4x2x4x1024x1280_0_1_2_3_4
    (broadcastInDim S4x2x4x1024x1 ![0, 1, 2, 3] bcast_S4x2x4x1024_S4x2x4x1024x1_0_1_2_3
      (Host.reduceAdd p (constant S_ .f32 0x00000000#32) reducesTo_S4x2x4x1024x1280_S4x2x4x1024_d4 h_S_)))

/-- The weighted values, heads side by side. -/
def outp (V : Vec F S4x1280x2x128 .f32) (p : Vec F S4x2x4x1024x1280 .f32) : Vec F S4096x1024 .bf16 :=
  truncf .bf16 (shapeCast S4096x1024 (shapeCast S4x1024x8x128 (transpose S4x1024x2x4x128 [0, 4, 1, 3, 2]
    (Host.dotGeneral dot_S4x1280x2x128_S4x2x4x1024x1280_S4x2x128x4x1024_1_4_3_23_02_01 none V p)
    transposes_S4x2x128x4x1024_S4x1024x2x4x128_0_4_1_3_2) shapeCasts_S4x1024x2x4x128_S4x1024x8x128) shapeCasts_S4x1024x8x128_S4096x1024) bitsLt_bf16_f32

def inQ (x : Vec F S8192x13824 .bf16) : Vec F S4x1024x8x128 .f32 :=
  shapeCast _ (extf .f32 (extractStridedSlice S4096x1024 ![4096, 6144] x slices_S8192x13824_S4096x1024_4096_6144) bitsLt_bf16_f32) shapeCasts_S4096x1024_S4x1024x8x128
def inK (x : Vec F S8192x13824 .bf16) : Vec F S4x1024x2x128 .f32 :=
  shapeCast _ (extf .f32 (extractStridedSlice S4096x256 ![4096, 7168] x slices_S8192x13824_S4096x256_4096_7168) bitsLt_bf16_f32) shapeCasts_S4096x256_S4x1024x2x128
def inV (x : Vec F S8192x13824 .bf16) : Vec F S4x1024x2x128 .f32 :=
  shapeCast _ (extf .f32 (extractStridedSlice S4096x256 ![4096, 7424] x slices_S8192x13824_S4096x256_4096_7424) bitsLt_bf16_f32) shapeCasts_S4096x256_S4x1024x2x128
def gain (x : Vec F S2x128 .f32) : Vec F S128 .f32 :=
  shapeCast _ (extractStridedSlice S1x128 ![0, 0] x slices_S2x128_S1x128_0_0) shapeCasts_S1x128_S128

variable (m : (ℓ : Loc nD τ sig) → Buf (Elt F) ℓ) (c : Dev nD)

theorem res_eq : Value.res_main_v121 m c
    = outp (catKV (m ((c.tc : Thread nD τ).loc main_arg2)) (inV (m ((c.tc : Thread nD τ).loc main_arg0))))
      (soft (expo (scores (catKV (m ((c.tc : Thread nD τ).loc main_arg1))
          (ropeK (normK (inK (m ((c.tc : Thread nD τ).loc main_arg0))) (gain (m ((c.tc : Thread nD τ).loc main_arg4)))) (Host.cos ang) (Host.sin ang)))
        (ropeQ (normQ (inQ (m ((c.tc : Thread nD τ).loc main_arg0))) (gain (m ((c.tc : Thread nD τ).loc main_arg3)))) (Host.cos ang) (Host.sin ang))))) := rfl

end Cert.Proof.Ref
-- ==== Proof.RefAt.lean ====
module

public import proofs.«01_k».proof.Proof.RefVal

@[expose] public section

set_option maxRecDepth 16384

noncomputable section

namespace Cert.Proof.Ref

open Idealize.ShloMosaic Idealize.ShloMosaic.TcCoe Idealize.ShloMosaic.Tactic Cert.ReferenceIdeal Cert.ReferenceIdeal.Gen

theorem normQ_at (x : Vec Ideal S4x1024x8x128 .f32) (g : Vec Ideal S128 .f32) (i : S4x1024x8x128.Idx) :
    normQ x g i = nrm (fun d => x (ix4 (n0 := 4) (n1 := 1024) (n2 := 8) (n3 := 128) (i 0) (i 1) (i 2) d)) (fun d => g (ix1 d)) (i 3) := by
  unfold normQ nrm
  pointwise

theorem ropeQ_at (x : Vec Ideal S4x1024x8x128 .f32) (c s : Vec Ideal S1024x64 .f32) (i : S4x1024x8x128.Idx) :
    ropeQ x c s i = rot (fun d => x (ix4 (n0 := 4) (n1 := 1024) (n2 := 8) (n3 := 128) (i 0) (i 1) (i 2) d))
      (fun d => c (ix2 (n0 := 1024) (n1 := 64) (i 1) d)) (fun d => s (ix2 (n0 := 1024) (n1 := 64) (i 1) d)) (i 3) := by
  unfold ropeQ rot
  pointwise
  split
  · congr 3; congr 1; exact Fin.ext (Nat.add_comm _ _)
  · rename_i h
    have e : (⟨64 + ((i 3).val - 64), by have : (i 3).val < 128 := (i 3).isLt; omega⟩ : Fin 128) = i 3 := Fin.ext (by show 64 + ((i 3).val - 64) = (i 3).val; omega)
    rw [e]
    refine congrArg₂ (· + ·) (congrArg₂ (· * ·) (congrArg x (funext fun a => ?_)) rfl) rfl
    match a with
    | ⟨0, _⟩ => rfl
    | ⟨1, _⟩ => rfl
    | ⟨2, _⟩ => rfl
    | ⟨3, _⟩ => rfl

theorem normK_at (x : Vec Ideal S4x1024x2x128 .f32) (g : Vec Ideal S128 .f32) (i : S4x1024x2x128.Idx) :
    normK x g i = nrm (fun d => x (ix4 (n0 := 4) (n1 := 1024) (n2 := 2) (n3 := 128) (i 0) (i 1) (i 2) d)) (fun d => g (ix1 d)) (i 3) := by
  unfold normK nrm
  pointwise

theorem ropeK_at (x : Vec Ideal S4x1024x2x128 .f32) (c s : Vec Ideal S1024x64 .f32) (i : S4x1024x2x128.Idx) :
    ropeK x c s i = rot (fun d => x (ix4 (n0 := 4) (n1 := 1024) (n2 := 2) (n3 := 128) (i 0) (i 1) (i 2) d))
      (fun d => c (ix2 (n0 := 1024) (n1 := 64) (i 1) d)) (fun d => s (ix2 (n0 := 1024) (n1 := 64) (i 1) d)) (i 3) := by
  unfold ropeK rot
  pointwise
  split
  · congr 3; congr 1; exact Fin.ext (Nat.add_comm _ _)
  · rename_i h
    have e : (⟨64 + ((i 3).val - 64), by have : (i 3).val < 128 := (i 3).isLt; omega⟩ : Fin 128) = i 3 := Fin.ext (by show 64 + ((i 3).val - 64) = (i 3).val; omega)
    rw [e]
    refine congrArg₂ (· + ·) (congrArg₂ (· * ·) (congrArg x (funext fun a => ?_)) rfl) rfl
    match a with
    | ⟨0, _⟩ => rfl
    | ⟨1, _⟩ => rfl
    | ⟨2, _⟩ => rfl
    | ⟨3, _⟩ => rfl

theorem inK_at (x : Vec Ideal S8192x13824 .bf16) (i : S4x1024x2x128.Idx) :
    inK x i = x (ix2 (n0 := 8192) (n1 := 13824) ⟨4096 + 1024 * (i 0).val + (i 1).val, by have : (i 0).val < 4 := (i 0).isLt; have : (i 1).val < 1024 := (i 1).isLt; omega⟩
      ⟨7168 + 128 * (i 2).val + (i 3).val, by have : (i 2).val < 2 := (i 2).isLt; have : (i 3).val < 128 := (i 3).isLt; omega⟩) := by
  unfold inK
  pointwise
  congr 2
  · exact Fin.ext (by show 4096 + ((i 0).val * 1024 + (i 1).val) = 4096 + 1024 * (i 0).val + (i 1).val; omega)
  · exact Fin.ext (by show 7168 + ((i 2).val * 128 + (i 3).val) = 7168 + 128 * (i 2).val + (i 3).val; omega)

theorem inV_at (x : Vec Ideal S8192x13824 .bf16) (i : S4x1024x2x128.Idx) :
    inV x i = x (ix2 (n0 := 8192) (n1 := 13824) ⟨4096 + 1024 * (i 0).val + (i 1).val, by have : (i 0).val < 4 := (i 0).isLt; have : (i 1).val < 1024 := (i 1).isLt; omega⟩
      ⟨7424 + 128 * (i 2).val + (i 3).val, by have : (i 2).val < 2 := (i 2).isLt; have : (i 3).val < 128 := (i 3).isLt; omega⟩) := by
  unfold inV
  pointwise
  congr 2
  · exact Fin.ext (by show 4096 + ((i 0).val * 1024 + (i 1).val) = 4096 + 1024 * (i 0).val + (i 1).val; omega)
  · exact Fin.ext (by show 7424 + ((i 2).val * 128 + (i 3).val) = 7424 + 128 * (i 2).val + (i 3).val; omega)

theorem catKV_at (a : Vec Ideal S4x2x256x2x128 .f32) (x : Vec Ideal S4x1024x2x128 .f32) (i : S4x1280x2x128.Idx) :
    catKV a x i = if h : (i 1).val < 256 then a (ix5 (n0 := 4) (n1 := 2) (n2 := 256) (n3 := 2) (n4 := 128) (i 0) 0 ⟨(i 1).val, h⟩ (i 2) (i 3))
      else x (ix4 (n0 := 4) (n1 := 1024) (n2 := 2) (n3 := 128) (i 0) ⟨(i 1).val - 256, by have : (i 1).val < 1280 := (i 1).isLt; omega⟩ (i 2) (i 3)) := by
  unfold catKV
  pointwise

theorem scores_at (K : Vec Ideal S4x1280x2x128 .f32) (q : Vec Ideal S4x1024x8x128 .f32) (i : S4x2x4x1024x1280.Idx) :
    scores K q i = (∑ d : Fin 128, K (ix4 (n0 := 4) (n1 := 1280) (n2 := 2) (n3 := 128) (i 0) (i 4) (i 1) d)
      * q (ix4 (n0 := 4) (n1 := 1024) (n2 := 8) (n3 := 128) (i 0) (i 3) ⟨4 * (i 1).val + (i 2).val, by
        have : (i 1).val < 2 := (i 1).isLt; have : (i 2).val < 4 := (i 2).isLt; omega⟩ d)) * (scl : EReal) := by
  unfold scores
  pointwise
  rw [bits_scl]
  simp only [Nat.mul_comm (i 1).val 4]
  rfl

/-- A row's maximum. -/
def rowMax (s : FVec Ideal S4x2x4x1024x1280 .f32) : FVec Ideal S4x2x4x1024 .f32 :=
  Host.reduce FloatOps.maximumf s (constant (F := Ideal) S_ .f32 0xFF800000#32) reducesTo_S4x2x4x1024x1280_S4x2x4x1024_d4 h_S_

theorem red4 : S4x2x4x1024x1280.Reduces [4] S4x2x4x1024 := by decide

theorem rowMax_at (s : FVec Ideal S4x2x4x1024x1280 .f32) (j : S4x2x4x1024.Idx) :
    rowMax s j = Finset.univ.fold max ⊥ (fun k : Fin 1280 => s (ix5 (n0 := 4) (n1 := 2) (n2 := 4) (n3 := 1024) (n4 := 1280) (j 0) (j 1) (j 2) (j 3) k)) := by
  unfold rowMax
  refine (congrFun (hostReduce_maximumf_eq_multiReduction s 0xFF800000#32 reducesTo_S4x2x4x1024x1280_S4x2x4x1024_d4 h_S_ red4 (.inl rfl) rfl) j).trans ?_
  refine (Ideal.multiReduction_maximumf_single s _ red4 _ _ j).trans ?_
  have hb : (FloatOps.ofBits FTy.f32 0xFF800000#32 : Ideal FTy.f32) = ⊥ := bits_neg_inf
  rw [hb]
  have e : (s ∘ red4.lift j) = (fun k : Fin 1280 => s (ix5 (n0 := 4) (n1 := 2) (n2 := 4) (n3 := 1024) (n4 := 1280) (j 0) (j 1) (j 2) (j 3) k)) := by
    funext k
    refine congrArg s (funext fun a => ?_)
    match a with
    | ⟨0, _⟩ => rfl
    | ⟨1, _⟩ => rfl
    | ⟨2, _⟩ => rfl
    | ⟨3, _⟩ => rfl
    | ⟨4, _⟩ => rfl
  exact congrArg (fun f => Finset.fold max ⊥ f Finset.univ) e

theorem expo_eq (s : FVec Ideal S4x2x4x1024x1280 .f32) : expo (F := Ideal) s = Host.exp (subf s (broadcastInDim S4x2x4x1024x1280 ![0, 1, 2, 3, 4] bcast_S4x2x4x1024x1_S4x2x4x1024x1280_0_1_2_3_4
    (broadcastInDim S4x2x4x1024x1 ![0, 1, 2, 3] bcast_S4x2x4x1024_S4x2x4x1024x1_0_1_2_3
      (maximumf (broadcastInDim S4x2x4x1024 ![] bcast_S_S4x2x4x1024 (constant S_ .f32 0xFF800000#32)) (rowMax s))))) := rfl

theorem bc_at (M : FVec Ideal S4x2x4x1024 .f32) (i : S4x2x4x1024x1280.Idx) :
    broadcastInDim S4x2x4x1024x1280 ![0, 1, 2, 3, 4] bcast_S4x2x4x1024x1_S4x2x4x1024x1280_0_1_2_3_4
      (broadcastInDim S4x2x4x1024x1 ![0, 1, 2, 3] bcast_S4x2x4x1024_S4x2x4x1024x1_0_1_2_3 M) i
    = M (ix4 (n0 := 4) (n1 := 2) (n2 := 4) (n3 := 1024) (i 0) (i 1) (i 2) (i 3)) := by
  pointwise

theorem exp_at {T : Shape} (x : FVec Ideal T .f32) (i : T.Idx) : Host.exp x i = Ideal.exp (x i) := rfl
theorem sub_at {T : Shape} (x y : FVec Ideal T .f32) (i : T.Idx) : subf x y i = x i - y i := rfl
theorem max_at {T : Shape} (x y : FVec Ideal T .f32) (i : T.Idx) : maximumf x y i = max (x i) (y i) := rfl
theorem botT_at (i : S4x2x4x1024.Idx) : broadcastInDim S4x2x4x1024 ![] bcast_S_S4x2x4x1024 (constant (F := Ideal) S_ .f32 0xFF800000#32) i = ⊥ :=
  bits_neg_inf

theorem expo_at (s : FVec Ideal S4x2x4x1024x1280 .f32) (i : S4x2x4x1024x1280.Idx) :
    expo (F := Ideal) s i = Ideal.exp (s i - max ⊥ (Finset.univ.fold max ⊥ (fun k : Fin 1280 => s (ix5 (n0 := 4) (n1 := 2) (n2 := 4) (n3 := 1024) (n4 := 1280) (i 0) (i 1) (i 2) (i 3) k)))) := by
  rw [expo_eq, exp_at, sub_at, bc_at, max_at, botT_at, rowMax_at]
  rfl

/-- A row's sum. -/
def rowSum (p : FVec Ideal S4x2x4x1024x1280 .f32) : FVec Ideal S4x2x4x1024 .f32 :=
  Host.reduceAdd p (constant (F := Ideal) S_ .f32 0x00000000#32) reducesTo_S4x2x4x1024x1280_S4x2x4x1024_d4 h_S_

theorem rowSum_at (s : FVec Ideal S4x2x4x1024x1280 .f32) (j : S4x2x4x1024.Idx) :
    rowSum s j = 0 + ∑ k : Fin 1280, s (ix5 (n0 := 4) (n1 := 2) (n2 := 4) (n3 := 1024) (n4 := 1280) (j 0) (j 1) (j 2) (j 3) k) := by
  unfold rowSum
  refine (Ideal.hostReduceAdd_single reducesTo_S4x2x4x1024x1280_S4x2x4x1024_d4 red4 s _ j).trans ?_
  refine congrArg₂ (· + ·) Ideal.ofBits_zero_f32 (Finset.sum_congr rfl fun k _ => congrArg s (funext fun a => ?_))
  match a with
  | ⟨0, _⟩ => rfl
  | ⟨1, _⟩ => rfl
  | ⟨2, _⟩ => rfl
  | ⟨3, _⟩ => rfl
  | ⟨4, _⟩ => rfl

theorem soft_eq (p : FVec Ideal S4x2x4x1024x1280 .f32) : soft (F := Ideal) p = Host.divf p (broadcastInDim S4x2x4x1024x1280 ![0, 1, 2, 3, 4] bcast_S4x2x4x1024x1_S4x2x4x1024x1280_0_1_2_3_4
    (broadcastInDim S4x2x4x1024x1 ![0, 1, 2, 3] bcast_S4x2x4x1024_S4x2x4x1024x1_0_1_2_3 (rowSum p))) := rfl

theorem div_at {T : Shape} (x y : FVec Ideal T .f32) (i : T.Idx) : Host.divf x y i = Ideal.div (x i) (y i) := rfl

theorem soft_at (p : FVec Ideal S4x2x4x1024x1280 .f32) (i : S4x2x4x1024x1280.Idx) :
    soft (F := Ideal) p i = Ideal.div (p i) (0 + ∑ k : Fin 1280, p (ix5 (n0 := 4) (n1 := 2) (n2 := 4) (n3 := 1024) (n4 := 1280) (i 0) (i 1) (i 2) (i 3) k)) := by
  rw [soft_eq, div_at, bc_at, rowSum_at]
  rfl

theorem outp_at (V : Vec Ideal S4x1280x2x128 .f32) (p : Vec Ideal S4x2x4x1024x1280 .f32) (i : S4096x1024.Idx) :
    outp V p i = ∑ k : Fin 1280, V (ix4 (n0 := 4) (n1 := 1280) (n2 := 2) (n3 := 128) ⟨(i 0).val / 1024, by have : (i 0).val < 4096 := (i 0).isLt; omega⟩ k
        ⟨(i 1).val / 512, by have : (i 1).val < 1024 := (i 1).isLt; omega⟩ ⟨(i 1).val % 128, by omega⟩)
      * p (ix5 (n0 := 4) (n1 := 2) (n2 := 4) (n3 := 1024) (n4 := 1280) ⟨(i 0).val / 1024, by have : (i 0).val < 4096 := (i 0).isLt; omega⟩
        ⟨(i 1).val / 512, by have : (i 1).val < 1024 := (i 1).isLt; omega⟩ ⟨(i 1).val / 128 % 4, by omega⟩ ⟨(i 0).val % 1024, by omega⟩ k) := by
  unfold outp
  pointwise

theorem inQ_at (x : Vec Ideal S8192x13824 .bf16) (i : S4x1024x8x128.Idx) :
    inQ x i = x (ix2 (n0 := 8192) (n1 := 13824) ⟨4096 + 1024 * (i 0).val + (i 1).val, by have : (i 0).val < 4 := (i 0).isLt; have : (i 1).val < 1024 := (i 1).isLt; omega⟩
      ⟨6144 + 128 * (i 2).val + (i 3).val, by have : (i 2).val < 8 := (i 2).isLt; have : (i 3).val < 128 := (i 3).isLt; omega⟩) := by
  unfold inQ
  pointwise
  congr 2
  · exact Fin.ext (by show 4096 + ((i 0).val * 1024 + (i 1).val) = 4096 + 1024 * (i 0).val + (i 1).val; omega)
  · exact Fin.ext (by show 6144 + ((i 2).val * 128 + (i 3).val) = 6144 + 128 * (i 2).val + (i 3).val; omega)

theorem gain_at (x : Vec Ideal S2x128 .f32) (i : S128.Idx) : gain x i = x (ix2 (n0 := 2) (n1 := 128) 0 (i 0)) := by
  unfold gain
  pointwise

end Cert.Proof.Ref
-- ==== Proof.RefFin.lean ====
module

public import proofs.«01_k».proof.Proof.RefAt
public import proofs.«01_k».proof.Proof.Spec

@[expose] public section

set_option maxRecDepth 16384

noncomputable section

namespace Cert.Proof.Ref

open Idealize.ShloMosaic Idealize.ShloMosaic.TcCoe Idealize.ShloMosaic.Tactic Cert.ReferenceIdeal Cert.ReferenceIdeal.Gen

/-- The cosines' table. -/
def ct (r : Fin 1024) (d : Fin 64) : EReal := Ideal.cos (ang (F := Ideal) (ix2 (n0 := 1024) (n1 := 64) r d))
/-- The sines' table. -/
def st (r : Fin 1024) (d : Fin 64) : EReal := Ideal.sin (ang (F := Ideal) (ix2 (n0 := 1024) (n1 := 64) r d))

/-- The cosines as an array. -/
def cosA : Vec Ideal S1024x64 .f32 := Host.cos (F := Ideal) (s := S1024x64) (φ := .f32) (ang (F := Ideal))
/-- The sines as an array. -/
def sinA : Vec Ideal S1024x64 .f32 := Host.sin (F := Ideal) (s := S1024x64) (φ := .f32) (ang (F := Ideal))

variable (pr : FVec Ideal S8192x13824 .bf16) (ck cv : FVec Ideal S4x2x256x2x128 .f32) (gq gk : FVec Ideal S2x128 .f32)

theorem q_at (b : Fin 4) (r : Fin 1024) (h : Fin 8) (d : Fin 128) :
    ropeQ (F := Ideal) (normQ (inQ pr) (gain gq)) cosA sinA (ix4 (n0 := 4) (n1 := 1024) (n2 := 8) (n3 := 128) b r h d)
      = qRow pr gq ct st b r h d := by
  refine (ropeQ_at _ _ _ _).trans ?_
  refine congrArg (fun x => rot x (ct r) (st r) d) (funext fun d => ?_)
  refine (normQ_at _ _ _).trans ?_
  exact congrArg₂ (fun x g => nrm x g d) (funext fun d => inQ_at pr _) (funext fun d => gain_at gq _)

theorem k_at (b : Fin 4) (j : Fin 2) (k : Fin 1280) (d : Fin 128) :
    catKV (F := Ideal) ck (ropeK (normK (inK pr) (gain gk)) cosA sinA) (ix4 (n0 := 4) (n1 := 1280) (n2 := 2) (n3 := 128) b k j d)
      = kRow pr ck gk ct st b j k d := by
  refine (catKV_at _ _ _).trans ?_
  unfold kRow
  refine dite_congr rfl (fun h => rfl) fun h => ?_
  refine (ropeK_at _ _ _ _).trans ?_
  refine congrArg (fun x => rot x (ct _) (st _) d) (funext fun d => ?_)
  refine (normK_at _ _ _).trans ?_
  exact congrArg₂ (fun x g => nrm x g d) (funext fun d => inK_at pr _) (funext fun d => gain_at gk _)

theorem v_at (b : Fin 4) (j : Fin 2) (d : Fin 128) (k : Fin 1280) :
    catKV (F := Ideal) cv (inV pr) (ix4 (n0 := 4) (n1 := 1280) (n2 := 2) (n3 := 128) b k j d) = vCol pr cv b j d k := by
  refine (catKV_at _ _ _).trans ?_
  unfold vCol
  exact dite_congr rfl (fun h => rfl) fun h => inV_at pr _

theorem attn_at (K V : FVec Ideal S4x1280x2x128 .f32) (Q : FVec Ideal S4x1024x8x128 .f32) (i : S4096x1024.Idx)
    (b : Fin 4) (r : Fin 1024) (h : Fin 8) (j : Fin 2) (d : Fin 128) (hb : b.val = (i 0).val / 1024) (hr : r.val = (i 0).val % 1024)
    (hh : h.val = (i 1).val / 128) (hj : j.val = (i 1).val / 512) (hd : d.val = (i 1).val % 128) :
    outp (F := Ideal) V (soft (expo (scores K Q))) i
      = attnR (fun d => Q (ix4 (n0 := 4) (n1 := 1024) (n2 := 8) (n3 := 128) b r h d))
        (fun k d => K (ix4 (n0 := 4) (n1 := 1280) (n2 := 2) (n3 := 128) b k j d))
        (fun k => V (ix4 (n0 := 4) (n1 := 1280) (n2 := 2) (n3 := 128) b k j d)) := by
  refine (outp_at _ _ _).trans ?_
  obtain ⟨b, lb⟩ := b
  obtain ⟨r, lr⟩ := r
  obtain ⟨j, lj⟩ := j
  obtain ⟨d, ld⟩ := d
  change b = _ at hb
  change r = _ at hr
  change j = _ at hj
  change d = _ at hd
  subst hb
  subst hr
  subst hj
  subst hd
  have hs : ∀ k : Fin 1280, scores (F := Ideal) K Q (ix5 (n0 := 4) (n1 := 2) (n2 := 4) (n3 := 1024) (n4 := 1280)
        ⟨(i 0).val / 1024, by omega⟩ ⟨(i 1).val / 512, by omega⟩ ⟨(i 1).val / 128 % 4, by omega⟩ ⟨(i 0).val % 1024, by omega⟩ k)
      = (∑ d : Fin 128, K (ix4 (n0 := 4) (n1 := 1280) (n2 := 2) (n3 := 128) ⟨(i 0).val / 1024, by omega⟩ k ⟨(i 1).val / 512, by omega⟩ d)
        * Q (ix4 (n0 := 4) (n1 := 1024) (n2 := 8) (n3 := 128) ⟨(i 0).val / 1024, by omega⟩ ⟨(i 0).val % 1024, by omega⟩ h d)) * (scl : EReal) := fun k => by
    refine (scores_at _ _ _).trans ?_
    refine congrArg (· * (scl : EReal)) (Finset.sum_congr rfl fun d _ => congrArg (K _ * ·) (congrArg Q ?_))
    refine congrArg (fun h => ix4 (n0 := 4) (n1 := 1024) (n2 := 8) (n3 := 128) _ _ h d) (Fin.ext ?_)
    show 4 * ((i 1).val / 512) + (i 1).val / 128 % 4 = h.val
    omega
  unfold attnR
  refine Finset.sum_congr rfl fun k _ => congrArg (V _ * ·) ?_
  have he : ∀ k : Fin 1280, expo (F := Ideal) (scores K Q) (ix5 (n0 := 4) (n1 := 2) (n2 := 4) (n3 := 1024) (n4 := 1280)
        ⟨(i 0).val / 1024, by omega⟩ ⟨(i 1).val / 512, by omega⟩ ⟨(i 1).val / 128 % 4, by omega⟩ ⟨(i 0).val % 1024, by omega⟩ k) = _ := fun k => by
    refine (expo_at _ _).trans ?_
    refine congrArg Ideal.exp (congrArg₂ (fun a M => a - max ⊥ M) (hs k) (congrArg (fun f => Finset.univ.fold max ⊥ f) (funext hs)))
  refine (soft_at _ _).trans ?_
  exact congrArg₂ (fun a M => Ideal.div a (0 + M)) (he k) (Finset.sum_congr rfl fun k _ => he k)

variable (m : (ℓ : Loc nD τ sig) → Buf (Elt Ideal) ℓ) (c : Dev nD)

/-- The reference's result at an index. -/
theorem res_at (i : S4096x1024.Idx)
    (b : Fin 4) (r : Fin 1024) (h : Fin 8) (j : Fin 2) (d : Fin 128) (hb : b.val = (i 0).val / 1024) (hr : r.val = (i 0).val % 1024)
    (hh : h.val = (i 1).val / 128) (hj : j.val = (i 1).val / 512) (hd : d.val = (i 1).val % 128) :
    Value.res_main_v121 m c i = attnR (qRow (m ((c.tc : Thread nD τ).loc main_arg0)) (m ((c.tc : Thread nD τ).loc main_arg3)) ct st b r h)
      (kRow (m ((c.tc : Thread nD τ).loc main_arg0)) (m ((c.tc : Thread nD τ).loc main_arg1)) (m ((c.tc : Thread nD τ).loc main_arg4)) ct st b j)
      (vCol (m ((c.tc : Thread nD τ).loc main_arg0)) (m ((c.tc : Thread nD τ).loc main_arg2)) b j d) := by
  refine (congrFun (res_eq m c) i).trans ?_
  refine (attn_at _ _ _ i b r h j d hb hr hh hj hd).trans ?_
  have e1 := funext (q_at (m ((c.tc : Thread nD τ).loc main_arg0)) (m ((c.tc : Thread nD τ).loc main_arg3)) b r h)
  have e2 := funext fun k => funext fun d => k_at (m ((c.tc : Thread nD τ).loc main_arg0)) (m ((c.tc : Thread nD τ).loc main_arg1)) (m ((c.tc : Thread nD τ).loc main_arg4)) b j k d
  have e3 := funext (v_at (m ((c.tc : Thread nD τ).loc main_arg0)) (m ((c.tc : Thread nD τ).loc main_arg2)) b j d)
  rw [← e1, ← e2, ← e3]
  rfl

end Cert.Proof.Ref
-- ==== Proof.Table.lean ====
module

public import proofs.«01_k».proof.Proof.KerFin
public import proofs.«01_k».proof.Proof.RefFin

@[expose] public section

set_option maxRecDepth 16384

noncomputable section

namespace Cert.Proof

open Idealize.ShloMosaic Idealize.ShloMosaic.Tactic

theorem ang_eq : ang (F := Ideal) = Ref.ang (F := Ideal) := rfl

theorem ct_eq : ct = Ref.ct := by
  unfold ct Ref.ct
  rw [ang_eq]

theorem st_eq : st = Ref.st := by
  unfold st Ref.st
  rw [ang_eq]

/-- A product of a whole number and a power of ten thousand is real. -/
theorem freq_real (a b x y : EReal) (ha : IsReal a) (hb : IsReal b) (hx : x = ((10000 : ℝ) : EReal)) (hy : y = ((32 : ℝ) : EReal)) :
    IsReal (a * Ideal.pow x (Ideal.div (-b) y)) := by
  obtain ⟨a, rfl⟩ := ha
  obtain ⟨b, rfl⟩ := hb
  subst hx
  subst hy
  have e : Ideal.div (-(b : EReal)) ((32 : ℝ) : EReal) = (((-b) * (32 : ℝ)⁻¹ : ℝ) : EReal) := by
    rw [← EReal.coe_neg]
    exact div_real (-b) (by norm_num)
  rw [e]
  exact ⟨a * (10000 : ℝ) ^ ((-b) * (32 : ℝ)⁻¹), rfl⟩

theorem int_real (x : BitVec 32) : IsReal (FloatOps.sitofp (F := Ideal) FTy.f32 x : EReal) := ⟨_, rfl⟩

theorem ang_real (i : Cert.ReferenceIdeal.S1024x64.Idx) : IsReal (Ref.ang (F := Ideal) i) := by
  have h : Ref.ang (F := Ideal) i = if h : (i 1).val < 32 then
      (FloatOps.sitofp (F := Ideal) FTy.f32 (BitVec.ofNat 32 ((i 0).val / 64)) : EReal) *
        Ideal.pow (Ideal.ofBits FTy.f32 0x461C4000#32)
          (Ideal.div (-(FloatOps.sitofp (F := Ideal) FTy.f32 (BitVec.ofNat 32 (i 1).val) : EReal)) (Ideal.ofBits FTy.f32 0x42000000#32))
    else
      (FloatOps.sitofp (F := Ideal) FTy.f32 (BitVec.ofNat 32 ((i 0).val % 64)) : EReal) *
        Ideal.pow (Ideal.ofBits FTy.f32 0x461C4000#32)
          (Ideal.div (-(FloatOps.sitofp (F := Ideal) FTy.f32 (BitVec.ofNat 32 ((i 1).val - 32)) : EReal)) (Ideal.ofBits FTy.f32 0x42000000#32)) := by
    unfold Ref.ang
    pointwise
  rw [h]
  split
  · exact freq_real _ _ _ _ (int_real _) (int_real _) bits_10000 bits_32
  · exact freq_real _ _ _ _ (int_real _) (int_real _) bits_10000 bits_32

theorem ct_real (r : Fin 1024) (d : Fin 64) : IsReal (Ref.ct r d) := by
  obtain ⟨a, ha⟩ := ang_real (ix2 (n0 := 1024) (n1 := 64) r d)
  refine ⟨Real.cos a, ?_⟩
  unfold Ref.ct
  rw [ha]
  rfl

theorem st_real (r : Fin 1024) (d : Fin 64) : IsReal (Ref.st r d) := by
  obtain ⟨a, ha⟩ := ang_real (ix2 (n0 := 1024) (n1 := 64) r d)
  refine ⟨Real.sin a, ?_⟩
  unfold Ref.st
  rw [ha]
  rfl

theorem q_real (pr : (⟨2, ![8192, 13824]⟩ : Shape).Idx → EReal) (g : (⟨2, ![2, 128]⟩ : Shape).Idx → EReal)
    (hp : ∀ (r : Fin 8192) (k : Fin 13824), 4096 ≤ r.val → 6144 ≤ k.val → k.val < 7424 → IsReal (pr (ix2 (n0 := 8192) (n1 := 13824) r k)))
    (hg : ∀ d : Fin 128, IsReal (g (ix2 (n0 := 2) (n1 := 128) 0 d))) (b : Fin 4) (r : Fin 1024) (h : Fin 8) (d : Fin 128) :
    IsReal (qRow pr g Ref.ct Ref.st b r h d) :=
  rot_real _ _ _ (fun d => nrm_real _ _ (fun d => hp _ _ (by show 4096 ≤ 4096 + 1024 * b.val + r.val; omega)
    (by show 6144 ≤ 6144 + 128 * h.val + d.val; omega) (by show 6144 + 128 * h.val + d.val < 7424; omega)) hg d) (ct_real r) (st_real r) d

theorem k_real (pr : (⟨2, ![8192, 13824]⟩ : Shape).Idx → EReal) (ck : (⟨5, ![4, 2, 256, 2, 128]⟩ : Shape).Idx → EReal)
    (g : (⟨2, ![2, 128]⟩ : Shape).Idx → EReal)
    (hp : ∀ (r : Fin 8192) (k : Fin 13824), 4096 ≤ r.val → 6144 ≤ k.val → k.val < 7424 → IsReal (pr (ix2 (n0 := 8192) (n1 := 13824) r k)))
    (hc : ∀ (b : Fin 4) (k : Fin 256) (j : Fin 2) (d : Fin 128), IsReal (ck (ix5 (n0 := 4) (n1 := 2) (n2 := 256) (n3 := 2) (n4 := 128) b 0 k j d)))
    (hg : ∀ d : Fin 128, IsReal (g (ix2 (n0 := 2) (n1 := 128) 0 d))) (b : Fin 4) (j : Fin 2) (k : Fin 1280) (d : Fin 128) :
    IsReal (kRow pr ck g Ref.ct Ref.st b j k d) := by
  unfold kRow
  split
  · exact hc _ _ _ _
  · exact rot_real _ _ _ (fun d => nrm_real _ _ (fun d => hp _ _ (by show 4096 ≤ 4096 + 1024 * b.val + (k.val - 256); omega)
      (by show 6144 ≤ 7168 + 128 * j.val + d.val; omega) (by show 7168 + 128 * j.val + d.val < 7424; omega)) hg d) (ct_real _) (st_real _) d

end Cert.Proof
-- ==== Proof.Decode.lean ====
module

public import proofs.«01_k».proof.Pre_finite
public import proofs.«01_k».proof.Proof.Consts
public import proofs.«01_k».proof.Proof.Maths
public import Idealize.ShloMosaic.Lib.Pointwise
public import Idealize.ShloMosaic.Lib.ReduceAll
public import Idealize.ShloMosaic.Lib.KernelVsHost

@[expose] public section

set_option maxRecDepth 16384

noncomputable section

namespace Cert.Proof

open Idealize.ShloMosaic Idealize.ShloMosaic.Tactic Cert.Pre_finite
open Cert.Pre_finite.Facts

/-- A number below infinity in absolute value is real. -/
theorem real_of_lt (x : EReal) (h : Ideal.cmp .olt (max x (-x)) ⊤ = 1#1) : IsReal x := by
  have h' : max x (-x) < ⊤ := by
    by_contra hn
    have : Ideal.cmp .olt (max x (-x)) ⊤ = 0#1 := by simp [Ideal.cmp, hn]
    rw [this] at h
    exact absurd h (by decide)
  have h1 : x ≠ ⊤ := fun e => by subst e; simp at h'
  have h2 : x ≠ ⊥ := fun e => by subst e; simp at h'
  exact ⟨x.toReal, (EReal.coe_toReal h1 h2).symm⟩

theorem real_at {s u : Shape} {axes : List (Fin s.rank)} [Subsingleton S_.Idx] (x : FVec Ideal s .f32) (hb : S_.BroadcastsInDim s (![] : Fin 0 → Fin s.rank))
    (ini : u.Idx → BitVec 1) (hr : s.ReducesTo axes S_) (hu : 0 < u.numel) (j : S_.Idx)
    (h : Host.reduce IntOp.andi (cmpf .olt (Host.absf x) (broadcastInDim s ![] hb (constant (F := Ideal) S_ .f32 0x7F800000#32))) ini hr hu j = 1#1)
    (i : s.Idx) : IsReal (x i) := by
  have h1 := Host.reduce_andi_all _ _ _ _ _ h i
  refine real_of_lt _ ?_
  rw [← bits_pos_inf]
  exact h1

theorem sub0 : Subsingleton S_.Idx := ⟨fun a b => funext fun k => k.elim0⟩

variable [Facts] (x0 : FVec Ideal S8192x13824 .bf16) (x1 x2 : FVec Ideal S4x2x256x2x128 .f32) (x3 x4 : FVec Ideal S2x128 .f32)

theorem decode (h : Cert.Pre_finite.fn (F := Ideal) x0 x1 x2 x3 x4 = fun _ => 1#1) :
    (∀ (r : Fin 8192) (k : Fin 13824), 4096 ≤ r.val → 6144 ≤ k.val → k.val < 7424 → IsReal (x0 (ix2 (n0 := 8192) (n1 := 13824) r k)))
    ∧ (∀ (b : Fin 4) (k : Fin 256) (j : Fin 2) (d : Fin 128), IsReal (x1 (ix5 (n0 := 4) (n1 := 2) (n2 := 256) (n3 := 2) (n4 := 128) b 0 k j d)))
    ∧ (∀ d : Fin 128, IsReal (x3 (ix2 (n0 := 2) (n1 := 128) 0 d))) ∧ (∀ d : Fin 128, IsReal (x4 (ix2 (n0 := 2) (n1 := 128) 0 d))) := by
  haveI := sub0
  have e := congrFun h (fun k => k.elim0)
  obtain ⟨e, h4⟩ := IntOp.andi_eq_one.1 e
  obtain ⟨e, h3⟩ := IntOp.andi_eq_one.1 e
  obtain ⟨h0, h1⟩ := IntOp.andi_eq_one.1 e
  refine ⟨fun r k hr hk hk' => ?_, fun b k j d => ?_, fun d => ?_, fun d => ?_⟩
  · have a := real_at _ _ _ _ _ _ h0 (ix2 (n0 := 4096) (n1 := 1280) ⟨r.val - 4096, by omega⟩ ⟨k.val - 6144, by omega⟩)
    have ee : extf (F := Ideal) .f32 (extractStridedSlice S4096x1280 ![4096, 6144] x0 slices_S8192x13824_S4096x1280_4096_6144) bitsLt_bf16_f32
        (ix2 (n0 := 4096) (n1 := 1280) ⟨r.val - 4096, by omega⟩ ⟨k.val - 6144, by omega⟩) = x0 (ix2 (n0 := 8192) (n1 := 13824) r k) := by
      pointwise
      exact congrArg x0 (congrArg₂ (fun a b => ix2 (n0 := 8192) (n1 := 13824) a b)
        (Fin.ext (by show 4096 + (r.val - 4096) = r.val; omega)) (Fin.ext (by show 6144 + (k.val - 6144) = k.val; omega)))
    rw [← ee]
    exact a
  · have a := real_at _ _ _ _ _ _ h1 (ix4 (n0 := 4) (n1 := 256) (n2 := 2) (n3 := 128) b k j d)
    have ee : shapeCast S4x256x2x128 (extractStridedSlice S4x1x256x2x128 ![0, 0, 0, 0, 0] x1 slices_S4x2x256x2x128_S4x1x256x2x128_0_0_0_0_0) shapeCasts_S4x1x256x2x128_S4x256x2x128
        (ix4 (n0 := 4) (n1 := 256) (n2 := 2) (n3 := 128) b k j d) = x1 (ix5 (n0 := 4) (n1 := 2) (n2 := 256) (n3 := 2) (n4 := 128) b 0 k j d) := by
      pointwise
    rw [← ee]
    exact a
  · have a := real_at _ _ _ _ _ _ h3 (ix1 (n0 := 128) d)
    have ee : shapeCast S128 (extractStridedSlice S1x128 ![0, 0] x3 slices_S2x128_S1x128_0_0) shapeCasts_S1x128_S128
        (ix1 (n0 := 128) d) = x3 (ix2 (n0 := 2) (n1 := 128) 0 d) := by
      pointwise
    rw [← ee]
    exact a
  · have a := real_at _ _ _ _ _ _ h4 (ix1 (n0 := 128) d)
    have ee : shapeCast S128 (extractStridedSlice S1x128 ![0, 0] x4 slices_S2x128_S1x128_0_0) shapeCasts_S1x128_S128
        (ix1 (n0 := 128) d) = x4 (ix2 (n0 := 2) (n1 := 128) 0 d) := by
      pointwise
    rw [← ee]
    exact a

end Cert.Proof
-- ==== Proof.lean ====
/- The proof of the statement: the frames of the kernel, of its idealization and of the reference, and the equality of
   the idealized kernel's result with the reference's; the same for the two matmuls of the feed-forward block, for the input projection, for the two merges and for the output projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.UpDatU
public import proofs.«01_k».proof.Proof.UpVal
public import proofs.«01_k».proof.Proof.DownVal
public import proofs.«01_k».proof.Proof.DownDatU
public import proofs.«01_k».proof.Proof.ProjVal
public import proofs.«01_k».proof.Proof.ProjDatU
public import proofs.«01_k».proof.Proof.Gen.MergeC
public import proofs.«01_k».proof.Proof.Gen.MergeC.Skeleton
public import proofs.«01_k».proof.Proof.Gen.MergeC.Frame
public import proofs.«01_k».proof.Proof.Gen.MergeCIdeal
public import proofs.«01_k».proof.Proof.Gen.MergeCIdeal.Skeleton
public import proofs.«01_k».proof.Proof.Gen.MergeCIdeal.Frame
public import proofs.«01_k».proof.Proof.Gen.MergeL
public import proofs.«01_k».proof.Proof.Gen.MergeL.Skeleton
public import proofs.«01_k».proof.Proof.Gen.MergeL.Frame
public import proofs.«01_k».proof.Proof.Gen.MergeLIdeal
public import proofs.«01_k».proof.Proof.Gen.MergeLIdeal.Skeleton
public import proofs.«01_k».proof.Proof.Gen.MergeLIdeal.Frame
public import proofs.«01_k».proof.Proof.Gen.Outp
public import proofs.«01_k».proof.Proof.Gen.Outp.Skeleton
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Frame
public import proofs.«01_k».proof.Proof.MergeCVal
public import proofs.«01_k».proof.Proof.MergeLVal
public import proofs.«01_k».proof.Proof.OutpVal
public import proofs.«01_k».proof.Proof.Table
public import proofs.«01_k».proof.Proof.Decode
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs and leaves its arguments as they were; it names no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_pre : Cert.quiescent_ReferenceIdeal_pre_finite (hPre_finite := Cert.Pre_finite.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant of the kernel is the table's value for its name. -/
theorem preserves : Cert.preserves_Kernel_KernelIdeal :=
  IdealRules.named_const.statement Cert.KernelIdeal.κ "qscale" .f32 0x3E0293EE#32
    (((11863283 / 134217728) * (Real.log 2)⁻¹ : ℝ) : EReal) rfl

/-- The kernel's result is the reference's. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_finite (hPre_finite := Cert.Pre_finite.Gen.facts) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v121 m' c = Cert.KernelIdeal.Value.G11 m c := by
  haveI := Cert.Pre_finite.Gen.facts
  obtain ⟨p0, p1, p3, p4⟩ := decode _ _ _ _ _ (hp c)
  funext i
  have i0 : (i 0).val < 4096 := (i 0).isLt
  have i1 : (i 1).val < 1024 := (i 1).isLt
  refine (Ref.res_at m' c i ⟨(i 0).val / 1024, by omega⟩ ⟨(i 0).val % 1024, by omega⟩ ⟨(i 1).val / 128, by omega⟩
    ⟨(i 1).val / 512, by omega⟩ ⟨(i 1).val % 128, by omega⟩ rfl rfl rfl rfl rfl).trans ?_
  refine Eq.trans ?_ (ker_at m c i ⟨(i 0).val / 1024, by omega⟩ ⟨(i 0).val % 1024, by omega⟩ ⟨(i 1).val / 128, by omega⟩
    ⟨(i 1).val / 512, by omega⟩ ⟨(i 1).val % 128, by omega⟩ rfl rfl rfl rfl rfl).symm
  rw [h0, h1, h2, h3, h4, ct_eq, st_eq]
  exact (attn_eq (by decide) _ _ _ (q_real _ _ p0 p3 _ _ _) (k_real _ _ _ p0 p1 p4 _ _)).symm

/-- The idealized kernel and the reference end with equal results. -/
theorem algebraic : Cert.algebraic_KernelIdeal_ReferenceIdeal_pre_finite (hPre_finite := Cert.Pre_finite.Gen.facts) :=
  fun m g m' g' hp ha => ⟨fun c => Cert.KernelIdeal.Value.G11 m c, Cert.KernelIdeal.Value.run m g,
    (θ_run Cert.ReferenceIdeal.defs _ _).mono
      (fun r h c => ⟨(h c).1.trans (values m m' c hp (ha c).1 (ha c).2.1 (ha c).2.2.1 (ha c).2.2.2.1 (ha c).2.2.2.2), (h c).2⟩)
      (Cert.ReferenceIdeal.Value.run (F := Ideal) m' g')⟩

/-! ## The first matmul of the MLP -/

theorem up_frame_ri : Cert.quiescent_UpReferenceIdeal := fun m ρ _ =>
  (θ_run Cert.UpReferenceIdeal.defs _ _).mono (fun r h => ⟨fun c => (h c).2,
      Idealize.ShloMosaic.sem_eq_zero_of_no_sems (by decide) r.2⟩)
    (Cert.UpReferenceIdeal.Value.run (F := Ideal) m ρ)

/-- The idealized kernel and its reference end with equal results. -/
theorem up_algebraic : Cert.algebraic_UpIdeal_UpReferenceIdeal :=
  fun m g m' g' _ ha => ⟨fun c => Mlp.G m c, Mlp.run m g,
    (θ_run Cert.UpReferenceIdeal.defs _ _).mono
      (fun r h c => ⟨(h c).1.trans (by
          rw [(ha c).1, (ha c).2]
          exact funext fun i => Mlp.Ref.res_at _ _ i), (h c).2⟩)
      (Mlp.Ref.run m' g')⟩

/-! ## The second matmul of the MLP -/

theorem down_frame_ri : Cert.quiescent_DownReferenceIdeal := fun m ρ _ =>
  (θ_run Cert.DownReferenceIdeal.defs _ _).mono (fun r h => ⟨fun c => (h c).2,
      Idealize.ShloMosaic.sem_eq_zero_of_no_sems (by decide) r.2⟩)
    (Cert.DownReferenceIdeal.Value.run (F := Ideal) m ρ)

/-- The idealized kernel and its reference end with equal results. -/
theorem down_algebraic : Cert.algebraic_DownIdeal_DownReferenceIdeal :=
  fun m g m' g' _ ha => ⟨fun c => Down.G m c, Down.run m g,
    (θ_run Cert.DownReferenceIdeal.defs _ _).mono
      (fun r h c => ⟨(h c).1.trans (by
          rw [(ha c).1, (ha c).2.1, (ha c).2.2.1, (ha c).2.2.2]
          exact funext fun i => Down.Ref.res_at _ _ _ _ i), (h c).2⟩)
      (Down.Ref.run m' g')⟩

/-! ## The input projection -/

theorem proj_frame_ri : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

/-- The idealized kernel and its reference end with equal results. -/
theorem proj_algebraic : Cert.algebraic_ProjIdeal_ProjReferenceIdeal :=
  fun m g m' g' _ ha => ⟨fun c => Proj.G m c, Proj.run m g,
    (θ_run Cert.ProjReferenceIdeal.defs _ _).mono
      (fun r h c => ⟨(h c).1.trans (by
          rw [(ha c).1, (ha c).2]
          exact funext fun i => Proj.Ref.res_at _ _ i), (h c).2⟩)
      (Proj.Ref.run m' g')⟩

/-! ## The merge of the context's three branches -/

theorem mergec_frame_ri : Cert.quiescent_MergeCReferenceIdeal := fun m ρ _ =>
  (θ_run Cert.MergeCReferenceIdeal.defs _ _).mono (fun r h => ⟨fun c => (h c).2,
      Idealize.ShloMosaic.sem_eq_zero_of_no_sems (by decide) r.2⟩)
    (Cert.MergeCReferenceIdeal.Value.run (F := Ideal) m ρ)

/-- The idealized kernel and its reference end with equal results. -/
theorem mergec_algebraic : Cert.algebraic_MergeCIdeal_MergeCReferenceIdeal :=
  fun m g m' g' _ ha => ⟨fun c => MergeC.G m c, MergeC.run m g,
    (θ_run Cert.MergeCReferenceIdeal.defs _ _).mono
      (fun r h c => ⟨(h c).1.trans (by
          rw [(ha c).1, (ha c).2.1, (ha c).2.2.1, (ha c).2.2.2.1, (ha c).2.2.2.2.1, (ha c).2.2.2.2.2.1, (ha c).2.2.2.2.2.2]
          exact funext fun i => MergeC.Ref.res_at _ _ _ _ _ _ _ i), (h c).2⟩)
      (MergeC.Ref.run m' g')⟩

/-! ## The merge of the latent layer's three branches -/

theorem mergel_frame_ri : Cert.quiescent_MergeLReferenceIdeal := fun m ρ _ =>
  (θ_run Cert.MergeLReferenceIdeal.defs _ _).mono (fun r h => ⟨fun c => (h c).2,
      Idealize.ShloMosaic.sem_eq_zero_of_no_sems (by decide) r.2⟩)
    (Cert.MergeLReferenceIdeal.Value.run (F := Ideal) m ρ)

/-- The idealized kernel and its reference end with equal results. -/
theorem mergel_algebraic : Cert.algebraic_MergeLIdeal_MergeLReferenceIdeal :=
  fun m g m' g' _ ha => ⟨fun c => MergeL.G m c, MergeL.run m g,
    (θ_run Cert.MergeLReferenceIdeal.defs _ _).mono
      (fun r h c => ⟨(h c).1.trans (by
          rw [(ha c).1, (ha c).2.1, (ha c).2.2.1, (ha c).2.2.2.1, (ha c).2.2.2.2.1, (ha c).2.2.2.2.2.1, (ha c).2.2.2.2.2.2]
          exact funext fun i => MergeL.Ref.res_at _ _ _ _ _ _ _ i), (h c).2⟩)
      (MergeL.Ref.run m' g')⟩

/-! ## The output projection and the norm after it -/

theorem outp_frame_ri : Cert.quiescent_OutpReferenceIdeal := fun m ρ _ =>
  (θ_run Cert.OutpReferenceIdeal.defs _ _).mono (fun r h => ⟨fun c => (h c).2.2,
      Idealize.ShloMosaic.sem_eq_zero_of_no_sems (by decide) r.2⟩)
    (Cert.OutpReferenceIdeal.Value.run (F := Ideal) m ρ)

/-- The idealized kernel and its reference end with equal results, both of them. -/
theorem outp_algebraic : Cert.algebraic_OutpIdeal_OutpReferenceIdeal :=
  fun m g m' g' _ ha => ⟨fun c => Outp.G m c, fun c => Outp.H m c, Outp.run m g,
    (θ_run Cert.OutpReferenceIdeal.defs _ _).mono
      (fun r h c => ⟨(h c).1.trans (by
          rw [(ha c).1, (ha c).2.1, (ha c).2.2.1, (ha c).2.2.2.1, (ha c).2.2.2.2.2]
          exact funext fun i => Outp.Ref.res_at _ _ _ _ _ i), (h c).2.1.trans (by
          rw [(ha c).1, (ha c).2.1, (ha c).2.2.1, (ha c).2.2.2.1, (ha c).2.2.2.2.1, (ha c).2.2.2.2.2]
          exact funext fun i => Outp.Ref.next_at _ _ _ _ _ _ i), (h c).2.2⟩)
      (Outp.Ref.run m' g')⟩

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Proj.Gen.facts, Cert.ProjIdeal.Gen.facts, Cert.ProjReferenceIdeal.Gen.facts,
  Cert.MergeC.Gen.facts, Cert.MergeCIdeal.Gen.facts, Cert.MergeCReferenceIdeal.Gen.facts,
  Cert.MergeL.Gen.facts, Cert.MergeLIdeal.Gen.facts, Cert.MergeLReferenceIdeal.Gen.facts,
  Cert.Outp.Gen.facts, Cert.OutpIdeal.Gen.facts, Cert.OutpReferenceIdeal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, frame_ri, frame_ri_pre,
  fun m ρ _ => Cert.Up.Gen.frame m ρ, fun m ρ _ => Cert.UpIdeal.Gen.frame m ρ, up_frame_ri,
  fun m ρ _ => Cert.Down.Gen.frame m ρ, fun m ρ _ => Cert.DownIdeal.Gen.frame m ρ, down_frame_ri,
  fun m ρ _ => Cert.Proj.Gen.frame m ρ, fun m ρ _ => Cert.ProjIdeal.Gen.frame m ρ, proj_frame_ri,
  fun m ρ _ => Cert.MergeC.Gen.frame m ρ, fun m ρ _ => Cert.MergeCIdeal.Gen.frame m ρ, mergec_frame_ri,
  fun m ρ _ => Cert.MergeL.Gen.frame m ρ, fun m ρ _ => Cert.MergeLIdeal.Gen.frame m ρ, mergel_frame_ri,
  fun m ρ _ => Cert.Outp.Gen.frame m ρ, fun m ρ _ => Cert.OutpIdeal.Gen.frame m ρ, outp_frame_ri,
  preserves, algebraic, trivial, up_algebraic, trivial, down_algebraic, trivial, proj_algebraic, trivial, mergec_algebraic, trivial, mergel_algebraic, trivial, outp_algebraic⟩

end Cert.Proof

end
